-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_loss [hPre_finite_loss : Cert.Pre_finite_loss.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_loss [hPre_finite_loss : Cert.Pre_finite_loss.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_xattn [hPre_finite_xattn : Cert.Pre_finite_xattn.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_xattn.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_xattn [hPre_finite_xattn : Cert.Pre_finite_xattn.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_xattn.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_sgu [hPre_finite_sgu : Cert.Pre_finite_sgu.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_sgu.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_sgu [hPre_finite_sgu : Cert.Pre_finite_sgu.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_sgu.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_loss [hKernel3Ideal : Cert.Kernel3Ideal.Facts] [hPre_finite_loss : Cert.Pre_finite_loss.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_loss m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_loss [hReference3Ideal : Cert.Reference3Ideal.Facts] [hPre_finite_loss : Cert.Pre_finite_loss.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_loss m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite_xattn [hKernel5Ideal : Cert.Kernel5Ideal.Facts] [hPre_finite_xattn : Cert.Pre_finite_xattn.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_xattn m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite_xattn [hReference5Ideal : Cert.Reference5Ideal.Facts] [hPre_finite_xattn : Cert.Pre_finite_xattn.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_xattn m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_sgu [hKernel6Ideal : Cert.Kernel6Ideal.Facts] [hPre_finite_sgu : Cert.Pre_finite_sgu.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_sgu m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_sgu [hReference6Ideal : Cert.Reference6Ideal.Facts] [hPre_finite_sgu : Cert.Pre_finite_sgu.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_sgu m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_3)) (v4 : (c : Dev Cert.Kernel2Ideal.nD) → Buf (Elt Ideal) ((c.tc : Thread Cert.Kernel2Ideal.nD Cert.Kernel2Ideal.τ).loc Cert.Kernel2Ideal.main_v31_4)) (v5 : (c : Dev Cert.Kernel2Ideal.nD) → Buf (Elt Ideal) ((c.tc : Thread Cert.Kernel2Ideal.nD Cert.Kernel2Ideal.τ).loc Cert.Kernel2Ideal.main_v31_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_v31_4) = v4 c
          ∧ r.2.mem ((c.tc : Thread Cert.Kernel2Ideal.nD Cert.Kernel2Ideal.τ).loc Cert.Kernel2Ideal.main_v31_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v75) = v3 c
          ∧ r.2.mem ((c.tc : Thread Cert.Reference2Ideal.nD Cert.Reference2Ideal.τ).loc Cert.Reference2Ideal.main_v78) = v4 c
          ∧ r.2.mem ((c.tc : Thread Cert.Reference2Ideal.nD Cert.Reference2Ideal.τ).loc Cert.Reference2Ideal.main_v79) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_loss [hKernel3Ideal : Cert.Kernel3Ideal.Facts] [hReference3Ideal : Cert.Reference3Ideal.Facts] [hPre_finite_loss : Cert.Pre_finite_loss.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_loss m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_v75) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v115_0)) (v1 : (c : Dev Cert.Kernel4Ideal.nD) → Buf (Elt Ideal) ((c.tc : Thread Cert.Kernel4Ideal.nD Cert.Kernel4Ideal.τ).loc Cert.Kernel4Ideal.main_v115_1)) (v2 : (c : Dev Cert.Kernel4Ideal.nD) → Buf (Elt Ideal) ((c.tc : Thread Cert.Kernel4Ideal.nD Cert.Kernel4Ideal.τ).loc Cert.Kernel4Ideal.main_v115_2)) (v3 : (c : Dev Cert.Kernel4Ideal.nD) → Buf (Elt Ideal) ((c.tc : Thread Cert.Kernel4Ideal.nD Cert.Kernel4Ideal.τ).loc Cert.Kernel4Ideal.main_v115_3)) (v4 : (c : Dev Cert.Kernel4Ideal.nD) → Buf (Elt Ideal) ((c.tc : Thread Cert.Kernel4Ideal.nD Cert.Kernel4Ideal.τ).loc Cert.Kernel4Ideal.main_v115_4)) (v5 : (c : Dev Cert.Kernel4Ideal.nD) → Buf (Elt Ideal) ((c.tc : Thread Cert.Kernel4Ideal.nD Cert.Kernel4Ideal.τ).loc Cert.Kernel4Ideal.main_v115_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v115_0) = v0 c
          ∧ r.2.mem ((c.tc : Thread Cert.Kernel4Ideal.nD Cert.Kernel4Ideal.τ).loc Cert.Kernel4Ideal.main_v115_1) = v1 c
          ∧ r.2.mem ((c.tc : Thread Cert.Kernel4Ideal.nD Cert.Kernel4Ideal.τ).loc Cert.Kernel4Ideal.main_v115_2) = v2 c
          ∧ r.2.mem ((c.tc : Thread Cert.Kernel4Ideal.nD Cert.Kernel4Ideal.τ).loc Cert.Kernel4Ideal.main_v115_3) = v3 c
          ∧ r.2.mem ((c.tc : Thread Cert.Kernel4Ideal.nD Cert.Kernel4Ideal.τ).loc Cert.Kernel4Ideal.main_v115_4) = v4 c
          ∧ r.2.mem ((c.tc : Thread Cert.Kernel4Ideal.nD Cert.Kernel4Ideal.τ).loc Cert.Kernel4Ideal.main_v115_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v147) = v0 c
          ∧ r.2.mem ((c.tc : Thread Cert.Reference4Ideal.nD Cert.Reference4Ideal.τ).loc Cert.Reference4Ideal.main_v148) = v1 c
          ∧ r.2.mem ((c.tc : Thread Cert.Reference4Ideal.nD Cert.Reference4Ideal.τ).loc Cert.Reference4Ideal.main_v149) = v2 c
          ∧ r.2.mem ((c.tc : Thread Cert.Reference4Ideal.nD Cert.Reference4Ideal.τ).loc Cert.Reference4Ideal.main_v150) = v3 c
          ∧ r.2.mem ((c.tc : Thread Cert.Reference4Ideal.nD Cert.Reference4Ideal.τ).loc Cert.Reference4Ideal.main_v151) = v4 c
          ∧ r.2.mem ((c.tc : Thread Cert.Reference4Ideal.nD Cert.Reference4Ideal.τ).loc Cert.Reference4Ideal.main_v153) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_on_written_qo_pre_finite_xattn [hKernel5Ideal : Cert.Kernel5Ideal.Facts] [hReference5Ideal : Cert.Reference5Ideal.Facts] [hPre_finite_xattn : Cert.Pre_finite_xattn.Facts] [hOn_written_qo : Cert.On_written_qo.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_xattn m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_1)) (v2 : (c : Dev Cert.Kernel5Ideal.nD) → Buf (Elt Ideal) ((c.tc : Thread Cert.Kernel5Ideal.nD Cert.Kernel5Ideal.τ).loc Cert.Kernel5Ideal.main_v25_2)) (v3 : (c : Dev Cert.Kernel5Ideal.nD) → Buf (Elt Ideal) ((c.tc : Thread Cert.Kernel5Ideal.nD Cert.Kernel5Ideal.τ).loc Cert.Kernel5Ideal.main_v25_3)) (v4 : (c : Dev Cert.Kernel5Ideal.nD) → Buf (Elt Ideal) ((c.tc : Thread Cert.Kernel5Ideal.nD Cert.Kernel5Ideal.τ).loc Cert.Kernel5Ideal.main_v25_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![8192, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 i = 1#1 → r.2.mem ((c.tc : Thread Cert.Kernel5Ideal.nD Cert.Kernel5Ideal.τ).loc Cert.Kernel5Ideal.main_v25_0) i = v0 c i)
          ∧ (∀ i : (⟨2, ![256, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 i = 1#1 → r.2.mem ((c.tc : Thread Cert.Kernel5Ideal.nD Cert.Kernel5Ideal.τ).loc Cert.Kernel5Ideal.main_v25_1) i = v1 c i)
          ∧ (∀ i : (⟨2, ![256, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 i = 1#1 → r.2.mem ((c.tc : Thread Cert.Kernel5Ideal.nD Cert.Kernel5Ideal.τ).loc Cert.Kernel5Ideal.main_v25_2) i = v2 c i)
          ∧ (∀ i : (⟨2, ![1, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 i = 1#1 → r.2.mem ((c.tc : Thread Cert.Kernel5Ideal.nD Cert.Kernel5Ideal.τ).loc Cert.Kernel5Ideal.main_v25_3) i = v3 c i)
          ∧ (∀ i : (⟨3, ![4, 1024, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2 i = 1#1 → r.2.mem ((c.tc : Thread Cert.Kernel5Ideal.nD Cert.Kernel5Ideal.τ).loc Cert.Kernel5Ideal.main_v25_4) i = v4 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![8192, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 i = 1#1 → r.2.mem ((c.tc : Thread Cert.Reference5Ideal.nD Cert.Reference5Ideal.τ).loc Cert.Reference5Ideal.main_v109) i = v0 c i)
          ∧ (∀ i : (⟨2, ![256, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 i = 1#1 → r.2.mem ((c.tc : Thread Cert.Reference5Ideal.nD Cert.Reference5Ideal.τ).loc Cert.Reference5Ideal.main_v84) i = v1 c i)
          ∧ (∀ i : (⟨2, ![256, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 i = 1#1 → r.2.mem ((c.tc : Thread Cert.Reference5Ideal.nD Cert.Reference5Ideal.τ).loc Cert.Reference5Ideal.main_v83) i = v2 c i)
          ∧ (∀ i : (⟨2, ![1, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 i = 1#1 → r.2.mem ((c.tc : Thread Cert.Reference5Ideal.nD Cert.Reference5Ideal.τ).loc Cert.Reference5Ideal.main_v113) i = v3 c i)
          ∧ (∀ i : (⟨3, ![4, 1024, 1024]⟩ : Shape).Idx, (Cert.On_written_qo.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2 i = 1#1 → r.2.mem ((c.tc : Thread Cert.Reference5Ideal.nD Cert.Reference5Ideal.τ).loc Cert.Reference5Ideal.main_v115) i = v4 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "gelu_a" .f32 0x3D372713#32 ((8943 / 200000 : ℝ) : EReal)
  ∧ IdealRules.named_const.Statement Cert.Kernel6Ideal.κ "gelu_a3" .f32 0x3E095D4F#32 ((26829 / 200000 : ℝ) : EReal)

def algebraic_Kernel6Ideal_Reference6Ideal_pre_finite_sgu [hKernel6Ideal : Cert.Kernel6Ideal.Facts] [hReference6Ideal : Cert.Reference6Ideal.Facts] [hPre_finite_sgu : Cert.Pre_finite_sgu.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_sgu m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v25_3)) (v4 : (c : Dev Cert.Kernel6Ideal.nD) → Buf (Elt Ideal) ((c.tc : Thread Cert.Kernel6Ideal.nD Cert.Kernel6Ideal.τ).loc Cert.Kernel6Ideal.main_v25_4)) (v5 : (c : Dev Cert.Kernel6Ideal.nD) → Buf (Elt Ideal) ((c.tc : Thread Cert.Kernel6Ideal.nD Cert.Kernel6Ideal.τ).loc Cert.Kernel6Ideal.main_v25_5)) (v6 : (c : Dev Cert.Kernel6Ideal.nD) → Buf (Elt Ideal) ((c.tc : Thread Cert.Kernel6Ideal.nD Cert.Kernel6Ideal.τ).loc Cert.Kernel6Ideal.main_v25_6)) (v7 : (c : Dev Cert.Kernel6Ideal.nD) → Buf (Elt Ideal) ((c.tc : Thread Cert.Kernel6Ideal.nD Cert.Kernel6Ideal.τ).loc Cert.Kernel6Ideal.main_v25_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v25_3) = v3 c
          ∧ r.2.mem ((c.tc : Thread Cert.Kernel6Ideal.nD Cert.Kernel6Ideal.τ).loc Cert.Kernel6Ideal.main_v25_4) = v4 c
          ∧ r.2.mem ((c.tc : Thread Cert.Kernel6Ideal.nD Cert.Kernel6Ideal.τ).loc Cert.Kernel6Ideal.main_v25_5) = v5 c
          ∧ r.2.mem ((c.tc : Thread Cert.Kernel6Ideal.nD Cert.Kernel6Ideal.τ).loc Cert.Kernel6Ideal.main_v25_6) = v6 c
          ∧ r.2.mem ((c.tc : Thread Cert.Kernel6Ideal.nD Cert.Kernel6Ideal.τ).loc Cert.Kernel6Ideal.main_v25_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v172) = v0 c
          ∧ r.2.mem ((c.tc : Thread Cert.Reference6Ideal.nD Cert.Reference6Ideal.τ).loc Cert.Reference6Ideal.main_v97) = v1 c
          ∧ r.2.mem ((c.tc : Thread Cert.Reference6Ideal.nD Cert.Reference6Ideal.τ).loc Cert.Reference6Ideal.main_v95) = v2 c
          ∧ r.2.mem ((c.tc : Thread Cert.Reference6Ideal.nD Cert.Reference6Ideal.τ).loc Cert.Reference6Ideal.main_v173) = v3 c
          ∧ r.2.mem ((c.tc : Thread Cert.Reference6Ideal.nD Cert.Reference6Ideal.τ).loc Cert.Reference6Ideal.main_v174) = v4 c
          ∧ r.2.mem ((c.tc : Thread Cert.Reference6Ideal.nD Cert.Reference6Ideal.τ).loc Cert.Reference6Ideal.main_v175) = v5 c
          ∧ r.2.mem ((c.tc : Thread Cert.Reference6Ideal.nD Cert.Reference6Ideal.τ).loc Cert.Reference6Ideal.main_v178) = v6 c
          ∧ r.2.mem ((c.tc : Thread Cert.Reference6Ideal.nD Cert.Reference6Ideal.τ).loc Cert.Reference6Ideal.main_v180) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hPre_finite_ffn : Cert.Pre_finite_ffn.Facts) (hPre_finite_loss : Cert.Pre_finite_loss.Facts) (hPre_finite_mix : Cert.Pre_finite_mix.Facts) (hPre_finite_xattn : Cert.Pre_finite_xattn.Facts) (hPre_finite_sgu : Cert.Pre_finite_sgu.Facts) (hOn_written_qo : Cert.On_written_qo.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_loss (hKernel3Ideal := hKernel3Ideal) (hPre_finite_loss := hPre_finite_loss)
    ∧ quiescent_Reference3Ideal (hReference3Ideal := hReference3Ideal)
    ∧ quiescent_Reference3Ideal_pre_finite_loss (hReference3Ideal := hReference3Ideal) (hPre_finite_loss := hPre_finite_loss)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ quiescent_Kernel5 (hKernel5 := hKernel5)
    ∧ quiescent_Kernel5Ideal (hKernel5Ideal := hKernel5Ideal)
    ∧ quiescent_Kernel5Ideal_pre_finite_xattn (hKernel5Ideal := hKernel5Ideal) (hPre_finite_xattn := hPre_finite_xattn)
    ∧ quiescent_Reference5Ideal (hReference5Ideal := hReference5Ideal)
    ∧ quiescent_Reference5Ideal_pre_finite_xattn (hReference5Ideal := hReference5Ideal) (hPre_finite_xattn := hPre_finite_xattn)
    ∧ quiescent_Kernel6 (hKernel6 := hKernel6)
    ∧ quiescent_Kernel6Ideal (hKernel6Ideal := hKernel6Ideal)
    ∧ quiescent_Kernel6Ideal_pre_finite_sgu (hKernel6Ideal := hKernel6Ideal) (hPre_finite_sgu := hPre_finite_sgu)
    ∧ quiescent_Reference6Ideal (hReference6Ideal := hReference6Ideal)
    ∧ quiescent_Reference6Ideal_pre_finite_sgu (hReference6Ideal := hReference6Ideal) (hPre_finite_sgu := hPre_finite_sgu)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_loss (hKernel3Ideal := hKernel3Ideal) (hReference3Ideal := hReference3Ideal) (hPre_finite_loss := hPre_finite_loss)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
    ∧ preserves_Kernel5_Kernel5Ideal
    ∧ algebraic_Kernel5Ideal_Reference5Ideal_on_written_qo_pre_finite_xattn (hKernel5Ideal := hKernel5Ideal) (hReference5Ideal := hReference5Ideal) (hPre_finite_xattn := hPre_finite_xattn) (hOn_written_qo := hOn_written_qo)
    ∧ preserves_Kernel6_Kernel6Ideal
    ∧ algebraic_Kernel6Ideal_Reference6Ideal_pre_finite_sgu (hKernel6Ideal := hKernel6Ideal) (hReference6Ideal := hReference6Ideal) (hPre_finite_sgu := hPre_finite_sgu)
    ∧ preserves_Kernel8_Kernel8Ideal
    ∧ algebraic_Kernel8Ideal_Reference8Ideal (hKernel8Ideal := hKernel8Ideal) (hReference8Ideal := hReference8Ideal)
-- ==== On_written_qo.lean ====
abbrev S8192x1024 : Shape := ⟨2, ![8192, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S1x1024 : Shape := ⟨2, ![1, 1024]⟩
abbrev S4x1024x1024 : Shape := ⟨3, ![4, 1024, 1024]⟩

class Facts : Prop where
  bcast_S_S8192x1024 : S_.BroadcastsInDim S8192x1024 (![] : Fin 0 → Fin S8192x1024.rank)
  bcast_S_S256x1024 : S_.BroadcastsInDim S256x1024 (![] : Fin 0 → Fin S256x1024.rank)
  bcast_S_S1x1024 : S_.BroadcastsInDim S1x1024 (![] : Fin 0 → Fin S1x1024.rank)
  bcast_S_S4x1024x1024 : S_.BroadcastsInDim S4x1024x1024 (![] : Fin 0 → Fin S4x1024x1024.rank)

variable [Facts]

def fn {F : FTy → Type} [FloatOps F] (main_arg0 : FVec F S8192x1024 .f32) (main_arg1 : FVec F S1024 .f32) (main_arg2 : FVec F S256x1024 .f32) (main_arg3 : FVec F S256x1024 .f32) (main_arg4 : FVec F S1024x1024 .f32) (main_arg5 : FVec F S1024x1024 .f32) (main_arg6 : FVec F S1024x1024 .f32) (main_arg7 : FVec F S1024x1024 .f32) (main_arg8 : FVec F S8192x1024 .f32) : IVec S8192x1024 1 × IVec S256x1024 1 × IVec S256x1024 1 × IVec S1x1024 1 × IVec S4x1024x1024 1 :=
  let main_c : IVec S_ 1 := constantI S_ 1 1#1
  let main_v0 : IVec S8192x1024 1 := broadcastInDim S8192x1024 ![] bcast_S_S8192x1024 main_c
  let main_c_0 : IVec S_ 1 := constantI S_ 1 1#1
  let main_v1 : IVec S256x1024 1 := broadcastInDim S256x1024 ![] bcast_S_S256x1024 main_c_0
  let main_c_1 : IVec S_ 1 := constantI S_ 1 1#1
  let main_v2 : IVec S256x1024 1 := broadcastInDim S256x1024 ![] bcast_S_S256x1024 main_c_1
  let main_c_2 : IVec S_ 1 := constantI S_ 1 1#1
  let main_v3 : IVec S1x1024 1 := broadcastInDim S1x1024 ![] bcast_S_S1x1024 main_c_2
  let main_v4 : IVec S4x1024x1024 32 := iotaInDim S4x1024x1024 32 1
  let main_c_3 : IVec S_ 32 := constantI S_ 32 512#32
  let main_v5 : IVec S4x1024x1024 32 := broadcastInDim S4x1024x1024 ![] bcast_S_S4x1024x1024 main_c_3
  let main_v6 : IVec S4x1024x1024 1 := cmpi .slt main_v4 main_v5
  (main_v0, main_v1, main_v2, main_v3, main_v6)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_loss.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_arg6 : FVec F S1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_finite_mix.lean ====
abbrev S8192x1024 : Shape := ⟨2, ![8192, 1024]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2560 : S_.BroadcastsInDim S1024x2560 (![] : Fin 0 → Fin S1024x2560.rank)
  reducesTo_S1024x2560_S_d0_1 : S1024x2560.ReducesTo [0, 1] S_
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S3x512 : S_.BroadcastsInDim S3x512 (![] : Fin 0 → Fin S3x512.rank)
  reducesTo_S3x512_S_d0_1 : S3x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S512 .f32) (main_arg9 : FVec F S1024x1024 .f32) (main_arg10 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S512 .f32 := Host.absf main_arg8
  let main_cst_14 : FVec F S_ .f32 := constant S_ .f32 0x7F800000#32
  let main_v33 : FVec F S512 .f32 := broadcastInDim S512 ![] bcast_S_S512 main_cst_14
  let main_v34 : IVec S512 1 := cmpf .olt main_v32 main_v33
  let main_c_15 : IVec S_ 1 := constantI S_ 1 1#1
  let main_v35 : IVec S_ 1 := (fun x v => Host.reduce IntOp.andi x v reducesTo_S512_S_d0 h_S_) main_v34 main_c_15
  let main_v36 : FVec F S1024x1024 .f32 := Host.absf main_arg9
  let main_cst_16 : FVec F S_ .f32 := constant S_ .f32 0x7F800000#32
  let main_v37 : FVec F S1024x1024 .f32 := broadcastInDim S1024x1024 ![] bcast_S_S1024x1024 main_cst_16
  let main_v38 : IVec S1024x1024 1 := cmpf .olt main_v36 main_v37
  let main_c_17 : IVec S_ 1 := constantI S_ 1 1#1
  let main_v39 : IVec S_ 1 := (fun x v => Host.reduce IntOp.andi x v reducesTo_S1024x1024_S_d0_1 h_S_) main_v38 main_c_17
  let main_v40 : FVec F S8192x1024 .f32 := Host.absf main_arg10
  let main_cst_18 : FVec F S_ .f32 := constant S_ .f32 0x7F800000#32
  let main_v41 : FVec F S8192x1024 .f32 := broadcastInDim S8192x1024 ![] bcast_S_S8192x1024 main_cst_18
  let main_v42 : IVec S8192x1024 1 := cmpf .olt main_v40 main_v41
  let main_c_19 : IVec S_ 1 := constantI S_ 1 1#1
  let main_v43 : IVec S_ 1 := (fun x v => Host.reduce IntOp.andi x v reducesTo_S8192x1024_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S512 .f32) (main_arg5 : FVec F S512 .f32) (main_arg6 : FVec F S512 .f32) (main_arg7 : FVec F S3x512 .f32) (main_arg8 : FVec F S512 .f32) (main_arg9 : FVec F S1024x1024 .f32) (main_arg10 : FVec F S8192x1024 .f32) (main_v3 : IVec S_ 1) (main_v7 : IVec S_ 1) (main_v11 : IVec S_ 1) (main_v15 : IVec S_ 1) : IVec S_ 1 :=
  let main_v16 : FVec F S512 .f32 := Host.absf main_arg4
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : FVec F S512 .f32 := Host.absf main_arg5
  let main_cst_8 : FVec F S_ .f32 := constant S_ .f32 0x7F800000#32
  let main_v21 : FVec F S512 .f32 := broadcastInDim S512 ![] bcast_S_S512 main_cst_8
  let main_v22 : IVec S512 1 := cmpf .olt main_v20 main_v21
  let main_c_9 : IVec S_ 1 := constantI S_ 1 1#1
  let main_v23 : IVec S_ 1 := (fun x v => Host.reduce IntOp.andi x v reducesTo_S512_S_d0 h_S_) main_v22 main_c_9
  let main_v24 : FVec F S512 .f32 := Host.absf main_arg6
  let main_cst_10 : FVec F S_ .f32 := constant S_ .f32 0x7F800000#32
  let main_v25 : FVec F S512 .f32 := broadcastInDim S512 ![] bcast_S_S512 main_cst_10
  let main_v26 : IVec S512 1 := cmpf .olt main_v24 main_v25
  let main_c_11 : IVec S_ 1 := constantI S_ 1 1#1
  let main_v27 : IVec S_ 1 := (fun x v => Host.reduce IntOp.andi x v reducesTo_S512_S_d0 h_S_) main_v26 main_c_11
  let main_v28 : FVec F S3x512 .f32 := Host.absf main_arg7
  let main_cst_12 : FVec F S_ .f32 := constant S_ .f32 0x7F800000#32
  let main_v29 : FVec F S3x512 .f32 := broadcastInDim S3x512 ![] bcast_S_S3x512 main_cst_12
  let main_v30 : IVec S3x512 1 := cmpf .olt main_v28 main_v29
  let main_c_13 : IVec S_ 1 := constantI S_ 1 1#1
  let main_v31 : IVec S_ 1 := (fun x v => Host.reduce IntOp.andi x v reducesTo_S3x512_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S8192x1024 .f32) (main_arg1 : FVec F S1024 .f32) (main_arg2 : FVec F S1024x2560 .f32) (main_arg3 : FVec F S31x512 .f32) (main_arg4 : FVec F S512 .f32) (main_arg5 : FVec F S512 .f32) (main_arg6 : FVec F S512 .f32) (main_arg7 : FVec F S3x512 .f32) (main_arg8 : FVec F S512 .f32) (main_arg9 : FVec F S1024x1024 .f32) (main_arg10 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2560 .f32 := Host.absf main_arg2
  let main_cst_2 : FVec F S_ .f32 := constant S_ .f32 0x7F800000#32
  let main_v9 : FVec F S1024x2560 .f32 := broadcastInDim S1024x2560 ![] bcast_S_S1024x2560 main_cst_2
  let main_v10 : IVec S1024x2560 1 := cmpf .olt main_v8 main_v9
  let main_c_3 : IVec S_ 1 := constantI S_ 1 1#1
  let main_v11 : IVec S_ 1 := (fun x v => Host.reduce IntOp.andi x v reducesTo_S1024x2560_S_d0_1 h_S_) main_v10 main_c_3
  let main_v12 : FVec F S31x512 .f32 := Host.absf main_arg3
  let main_cst_4 : FVec F S_ .f32 := constant S_ .f32 0x7F800000#32
  let main_v13 : FVec F S31x512 .f32 := broadcastInDim S31x512 ![] bcast_S_S31x512 main_cst_4
  let main_v14 : IVec S31x512 1 := cmpf .olt main_v12 main_v13
  let main_c_5 : IVec S_ 1 := constantI S_ 1 1#1
  let main_v15 : IVec S_ 1 := (fun x v => Host.reduce IntOp.andi x v reducesTo_S31x512_S_d0_1 h_S_) main_v14 main_c_5
  fn_part1 (F := F) main_arg4 main_arg5 main_arg6 main_arg7 main_arg8 main_arg9 main_arg10 main_v3 main_v7 main_v11 main_v15
-- ==== Pre_finite_sgu.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x1024 .f32 := Host.absf main_arg8
  let main_cst_14 : FVec F S_ .f32 := constant S_ .f32 0x7F800000#32
  let main_v33 : FVec F S8192x1024 .f32 := broadcastInDim S8192x1024 ![] bcast_S_S8192x1024 main_cst_14
  let main_v34 : IVec S8192x1024 1 := cmpf .olt main_v32 main_v33
  let main_c_15 : IVec S_ 1 := constantI S_ 1 1#1
  let main_v35 : IVec S_ 1 := (fun x v => Host.reduce IntOp.andi x v reducesTo_S8192x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1024 .f32) (main_arg5 : FVec F S8x128x128 .f32) (main_arg6 : FVec F S8x128 .f32) (main_arg7 : FVec F S1024x1024 .f32) (main_arg8 : FVec F S8192x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S8x128x128 .f32 := Host.absf main_arg5
  let main_cst_8 : FVec F S_ .f32 := constant S_ .f32 0x7F800000#32
  let main_v21 : FVec F S8x128x128 .f32 := broadcastInDim S8x128x128 ![] bcast_S_S8x128x128 main_cst_8
  let main_v22 : IVec S8x128x128 1 := cmpf .olt main_v20 main_v21
  let main_c_9 : IVec S_ 1 := constantI S_ 1 1#1
  let main_v23 : IVec S_ 1 := (fun x v => Host.reduce IntOp.andi x v reducesTo_S8x128x128_S_d0_1_2 h_S_) main_v22 main_c_9
  let main_v24 : FVec F S8x128 .f32 := Host.absf main_arg6
  let main_cst_10 : FVec F S_ .f32 := constant S_ .f32 0x7F800000#32
  let main_v25 : FVec F S8x128 .f32 := broadcastInDim S8x128 ![] bcast_S_S8x128 main_cst_10
  let main_v26 : IVec S8x128 1 := cmpf .olt main_v24 main_v25
  let main_c_11 : IVec S_ 1 := constantI S_ 1 1#1
  let main_v27 : IVec S_ 1 := (fun x v => Host.reduce IntOp.andi x v reducesTo_S8x128_S_d0_1 h_S_) main_v26 main_c_11
  let main_v28 : FVec F S1024x1024 .f32 := Host.absf main_arg7
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S1024 .f32) (main_arg2 : FVec F S1024x2048 .f32) (main_arg3 : FVec F S1024 .f32) (main_arg4 : FVec F S1024 .f32) (main_arg5 : FVec F S8x128x128 .f32) (main_arg6 : FVec F S8x128 .f32) (main_arg7 : FVec F S1024x1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_arg5 main_arg6 main_arg7 main_arg8 main_v3 main_v7 main_v11 main_v15
-- ==== Pre_finite_xattn.lean ====
abbrev S8192x1024 : Shape := ⟨2, ![8192, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg8 : FVec F S8192x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S8192x1024 .f32 := Host.absf main_arg8
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1024 .f32) (main_arg2 : FVec F S256x1024 .f32) (main_arg3 : FVec F S256x1024 .f32) (main_arg4 : FVec F S1024x1024 .f32) (main_arg5 : FVec F S1024x1024 .f32) (main_arg6 : FVec F S1024x1024 .f32) (main_arg7 : FVec F S1024x1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S256x1024 .f32 := Host.absf main_arg2
  let main_cst_2 : FVec F S_ .f32 := constant S_ .f32 0x7F800000#32
  let main_v9 : FVec F S256x1024 .f32 := broadcastInDim S256x1024 ![] bcast_S_S256x1024 main_cst_2
  let main_v10 : IVec S256x1024 1 := cmpf .olt main_v8 main_v9
  let main_c_3 : IVec S_ 1 := constantI S_ 1 1#1
  let main_v11 : IVec S_ 1 := (fun x v => Host.reduce IntOp.andi x v reducesTo_S256x1024_S_d0_1 h_S_) main_v10 main_c_3
  let main_v12 : FVec F S256x1024 .f32 := Host.absf main_arg3
  let main_cst_4 : FVec F S_ .f32 := constant S_ .f32 0x7F800000#32
  let main_v13 : FVec F S256x1024 .f32 := broadcastInDim S256x1024 ![] bcast_S_S256x1024 main_cst_4
  let main_v14 : IVec S256x1024 1 := cmpf .olt main_v12 main_v13
  let main_c_5 : IVec S_ 1 := constantI S_ 1 1#1
  let main_v15 : IVec S_ 1 := (fun x v => Host.reduce IntOp.andi x v reducesTo_S256x1024_S_d0_1 h_S_) main_v14 main_c_5
  fn_part1 (F := F) main_arg4 main_arg5 main_arg8 main_v3 main_v7 main_v11 main_v15
-- ==== Kernel.lean ====
abbrev S256x1024 : Shape := ⟨2, ![256, 1024]⟩
abbrev S1024 : Shape := ⟨1, ![1024]⟩
abbrev S1024x1024 : Shape := ⟨2, ![1024, 1024]⟩
abbrev S4x1024x1024 : Shape := ⟨3, ![4, 1024, 1024]⟩
abbrev S1x1024 : Shape := ⟨2, ![1, 1024]⟩
abbrev S4x256x1024 : Shape := ⟨3, ![4, 256, 1024]⟩
abbrev S4x512x1024 : Shape := ⟨3, ![4, 512, 1024]⟩
abbrev S256 : Shape := ⟨1, ![256]⟩
abbrev S256x1 : Shape := ⟨2, ![256, 1]⟩

abbrev nBuf : Space → Nat
  | .hbm => 18
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S4x1024x1024, .bf16⟩
  | .hbm, ⟨9, _⟩ => ⟨S1x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S4x1024x1024, .f32⟩
  | .hbm, ⟨15, _⟩ => ⟨S4x1024x1024, .bf16⟩
  | .hbm, ⟨16, _⟩ => ⟨S1x1024, .f32⟩
  | .hbm, ⟨17, _⟩ => ⟨S4x1024x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S4x256x1024, .bf16⟩
  | .local _ .vmem, ⟨5, _⟩ => ⟨S4x256x1024, .bf16⟩
  | .local _ .vmem, ⟨6, _⟩ => ⟨S1x1024, .f32⟩
  | .local _ .vmem, ⟨7, _⟩ => ⟨S4x512x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S256x1024 : Shape := ⟨2, ![256, 1024]⟩
abbrev S1024 : Shape := ⟨1, ![1024]⟩
abbrev S1024x1024 : Shape := ⟨2, ![1024, 1024]⟩
abbrev S4x1024x1024 : Shape := ⟨3, ![4, 1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S4x512x1024 : Shape := ⟨3, ![4, 512, 1024]⟩
abbrev S4x256x1024 : Shape := ⟨3, ![4, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S4x1024x1024, .bf16⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S1024x1024, .f32⟩
  | .hbm, ⟨28, _⟩ => ⟨S1024x1024, .f32⟩
  | .hbm, ⟨29, _⟩ => ⟨S256x1024, .f32⟩
  | .hbm, ⟨30, _⟩ => ⟨S1024x1024, .f32⟩
  | .hbm, ⟨31, _⟩ => ⟨S1024x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S4x512x1024, .bf16⟩
  | .hbm, ⟨41, _⟩ => ⟨S4x512x1024, .f32⟩
  | .hbm, ⟨42, _⟩ => ⟨S4x256x1024, .f32⟩
  | .hbm, ⟨43, _⟩ => ⟨S4x256x1024, .f32⟩
  | .hbm, ⟨44, _⟩ => ⟨S4x1024x1024, .f32⟩
  | .hbm, ⟨45, _⟩ => ⟨S1x1024, .f32⟩
  | .hbm, ⟨46, _⟩ => ⟨S4x1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256x768 : Shape := ⟨2, ![256, 768]⟩
abbrev S768x1024 : Shape := ⟨2, ![768, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩

abbrev nBuf : Space → Nat
  | .hbm => 46
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S2816x1024, .bf16⟩
  | .hbm, ⟨32, _⟩ => ⟨S8192x2816, .f32⟩
  | .hbm, ⟨33, _⟩ => ⟨S8192x2816, .bf16⟩
  | .hbm, ⟨34, _⟩ => ⟨S2816x1024, .bf16⟩
  | .hbm, ⟨35, _⟩ => ⟨S8192x2816, .f32⟩
  | .hbm, ⟨36, _⟩ => ⟨S8192x2816, .bf16⟩
  | .hbm, ⟨37, _⟩ => ⟨S2816x1024, .bf16⟩
  | .hbm, ⟨38, _⟩ => ⟨S2816x1024, .bf16⟩
  | .hbm, ⟨39, _⟩ => ⟨S2816x1024, .bf16⟩
  | .hbm, ⟨40, _⟩ => ⟨S8192x1024, .f32⟩
  | .hbm, ⟨41, _⟩ => ⟨S1x1024, .f32⟩
  | .hbm, ⟨42, _⟩ => ⟨S8192x2816, .bf16⟩
  | .hbm, ⟨43, _⟩ => ⟨S8192x2816, .bf16⟩
  | .hbm, ⟨44, _⟩ => ⟨S8192x2816, .bf16⟩
  | .hbm, ⟨45, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S8192x1024, .f32⟩
  | 44 => ⟨S8192x1024, .f32⟩
  | 45 => ⟨S8192x2816, .f32⟩
  | 46 => ⟨S8192x2816, .f32⟩
  | 47 => ⟨S8192x2816, .f32⟩
  | 48 => ⟨S8192x1024, .f32⟩
  | 49 => ⟨S8192x2816, .f32⟩
  | 50 => ⟨S8192x2816, .f32⟩
  | 51 => ⟨S8192x2816, .f32⟩
  | 52 => ⟨S8192x2816, .f32⟩
  | 53 => ⟨S8192x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S8192x1024, .f32⟩
  | 60 => ⟨S8192x1024, .f32⟩
  | 61 => ⟨S_, .f32⟩
  | 62 => ⟨S1024, .f32⟩
  | 63 => ⟨S8192x1024, .f32⟩
  | 64 => ⟨S_, .f32⟩
  | 65 => ⟨S8192, .f32⟩
  | 66 => ⟨S8192x1, .f32⟩
  | 67 => ⟨S8192x1024, .f32⟩
  | 68 => ⟨S8192x1024, .f32⟩
  | 69 => ⟨S8192x1024, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x1024, .f32⟩
  | 93 => ⟨S8192x1024, .f32⟩
  | 94 => ⟨S1x1024, .f32⟩
  | 95 => ⟨S8192x1024, .f32⟩
  | 96 => ⟨S8192x1024, .f32⟩
  | 97 => ⟨S8192x2816, .f32⟩
  | 98 => ⟨S8192x2816, .f32⟩
  | 99 => ⟨S8192x2816, .f32⟩
  | 100 => ⟨S8192x2816, .f32⟩
  | 101 => ⟨S_, .f32⟩
  | 102 => ⟨S8192x2816, .f32⟩
  | 103 => ⟨S8192x2816, .f32⟩
  | 104 => ⟨S_, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S8192x2816, .f32⟩
  | 111 => ⟨S8192x2816, .f32⟩
  | 112 => ⟨S8192x2816, .f32⟩
  | 113 => ⟨S8192x1024, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x2816, .f32⟩
  | 121 => ⟨S1x1024, .f32⟩
  | 122 => ⟨S8192x2816, .bf16⟩
  | 123 => ⟨S8192x2816, .bf16⟩
  | 124 => ⟨S8192x2816, .f32⟩
  | 125 => ⟨S8192x2816, .f32⟩
  | 126 => ⟨S_, .f32⟩
  | 127 => ⟨S8192x2816, .f32⟩
  | _ => ⟨S8192x1024, .f32⟩

abbrev hbmTy0_1 (i : Nat) : BufTy := match i % 128 with
  | 0 => ⟨S8192x2816, .f32⟩
  | 1 => ⟨S_, .f32⟩
  | 2 => ⟨S8192x2816, .f32⟩
  | 3 => ⟨S8192x2816, .f32⟩
  | 4 => ⟨S8192x2816, .f32⟩
  | 5 => ⟨S8192x2816, .f32⟩
  | 6 => ⟨S8192x2816, .bf16⟩
  | 7 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_v0 : Ref sig .tc := ⟨.hbm, 99, rfl⟩
abbrev main_call2_v1 : Ref sig .tc := ⟨.hbm, 100, rfl⟩
abbrev main_call2_cst : Ref sig .tc := ⟨.hbm, 101, rfl⟩
abbrev main_call2_v2 : Ref sig .tc := ⟨.hbm, 102, rfl⟩
abbrev main_call2_v3 : Ref sig .tc := ⟨.hbm, 103, rfl⟩
abbrev main_call2_cst_0 : Ref sig .tc := ⟨.hbm, 104, rfl⟩
abbrev main_call2_v4 : Ref sig .tc := ⟨.hbm, 105, rfl⟩
abbrev main_v66_2 : Ref sig .tc := ⟨.hbm, 106, rfl⟩
abbrev main_call2_cst_1 : Ref sig .tc := ⟨.hbm, 107, rfl⟩
abbrev main_call2_v6 : Ref sig .tc := ⟨.hbm, 108, rfl⟩
abbrev main_call2_v7 : Ref sig .tc := ⟨.hbm, 109, rfl⟩
abbrev main_v66_1 : Ref sig .tc := ⟨.hbm, 110, rfl⟩
abbrev main_v66_0 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_call4_v0 : Ref sig .tc := ⟨.hbm, 124, rfl⟩
abbrev main_call4_v1 : Ref sig .tc := ⟨.hbm, 125, rfl⟩
abbrev main_call4_cst : Ref sig .tc := ⟨.hbm, 126, rfl⟩
abbrev main_call4_v2 : Ref sig .tc := ⟨.hbm, 127, rfl⟩
abbrev main_call4_v3 : Ref sig .tc := ⟨.hbm, 128, rfl⟩
abbrev main_call4_cst_0 : Ref sig .tc := ⟨.hbm, 129, rfl⟩
abbrev main_call4_v4 : Ref sig .tc := ⟨.hbm, 130, rfl⟩
abbrev main_call4_v5 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x1024 : Shape := ⟨2, ![1, 1024]⟩
abbrev S1x128 : Shape := ⟨2, ![1, 128]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 25
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S4x704x1024, .bf16⟩
  | .hbm, ⟨11, _⟩ => ⟨S2816x1024, .bf16⟩
  | .hbm, ⟨12, _⟩ => ⟨S4x704x1024, .bf16⟩
  | .hbm, ⟨13, _⟩ => ⟨S2816x1024, .bf16⟩
  | .hbm, ⟨14, _⟩ => ⟨S4x704x1024, .bf16⟩
  | .hbm, ⟨15, _⟩ => ⟨S1x1024, .f32⟩
  | .hbm, ⟨16, _⟩ => ⟨S1x1024, .f32⟩
  | .hbm, ⟨17, _⟩ => ⟨S2816x1024, .bf16⟩
  | .hbm, ⟨18, _⟩ => ⟨S2816x1024, .bf16⟩
  | .hbm, ⟨19, _⟩ => ⟨S2816x1024, .bf16⟩
  | .hbm, ⟨20, _⟩ => ⟨S8192x1024, .f32⟩
  | .hbm, ⟨21, _⟩ => ⟨S1x128, .f32⟩
  | .hbm, ⟨22, _⟩ => ⟨S1x1024, .f32⟩
  | .hbm, ⟨23, _⟩ => ⟨S8192x2816, .bf16⟩
  | .hbm, ⟨24, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x128, .f32⟩
  | .local _ .vmem, ⟨12, _⟩ => ⟨S1x1024, .f32⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S1x128, .f32⟩
  | .hbm, ⟨106, _⟩ => ⟨S1x1024, .f32⟩
  | .hbm, ⟨107, _⟩ => ⟨S8192x2816, .f32⟩
  | .hbm, ⟨108, _⟩ => ⟨S8192x2816, .bf16⟩
  | .hbm, ⟨109, _⟩ => ⟨S8192x2816, .f32⟩
  | .hbm, ⟨110, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S4x256x1024 : Shape := ⟨3, ![4, 256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S8192x512 : Shape := ⟨2, ![8192, 512]⟩
abbrev S15x512 : Shape := ⟨2, ![15, 512]⟩
abbrev S1x8192 : Shape := ⟨2, ![1, 8192]⟩
abbrev S31 : Shape := ⟨1, ![31]⟩
abbrev S31x1 : Shape := ⟨2, ![31, 1]⟩
abbrev S31x8192 : Shape := ⟨2, ![31, 8192]⟩
abbrev S8222x512 : Shape := ⟨2, ![8222, 512]⟩
abbrev S31x8192x1 : Shape := ⟨3, ![31, 8192, 1]⟩
abbrev S31x8192x512 : Shape := ⟨3, ![31, 8192, 512]⟩
abbrev S31x1x512 : Shape := ⟨3, ![31, 1, 512]⟩
abbrev S1x512 : Shape := ⟨2, ![1, 512]⟩
abbrev S3 : Shape := ⟨1, ![3]⟩
abbrev S3x1 : Shape := ⟨2, ![3, 1]⟩
abbrev S3x8192 : Shape := ⟨2, ![3, 8192]⟩
abbrev S8194x512 : Shape := ⟨2, ![8194, 512]⟩
abbrev S3x8192x1 : Shape := ⟨3, ![3, 8192, 1]⟩
abbrev S3x8192x512 : Shape := ⟨3, ![3, 8192, 512]⟩
abbrev S3x1x512 : Shape := ⟨3, ![3, 1, 512]⟩
abbrev S1024x512 : Shape := ⟨2, ![1024, 512]⟩
abbrev S1024x1 : Shape := ⟨2, ![1024, 1]⟩

abbrev nBuf : Space → Nat
  | .hbm => 152
  | .vmem => 23
  | .smem => 0
  | _ => 0

abbrev hbmTy0_0 (i : Nat) : BufTy := match i % 128 with
  | 0 => ⟨S8192x1024, .f32⟩
  | 1 => ⟨S1024, .f32⟩
  | 2 => ⟨S1024x2560, .f32⟩
  | 3 => ⟨S31x512, .f32⟩
  | 4 => ⟨S512, .f32⟩
  | 5 => ⟨S512, .f32⟩
  | 6 => ⟨S512, .f32⟩
  | 7 => ⟨S3x512, .f32⟩
  | 8 => ⟨S512, .f32⟩
  | 9 => ⟨S1024x1024, .f32⟩
  | 10 => ⟨S8192x1024, .f32⟩
  | 11 => ⟨S4x256x1024, .f32⟩
  | 12 => ⟨S4x256x1024, .bf16⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x1024, .bf16⟩
  | 30 => ⟨S1024x2560, .bf16⟩
  | 31 => ⟨S8192x2560, .f32⟩
  | 32 => ⟨S8192x2560, .bf16⟩
  | 33 => ⟨S8192x2560, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S8192x512, .f32⟩
  | 45 => ⟨S_, .f32⟩
  | 46 => ⟨S15x512, .f32⟩
  | 47 => ⟨S8192, .i32⟩
  | 48 => ⟨S1x8192, .i32⟩
  | 49 => ⟨S31, .i32⟩
  | 50 => ⟨S31x1, .i32⟩
  | 51 => ⟨S31x8192, .i32⟩
  | 52 => ⟨S31x8192, .i32⟩
  | 53 => ⟨S31x8192, .i32⟩
  | 54 => ⟨S8222x512, .f32⟩
  | 55 => ⟨S_, .i32⟩
  | 56 => ⟨S31x8192, .i32⟩
  | 57 => ⟨S31x8192, .i1⟩
  | 58 => ⟨S_, .i32⟩
  | 59 => ⟨S31x8192, .i32⟩
  | 60 => ⟨S31x8192, .i32⟩
  | 61 => ⟨S31x8192, .i32⟩
  | 62 => ⟨S31x8192x1, .i32⟩
  | 63 => ⟨S31x8192x512, .f32⟩
  | 64 => ⟨S31x1x512, .f32⟩
  | 65 => ⟨S31x8192x512, .f32⟩
  | 66 => ⟨S31x8192x512, .f32⟩
  | 67 => ⟨S_, .f32⟩
  | 68 => ⟨S8192x512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S_, .f32⟩
  | 76 => ⟨S1x512, .f32⟩
  | 77 => ⟨S8192, .i32⟩
  | 78 => ⟨S1x8192, .i32⟩
  | 79 => ⟨S3, .i32⟩
  | 80 => ⟨S3x1, .i32⟩
  | 81 => ⟨S3x8192, .i32⟩
  | 82 => ⟨S3x8192, .i32⟩
  | 83 => ⟨S3x8192, .i32⟩
  | 84 => ⟨S8194x512, .f32⟩
  | 85 => ⟨S_, .i32⟩
  | 86 => ⟨S3x8192, .i32⟩
  | 87 => ⟨S3x8192, .i1⟩
  | 88 => ⟨S_, .i32⟩
  | 89 => ⟨S3x8192, .i32⟩
  | 90 => ⟨S3x8192, .i32⟩
  | 91 => ⟨S3x8192, .i32⟩
  | 92 => ⟨S3x8192x1, .i32⟩
  | 93 => ⟨S3x8192x512, .f32⟩
  | 94 => ⟨S3x1x512, .f32⟩
  | 95 => ⟨S3x8192x512, .f32⟩
  | 96 => ⟨S3x8192x512, .f32⟩
  | 97 => ⟨S_, .f32⟩
  | 98 => ⟨S8192x512, .f32⟩
  | 99 => ⟨S1x512, .f32⟩
  | 100 => ⟨S8192x512, .f32⟩
  | 101 => ⟨S8192x512, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x512, .f32⟩
  | 109 => ⟨S8192x512, .f32⟩
  | 110 => ⟨S8192x512, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x1, .f32⟩
  | 121 => ⟨S8192x512, .f32⟩
  | 122 => ⟨S8192x512, .f32⟩
  | 123 => ⟨S1x512, .f32⟩
  | 124 => ⟨S8192x512, .f32⟩
  | 125 => ⟨S8192x512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S8192x512, .f32⟩
  | 10 => ⟨S8192x512, .bf16⟩
  | 11 => ⟨S8192x512, .f32⟩
  | 12 => ⟨S8192x512, .f32⟩
  | 13 => ⟨S8192x512, .bf16⟩
  | 14 => ⟨S8192x1024, .bf16⟩
  | 15 => ⟨S8192x512, .bf16⟩
  | 16 => ⟨S1x512, .f32⟩
  | 17 => ⟨S1x512, .f32⟩
  | 18 => ⟨S8192x512, .bf16⟩
  | 19 => ⟨S8192x512, .bf16⟩
  | 20 => ⟨S8192x512, .bf16⟩
  | 21 => ⟨S1x512, .f32⟩
  | 22 => ⟨S1x512, .f32⟩
  | 23 => ⟨S4x256x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S4x256x1024, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1x512, .f32⟩
  | .local _ .vmem, ⟨20, _⟩ => ⟨S1x512, .f32⟩
  | .local _ .vmem, ⟨21, _⟩ => ⟨S4x256x1024, .bf16⟩
  | .local _ .vmem, ⟨22, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_8 : Ref sig .tc := ⟨.hbm, 85, rfl⟩
abbrev main_v64 : Ref sig .tc := ⟨.hbm, 86, rfl⟩
abbrev main_v65 : Ref sig .tc := ⟨.hbm, 87, rfl⟩
abbrev main_c_9 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_cst_15 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_cst_17 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115_0 : Ref sig .tc := ⟨.hbm, 146, rfl⟩
abbrev main_v115_1 : Ref sig .tc := ⟨.hbm, 147, rfl⟩
abbrev main_v115_2 : Ref sig .tc := ⟨.hbm, 148, rfl⟩
abbrev main_v115_3 : Ref sig .tc := ⟨.hbm, 149, rfl⟩
abbrev main_v115_4 : Ref sig .tc := ⟨.hbm, 150, rfl⟩
abbrev main_v115_5 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v106 : BitVec 1 := Scalar.cmpi .eq arg0 c7_i32
  let v107 : BitVec 32 := Scalar.extui v106
  let c0_i32_54 : BitVec 32 := 0#32
  let v108 : BitVec 1 := Scalar.cmpi .ne v107 c0_i32_54
  v108

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8192x1024 : Shape := ⟨2, ![8192, 1024]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S3x512 : Shape := ⟨2, ![3, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S8192x512 : Shape := ⟨2, ![8192, 512]⟩
abbrev S15x512 : Shape := ⟨2, ![15, 512]⟩
abbrev S1x8192 : Shape := ⟨2, ![1, 8192]⟩
abbrev S31 : Shape := ⟨1, ![31]⟩
abbrev S31x1 : Shape := ⟨2, ![31, 1]⟩
abbrev S31x8192 : Shape := ⟨2, ![31, 8192]⟩
abbrev S8222x512 : Shape := ⟨2, ![8222, 512]⟩
abbrev S31x8192x1 : Shape := ⟨3, ![31, 8192, 1]⟩
abbrev S31x8192x512 : Shape := ⟨3, ![31, 8192, 512]⟩
abbrev S31x1x512 : Shape := ⟨3, ![31, 1, 512]⟩
abbrev S1x512 : Shape := ⟨2, ![1, 512]⟩
abbrev S3 : Shape := ⟨1, ![3]⟩
abbrev S3x1 : Shape := ⟨2, ![3, 1]⟩
abbrev S3x8192 : Shape := ⟨2, ![3, 8192]⟩
abbrev S8194x512 : Shape := ⟨2, ![8194, 512]⟩
abbrev S3x8192x1 : Shape := ⟨3, ![3, 8192, 1]⟩
abbrev S3x8192x512 : Shape := ⟨3, ![3, 8192, 512]⟩
abbrev S3x1x512 : Shape := ⟨3, ![3, 1, 512]⟩
abbrev S4x256x1024 : Shape := ⟨3, ![4, 256, 1024]⟩

abbrev nBuf : Space → Nat
  | .hbm => 211
  | .vmem => 0
  | .smem => 0
  | _ => 0

abbrev hbmTy0_0 (i : Nat) : BufTy := match i % 128 with
  | 0 => ⟨S8192x1024, .f32⟩
  | 1 => ⟨S1024, .f32⟩
  | 2 => ⟨S1024x2560, .f32⟩
  | 3 => ⟨S31x512, .f32⟩
  | 4 => ⟨S512, .f32⟩
  | 5 => ⟨S512, .f32⟩
  | 6 => ⟨S512, .f32⟩
  | 7 => ⟨S3x512, .f32⟩
  | 8 => ⟨S512, .f32⟩
  | 9 => ⟨S1024x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x2560, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S_, .f32⟩
  | 43 => ⟨S15x512, .f32⟩
  | 44 => ⟨S8192, .i32⟩
  | 45 => ⟨S1x8192, .i32⟩
  | 46 => ⟨S31, .i32⟩
  | 47 => ⟨S31x1, .i32⟩
  | 48 => ⟨S31x8192, .i32⟩
  | 49 => ⟨S31x8192, .i32⟩
  | 50 => ⟨S31x8192, .i32⟩
  | 51 => ⟨S8222x512, .f32⟩
  | 52 => ⟨S_, .i32⟩
  | 53 => ⟨S31x8192, .i32⟩
  | 54 => ⟨S31x8192, .i1⟩
  | 55 => ⟨S_, .i32⟩
  | 56 => ⟨S31x8192, .i32⟩
  | 57 => ⟨S31x8192, .i32⟩
  | 58 => ⟨S31x8192, .i32⟩
  | 59 => ⟨S31x8192x1, .i32⟩
  | 60 => ⟨S31x8192x512, .f32⟩
  | 61 => ⟨S31x1x512, .f32⟩
  | 62 => ⟨S31x8192x512, .f32⟩
  | 63 => ⟨S31x8192x512, .f32⟩
  | 64 => ⟨S_, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S_, .f32⟩
  | 71 => ⟨S1x512, .f32⟩
  | 72 => ⟨S8192, .i32⟩
  | 73 => ⟨S1x8192, .i32⟩
  | 74 => ⟨S3, .i32⟩
  | 75 => ⟨S3x1, .i32⟩
  | 76 => ⟨S3x8192, .i32⟩
  | 77 => ⟨S3x8192, .i32⟩
  | 78 => ⟨S3x8192, .i32⟩
  | 79 => ⟨S8194x512, .f32⟩
  | 80 => ⟨S_, .i32⟩
  | 81 => ⟨S3x8192, .i32⟩
  | 82 => ⟨S3x8192, .i1⟩
  | 83 => ⟨S_, .i32⟩
  | 84 => ⟨S3x8192, .i32⟩
  | 85 => ⟨S3x8192, .i32⟩
  | 86 => ⟨S3x8192, .i32⟩
  | 87 => ⟨S3x8192x1, .i32⟩
  | 88 => ⟨S3x8192x512, .f32⟩
  | 89 => ⟨S3x1x512, .f32⟩
  | 90 => ⟨S3x8192x512, .f32⟩
  | 91 => ⟨S3x8192x512, .f32⟩
  | 92 => ⟨S_, .f32⟩
  | 93 => ⟨S8192x512, .f32⟩
  | 94 => ⟨S1x512, .f32⟩
  | 95 => ⟨S8192x512, .f32⟩
  | 96 => ⟨S8192x512, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S_, .f32⟩
  | 110 => ⟨S8192, .f32⟩
  | 111 => ⟨S8192x1, .f32⟩
  | 112 => ⟨S_, .f32⟩
  | 113 => ⟨S8192x1, .f32⟩
  | 114 => ⟨S8192x1, .f32⟩
  | 115 => ⟨S8192x512, .f32⟩
  | 116 => ⟨S8192x512, .f32⟩
  | 117 => ⟨S_, .f32⟩
  | 118 => ⟨S8192x1, .f32⟩
  | 119 => ⟨S8192x1, .f32⟩
  | 120 => ⟨S8192x1, .f32⟩
  | 121 => ⟨S8192x1, .f32⟩
  | 122 => ⟨S_, .f32⟩
  | 123 => ⟨S8192x1, .f32⟩
  | 124 => ⟨S8192x1, .f32⟩
  | 125 => ⟨S8192x512, .f32⟩
  | 126 => ⟨S8192x512, .f32⟩
  | 127 => ⟨S1x512, .f32⟩
  | _ => ⟨S8192x1024, .f32⟩

abbrev hbmTy0_1 (i : Nat) : BufTy := match i % 128 with
  | 0 => ⟨S8192x512, .f32⟩
  | 1 => ⟨S8192x512, .f32⟩
  | 2 => ⟨S1x512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x1024, .f32⟩
  | 20 => ⟨S8192x1024, .f32⟩
  | 21 => ⟨S1024x1024, .f32⟩
  | 22 => ⟨S1024x1024, .f32⟩
  | 23 => ⟨S8192x1024, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S1x512, .f32⟩
  | 35 => ⟨S_, .f32⟩
  | 36 => ⟨S512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S512, .f32⟩
  | 45 => ⟨S8192x512, .f32⟩
  | 46 => ⟨S_, .f32⟩
  | 47 => ⟨S8192, .f32⟩
  | 48 => ⟨S8192x1, .f32⟩
  | 49 => ⟨S8192x512, .f32⟩
  | 50 => ⟨S8192x512, .f32⟩
  | 51 => ⟨S8192x1, .f32⟩
  | 52 => ⟨S8192x512, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x512, .f32⟩
  | 62 => ⟨S8192x512, .f32⟩
  | 63 => ⟨S8192x512, .f32⟩
  | 64 => ⟨S_, .f32⟩
  | 65 => ⟨S8192, .f32⟩
  | 66 => ⟨S8192x1, .f32⟩
  | 67 => ⟨S8192x512, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x512, .f32⟩
  | 75 => ⟨S8192x512, .f32⟩
  | 76 => ⟨S8192x512, .bf16⟩
  | 77 => ⟨S8192x512, .bf16⟩
  | 78 => ⟨S8192x512, .bf16⟩
  | 79 => ⟨S1x512, .f32⟩
  | 80 => ⟨S1x512, .f32⟩
  | 81 => ⟨S4x256x1024, .f32⟩
  | 82 => ⟨S4x256x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_8 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_cst_14 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_call0_v0 : Ref sig .tc := ⟨.hbm, 133, rfl⟩
abbrev main_call0_v1 : Ref sig .tc := ⟨.hbm, 134, rfl⟩
abbrev main_call0_cst : Ref sig .tc := ⟨.hbm, 135, rfl⟩
abbrev main_call0_v2 : Ref sig .tc := ⟨.hbm, 136, rfl⟩
abbrev main_call0_v3 : Ref sig .tc := ⟨.hbm, 137, rfl⟩
abbrev main_call0_cst_0 : Ref sig .tc := ⟨.hbm, 138, rfl⟩
abbrev main_call0_v4 : Ref sig .tc := ⟨.hbm, 139, rfl⟩
abbrev main_v102_2 : Ref sig .tc := ⟨.hbm, 140, rfl⟩
abbrev main_call0_cst_1 : Ref sig .tc := ⟨.hbm, 141, rfl⟩
abbrev main_call0_v6 : Ref sig .tc := ⟨.hbm, 142, rfl⟩
abbrev main_call0_v7 : Ref sig .tc := ⟨.hbm, 143, rfl⟩
abbrev main_v102_1 : Ref sig .tc := ⟨.hbm, 144, rfl⟩
abbrev main_v102_0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v113 : Ref sig .tc := ⟨.hbm, 159, rfl⟩
abbrev main_cst_18 : Ref sig .tc := ⟨.hbm, 160, rfl⟩
abbrev main_v114 : Ref sig .tc := ⟨.hbm, 161, rfl⟩
abbrev main_v115 : Ref sig .tc := ⟨.hbm, 162, rfl⟩
abbrev main_cst_19 : Ref sig .tc := ⟨.hbm, 163, rfl⟩
abbrev main_v116 : Ref sig .tc := ⟨.hbm, 164, rfl⟩
abbrev main_v117 : Ref sig .tc := ⟨.hbm, 165, rfl⟩
abbrev main_cst_20 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_21 : Ref sig .tc := ⟨.hbm, 171, rfl⟩
abbrev main_v122 : Ref sig .tc := ⟨.hbm, 172, rfl⟩
abbrev main_v123 : Ref sig .tc := ⟨.hbm, 173, rfl⟩
abbrev main_cst_22 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_23 : Ref sig .tc := ⟨.hbm, 181, rfl⟩
abbrev main_v130 : Ref sig .tc := ⟨.hbm, 182, rfl⟩
abbrev main_v131 : Ref sig .tc := ⟨.hbm, 183, rfl⟩
abbrev main_cst_24 : Ref sig .tc := ⟨.hbm, 184, rfl⟩
abbrev main_v132 : Ref sig .tc := ⟨.hbm, 185, rfl⟩
abbrev main_v133 : Ref sig .tc := ⟨.hbm, 186, rfl⟩
abbrev main_cst_25 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_26 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_27 : Ref sig .tc := ⟨.hbm, 197, rfl⟩
abbrev main_v142 : Ref sig .tc := ⟨.hbm, 198, rfl⟩
abbrev main_v143 : Ref sig .tc := ⟨.hbm, 199, rfl⟩
abbrev main_cst_28 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S4x256x1024 : Shape := ⟨3, ![4, 256, 1024]⟩
abbrev S4x1024x1024 : Shape := ⟨3, ![4, 1024, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S4x512x1024 : Shape := ⟨3, ![4, 512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 42
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S4x256x1024, .f32⟩
  | .hbm, ⟨11, _⟩ => ⟨S4x256x1024, .f32⟩
  | .hbm, ⟨12, _⟩ => ⟨S4x256x1024, .f32⟩
  | .hbm, ⟨13, _⟩ => ⟨S4x256x1024, .f32⟩
  | .hbm, ⟨14, _⟩ => ⟨S4x1024x1024, .f32⟩
  | .hbm, ⟨15, _⟩ => ⟨S4x1024x1024, .bf16⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1024x1024, .bf16⟩
  | .hbm, ⟨33, _⟩ => ⟨S8192x1024, .f32⟩
  | .hbm, ⟨34, _⟩ => ⟨S8192x1024, .bf16⟩
  | .hbm, ⟨35, _⟩ => ⟨S256x1024, .bf16⟩
  | .hbm, ⟨36, _⟩ => ⟨S256x1024, .bf16⟩
  | .hbm, ⟨37, _⟩ => ⟨S8192x1024, .f32⟩
  | .hbm, ⟨38, _⟩ => ⟨S256x1024, .f32⟩
  | .hbm, ⟨39, _⟩ => ⟨S256x1024, .f32⟩
  | .hbm, ⟨40, _⟩ => ⟨S1x1024, .f32⟩
  | .hbm, ⟨41, _⟩ => ⟨S4x1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S4x256x1024, .bf16⟩
  | .local _ .vmem, ⟨10, _⟩ => ⟨S4x256x1024, .bf16⟩
  | .local _ .vmem, ⟨11, _⟩ => ⟨S512x1024, .f32⟩
  | .local _ .vmem, ⟨12, _⟩ => ⟨S512x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S4x512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v267 : BitVec 1 := Scalar.cmpi .eq arg0 c15_i32
  let v268 : BitVec 32 := Scalar.extui v267
  let c0_i32_146 : BitVec 32 := 0#32
  let v269 : BitVec 1 := Scalar.cmpi .ne v268 c0_i32_146
  v269

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S8192x1024 : Shape := ⟨2, ![8192, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S4x256x1024 : Shape := ⟨3, ![4, 256, 1024]⟩
abbrev S4x512x1024 : Shape := ⟨3, ![4, 512, 1024]⟩
abbrev S4x1024x1024 : Shape := ⟨3, ![4, 1024, 1024]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S1024, .f32⟩
  | 2 => ⟨S256x1024, .f32⟩
  | 3 => ⟨S256x1024, .f32⟩
  | 4 => ⟨S1024x1024, .f32⟩
  | 5 => ⟨S1024x1024, .f32⟩
  | 6 => ⟨S1024x1024, .f32⟩
  | 7 => ⟨S1024x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x1024, .f32⟩
  | 30 => ⟨S8192x4x256, .f32⟩
  | 31 => ⟨S256x4x256, .f32⟩
  | 32 => ⟨S256x4x256, .f32⟩
  | 33 => ⟨S4x8192x256, .f32⟩
  | 34 => ⟨S_, .f32⟩
  | 35 => ⟨S4x8192x256, .f32⟩
  | 36 => ⟨S4x8192x256, .f32⟩
  | 37 => ⟨S_, .f32⟩
  | 38 => ⟨S4x8192, .f32⟩
  | 39 => ⟨S4x8192x1, .f32⟩
  | 40 => ⟨S4x8192x256, .f32⟩
  | 41 => ⟨S4x8192x256, .i1⟩
  | 42 => ⟨S4x8192x256, .f32⟩
  | 43 => ⟨S_, .f32⟩
  | 44 => ⟨S4x8192, .f32⟩
  | 45 => ⟨S_, .f32⟩
  | 46 => ⟨S4x8192, .f32⟩
  | 47 => ⟨S4x8192, .f32⟩
  | 48 => ⟨S_, .f32⟩
  | 49 => ⟨S4x8192, .f32⟩
  | 50 => ⟨S4x8192, .i1⟩
  | 51 => ⟨S_, .f32⟩
  | 52 => ⟨S4x8192, .f32⟩
  | 53 => ⟨S4x8192, .i1⟩
  | 54 => ⟨S_, .f32⟩
  | 55 => ⟨S4x8192, .f32⟩
  | 56 => ⟨S_, .f32⟩
  | 57 => ⟨S4x8192, .f32⟩
  | 58 => ⟨S_, .f32⟩
  | 59 => ⟨S4x8192, .f32⟩
  | 60 => ⟨S4x8192, .f32⟩
  | 61 => ⟨S4x8192, .f32⟩
  | 62 => ⟨S4x8192x1, .f32⟩
  | 63 => ⟨S4x8192x256, .f32⟩
  | 64 => ⟨S4x8192x256, .f32⟩
  | 65 => ⟨S4x8192x256, .f32⟩
  | 66 => ⟨S_, .f32⟩
  | 67 => ⟨S4x8192, .f32⟩
  | 68 => ⟨S4x8192x1, .f32⟩
  | 69 => ⟨S4x8192x256, .f32⟩
  | 70 => ⟨S4x8192x256, .f32⟩
  | 71 => ⟨S4x8192x1, .f32⟩
  | 72 => ⟨S_, .f32⟩
  | 73 => ⟨S4x8192x1, .f32⟩
  | 74 => ⟨S4x8192x1, .f32⟩
  | 75 => ⟨S4x256x8192, .f32⟩
  | 76 => ⟨S8192x4x256, .f32⟩
  | 77 => ⟨S8192x1024, .f32⟩
  | 78 => ⟨S8192x1024, .f32⟩
  | 79 => ⟨S8192x1024, .f32⟩
  | 80 => ⟨S8192x1024, .f32⟩
  | 81 => ⟨S1024x1024, .f32⟩
  | 82 => ⟨S1024x1024, .f32⟩
  | 83 => ⟨S8192x1024, .f32⟩
  | 84 => ⟨S8192x4x256, .f32⟩
  | 85 => ⟨S4x256x8192, .f32⟩
  | 86 => ⟨S4x8192x256, .f32⟩
  | 87 => ⟨S4x256x256, .f32⟩
  | 88 => ⟨S256x4x256, .f32⟩
  | 89 => ⟨S4x8192x256, .f32⟩
  | 90 => ⟨S4x8192x256, .f32⟩
  | 91 => ⟨S4x8192x256, .f32⟩
  | 92 => ⟨S_, .f32⟩
  | 93 => ⟨S4x8192, .f32⟩
  | 94 => ⟨S4x8192x1, .f32⟩
  | 95 => ⟨S4x8192x1, .f32⟩
  | 96 => ⟨S4x8192x256, .f32⟩
  | 97 => ⟨S4x8192x256, .f32⟩
  | 98 => ⟨S_, .f32⟩
  | 99 => ⟨S4x8192, .f32⟩
  | 100 => ⟨S4x8192x256, .f32⟩
  | 101 => ⟨S4x8192x256, .f32⟩
  | 102 => ⟨S4x8192x256, .f32⟩
  | 103 => ⟨S_, .f32⟩
  | 104 => ⟨S4x8192x256, .f32⟩
  | 105 => ⟨S4x8192x256, .f32⟩
  | 106 => ⟨S4x256x256, .f32⟩
  | 107 => ⟨S256x4x256, .f32⟩
  | 108 => ⟨S4x8192x256, .f32⟩
  | 109 => ⟨S8192x4x256, .f32⟩
  | 110 => ⟨S256x1024, .f32⟩
  | 111 => ⟨S256x1024, .f32⟩
  | 112 => ⟨S8192x1024, .f32⟩
  | 113 => ⟨S1024x1024, .f32⟩
  | 114 => ⟨S1024x1024, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S8192x1024, .f32⟩
  | 121 => ⟨S8192x1024, .f32⟩
  | 122 => ⟨S_, .f32⟩
  | 123 => ⟨S1024, .f32⟩
  | 124 => ⟨S8192x1024, .f32⟩
  | 125 => ⟨S_, .f32⟩
  | 126 => ⟨S8192, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S4x256x1024, .f32⟩
  | 15 => ⟨S4x256x1024, .f32⟩
  | 16 => ⟨S_, .f32⟩
  | 17 => ⟨S4x512x1024, .f32⟩
  | 18 => ⟨S1x1024, .f32⟩
  | 19 => ⟨S4x1024x1024, .f32⟩
  | 20 => ⟨S4x1024x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_cst_19 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_20 : Ref sig .tc := ⟨.hbm, 132, rfl⟩
abbrev main_v102 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_22 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S8x128x1 : Shape := ⟨3, ![8, 128, 1]⟩
abbrev S4x256x1024 : Shape := ⟨3, ![4, 256, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S4x1024x512 : Shape := ⟨3, ![4, 1024, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1024x512 : Shape := ⟨2, ![1024, 512]⟩
abbrev S1x1024x512 : Shape := ⟨3, ![1, 1024, 512]⟩

abbrev nBuf : Space → Nat
  | .hbm => 45
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8x128x128, .bf16⟩
  | .hbm, ⟨13, _⟩ => ⟨S8x128x128, .bf16⟩
  | .hbm, ⟨14, _⟩ => ⟨S8x128x1, .f32⟩
  | .hbm, ⟨15, _⟩ => ⟨S8x128x128, .f32⟩
  | .hbm, ⟨16, _⟩ => ⟨S1024x2048, .bf16⟩
  | .hbm, ⟨17, _⟩ => ⟨S4x256x1024, .f32⟩
  | .hbm, ⟨18, _⟩ => ⟨S4x256x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | .hbm, ⟨35, _⟩ => ⟨S8192x2048, .f32⟩
  | .hbm, ⟨36, _⟩ => ⟨S8192x2048, .bf16⟩
  | .hbm, ⟨37, _⟩ => ⟨S8192x1024, .f32⟩
  | .hbm, ⟨38, _⟩ => ⟨S8x128x128, .f32⟩
  | .hbm, ⟨39, _⟩ => ⟨S8x128, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S4x1024x512, .bf16⟩
  | .hbm, ⟨44, _⟩ => ⟨S4x256x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .bf16⟩
  | .local _ .vmem, ⟨10, _⟩ => ⟨S8x128x128, .bf16⟩
  | .local _ .vmem, ⟨11, _⟩ => ⟨S8x128x128, .f32⟩
  | .local _ .vmem, ⟨12, _⟩ => ⟨S1024x2048, .bf16⟩
  | .local _ .vmem, ⟨13, _⟩ => ⟨S4x256x1024, .bf16⟩
  | .local _ .vmem, ⟨14, _⟩ => ⟨S256x1024, .f32⟩
  | .local _ .vmem, ⟨15, _⟩ => ⟨S256x1024, .f32⟩
  | .local _ .vmem, ⟨16, _⟩ => ⟨S8x128x128, .f32⟩
  | .local _ .vmem, ⟨17, _⟩ => ⟨S8x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S4x1024x512, .bf16⟩
  | .local _ .vmem, ⟨22, _⟩ => ⟨S4x256x1024, .bf16⟩
  | .local _ .vmem, ⟨23, _⟩ => ⟨S256x1024, .bf16⟩
  | .local _ .vmem, ⟨24, _⟩ => ⟨S256x2048, .f32⟩
  | .local _ .vmem, ⟨25, _⟩ => ⟨S256x1024, .f32⟩
  | .local _ .vmem, ⟨26, _⟩ => ⟨S1024x2048, .f32⟩
  | .local _ .vmem, ⟨27, _⟩ => ⟨S1024x1024, .f32⟩
  | .local _ .vmem, ⟨28, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev main_v25_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v796 : BitVec 1 := Scalar.cmpi .eq arg0 c31_i32
  let v797 : BitVec 32 := Scalar.extui v796
  let c0_i32_547 : BitVec 32 := 0#32
  let v798 : BitVec 1 := Scalar.cmpi .ne v797 c0_i32_547
  v798

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x1024x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Kernel6Ideal.lean ====
variable {F : FTy → Type} [FloatOps F] [Named F]
def κ : String → Option EReal := fun
  | "gelu_a" => some ((8943 / 200000 : ℝ) : EReal)
  | "gelu_a3" => some ((26829 / 200000 : ℝ) : EReal)
  | _ => none
-- ==== Reference6Ideal.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S64x128x8x128 : Shape := ⟨4, ![64, 128, 8, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩
abbrev S2048x1024 : Shape := ⟨2, ![2048, 1024]⟩
abbrev S1024x4x512 : Shape := ⟨3, ![1024, 4, 512]⟩
abbrev S4x1024x512 : Shape := ⟨3, ![4, 1024, 512]⟩
abbrev S4x256x1024 : Shape := ⟨3, ![4, 256, 1024]⟩

abbrev nBuf : Space → Nat
  | .hbm => 232
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S1024, .f32⟩
  | 4 => ⟨S1024, .f32⟩
  | 5 => ⟨S8x128x128, .f32⟩
  | 6 => ⟨S8x128, .f32⟩
  | 7 => ⟨S1024x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x2048, .f32⟩
  | 30 => ⟨S8192x2048, .f32⟩
  | 31 => ⟨S8192x2048, .f32⟩
  | 32 => ⟨S8192x2048, .f32⟩
  | 33 => ⟨S_, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S8192x2048, .f32⟩
  | 47 => ⟨S_, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S8192x2048, .f32⟩
  | 54 => ⟨S_, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S8192x2048, .f32⟩
  | 61 => ⟨S8192x1024, .f32⟩
  | 62 => ⟨S8192x1024, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S8192x1024, .f32⟩
  | 82 => ⟨S8192x1024, .f32⟩
  | 83 => ⟨S_, .f32⟩
  | 84 => ⟨S8192x1, .f32⟩
  | 85 => ⟨S8192x1, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1024, .f32⟩
  | 92 => ⟨S8192x1024, .f32⟩
  | 93 => ⟨S1x1024, .f32⟩
  | 94 => ⟨S8192x1024, .f32⟩
  | 95 => ⟨S8192x1024, .f32⟩
  | 96 => ⟨S1x1024, .f32⟩
  | 97 => ⟨S8192x1024, .f32⟩
  | 98 => ⟨S8192x1024, .f32⟩
  | 99 => ⟨S64x128x8x128, .f32⟩
  | 100 => ⟨S8x64x128x128, .f32⟩
  | 101 => ⟨S64x128x8x128, .f32⟩
  | 102 => ⟨S128x8, .f32⟩
  | 103 => ⟨S128x8x1, .f32⟩
  | 104 => ⟨S1x128x8x1, .f32⟩
  | 105 => ⟨S64x128x8x128, .f32⟩
  | 106 => ⟨S64x128x8x128, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S1024x1024, .f32⟩
  | 113 => ⟨S1024x1024, .f32⟩
  | 114 => ⟨S8192x1024, .f32⟩
  | 115 => ⟨S8192x1024, .f32⟩
  | 116 => ⟨S8192x1024, .f32⟩
  | 117 => ⟨S64x128x8x128, .f32⟩
  | 118 => ⟨S_, .f32⟩
  | 119 => ⟨S128x8, .f32⟩
  | 120 => ⟨S1x128x8x1, .f32⟩
  | 121 => ⟨S_, .f32⟩
  | 122 => ⟨S128x8, .f32⟩
  | 123 => ⟨S128x8x1, .f32⟩
  | 124 => ⟨S_, .f32⟩
  | 125 => ⟨S128x8, .f32⟩
  | 126 => ⟨S8x128, .f32⟩
  | 127 => ⟨S8x64x128x128, .f32⟩
  | _ => ⟨S8192x1024, .f32⟩

abbrev hbmTy0_1 (i : Nat) : BufTy := match i % 128 with
  | 0 => ⟨S8x128x128, .f32⟩
  | 1 => ⟨S8x64x128x128, .f32⟩
  | 2 => ⟨S64x128x8x128, .f32⟩
  | 3 => ⟨S8192x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x2048, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S8192x2048, .f32⟩
  | 55 => ⟨S_, .f32⟩
  | 56 => ⟨S8192x2048, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S_, .f32⟩
  | 63 => ⟨S8192x2048, .f32⟩
  | 64 => ⟨S8192x2048, .f32⟩
  | 65 => ⟨S8192x2048, .f32⟩
  | 66 => ⟨S8192x2048, .f32⟩
  | 67 => ⟨S2048x1024, .f32⟩
  | 68 => ⟨S1024x2048, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S8192x1024, .f32⟩
  | 76 => ⟨S_, .f32⟩
  | 77 => ⟨S1024, .f32⟩
  | 78 => ⟨S8192x1024, .f32⟩
  | 79 => ⟨S_, .f32⟩
  | 80 => ⟨S8192, .f32⟩
  | 81 => ⟨S8192x1, .f32⟩
  | 82 => ⟨S8192x1024, .f32⟩
  | 83 => ⟨S8192x1024, .f32⟩
  | 84 => ⟨S8192x1024, .f32⟩
  | 85 => ⟨S8192x1, .f32⟩
  | 86 => ⟨S_, .f32⟩
  | 87 => ⟨S8192x1, .f32⟩
  | 88 => ⟨S8192x1, .f32⟩
  | 89 => ⟨S_, .f32⟩
  | 90 => ⟨S8192, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S1x1024, .f32⟩
  | 97 => ⟨S1x1024, .f32⟩
  | 98 => ⟨S1x1024, .f32⟩
  | 99 => ⟨S1024x4x512, .f32⟩
  | 100 => ⟨S4x1024x512, .f32⟩
  | 101 => ⟨S4x1024x512, .bf16⟩
  | 102 => ⟨S4x256x1024, .f32⟩
  | 103 => ⟨S4x256x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_17 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_18 : Ref sig .tc := ⟨.hbm, 118, rfl⟩
abbrev main_v90 : Ref sig .tc := ⟨.hbm, 119, rfl⟩
abbrev main_v91 : Ref sig .tc := ⟨.hbm, 120, rfl⟩
abbrev main_cst_19 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_cst_22 : Ref sig .tc := ⟨.hbm, 135, rfl⟩
abbrev main_v103 : Ref sig .tc := ⟨.hbm, 136, rfl⟩
abbrev main_v104 : Ref sig .tc := ⟨.hbm, 137, rfl⟩
abbrev main_cst_23 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_24 : Ref sig .tc := ⟨.hbm, 143, rfl⟩
abbrev main_v109 : Ref sig .tc := ⟨.hbm, 144, rfl⟩
abbrev main_v110 : Ref sig .tc := ⟨.hbm, 145, rfl⟩
abbrev main_cst_25 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_26 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_v119 : Ref sig .tc := ⟨.hbm, 157, rfl⟩
abbrev main_v120 : Ref sig .tc := ⟨.hbm, 158, rfl⟩
abbrev main_cst_28 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_29 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_30 : Ref sig .tc := ⟨.hbm, 169, rfl⟩
abbrev main_v129 : Ref sig .tc := ⟨.hbm, 170, rfl⟩
abbrev main_v130 : Ref sig .tc := ⟨.hbm, 171, rfl⟩
abbrev main_cst_31 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_32 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_33 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_34 : Ref sig .tc := ⟨.hbm, 187, rfl⟩
abbrev main_v143 : Ref sig .tc := ⟨.hbm, 188, rfl⟩
abbrev main_v144 : Ref sig .tc := ⟨.hbm, 189, rfl⟩
abbrev main_cst_35 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_36 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_37 : Ref sig .tc := ⟨.hbm, 204, rfl⟩
abbrev main_v157 : Ref sig .tc := ⟨.hbm, 205, rfl⟩
abbrev main_v158 : Ref sig .tc := ⟨.hbm, 206, rfl⟩
abbrev main_cst_38 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_39 : Ref sig .tc := ⟨.hbm, 214, rfl⟩
abbrev main_v165 : Ref sig .tc := ⟨.hbm, 215, rfl⟩
abbrev main_v166 : Ref sig .tc := ⟨.hbm, 216, rfl⟩
abbrev main_cst_40 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S256x1024 : Shape := ⟨2, ![256, 1024]⟩
abbrev S1024x1024 : Shape := ⟨2, ![1024, 1024]⟩
abbrev S4x256x1024 : Shape := ⟨3, ![4, 256, 1024]⟩
abbrev S4x1024x1024 : Shape := ⟨3, ![4, 1024, 1024]⟩
abbrev S1x1024 : Shape := ⟨2, ![1, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S4x256x1024, .f32⟩
  | .hbm, ⟨12, _⟩ => ⟨S4x1024x1024, .f32⟩
  | .hbm, ⟨13, _⟩ => ⟨S4x1024x1024, .bf16⟩
  | .hbm, ⟨14, _⟩ => ⟨S1x1024, .f32⟩
  | .hbm, ⟨15, _⟩ => ⟨S256x1024, .bf16⟩
  | .hbm, ⟨16, _⟩ => ⟨S256x1024, .bf16⟩
  | .hbm, ⟨17, _⟩ => ⟨S8192x1024, .f32⟩
  | .hbm, ⟨18, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x4x256, .f32⟩
  | .hbm, ⟨26, _⟩ => ⟨S256x4x256, .f32⟩
  | .hbm, ⟨27, _⟩ => ⟨S256x4x256, .f32⟩
  | .hbm, ⟨28, _⟩ => ⟨S4x8192x256, .f32⟩
  | .hbm, ⟨29, _⟩ => ⟨S_, .f32⟩
  | .hbm, ⟨30, _⟩ => ⟨S4x8192x256, .f32⟩
  | .hbm, ⟨31, _⟩ => ⟨S4x8192x256, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x256x8192, .f32⟩
  | .hbm, ⟨47, _⟩ => ⟨S8192x4x256, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Kv.lean ====
module

public import proofs.«01_k».proof.Proof.Gen.KernelIdeal.Value
public import proofs.«01_k».proof.Proof.Gen.ReferenceIdeal.Read
public import Idealize.ShloMosaic.Lib.Pointwise
public import Idealize.ShloMosaic.Lib.Pipeline.ValueKit
public import Idealize.ShloMosaic.Lib.Claim

@[expose] public section

set_option maxRecDepth 16384

noncomputable section

namespace Cert.Kv

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ)

abbrev X0 (c : Dev nD) : FVec Ideal S256x1024 .f32 := m ((c.tc : Thread nD τ).loc main_arg0)
abbrev X1 (c : Dev nD) : FVec Ideal S1024 .f32 := m ((c.tc : Thread nD τ).loc main_arg1)
abbrev X2 (c : Dev nD) : FVec Ideal S1024x1024 .f32 := m ((c.tc : Thread nD τ).loc main_arg2)
abbrev X3 (c : Dev nD) : FVec Ideal S1024x1024 .f32 := m ((c.tc : Thread nD τ).loc main_arg3)
abbrev X4 (c : Dev nD) : FVec Ideal S1024x1024 .f32 := m ((c.tc : Thread nD τ).loc main_arg4)
abbrev X5 (c : Dev nD) : FVec Ideal S1024x1024 .f32 := m ((c.tc : Thread nD τ).loc main_arg5)
abbrev X6 (c : Dev nD) : FVec Ideal S256x1024 .f32 := m ((c.tc : Thread nD τ).loc main_arg6)
abbrev X7 (c : Dev nD) : FVec Ideal S256x1024 .f32 := m ((c.tc : Thread nD τ).loc main_arg7)
abbrev X8 (c : Dev nD) : FVec Ideal S4x1024x1024 .bf16 := m ((c.tc : Thread nD τ).loc main_arg8)

theorem idx : ∀ t : Fin cfg0.N, win0_0.index t = ![0, 0] ∧ win0_1.index t = ![0, 0] ∧ win0_2.index t = ![0, 0]
    ∧ win0_3.index t = ![0, 0] ∧ win0_4.index t = ![0, 2, 0] ∧ win0_5.index t = ![0, 3, 0] ∧ win0_6.index t = ![0, 0]
    ∧ win0_7.index t = ![0, 1, 0] :=
  (by decide +kernel : ∀ t : Fin grid0.N, _)

/-- Four square weights packed quarter by quarter. -/
def packed (x0 x1 x2 x3 : FVec Ideal S1024x1024 .f32) : FVec Ideal S4x1024x1024 .bf16 :=
  truncf (F := Ideal) .bf16 (concatenate S4x1024x1024 1
      [⟨S4x256x1024, shapeCast S4x256x1024 x0 shapeCasts_S1024x1024_S4x256x1024⟩,
       ⟨S4x256x1024, shapeCast S4x256x1024 x1 shapeCasts_S1024x1024_S4x256x1024⟩,
       ⟨S4x256x1024, shapeCast S4x256x1024 x2 shapeCasts_S1024x1024_S4x256x1024⟩,
       ⟨S4x256x1024, shapeCast S4x256x1024 x3 shapeCasts_S1024x1024_S4x256x1024⟩]
      concatenates_S4x256x1024_S4x256x1024_S4x256x1024_S4x256x1024_S4x1024x1024_d1) bitsLt_bf16_f32

theorem packed_at2 (x0 x1 x2 x3 : FVec Ideal S1024x1024 .f32) (a : Fin 4) (b : Fin 256) (d : Fin 1024) :
    packed x0 x1 x2 x3 (ix3 a ⟨512 + b, by omega⟩ d) = x2 (ix2 ⟨a * 256 + b, by omega⟩ d) := by
  pointwise [packed]
  blk_point []
  all_goals (exfalso; omega)

theorem packed_at3 (x0 x1 x2 x3 : FVec Ideal S1024x1024 .f32) (a : Fin 4) (b : Fin 256) (d : Fin 1024) :
    packed x0 x1 x2 x3 (ix3 a ⟨768 + b, by omega⟩ d) = x3 (ix2 ⟨a * 256 + b, by omega⟩ d) := by
  pointwise [packed]
  blk_point []
  all_goals (exfalso; omega)

/-- The packed weights at the region's start. -/
theorem pack_eq (c : Dev nD) : V m c main_v6 = packed (X2 m c) (X3 m c)
    (X4 m c) (X5 m c) := by
  unfold V
  after_results
  rfl

theorem wk_at (c : Dev nD) (t : Fin cfg0.N) (a : Fin 4) (b : Fin 256) (d : Fin 1024) :
    (iblk m c 4 t : FVec Ideal S4x256x1024 .bf16) (ix3 a b d)
      = X4 m c (ix2 ⟨a * 256 + b, by omega⟩ d) := by
  have h := packed_at2 (X2 m c) (X3 m c)
    (X4 m c) (X5 m c) a b d
  rw [← pack_eq] at h
  refine Eq.trans ?_ h
  blk_ext [iblk, idx t]

theorem wv_at (c : Dev nD) (t : Fin cfg0.N) (a : Fin 4) (b : Fin 256) (d : Fin 1024) :
    (iblk m c 5 t : FVec Ideal S4x256x1024 .bf16) (ix3 a b d)
      = X5 m c (ix2 ⟨a * 256 + b, by omega⟩ d) := by
  have h := packed_at3 (X2 m c) (X3 m c)
    (X4 m c) (X5 m c) a b d
  rw [← pack_eq] at h
  refine Eq.trans ?_ h
  blk_ext [iblk, idx t]

theorem b0 (c : Dev nD) (t : Fin cfg0.N) : iblk m c 0 t = X0 m c := by
  funext j
  blk_ext [iblk, V, idx t]

theorem b1 (c : Dev nD) (t : Fin cfg0.N) : (iblk m c 1 t : FVec Ideal S1x1024 .f32)
    = shapeCast S1x1024 (X1 m c) shapeCasts_S1024_S1x1024 := by
  funext j
  have e : V m c main_v0 = shapeCast S1x1024 (X1 m c) shapeCasts_S1024_S1x1024 := by unfold V; after_results; rfl
  rw [← e]
  blk_ext [iblk, idx t]

theorem b2 (c : Dev nD) (t : Fin cfg0.N) : iblk m c 2 t = X6 m c := by
  funext j
  blk_ext [iblk, V, idx t]

theorem b3 (c : Dev nD) (t : Fin cfg0.N) : iblk m c 3 t = X7 m c := by
  funext j
  blk_ext [iblk, V, idx t]

theorem b4 (c : Dev nD) (t : Fin cfg0.N) : (iblk m c 4 t : FVec Ideal S4x256x1024 .bf16)
    = shapeCast S4x256x1024 (X4 m c) shapeCasts_S1024x1024_S4x256x1024 := by
  funext j
  idx_vars j
  refine (wk_at m c t _ _ _).trans ?_
  pointwise

theorem b5 (c : Dev nD) (t : Fin cfg0.N) : (iblk m c 5 t : FVec Ideal S4x256x1024 .bf16)
    = shapeCast S4x256x1024 (X5 m c) shapeCasts_S1024x1024_S4x256x1024 := by
  funext j
  idx_vars j
  refine (wv_at m c t _ _ _).trans ?_
  pointwise

/-- The gain's gradient, term by term. -/
theorem gain_at (x : FVec Ideal S256x1024 .f32) (wk wv : FVec Ideal S1024x1024 .f32) (dk dv : FVec Ideal S256x1024 .f32) (j : S1x1024.Idx) :
    k0_pay1 (F := Ideal) (k0_pay2 x) (k0_pay5 dv) (k0_pay8 dk (shapeCast S4x256x1024 wk shapeCasts_S1024x1024_S4x256x1024))
        (shapeCast S4x256x1024 wv shapeCasts_S1024x1024_S4x256x1024) j
      = val_main_v31 (F := Ideal) x wk wv dk dv j := by
  pointwise [k0_pay1, k0_pay2, k0_pay4, k0_pay5, k0_pay8, val_main_v31, val_main_v25, val_main_cst_3, val_main_v24, val_main_v23, val_main_cst_2, val_main_v22, val_main_v21, val_main_v20, val_main_v17, val_main_v9, val_main_v8, val_main_v7, val_main_v6, val_main_v5, val_main_cst_1, val_main_v4, val_main_v3, val_main_cst_0, val_main_v2, val_main_v1, val_main_cst, val_main_v0]
  rw [Fin.sum_univ_one]
  refine Finset.sum_congr rfl fun r _ => ?_
  rw [mul_comm]
  congr 1
  exact add_comm _ _

/-- The packed shard at a row of the lower half: the key weight's gradient, then the value weight's. -/
theorem shard_k (x : FVec Ideal S256x1024 .f32) (g : FVec Ideal S1024 .f32) (dk dv : FVec Ideal S256x1024 .f32) (gx : FVec Ideal S4x1024x1024 .bf16)
    (a : Fin 4) (b : Fin 256) (d : Fin 1024) :
    k0_pay6 (F := Ideal) x (shapeCast S1x1024 g shapeCasts_S1024_S1x1024) dk (ix3 a b d)
      = val_main_v32 (F := Ideal) x g dk dv gx (ix3 a ⟨512 + b, by omega⟩ d) := by
  pointwise [k0_pay6, k0_pay4, k0_pay3, k0_pay2, val_main_v32, val_main_v30, val_main_v28, val_main_v29, val_main_v27, val_main_v26, val_main_v19, val_main_v18, val_main_v16, val_main_v15, val_main_v12, val_main_v11, val_main_v10, val_main_v9, val_main_v8, val_main_v7, val_main_v6, val_main_v5, val_main_cst_1, val_main_v4, val_main_v3, val_main_cst_0, val_main_v2, val_main_v1, val_main_cst, val_main_v0]
  blk_point []

/-- The packed shard at a row of the last quarter: the value weight's gradient. -/
theorem shard_v (x : FVec Ideal S256x1024 .f32) (g : FVec Ideal S1024 .f32) (dk dv : FVec Ideal S256x1024 .f32) (gx : FVec Ideal S4x1024x1024 .bf16)
    (a : Fin 4) (b : Fin 256) (d : Fin 1024) :
    k0_pay7 (F := Ideal) x (shapeCast S1x1024 g shapeCasts_S1024_S1x1024) dv (ix3 a b d)
      = val_main_v32 (F := Ideal) x g dk dv gx (ix3 a ⟨768 + b, by omega⟩ d) := by
  pointwise [k0_pay7, k0_pay5, k0_pay3, k0_pay2, val_main_v32, val_main_v30, val_main_v28, val_main_v29, val_main_v27, val_main_v26, val_main_v19, val_main_v18, val_main_v16, val_main_v15, val_main_v12, val_main_v11, val_main_v10, val_main_v9, val_main_v8, val_main_v7, val_main_v6, val_main_v5, val_main_cst_1, val_main_v4, val_main_v3, val_main_cst_0, val_main_v2, val_main_v1, val_main_cst, val_main_v0]
  blk_point []
  all_goals (exfalso; omega)

/-- The packed shard at a row of the upper half, which the call leaves alone. -/
theorem shard_rest (x : FVec Ideal S256x1024 .f32) (g : FVec Ideal S1024 .f32) (dk dv : FVec Ideal S256x1024 .f32) (gx : FVec Ideal S4x1024x1024 .bf16)
    (a : Fin 4) (b : Fin 1024) (d : Fin 1024) (hb : ¬ 512 ≤ (b : ℕ)) :
    val_main_v32 (F := Ideal) x g dk dv gx (ix3 a b d) = gx (ix3 a b d) := by
  pointwise [val_main_v32, val_main_v30, val_main_v27, val_main_v26]
  blk_point []
  all_goals (exfalso; omega)

/-- The gain's gradient the call returns. -/
theorem gain (c : Dev nD) : (dats m 0 c).arrAt 6 cfg0.N
    = val_main_v31 (F := Ideal) (X0 m c) (X4 m c)
        (X5 m c) (X6 m c) (X7 m c) := by
  refine (dats m 0 c).arrAt_eq_of_after_last 6 t0_0 (by decide +kernel) _ fun j => ?_
  blk_simp
  rw [after0_6]
  unfold outsAt0
  frame_out
  rw [b0, b2, b3, b4, b5]
  exact gain_at _ _ _ _ _ _

theorem shards (c : Dev nD) : (dats m 0 c).arrAt 7 cfg0.N
    = val_main_v32 (F := Ideal) (X0 m c) (X1 m c)
        (X6 m c) (X7 m c) (X8 m c) := by
  refine ((dats m 0 c).arrAt_eq_of_coversWhere 7 (val_main_v32 (F := Ideal) (X0 m c) (X1 m c)
        (X6 m c) (X7 m c) (X8 m c))
    (P := fun i => 512 ≤ (i 1 : ℕ)) (fun β => β (1 : Fin _) = 1) (by decide +kernel) (fun t hf y => ?_) (fun j => ?_)).trans ?_
  · blk_simp
    rw [after0_7]
    unfold outsAt0
    frame_out
    rw [b0, b1, b2, b3]
    canon_tiles x h
    · idx_vars x
      refine (shard_v _ _ (X6 m c) _ (X8 m c) _ _ _).trans ?_
      blk_ext [idx t]
    · idx_vars x
      refine (shard_k _ _ _ (X7 m c) (X8 m c) _ _ _).trans ?_
      blk_ext [idx t]
  · blk_simp [Pipeline.Window.cell_apply]
    have h : (j 1 : ℕ) < 1024 := (j 1).isLt
    omega
  · funext i
    split
    · rfl
    · rename_i hi
      have e : (dats m 0 c).A 7 = X8 m c := by rw [A_eq]; exact V_main_arg8 m c
      rw [e]
      idx_vars i
      exact (shard_rest _ _ _ _ _ _ _ _ (by simpa using hi)).symm

end Cert.Kv

end
-- ==== Proof.Real.lean ====
/- Reading the idealised programs at finite arguments: every array is the image of a real one, and so is every value
   computed from it.  The lemmas here move that image through sums, quotients, exponentials and reciprocal roots, and
   state the few identities of real calculus that the gradients rest on. -/
module

public import Idealize.ShloMosaic.Lib.Pointwise
public import Idealize.ShloMosaic.Lib.ReduceAll
public import Idealize.ShloMosaic.Lib.Claim
public import Idealize.ShloMosaic.PureOps.Ideal.Laws

@[expose] public section

noncomputable section

namespace Cert.RealLift

open Idealize.ShloMosaic Idealize.ShloMosaic.TcCoe Idealize.SL.Sem

/-! ## The image of a real -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem div_coe {x y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  rw [Ideal.rsqrt_coe, if_neg (not_lt.2 h.le), if_neg h.ne']

/-- The running maximum of finitely many reals, started at minus infinity, is a real. -/
theorem fold_max_coe {n : ℕ} (hn : 0 < n) (f : Fin n → ℝ) :
    ∃ M : ℝ, Finset.univ.fold max ⊥ (fun k => (f k : EReal)) = (M : EReal) := by
  classical
  have key : ∀ s : Finset (Fin n), s.Nonempty → ∃ M : ℝ, s.fold max ⊥ (fun k => (f k : EReal)) = (M : EReal) := by
    intro s hs
    induction hs using Finset.Nonempty.cons_induction with
    | singleton a => exact ⟨f a, by simp⟩
    | cons a s h hs ih =>
      obtain ⟨M, hM⟩ := ih
      exact ⟨max (f a) M, by rw [Finset.fold_cons, hM, EReal.coe_strictMono.monotone.map_max]⟩
  exact key _ ⟨⟨0, hn⟩, Finset.mem_univ _⟩

theorem ofBits_top : Ideal.ofBits .f32 0x7F800000#32 = ⊤ := by
  simp [Ideal.ofBits, Ideal.ieee]

/-- An array each of whose entries is below infinity in absolute value is the image of a real array. -/
theorem exists_real {s t : Shape} (dims : Fin t.rank → Fin s.rank) (hb : t.BroadcastsInDim s dims)
    (x : FVec Ideal s .f32)
    (h : ∀ i, cmpf .olt (Host.absf x) (broadcastInDim s dims hb (constant (F := Ideal) t .f32 0x7F800000#32)) i = 1#1) :
    ∃ r : s.Idx → ℝ, x = fun i => (r i : EReal) := by
  refine ⟨fun i => (x i).toReal, funext fun i => ?_⟩
  have := h i
  pointwise at this
  rw [ofBits_top] at this
  have h1 : FloatOps.absf (x i) < (⊤ : EReal) := by
    by_contra hc
    simp [hc] at this
  rw [Ideal.absf_def] at h1
  refine (EReal.coe_toReal ?_ ?_).symm
  · intro e; rw [e] at h1; simp at h1
  · intro e; rw [e] at h1; simp at h1

/-! ## Row norms

The root-mean-square norm of a row, its reciprocal root, and the two spellings of its gradient. -/

/-- Any length, any additive constant: `(∑ x²)/w + e`. -/
def meanSq {n : ℕ} (w e : ℝ) (x : Fin n → ℝ) : ℝ := (∑ k, x k * x k) / w + e

/-- The reciprocal root of the mean square. -/
def rinv {n : ℕ} (w e : ℝ) (x : Fin n → ℝ) : ℝ := (Real.sqrt (meanSq w e x))⁻¹

theorem meanSq_pos {n : ℕ} {w e : ℝ} (hw : 0 < w) (he : 0 < e) (x : Fin n → ℝ) : 0 < meanSq w e x :=
  add_pos_of_nonneg_of_pos (div_nonneg (Finset.sum_nonneg fun k _ => mul_self_nonneg (x k)) hw.le) he

/-- The mean square of a row of images. -/
theorem coe_meanSq {n : ℕ} {w e : ℝ} (hw : 0 < w) (x : Fin n → ℝ) :
    Ideal.div (∑ k, (x k : EReal) * (x k : EReal)) (w : EReal) + (e : EReal) = ((meanSq w e x : ℝ) : EReal) := by
  have : ∑ k, (x k : EReal) * (x k : EReal) = ((∑ k, x k * x k : ℝ) : EReal) := by
    rw [coe_sum]; exact Finset.sum_congr rfl fun k _ => (EReal.coe_mul _ _).symm
  rw [this, div_coe hw.ne', ← EReal.coe_add]; rfl

theorem coe_rinv {n : ℕ} {w e : ℝ} (hw : 0 < w) (he : 0 < e) (x : Fin n → ℝ) :
    Ideal.rsqrt ((meanSq w e x : ℝ) : EReal) = ((rinv w e x : ℝ) : EReal) := rsqrt_coe (meanSq_pos hw he x)

theorem rinv_div {n : ℕ} {w e : ℝ} (hw : 0 < w) (he : 0 < e) (x : Fin n → ℝ) :
    rinv w e x / meanSq w e x = rinv w e x * rinv w e x * rinv w e x := by
  have h := meanSq_pos hw he x
  have h2 : rinv w e x * rinv w e x = (meanSq w e x)⁻¹ := by
    unfold rinv; rw [← mul_inv, Real.mul_self_sqrt h.le]
  rw [div_eq_mul_inv, ← h2]; ring

/-- The norm's gradient: the difference from the mean against the normalised row is the chain rule's three terms. -/
theorem norm_grad {n : ℕ} {w e : ℝ} (hw : 0 < w) (he : 0 < e) (x y : Fin n → ℝ) (d : Fin n) (c : ℝ) :
    c + rinv w e x * (y d - x d * rinv w e x * ((∑ k, y k * (x k * rinv w e x)) / w))
      = c + y d * rinv w e x + x d * ((∑ k, x k * y k) * (-(1 / 2) * (rinv w e x / meanSq w e x)) / w)
        + (∑ k, x k * y k) * (-(1 / 2) * (rinv w e x / meanSq w e x)) / w * x d := by
  rw [rinv_div hw he]
  have : ∑ k, y k * (x k * rinv w e x) = (∑ k, x k * y k) * rinv w e x := by
    rw [Finset.sum_mul]; exact Finset.sum_congr rfl fun k _ => by ring
  rw [this]; ring

/-! ## The softmax of a row -/

/-- The softmax of a row of reals. -/
def soft {n : ℕ} (s : Fin n → ℝ) (k : Fin n) : ℝ := Real.exp (s k) / ∑ j, Real.exp (s j)

theorem sum_exp_pos {n : ℕ} (hn : 0 < n) (s : Fin n → ℝ) : 0 < ∑ j, Real.exp (s j) :=
  Finset.sum_pos (fun _ _ => Real.exp_pos _) ⟨⟨0, hn⟩, Finset.mem_univ _⟩

/-- Subtracting one number from every score changes nothing. -/
theorem soft_shift {n : ℕ} (s : Fin n → ℝ) (M : ℝ) (k : Fin n) :
    Real.exp (s k - M) / ∑ j, Real.exp (s j - M) = soft s k := by
  have hM := Real.exp_pos M
  simp only [soft, Real.exp_sub, ← Finset.sum_div]
  rw [div_div_div_cancel_right₀ hM.ne']

/-! ## The constants -/

theorem ofBits_1024 : Ideal.ofBits .f32 0x44800000#32 = ((1024 : ℝ) : EReal) := by
  simp [Ideal.ofBits, Ideal.ieee]
  rw [← EReal.coe_mul]; norm_num

/-- The additive constant of the root-mean-square norm, as its float word reads. -/
def rmsEps : ℝ := 8796093 * (2 ^ 43)⁻¹

theorem rmsEps_pos : 0 < rmsEps := by unfold rmsEps; positivity

theorem ofBits_rmsEps : Ideal.ofBits .f32 0x358637BD#32 = ((rmsEps : ℝ) : EReal) := by
  simp [Ideal.ofBits, Ideal.ieee, rmsEps]

theorem ofBits_sixteenth : Ideal.ofBits .f32 0x3D800000#32 = ((1 / 16 : ℝ) : EReal) := by
  simp [Ideal.ofBits, Ideal.ieee]
  rw [← EReal.coe_mul]; norm_num

theorem ofBits_neg_half : Ideal.ofBits .f32 0xBF000000#32 = ((-(1 / 2) : ℝ) : EReal) := by
  simp [Ideal.ofBits, Ideal.ieee]
  rw [← EReal.coe_mul]; norm_num

theorem ofBits_one : Ideal.ofBits .f32 0x3F800000#32 = ((1 : ℝ) : EReal) := by
  simp [Ideal.ofBits, Ideal.ieee]
  rw [← EReal.coe_mul]; norm_num

theorem ofBits_bot : Ideal.ofBits .f32 0xFF800000#32 = ⊥ := by
  simp [Ideal.ofBits, Ideal.ieee]

end Cert.RealLift

end
-- ==== Proof.XattnReal.lean ====
/- The gradient of the attention into the memory, over the reals, one row of the sequence at a time. -/
module

public import proofs.«01_k».proof.Proof.Real

@[expose] public section

noncomputable section

namespace Cert.Xattn

open Idealize.ShloMosaic Cert.RealLift

/-- The image of a real matrix. -/
def up {a b : ℕ} (H : Fin a → Fin b → ℝ) : (⟨2, ![a, b]⟩ : Shape).Idx → EReal := fun i => ((H (i 0) (i 1) : ℝ) : EReal)

/-- The image of a real vector. -/
def up1 {a : ℕ} (H : Fin a → ℝ) : (⟨1, ![a]⟩ : Shape).Idx → EReal := fun i => ((H (i 0) : ℝ) : EReal)

/-- The reciprocal root of a row's mean square. -/
abbrev inv (x : Fin 1024 → ℝ) : ℝ := rinv 1024 rmsEps x

/-- A row, normalised and scaled. -/
def nrm (x g : Fin 1024 → ℝ) (d : Fin 1024) : ℝ := x d * inv x * g d

/-- A row times a matrix. -/
def proj (n : Fin 1024 → ℝ) (W : Fin 1024 → Fin 1024 → ℝ) (e : Fin 1024) : ℝ := ∑ d, n d * W d e

/-- A row times a matrix's transpose. -/
def back (n : Fin 1024 → ℝ) (W : Fin 1024 → Fin 1024 → ℝ) (d : Fin 1024) : ℝ := ∑ e, n e * W d e

/-- The lane of head `a`, position `d`. -/
def col (a : Fin 4) (d : Fin 256) : Fin 1024 := ⟨(a : ℕ) * 256 + d, by omega⟩

/-- A lane's head and position within it. -/
def hd (e : Fin 1024) : Fin 4 := ⟨(e : ℕ) / 256, by omega⟩
def ps (e : Fin 1024) : Fin 256 := ⟨(e : ℕ) % 256, by omega⟩

variable (q o : Fin 1024 → ℝ) (K V : Fin 256 → Fin 1024 → ℝ)

/-- The scores of one head. -/
def score (a : Fin 4) (j : Fin 256) : ℝ := (∑ d, q (col a d) * K j (col a d)) * (1 / 16)

/-- The weights of one head. -/
def prob (a : Fin 4) (j : Fin 256) : ℝ := soft (score q K a) j

/-- The attended row. -/
def att (e : Fin 1024) : ℝ := ∑ j, prob q K (hd e) j * V j (col (hd e) (ps e))

/-- The gradient at a weight. -/
def dprob (a : Fin 4) (j : Fin 256) : ℝ := ∑ d, o (col a d) * V j (col a d)

/-- The gradient at a score, before the scale of the query. -/
def dscore (a : Fin 4) (j : Fin 256) : ℝ :=
  prob q K a j * (dprob o V a j - ∑ l, dprob o V a l * prob q K a l) * (1 / 16)

/-- The gradient at the query. -/
def dquery (e : Fin 1024) : ℝ := ∑ j, dscore q o K V (hd e) j * K j (col (hd e) (ps e))

/-- The gradient at the row itself, past its norm. -/
def drow (x g y n : Fin 1024 → ℝ) (d : Fin 1024) : ℝ :=
  y d + inv x * (n d * g d - x d * inv x * ((∑ k, n k * g k * (x k * inv x)) / 1024))

end Cert.Xattn

end
-- ==== Proof.Ffn.lean ====
/- The feed-forward block over the reals: its gate, the gradients at its two inner products, and the elementwise operations on images of
real matrices. -/
module

public import proofs.«01_k».proof.Proof.XattnReal
public import Idealize.ShloMosaic.Lib.Pointwise
public import Idealize.ShloMosaic.Lib.Pipeline.ValueKit

@[expose] public section

noncomputable section

namespace Cert.Ffn

open Idealize.ShloMosaic Idealize.ShloMosaic.TcCoe Cert.RealLift Cert.Xattn

/-- The logistic function. -/
def sg (x : ℝ) : ℝ := 1 / (1 + Real.exp (0 - x))

/-- The gated row. -/
def act (g u : ℝ) : ℝ := g * sg g * u

/-- The gradients at the gate's argument and at the gated row, from the gradient at their product. -/
def dgate (e g u : ℝ) : ℝ := e * u * (sg g * (1 + g * (1 - sg g)))
def dgated (e g : ℝ) : ℝ := e * (g * sg g)

/-- A row times a matrix stored by columns, and times one stored by rows. -/
def fwd {n w : ℕ} (x : Fin n → ℝ) (W : Fin w → Fin n → ℝ) (f : Fin w) : ℝ := ∑ d, x d * W f d
def bwd {n w : ℕ} (y : Fin w → ℝ) (W : Fin w → Fin n → ℝ) (d : Fin n) : ℝ := ∑ f, y f * W f d

/-- Some of the lanes, and some of the rows. -/
def lanes {a w : ℕ} (c : ℕ) (F : Fin a → Fin 2816 → ℝ) (p : Fin a) (j : Fin w) : ℝ := F p ⟨(c + j) % 2816, Nat.mod_lt _ (by decide)⟩
def strip {b w : ℕ} (c : ℕ) (W : Fin 2816 → Fin b → ℝ) (j : Fin w) (d : Fin b) : ℝ := W ⟨(c + j) % 2816, Nat.mod_lt _ (by decide)⟩ d

/-- The four strips are all the rows. -/
theorem split4 {M : Type} [AddCommMonoid M] (F : Fin 2816 → M) :
    (∑ j : Fin 768, F ⟨(0 + j) % 2816, Nat.mod_lt _ (by decide)⟩) + (∑ j : Fin 768, F ⟨(768 + j) % 2816, Nat.mod_lt _ (by decide)⟩)
      + (∑ j : Fin 768, F ⟨(1536 + j) % 2816, Nat.mod_lt _ (by decide)⟩) + (∑ j : Fin 512, F ⟨(2304 + j) % 2816, Nat.mod_lt _ (by decide)⟩)
      = ∑ f, F f := by
  refine Eq.trans ?_ (Fin.sum_univ_add (a := 2304) (b := 512) F).symm
  refine congrArg₂ (· + ·) ?_ (Finset.sum_congr rfl fun j _ => congrArg F (Fin.ext (by simp; omega)))
  refine Eq.trans ?_ (Fin.sum_univ_add (a := 1536) (b := 768) fun j => F (Fin.castAdd 512 j)).symm
  refine congrArg₂ (· + ·) ?_ (Finset.sum_congr rfl fun j _ => congrArg F (Fin.ext (by simp; omega)))
  refine Eq.trans ?_ (Fin.sum_univ_add (a := 768) (b := 768) fun j => F (Fin.castAdd 512 (Fin.castAdd 768 j))).symm
  exact congrArg₂ (· + ·) (Finset.sum_congr rfl fun j _ => congrArg F (Fin.ext (by simp; omega)))
    (Finset.sum_congr rfl fun j _ => congrArg F (Fin.ext (by simp; omega)))

section
variable {a b : ℕ} (F G : Fin a → Fin b → ℝ)

abbrev One (a b : ℕ) : FVec Ideal ⟨2, ![a, b]⟩ .f32 := broadcast ⟨2, ![a, b]⟩ (Scalar.ofBits (F := Ideal) .f32 0x3F800000#32)
abbrev Zero (a b : ℕ) : FVec Ideal ⟨2, ![a, b]⟩ .f32 := broadcast ⟨2, ![a, b]⟩ (Scalar.ofBits (F := Ideal) .f32 0x00000000#32)

theorem mul_up : (mulf (up F) (up G) : FVec Ideal ⟨2, ![a, b]⟩ .f32) = up fun p j => F p j * G p j :=
  funext fun i => (EReal.coe_mul _ _).symm

theorem add_up : (addf (up F) (up G) : FVec Ideal ⟨2, ![a, b]⟩ .f32) = up fun p j => F p j + G p j :=
  funext fun i => (EReal.coe_add _ _).symm

theorem sub_up : (subf (up F) (up G) : FVec Ideal ⟨2, ![a, b]⟩ .f32) = up fun p j => F p j - G p j :=
  funext fun i => (EReal.coe_sub _ _).symm

theorem one_up : One a b = up fun _ _ => 1 := funext fun i => ofBits_one

theorem zero_up : Zero a b = up fun _ _ => 0 := by
  funext i
  show Ideal.ofBits .f32 0x00000000#32 = _
  simp [Ideal.ofBits, Ideal.ieee, up]

theorem exp_up : (exp (up F) : FVec Ideal ⟨2, ![a, b]⟩ .f32) = up fun p j => Real.exp (F p j) := funext fun i => Ideal.exp_coe _

theorem sig_up : (divf (up fun _ _ => 1) (up fun p j => 1 + Real.exp (0 - F p j)) : FVec Ideal ⟨2, ![a, b]⟩ .f32) = up fun p j => sg (F p j) :=
  funext fun i => div_coe (y := 1 + Real.exp (0 - F (i 0) (i 1))) (by positivity)
end

section
variable {a w : ℕ} (c : ℕ) (F : Fin a → Fin 2816 → ℝ) (W : Fin 2816 → Fin 1024 → ℝ)

theorem ld_lanes (h) : (View.ld (Val := Elt Ideal) (e' := .bf16) (up F) (Rect.unit (s := ⟨2, ![a, 2816]⟩) ![0, c] ![a, w] h) : FVec Ideal ⟨2, ![a, w]⟩ .bf16)
    = up (lanes c F) := by
  have hc : c + w ≤ 2816 := h 1
  funext i
  refine congrArg (fun r : ℝ => (r : EReal)) (congr (congrArg F (Fin.ext ?_)) (Fin.ext ?_))
  · show 0 + 1 * (i 0 : ℕ) = i 0
    omega
  · have h1 : (i 1 : ℕ) < w := (i 1).isLt
    show c + 1 * (i 1 : ℕ) = (c + (i 1 : ℕ)) % 2816
    omega

theorem ld_strip (h) : (View.ld (Val := Elt Ideal) (e' := .bf16) (up W) (Rect.unit (s := ⟨2, ![2816, 1024]⟩) ![c, 0] ![w, 1024] h) : FVec Ideal ⟨2, ![w, 1024]⟩ .bf16)
    = up (strip c W) := by
  have hc : c + w ≤ 2816 := h 0
  funext i
  refine congrArg (fun r : ℝ => (r : EReal)) (congr (congrArg W (Fin.ext ?_)) (Fin.ext ?_))
  · have h1 : (i 0 : ℕ) < w := (i 0).isLt
    show c + 1 * (i 0 : ℕ) = (c + (i 0 : ℕ)) % 2816
    omega
  · show 0 + 1 * (i 1 : ℕ) = i 1
    omega

theorem lanes_at {x : (⟨2, ![a, w]⟩ : Shape).Idx} {p : Fin a} {f : Fin 2816}
    (h0 : (p : ℕ) = x 0) (h1 : (f : ℕ) = c + x 1) : up (lanes c F) x = ((F p f : ℝ) : EReal) := by
  refine congrArg (fun r : ℝ => (r : EReal)) (congr (congrArg F (Fin.ext ?_)) (Fin.ext ?_))
  · exact h0.symm
  · have := f.isLt; show (c + (x 1 : ℕ)) % 2816 = f; omega
end

end Cert.Ffn

end
-- ==== Proof.FdxPt.lean ====
/- One point of the feed-forward block's backward grid: what it writes and how it grows the carried row, as images of real arrays. -/
module

public import proofs.«01_k».proof.Proof.Ffn
public import proofs.«01_k».proof.Proof.Gen.Kernel2Ideal.Value
public import Idealize.ShloMosaic.Lib.Claim
public import Idealize.ShloMosaic.Lib.Pipeline.ReadBack

@[expose] public section

set_option maxRecDepth 16384

noncomputable section

namespace Cert.Fdx

open Cert.Kernel2Ideal Cert.Kernel2Ideal.Gen
open Idealize.ShloMosaic Idealize.ShloMosaic.TcCoe Idealize.SL.Sem Cert.RealLift Cert.Xattn Cert.Ffn

theorem trunc_id {s : Shape} (x : FVec Ideal s .f32) (h) : truncf (F := Ideal) .bf16 x h = x := rfl
theorem ext_id {s : Shape} (x : FVec Ideal s .bf16) (h) : extf (F := Ideal) .f32 x h = x := rfl
theorem at2 {a b : ℕ} (H : Fin a → Fin b → ℝ) (i : Fin a) (j : Fin b) : up H (ix2 i j) = ((H i j : ℝ) : EReal) := rfl

/-! ## The products -/

section
variable (x : Fin 256 → Fin 1024 → ℝ) (W : Fin 768 → Fin 1024 → ℝ) (W' : Fin 512 → Fin 1024 → ℝ) (y : Fin 256 → Fin 768 → ℝ) (y' : Fin 256 → Fin 512 → ℝ)

theorem fwd768 : (matmul (φ₁ := .bf16) (φ₂ := .bf16) dot_S256x1024_S768x1024_S256x768_1_1_0_0_n_n none (up x) (up W)
    (constant S256x768 .f32 0x00000000#32) : FVec Ideal S256x768 .f32) = up fun p => fwd (x p) W := by
  funext i
  idx_vars i
  pointwise []
  simp only [at2, fwd, coe_sum, EReal.coe_mul]

theorem fwd512 : (matmul (φ₁ := .bf16) (φ₂ := .bf16) dot_S256x1024_S512x1024_S256x512_1_1_0_0_n_n none (up x) (up W')
    (constant S256x512 .f32 0x00000000#32) : FVec Ideal S256x512 .f32) = up fun p => fwd (x p) W' := by
  funext i
  idx_vars i
  pointwise []
  simp only [at2, fwd, coe_sum, EReal.coe_mul]

theorem bwd768 : (matmul (φ₁ := .bf16) (φ₂ := .bf16) dot_S256x768_S768x1024_S256x1024_1_0_0_1_n_n none (up y) (up W)
    (constant S256x1024 .f32 0x00000000#32) : FVec Ideal S256x1024 .f32) = up fun p => bwd (y p) W := by
  funext i
  idx_vars i
  pointwise []
  simp only [at2, bwd, coe_sum, EReal.coe_mul]

theorem bwd512 : (matmul (φ₁ := .bf16) (φ₂ := .bf16) dot_S256x512_S512x1024_S256x1024_1_0_0_1_n_n none (up y') (up W')
    (constant S256x1024 .f32 0x00000000#32) : FVec Ideal S256x1024 .f32) = up fun p => bwd (y' p) W' := by
  funext i
  idx_vars i
  pointwise []
  simp only [at2, bwd, coe_sum, EReal.coe_mul]
end

/-! ## The norm -/

section
variable (x D n : Fin 256 → Fin 1024 → ℝ) (g : Fin 1024 → ℝ)

theorem inv_up : k0_pay1 (F := Ideal) (k0_pay50 (up x)) (Scalar.ofBits .f32 0x358637BD#32) = up fun p (_ : Fin 1) => Cert.Xattn.inv (x p) := by
  funext i
  idx_vars i
  rw [at2, Cert.Xattn.inv, ← coe_rinv (by norm_num) rmsEps_pos, ← coe_meanSq (by norm_num)]
  pointwise [k0_pay1, k0_pay50]
  rw [ofBits_1024, ofBits_rmsEps]
  rfl

theorem xhat_up : k0_pay2 (F := Ideal) (up x) (k0_pay50 (up x)) (Scalar.ofBits .f32 0x358637BD#32) = up fun p d => x p d * Cert.Xattn.inv (x p) := by
  rw [k0_pay2, inv_up]
  funext i
  idx_vars i
  pointwise []
  simp only [at2, EReal.coe_mul]

theorem nrm_up : k0_pay3 (F := Ideal) (k0_pay7 (up fun _ : Fin 1 => g)) (up x) (k0_pay50 (up x)) (Scalar.ofBits .f32 0x358637BD#32) = up fun p => nrm (x p) g := by
  rw [k0_pay3, xhat_up, k0_pay7, shapeCast_self, trunc_id]
  funext i
  idx_vars i
  pointwise []
  simp only [at2, nrm, EReal.coe_mul]

theorem gain_up (A) : k0_pay4 (F := Ideal) (up n) (up x) (k0_pay50 (up x)) (Scalar.ofBits .f32 0x358637BD#32) A
    = addf A (up fun (_ : Fin 1) d => ∑ p, n p d * (x p d * Cert.Xattn.inv (x p))) := by
  rw [k0_pay4, shapeCast_self, xhat_up]
  funext i
  idx_vars i
  pointwise []
  simp only [at2, coe_sum, EReal.coe_mul]

theorem drow_up : k0_pay5 (F := Ideal) (k0_pay7 (up fun _ : Fin 1 => g)) (up D) (up n) (up x) (k0_pay50 (up x)) (Scalar.ofBits .f32 0x358637BD#32)
    = up fun p => drow (x p) g (D p) (n p) := by
  have e : (mulf (up n) (broadcastTo S256x1024 (up fun _ : Fin 1 => g) broadcasts_S1x1024_S256x1024) : FVec Ideal S256x1024 .f32)
      = up fun p d => n p d * g d := by
    funext i
    idx_vars i
    pointwise []
    simp only [at2, EReal.coe_mul]
  rw [k0_pay5, k0_pay7, shapeCast_self, e, xhat_up, inv_up]
  funext i
  idx_vars i
  pointwise []
  simp only [at2, drow, ofBits_1024, ← EReal.coe_mul, ← coe_sum, div_coe (by norm_num : (1024 : ℝ) ≠ 0), ← EReal.coe_sub, ← EReal.coe_add]
end

/-! ## The strips of lanes -/

theorem cover : ∀ y : S256x2816.Idx, ∃ p ∈ ([
       ⟨Rect.unit ![0, 2304] ![256, 512] inb_S256x2816_S256x512_0_2304, fun _ => (0 : EReal)⟩,
       ⟨Rect.unit ![0, 1536] ![256, 768] inb_S256x2816_S256x768_0_1536, fun _ => (0 : EReal)⟩,
       ⟨Rect.unit ![0, 768] ![256, 768] inb_S256x2816_S256x768_0_768, fun _ => (0 : EReal)⟩,
       ⟨Rect.unit ![0, 0] ![256, 768] inb_S256x2816_S256x768_0_0, fun _ => (0 : EReal)⟩]
         : List (View.Piece (Elt Ideal) S256x2816 .bf16)), y ∈ p.1.set :=
  View.cover_of_tiledBy _ ![256, 256] (by decide +kernel)

theorem stage (F : Fin 256 → Fin 2816 → ℝ) : View.canon (Val := Elt Ideal) (s := S256x2816) (e := .bf16)
      [⟨Rect.unit ![0, 2304] ![256, 512] inb_S256x2816_S256x512_0_2304, up (lanes 2304 F)⟩,
       ⟨Rect.unit ![0, 1536] ![256, 768] inb_S256x2816_S256x768_0_1536, up (lanes 1536 F)⟩,
       ⟨Rect.unit ![0, 768] ![256, 768] inb_S256x2816_S256x768_0_768, up (lanes 768 F)⟩,
       ⟨Rect.unit ![0, 0] ![256, 768] inb_S256x2816_S256x768_0_0, up (lanes 0 F)⟩] = up F := by
  funext y
  canon_tiles x hx using (by have h := cover y; simpa only [List.mem_cons, List.not_mem_nil, exists_eq_or_imp, exists_eq_left, or_false] using h)
  all_goals exact lanes_at _ F (by simp [hx0]) (by simp [hx1])

/-! ## A point -/

section
variable (D : Fin 256 → Fin 1024 → ℝ) (GT U : Fin 256 → Fin 2816 → ℝ) (WG WU WD : Fin 2816 → Fin 1024 → ℝ)

/-- The gradients at the gate's argument and at the gated lanes, and the gradient at the normalised row. -/
def dgt {a : ℕ} (D : Fin a → Fin 1024 → ℝ) (GT U : Fin a → Fin 2816 → ℝ) (WD : Fin 2816 → Fin 1024 → ℝ) (p : Fin a) (f : Fin 2816) : ℝ :=
  dgate (fwd (D p) WD f) (GT p f) (U p f)
def dup {a : ℕ} (D : Fin a → Fin 1024 → ℝ) (GT : Fin a → Fin 2816 → ℝ) (WD : Fin 2816 → Fin 1024 → ℝ) (p : Fin a) (f : Fin 2816) : ℝ :=
  dgated (fwd (D p) WD f) (GT p f)
def dnr {a : ℕ} (D : Fin a → Fin 1024 → ℝ) (GT U : Fin a → Fin 2816 → ℝ) (WG WU WD : Fin 2816 → Fin 1024 → ℝ) (p : Fin a) (d : Fin 1024) : ℝ :=
  bwd (dgt D GT U WD p) WG d + bwd (dup D GT WD p) WU d

/-- The eight partial products are the two. -/
theorem sum_strips : (up fun p d => 0 + bwd (lanes (w := 768) 0 (dgt D GT U WD) p) (strip 0 WG) d + bwd (lanes (w := 768) 0 (dup D GT WD) p) (strip 0 WU) d
      + bwd (lanes (w := 768) 768 (dgt D GT U WD) p) (strip 768 WG) d + bwd (lanes (w := 768) 768 (dup D GT WD) p) (strip 768 WU) d
      + bwd (lanes (w := 768) 1536 (dgt D GT U WD) p) (strip 1536 WG) d + bwd (lanes (w := 768) 1536 (dup D GT WD) p) (strip 1536 WU) d
      + bwd (lanes (w := 512) 2304 (dgt D GT U WD) p) (strip 2304 WG) d + bwd (lanes (w := 512) 2304 (dup D GT WD) p) (strip 2304 WU) d)
    = up (dnr D GT U WG WU WD) := by
  congr 1
  funext p d
  have e1 := split4 fun f => dgt D GT U WD p f * WG f d
  have e2 := split4 fun f => dup D GT WD p f * WU f d
  have key : ∀ a b c d a' b' c' d' : ℝ, 0 + a + a' + b + b' + c + c' + d + d' = (a + b + c + d) + (a' + b' + c' + d') := by intros; ring
  exact (key _ _ _ _ _ _ _ _).trans (congrArg₂ (· + ·) e1 e2)
end

variable (m : (ℓ : Loc nD τ sig) → Buf (Elt Ideal) ℓ)

/-- What a point's blocks hold. -/
structure Blks (c : Dev nD) (t : Fin cfg0.N) (X D : Fin 256 → Fin 1024 → ℝ) (GT U : Fin 256 → Fin 2816 → ℝ) (G : Fin 1024 → ℝ)
    (WG WU WD : Fin 2816 → Fin 1024 → ℝ) : Prop where
  b0 : (iblk m c 0 t : FVec Ideal S256x1024 .f32) = up X
  b1 : (iblk m c 1 t : FVec Ideal S256x1024 .f32) = up D
  b2 : (iblk m c 2 t : FVec Ideal S256x2816 .bf16) = up GT
  b3 : (iblk m c 3 t : FVec Ideal S256x2816 .bf16) = up U
  b4 : (iblk m c 4 t : FVec Ideal S1x1024 .f32) = up fun _ : Fin 1 => G
  b5 : (iblk m c 5 t : FVec Ideal S2816x1024 .bf16) = up WG
  b6 : (iblk m c 6 t : FVec Ideal S2816x1024 .bf16) = up WU
  b7 : (iblk m c 7 t : FVec Ideal S2816x1024 .bf16) = up WD

variable {m : (ℓ : Loc nD τ sig) → Buf (Elt Ideal) ℓ} {c : Dev nD} {t : Fin cfg0.N} {X D : Fin 256 → Fin 1024 → ℝ} {GT U : Fin 256 → Fin 2816 → ℝ}
    {G : Fin 1024 → ℝ} {WG WU WD : Fin 2816 → Fin 1024 → ℝ} (A : Blks m c t X D GT U G WG WU WD)

/-- What a point leaves. -/
abbrev Outs : Type := FVec Ideal S256x1024 .f32 × FVec Ideal S1x1024 .f32 × FVec Ideal S256x2816 .bf16 × FVec Ideal S256x2816 .bf16
  × FVec Ideal S256x2816 .bf16 × FVec Ideal S256x1024 .bf16

/-- What a point writes, and how it grows the carried row. -/
def Grows (X D : Fin 256 → Fin 1024 → ℝ) (GT U : Fin 256 → Fin 2816 → ℝ) (G : Fin 1024 → ℝ) (WG WU WD : Fin 2816 → Fin 1024 → ℝ) (x : Outs)
    (dg : FVec Ideal S1x1024 .f32) : Prop :=
  x.1 = up (fun p => drow (X p) G (D p) (dnr D GT U WG WU WD p))
  ∧ x.2.1 = addf dg (up fun (_ : Fin 1) d => ∑ p, dnr D GT U WG WU WD p d * (X p d * Cert.Xattn.inv (X p)))
  ∧ x.2.2.1 = up (dgt D GT U WD)
  ∧ x.2.2.2.1 = up (dup D GT WD)
  ∧ x.2.2.2.2.1 = up (fun p f => act (GT p f) (U p f))
  ∧ x.2.2.2.2.2 = up (fun p => nrm (X p) G)

set_option maxHeartbeats 8000000 in
include A in
theorem grows_all :
    (t.val % 32 = 0 → Grows X D GT U G WG WU WD (outsAt0 m c t.val t.isLt) k0_pay6)
    ∧ (¬ t.val % 32 = 0 → Grows X D GT U G WG WU WD (outsAt0 m c t.val t.isLt)
      (outsAt0 m c (t.val - 1) (Nat.lt_of_le_of_lt (Nat.sub_le _ _) t.isLt)).2.1) := by
  refine ⟨fun h0 => ?_, fun h0 => ?_⟩
  all_goals first | rw [outsAt0_A m c t h0] | rw [outsAt0_B m c t h0]
  all_goals refine ⟨?_, ?_, ?_, ?_, ?_, ?_⟩
  all_goals frame_out
  all_goals simp (disch := decide) only [k0_pay8, k0_pay9, k0_pay10, k0_pay11, k0_pay12, k0_pay13, k0_pay14, k0_pay15, k0_pay16, k0_pay17, k0_pay18, k0_pay19,
      k0_pay20, k0_pay21, k0_pay22, k0_pay23, k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45, k0_pay46, k0_pay47, k0_pay48, k0_pay49,
      A.b0, A.b1, A.b2, A.b3, A.b4, A.b5, A.b6, A.b7, shapeCast_self, trunc_id, ext_id, ld_lanes, ld_strip, one_up, zero_up, exp_up, mul_up, add_up, sub_up,
      sig_up, fwd768, fwd512, bwd768, bwd512, ↓ View.readCov_cons_toLoadRect, ↓ View.readCov_skip, ↓ View.readCov_fill, read_unread_whole]
  · exact Eq.trans (congrArg (fun n => k0_pay5 (F := Ideal) (k0_pay7 (up fun _ : Fin 1 => G)) (up D) n (up X) (k0_pay50 (up X)) (Scalar.ofBits .f32 0x358637BD#32))
        (sum_strips D GT U WG WU WD)) (drow_up X D _ G)
  · exact Eq.trans (congrArg (fun n => k0_pay4 (F := Ideal) n (up X) (k0_pay50 (up X)) (Scalar.ofBits .f32 0x358637BD#32) _)
        (sum_strips D GT U WG WU WD)) (gain_up X _ _)
  · exact stage (dgt D GT U WD)
  · exact stage (dup D GT WD)
  · exact stage fun p f => act (GT p f) (U p f)
  · exact nrm_up X G
  · exact Eq.trans (congrArg (fun n => k0_pay5 (F := Ideal) (k0_pay7 (up fun _ : Fin 1 => G)) (up D) n (up X) (k0_pay50 (up X)) (Scalar.ofBits .f32 0x358637BD#32))
        (sum_strips D GT U WG WU WD)) (drow_up X D _ G)
  · exact Eq.trans (congrArg (fun n => k0_pay4 (F := Ideal) n (up X) (k0_pay50 (up X)) (Scalar.ofBits .f32 0x358637BD#32) _)
        (sum_strips D GT U WG WU WD)) (gain_up X _ _)
  · exact stage (dgt D GT U WD)
  · exact stage (dup D GT WD)
  · exact stage fun p f => act (GT p f) (U p f)
  · exact nrm_up X G

end Cert.Fdx

end
-- ==== Proof.FdxRef.lean ====
/- The feed-forward block's gradient as the reference program computes it, over the reals. -/
module

public import proofs.«01_k».proof.Proof.Gen.Reference2Ideal.Read
public import proofs.«01_k».proof.Proof.FdxPt

@[expose] public section

set_option maxRecDepth 16384

noncomputable section

namespace Cert.Fdx

open Idealize.ShloMosaic Idealize.ShloMosaic.TcCoe Idealize.SL.Sem Cert.RealLift Cert.Ffn
open Cert.Xattn (up up1 nrm back drow)
open Cert.Reference2Ideal.Gen Cert.Reference2Ideal Cert.Reference2Ideal.Read

variable (X D : Fin 8192 → Fin 1024 → ℝ) (G : Fin 1024 → ℝ) (WA WB : Fin 1024 → Fin 2816 → ℝ) (WD : Fin 2816 → Fin 1024 → ℝ)

/-- A weight by columns. -/
def tr (W : Fin 1024 → Fin 2816 → ℝ) (f : Fin 2816) (d : Fin 1024) : ℝ := W d f

/-- The normalised rows times a weight: the gate's argument, and the gated rows. -/
def pre (W : Fin 1024 → Fin 2816 → ℝ) (s : Fin 8192) : Fin 2816 → ℝ := fwd (nrm (X s) G) (tr W)

/-- The gradients at the gate's argument, at the gated rows and at the normalised rows. -/
def dgs (s : Fin 8192) : Fin 2816 → ℝ := dgt D (pre X G WA) (pre X G WB) WD s
def dus (s : Fin 8192) : Fin 2816 → ℝ := dup D (pre X G WA) WD s
def dns (s : Fin 8192) : Fin 1024 → ℝ := dnr D (pre X G WA) (pre X G WB) (tr WA) (tr WB) WD s

theorem v6_at (s : Fin 8192) (z : Fin 1) :
    val_main_v6 (F := Ideal) (up X) (ix2 s z) = ((meanSq 1024 rmsEps (X s) : ℝ) : EReal) := by
  rw [← coe_meanSq (by norm_num)]
  pointwise [val_main_v6, val_main_v5, val_main_v4, val_main_v3, val_main_v2, val_main_v1, val_main_v0, val_main_cst,
    val_main_cst_0, val_main_cst_1, up]
  rw [ofBits_1024, ofBits_rmsEps]

theorem v7_at (s : Fin 8192) (z : Fin 1) : val_main_v7 (F := Ideal) (up X) (ix2 s z) = ((Cert.Xattn.inv (X s) : ℝ) : EReal) := by
  pointwise [val_main_v7]
  rw [v6_at, coe_rinv (by norm_num) rmsEps_pos]

theorem v10_at (s : Fin 8192) (z : Fin 1) :
    val_main_v10 (F := Ideal) (up X) (ix2 s z) = ((-(1 / 2) * (Cert.Xattn.inv (X s) / meanSq 1024 rmsEps (X s)) : ℝ) : EReal) := by
  pointwise [val_main_v10, val_main_v9, val_main_cst_2, val_main_v8]
  rw [ofBits_neg_half, v7_at, v6_at, div_coe (meanSq_pos (by norm_num) rmsEps_pos _).ne', EReal.coe_mul]

theorem v12_at (s : Fin 8192) (d : Fin 1024) :
    val_main_v12 (F := Ideal) (up X) (ix2 s d) = ((X s d * Cert.Xattn.inv (X s) : ℝ) : EReal) := by
  pointwise [val_main_v12, val_main_v11]
  rw [v7_at]; rfl

theorem v15_at (s : Fin 8192) (d : Fin 1024) :
    val_main_v15 (F := Ideal) (up X) (up1 G) (ix2 s d) = ((nrm (X s) G d : ℝ) : EReal) := by
  pointwise [val_main_v15, val_main_v14, val_main_v13]
  rw [v12_at]; rfl

theorem v16_at (s : Fin 8192) (f : Fin 2816) :
    val_main_v16 (F := Ideal) (up X) (up1 G) (up WA) (ix2 s f) = ((pre X G WA s f : ℝ) : EReal) := by
  pointwise [val_main_v16]
  simp only [v15_at, pre, fwd, tr, coe_sum, EReal.coe_mul]; rfl

theorem v18_at (s : Fin 8192) (f : Fin 2816) :
    val_main_v18 (F := Ideal) (up X) (up1 G) (up WB) (ix2 s f) = ((pre X G WB s f : ℝ) : EReal) := by
  pointwise [val_main_v18]
  simp only [v15_at, pre, fwd, tr, coe_sum, EReal.coe_mul]; rfl

/-! ## The gate -/

theorem sig_at (s : Fin 8192) (f : Fin 2816) :
    val_main_v17_2 (F := Ideal) (up X) (up1 G) (up WA) (ix2 s f) = ((sg (pre X G WA s f) : ℝ) : EReal) := by
  have h1 : val_main_call0_v1 (F := Ideal) (up X) (up1 G) (up WA) (ix2 s f) = ((Real.exp (0 - pre X G WA s f) : ℝ) : EReal) := by
    pointwise [val_main_call0_v1, val_main_call0_v0]
    rw [v16_at, ← EReal.coe_neg, Ideal.exp_coe, zero_sub]
  pointwise [val_main_v17_2, val_main_call0_v4, val_main_call0_cst_0, val_main_call0_v3, val_main_call0_v2, val_main_call0_cst]
  rw [h1, ← EReal.coe_one, ← EReal.coe_add, div_coe (by positivity)]
  rfl

theorem sigd_at (s : Fin 8192) (f : Fin 2816) :
    val_main_v17_1 (F := Ideal) (up X) (up1 G) (up WA) (ix2 s f) = ((sg (pre X G WA s f) * (1 - sg (pre X G WA s f)) : ℝ) : EReal) := by
  pointwise [val_main_v17_1, val_main_call0_v7, val_main_call0_v6, val_main_call0_cst_1]
  rw [sig_at, ← EReal.coe_one, ← EReal.coe_sub, ← EReal.coe_mul]

theorem silu_at (s : Fin 8192) (f : Fin 2816) :
    val_main_v17_0 (F := Ideal) (up X) (up1 G) (up WA) (ix2 s f) = ((pre X G WA s f * sg (pre X G WA s f) : ℝ) : EReal) := by
  pointwise [val_main_v17_0]
  rw [v16_at, sig_at, ← EReal.coe_mul]

theorem v23_at (s : Fin 8192) (f : Fin 2816) :
    val_main_v23 (F := Ideal) (up WD) (up D) (ix2 s f) = ((fwd (D s) WD f : ℝ) : EReal) := by
  pointwise [val_main_v23, val_main_v22]
  simp only [at2, fwd, coe_sum, EReal.coe_mul]

theorem v24_at (s : Fin 8192) (f : Fin 2816) :
    val_main_v24 (F := Ideal) (up X) (up1 G) (up WA) (up WD) (up D) (ix2 s f) = ((dus X D G WA WD s f : ℝ) : EReal) := by
  pointwise [val_main_v24]
  rw [silu_at, v23_at, ← EReal.coe_mul, dus, dup, dgated, mul_comm]

theorem v27_at (s : Fin 8192) (f : Fin 2816) :
    val_main_v27 (F := Ideal) (up X) (up1 G) (up WA) (up WB) (up WD) (up D) (ix2 s f) = ((dgs X D G WA WB WD s f : ℝ) : EReal) := by
  have h25 : val_main_v25 (F := Ideal) (up X) (up1 G) (up WB) (up WD) (up D) (ix2 s f) = ((fwd (D s) WD f * pre X G WB s f : ℝ) : EReal) := by
    pointwise [val_main_v25]
    rw [v23_at, v18_at, ← EReal.coe_mul]
  pointwise [val_main_v27, val_main_call1_v1, val_main_call1_v2, val_main_call1_v0]
  rw [h25, sig_at, sigd_at, v16_at]
  simp only [← EReal.coe_mul, ← EReal.coe_add]
  congr 1
  rw [dgs, dgt, dgate]
  ring

theorem v29_at (s : Fin 8192) (d : Fin 1024) :
    val_main_v29 (F := Ideal) (up X) (up1 G) (up WA) (up WB) (up WD) (up D) (ix2 s d) = ((dns X D G WA WB WD s d : ℝ) : EReal) := by
  have h26 : val_main_v26 (F := Ideal) (up X) (up1 G) (up WA) (up WB) (up WD) (up D) (ix2 s d) = ((bwd (dus X D G WA WD s) (tr WB) d : ℝ) : EReal) := by
    pointwise [val_main_v26]
    simp only [v24_at, bwd, tr, coe_sum, EReal.coe_mul]; rfl
  have h28 : val_main_v28 (F := Ideal) (up X) (up1 G) (up WA) (up WB) (up WD) (up D) (ix2 s d) = ((bwd (dgs X D G WA WB WD s) (tr WA) d : ℝ) : EReal) := by
    pointwise [val_main_v28]
    simp only [v27_at, bwd, tr, coe_sum, EReal.coe_mul]; rfl
  rw [val_main_v29_apply, h26, h28, dns, dnr]
  change ((_ : ℝ) : EReal) + ((_ : ℝ) : EReal) = _
  rw [← EReal.coe_add, add_comm]
  rfl

/-! ## The norm -/

theorem v73_at (z : Fin 1) (d : Fin 1024) :
    val_main_v73 (F := Ideal) (up X) (up1 G) (up WA) (up WB) (up WD) (up D) (ix2 z d) = ((∑ s, dns X D G WA WB WD s d * (X s d * Cert.Xattn.inv (X s)) : ℝ) : EReal) := by
  have h31 : val_main_v31 (F := Ideal) (up X) (up1 G) (up WA) (up WB) (up WD) (up D) (ix1 d) = ((∑ s, dns X D G WA WB WD s d * (X s d * Cert.Xattn.inv (X s)) : ℝ) : EReal) := by
    pointwise [val_main_v31, val_main_cst_3, val_main_v30]
    simp only [v29_at, v12_at, coe_sum, EReal.coe_mul]
    exact Finset.sum_congr rfl fun q _ => mul_comm _ _
  pointwise [val_main_v73, val_main_v35, val_main_v32, val_main_cst_4]
  simp only [Finset.univ_unique, Finset.sum_singleton]
  exact h31

theorem v34_at (s : Fin 8192) (d : Fin 1024) :
    val_main_v34 (F := Ideal) (up X) (up1 G) (up WA) (up WB) (up WD) (up D) (ix2 s d) = ((dns X D G WA WB WD s d * G d : ℝ) : EReal) := by
  pointwise [val_main_v34, val_main_v33, val_main_v13]
  rw [v29_at, EReal.coe_mul]; rfl

theorem v37_at (s : Fin 8192) :
    val_main_v37 (F := Ideal) (up X) (up1 G) (up WA) (up WB) (up WD) (up D) (ix1 s) = ((∑ k, X s k * (dns X D G WA WB WD s k * G k) : ℝ) : EReal) := by
  pointwise [val_main_v37, val_main_v36, val_main_cst_5]
  simp only [v34_at, coe_sum, EReal.coe_mul]; rfl

theorem v46_at (s : Fin 8192) (d : Fin 1024) :
    val_main_v46 (F := Ideal) (up X) (up1 G) (up WA) (up WB) (up WD) (up D) (ix2 s d) = (((∑ k, X s k * (dns X D G WA WB WD s k * G k))
        * (-(1 / 2) * (Cert.Xattn.inv (X s) / meanSq 1024 rmsEps (X s))) / 1024 : ℝ) : EReal) := by
  pointwise [val_main_v46, val_main_v45, val_main_v44, val_main_v43, val_main_v42, val_main_v38, val_main_cst_6, val_main_cst_7]
  simp only [Finset.univ_unique, Finset.sum_singleton, v37_at, v10_at, ← EReal.coe_mul]
  rw [ofBits_1024, div_coe (by norm_num)]

theorem v50_at (s : Fin 8192) (d : Fin 1024) :
    val_main_v50 (F := Ideal) (up X) (up1 G) (up WA) (up WB) (up WD) (up D) (ix2 s d) = ((drow (X s) G (D s) (dns X D G WA WB WD s) d : ℝ) : EReal) := by
  have h40 : val_main_v40 (F := Ideal) (up X) (up1 G) (up WA) (up WB) (up WD) (up D) (ix2 s d) = ((dns X D G WA WB WD s d * G d * Cert.Xattn.inv (X s) : ℝ) : EReal) := by
    pointwise [val_main_v40, val_main_v39]
    rw [v34_at, v7_at]
    exact (EReal.coe_mul _ _).symm
  rw [val_main_v50_apply, val_main_v49_apply, val_main_v48_apply, val_main_v47_apply, val_main_v41_apply, h40, v46_at]
  rw [drow, norm_grad (by norm_num) rmsEps_pos (X s) (fun d => dns X D G WA WB WD s d * G d)]
  simp only [EReal.coe_add, EReal.coe_mul]
  rfl

/-! ## What the weights' gradients take -/

theorem v63_eq : val_main_v63 (F := Ideal) (up X) (up1 G) = val_main_v15 (F := Ideal) (up X) (up1 G) := rfl
theorem v64_eq : val_main_v64 (F := Ideal) (up X) (up1 G) (up WA) = val_main_v16 (F := Ideal) (up X) (up1 G) (up WA) := by
  rw [val_main_v64, v63_eq]; rfl
theorem v65_eq : val_main_v65 (F := Ideal) (up X) (up1 G) (up WB) = val_main_v18 (F := Ideal) (up X) (up1 G) (up WB) := by
  rw [val_main_v65, v63_eq]; rfl

theorem sig2_eq : val_main_v66_2 (F := Ideal) (up X) (up1 G) (up WA) = val_main_v17_2 (F := Ideal) (up X) (up1 G) (up WA) := by
  rw [val_main_v66_2, val_main_call2_v3, val_main_call2_v1, val_main_call2_v0, v64_eq]; rfl
theorem sigd2_eq : val_main_v66_1 (F := Ideal) (up X) (up1 G) (up WA) = val_main_v17_1 (F := Ideal) (up X) (up1 G) (up WA) := by
  rw [val_main_v66_1, val_main_call2_v7, sig2_eq]; rfl
theorem silu2_eq : val_main_v66_0 (F := Ideal) (up X) (up1 G) (up WA) = val_main_v17_0 (F := Ideal) (up X) (up1 G) (up WA) := by
  rw [val_main_v66_0, sig2_eq, v64_eq]; rfl
theorem silu4_eq : val_main_v76 (F := Ideal) (up X) (up1 G) (up WA) = val_main_v17_0 (F := Ideal) (up X) (up1 G) (up WA) := by
  rw [val_main_v76, val_main_call4_v5, val_main_call4_v3, val_main_call4_v1, val_main_call4_v0, v64_eq]; rfl

theorem v69_eq : val_main_v69 (F := Ideal) (up WD) (up D) = val_main_v23 (F := Ideal) (up WD) (up D) := by
  rw [val_main_v23, val_main_v22, shapeCast_self]; rfl

theorem v74_at (s : Fin 8192) (f : Fin 2816) :
    val_main_v74 (F := Ideal) (up X) (up1 G) (up WA) (up WB) (up WD) (up D) (ix2 s f) = ((dgs X D G WA WB WD s f : ℝ) : EReal) := by
  rw [← v27_at, val_main_v74, trunc_id, val_main_v72, val_main_call3_v2, val_main_call3_v1, val_main_call3_v0, val_main_v71, v69_eq, v65_eq, v64_eq, sig2_eq, sigd2_eq]
  rfl

theorem v75_at (s : Fin 8192) (f : Fin 2816) :
    val_main_v75 (F := Ideal) (up X) (up1 G) (up WA) (up WD) (up D) (ix2 s f) = ((dus X D G WA WD s f : ℝ) : EReal) := by
  rw [← v24_at, val_main_v75, trunc_id, val_main_v70, silu2_eq, v69_eq]
  rfl

theorem v78_at (s : Fin 8192) (f : Fin 2816) :
    val_main_v78 (F := Ideal) (up X) (up1 G) (up WA) (up WB) (ix2 s f) = ((act (pre X G WA s f) (pre X G WB s f) : ℝ) : EReal) := by
  rw [val_main_v78, trunc_id, val_main_v77, silu4_eq, v65_eq]
  show val_main_v17_0 (F := Ideal) (up X) (up1 G) (up WA) (ix2 s f) * val_main_v18 (F := Ideal) (up X) (up1 G) (up WB) (ix2 s f) = _
  rw [silu_at, v18_at, ← EReal.coe_mul, act]

theorem v79_at (s : Fin 8192) (d : Fin 1024) :
    val_main_v79 (F := Ideal) (up X) (up1 G) (ix2 s d) = ((nrm (X s) G d : ℝ) : EReal) := by
  rw [val_main_v79, trunc_id, v63_eq, v15_at]

end Cert.Fdx

end
-- ==== Proof.FdxBlk.lean ====
/- What the blocks of each point of the feed-forward block's backward grid hold, over the reals, and what the call prepares outside it. -/
module

public import proofs.«01_k».proof.Proof.FdxPt
public import proofs.«01_k».proof.Proof.FdxRef

@[expose] public section

set_option maxRecDepth 16384

noncomputable section

namespace Cert.Fdx

open Cert.Kernel2Ideal Cert.Kernel2Ideal.Gen
open Idealize.ShloMosaic Idealize.ShloMosaic.TcCoe Idealize.SL.Sem Cert.RealLift Cert.Ffn
open Cert.Xattn (up up1 nrm back drow)

variable (m : (ℓ : Loc nD τ sig) → Buf (Elt Ideal) ℓ)

abbrev X0 (c : Dev nD) : FVec Ideal S8192x1024 .f32 := m ((c.tc : Thread nD τ).loc main_arg0)
abbrev X1 (c : Dev nD) : FVec Ideal S1024 .f32 := m ((c.tc : Thread nD τ).loc main_arg1)
abbrev X2 (c : Dev nD) : FVec Ideal S1024x2816 .f32 := m ((c.tc : Thread nD τ).loc main_arg2)
abbrev X3 (c : Dev nD) : FVec Ideal S1024x2816 .f32 := m ((c.tc : Thread nD τ).loc main_arg3)
abbrev X4 (c : Dev nD) : FVec Ideal S2816x1024 .f32 := m ((c.tc : Thread nD τ).loc main_arg4)
abbrev X5 (c : Dev nD) : FVec Ideal S8192x1024 .f32 := m ((c.tc : Thread nD τ).loc main_arg5)

theorem idx : ∀ t : Fin cfg0.N, win0_0.index t = ![(t : ℕ), 0] ∧ win0_1.index t = ![(t : ℕ), 0] ∧ win0_2.index t = ![(t : ℕ), 0]
    ∧ win0_3.index t = ![(t : ℕ), 0] ∧ win0_4.index t = ![0, 0] ∧ win0_5.index t = ![0, 0] ∧ win0_6.index t = ![0, 0]
    ∧ win0_7.index t = ![0, 0] ∧ win0_8.index t = ![(t : ℕ), 0] ∧ win0_10.index t = ![(t : ℕ), 0] ∧ win0_11.index t = ![(t : ℕ), 0]
    ∧ win0_12.index t = ![(t : ℕ), 0] ∧ win0_13.index t = ![(t : ℕ), 0] :=
  (by decide +kernel : ∀ t : Fin grid0.N, _)

/-- The reciprocal root of the mean squares and the normalised rows, as computed outside the grid. -/
def hostInv (x : FVec Ideal S8192x1024 .f32) : FVec Ideal S8192x1 .f32 :=
  Host.rsqrt (addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))

def hostNorm (x : FVec Ideal S8192x1024 .f32) (g : FVec Ideal S1024 .f32) : FVec Ideal S8192x1024 .f32 :=
  mulf (mulf x (broadcastInDim S8192x1024 ![0, 1] bcast_S8192x1_S8192x1024_0_1 (hostInv x)))
    (broadcastInDim S8192x1024 ![0, 1] bcast_S1x1024_S8192x1024_0_1 (shapeCast S1x1024 g shapeCasts_S1024_S1x1024))

/-- A weight in four parts and back, and the normalised rows times it. -/
def whole (w : FVec Ideal S2816x1024 .f32) : FVec Ideal S2816x1024 .bf16 :=
  shapeCast S2816x1024 (shapeCast S4x704x1024 (truncf (F := Ideal) .bf16 w bitsLt_bf16_f32) shapeCasts_S2816x1024_S4x704x1024)
    shapeCasts_S4x704x1024_S2816x1024

def cols (w : FVec Ideal S1024x2816 .f32) : FVec Ideal S2816x1024 .bf16 :=
  whole (transpose S2816x1024 [1, 0] w transposes_S1024x2816_S2816x1024_1_0)

def hostPre (x : FVec Ideal S8192x1024 .f32) (g : FVec Ideal S1024 .f32) (w : FVec Ideal S1024x2816 .f32) : FVec Ideal S8192x2816 .bf16 :=
  truncf (F := Ideal) .bf16 (Host.dotGeneral (φ₁ := .bf16) (φ₂ := .bf16) dot_S8192x1024_S2816x1024_S8192x2816_1_1_0_0_n_n none
    (truncf (F := Ideal) .bf16 (hostNorm x g) bitsLt_bf16_f32) (cols w)) bitsLt_bf16_f32

theorem gate_eq (c : Dev nD) : V m c main_v24 = hostPre (X0 m c) (X1 m c) (X2 m c) := by
  unfold V
  after_results
  rfl

theorem gated_eq (c : Dev nD) : V m c main_v27 = hostPre (X0 m c) (X1 m c) (X3 m c) := by
  unfold V
  after_results
  rfl

section
variable (H : Fin 8192 → Fin 1024 → ℝ) (G : Fin 1024 → ℝ) (W : Fin 1024 → Fin 2816 → ℝ) (WD : Fin 2816 → Fin 1024 → ℝ)

theorem hostInv_at (s : Fin 8192) (z : Fin 1) : hostInv (up H) (ix2 s z) = ((Cert.Xattn.inv (H s) : ℝ) : EReal) := by
  rw [Cert.Xattn.inv, ← coe_rinv (by norm_num) rmsEps_pos, ← coe_meanSq (by norm_num)]
  pointwise [hostInv]
  rw [ofBits_1024, ofBits_rmsEps]
  rfl

theorem hostNorm_up : hostNorm (up H) (up1 G) = up fun s => nrm (H s) G := by
  funext i
  idx_vars i
  pointwise [hostNorm]
  rw [hostInv_at]
  simp only [at2, up1, nrm, EReal.coe_mul]
  rfl

theorem whole_up : whole (up WD) = up WD := by
  rw [whole, shapeCast_shapeCast]
  rfl

theorem cols_up : cols (up W) = up (tr W) := by
  have e : (transpose S2816x1024 [1, 0] (up W) transposes_S1024x2816_S2816x1024_1_0 : FVec Ideal S2816x1024 .f32) = up (tr W) := by
    funext i
    idx_vars i
    pointwise [up, tr]
  rw [cols, e, whole_up]

theorem hostPre_up : hostPre (up H) (up1 G) (up W) = up (pre H G W) := by
  rw [hostPre, hostNorm_up, cols_up]
  funext i
  idx_vars i
  pointwise []
  simp only [at2, pre, fwd, coe_sum, EReal.coe_mul]
end

/-- The arguments are the images of real arrays. -/
structure Args (c : Dev nD) (X D : Fin 8192 → Fin 1024 → ℝ) (G : Fin 1024 → ℝ) (WA WB : Fin 1024 → Fin 2816 → ℝ)
    (WD : Fin 2816 → Fin 1024 → ℝ) : Prop where
  h : X0 m c = up X
  g : X1 m c = up1 G
  wa : X2 m c = up WA
  wb : X3 m c = up WB
  wd : X4 m c = up WD
  dh : X5 m c = up D

/-- A row of one point of the grid among all rows, and a point's rows. -/
def at' (t : Fin cfg0.N) (p : Fin 256) : Fin 8192 := ⟨(t : ℕ) * 256 + p, by have := t.isLt; have e : cfg0.N = 32 := N_0; omega⟩
abbrev rows {n : ℕ} (f : Fin 8192 → Fin n → ℝ) (t : Fin cfg0.N) : Fin 256 → Fin n → ℝ := fun p => f (at' t p)

section
variable {m} {c : Dev nD} {X D : Fin 8192 → Fin 1024 → ℝ} {G : Fin 1024 → ℝ} {WA WB : Fin 1024 → Fin 2816 → ℝ} {WD : Fin 2816 → Fin 1024 → ℝ}
    (A : Args m c X D G WA WB WD) (t : Fin cfg0.N)
include A

theorem b0 : (iblk m c 0 t : FVec Ideal S256x1024 .f32) = up (rows X t) := by
  have e : (up (rows X t) : FVec Ideal S256x1024 .f32) = fun i => X0 m c (ix2 (at' t (i 0)) (i 1)) := by
    rw [A.h]; rfl
  rw [e]
  funext j
  blk_ext [iblk, Gen.V, idx t, at']

theorem b1 : (iblk m c 1 t : FVec Ideal S256x1024 .f32) = up (rows D t) := by
  have e : (up (rows D t) : FVec Ideal S256x1024 .f32) = fun i => X5 m c (ix2 (at' t (i 0)) (i 1)) := by
    rw [A.dh]; rfl
  rw [e]
  funext j
  blk_ext [iblk, Gen.V, idx t, at']

theorem b2 : (iblk m c 2 t : FVec Ideal S256x2816 .bf16) = up (rows (pre X G WA) t) := by
  have e : (up (rows (pre X G WA) t) : FVec Ideal S256x2816 .bf16) = fun i => Gen.V m c main_v24 (ix2 (at' t (i 0)) (i 1)) := by
    rw [gate_eq, A.h, A.g, A.wa, hostPre_up]; rfl
  rw [e]
  funext j
  blk_ext [iblk, idx t, at']

theorem b3 : (iblk m c 3 t : FVec Ideal S256x2816 .bf16) = up (rows (pre X G WB) t) := by
  have e : (up (rows (pre X G WB) t) : FVec Ideal S256x2816 .bf16) = fun i => Gen.V m c main_v27 (ix2 (at' t (i 0)) (i 1)) := by
    rw [gated_eq, A.h, A.g, A.wb, hostPre_up]; rfl
  rw [e]
  funext j
  blk_ext [iblk, idx t, at']

theorem b4 : (iblk m c 4 t : FVec Ideal S1x1024 .f32) = up fun _ : Fin 1 => G := by
  have e : Gen.V m c main_v0 = shapeCast S1x1024 (X1 m c) shapeCasts_S1024_S1x1024 := by unfold Gen.V; after_results; rfl
  have e' : (up fun _ : Fin 1 => G : FVec Ideal S1x1024 .f32) = Gen.V m c main_v0 := by
    rw [e, A.g]
    funext i
    idx_vars i
    pointwise [up, up1]
  rw [e']
  funext j
  blk_ext [iblk, idx t]

theorem b5 : (iblk m c 5 t : FVec Ideal S2816x1024 .bf16) = up (tr WA) := by
  have e : Gen.V m c main_v28 = cols (X2 m c) := by unfold Gen.V; after_results; rfl
  rw [← cols_up, ← A.wa, ← e]
  funext j
  blk_ext [iblk, idx t]

theorem b6 : (iblk m c 6 t : FVec Ideal S2816x1024 .bf16) = up (tr WB) := by
  have e : Gen.V m c main_v29 = cols (X3 m c) := by unfold Gen.V; after_results; rfl
  rw [← cols_up, ← A.wb, ← e]
  funext j
  blk_ext [iblk, idx t]

theorem b7 : (iblk m c 7 t : FVec Ideal S2816x1024 .bf16) = up WD := by
  have e : Gen.V m c main_v30 = whole (X4 m c) := by unfold Gen.V; after_results; rfl
  rw [← whole_up, ← A.wd, ← e]
  funext j
  blk_ext [iblk, idx t]

/-- The blocks of a point. -/
theorem blks : Blks m c t (rows X t) (rows D t) (rows (pre X G WA) t) (rows (pre X G WB) t) G (tr WA) (tr WB) WD :=
  ⟨b0 A t, b1 A t, b2 A t, b3 A t, b4 A t, b5 A t, b6 A t, b7 A t⟩
end

end Cert.Fdx

end
-- ==== Proof.Fdx.lean ====
/- The value of the feed-forward block's backward call: the blocks written at the points of the grid are the rows of the gradient, and
the row carried over the grid holds the sum over all rows. -/
module

public import proofs.«01_k».proof.Proof.FdxBlk

@[expose] public section

set_option maxRecDepth 16384

noncomputable section

namespace Cert.Fdx

open Cert.Kernel2Ideal Cert.Kernel2Ideal.Gen
open Idealize.ShloMosaic Idealize.ShloMosaic.TcCoe Idealize.SL.Sem Cert.RealLift Cert.Ffn
open Cert.Xattn (up up1 nrm back drow)

/-- The points' rows are all the rows. -/
theorem all_rows (F : Fin 8192 → ℝ) : ∑ t : Fin cfg0.N, ∑ p : Fin 256, F (at' t p) = ∑ s, F s :=
  Fin.sum_mul_add_congr (fun _ _ _ => rfl) (by rw [show cfg0.N = 32 from N_0])

/-- The last point. -/
def tl : Fin cfg0.N := ⟨31, by rw [show cfg0.N = 32 from N_0]; decide⟩

theorem zero6 (i) : k0_pay6 (F := Ideal) i = 0 := by idx_vars i; pointwise [k0_pay6]

section
variable {m : (ℓ : Loc nD τ sig) → Buf (Elt Ideal) ℓ} {c : Dev nD} {X D : Fin 8192 → Fin 1024 → ℝ} {G : Fin 1024 → ℝ}
    {WA WB : Fin 1024 → Fin 2816 → ℝ} {WD : Fin 2816 → Fin 1024 → ℝ} (A : Args m c X D G WA WB WD)
include A

theorem first_point (t : Fin cfg0.N) (h : t.val % 32 = 0) :
    Grows (rows X t) (rows D t) (rows (pre X G WA) t) (rows (pre X G WB) t) G (tr WA) (tr WB) WD (outsAt0 m c t.val t.isLt) k0_pay6 :=
  (grows_all (blks A t)).1 h
theorem later_point (t : Fin cfg0.N) (h : ¬ t.val % 32 = 0) :
    Grows (rows X t) (rows D t) (rows (pre X G WA) t) (rows (pre X G WB) t) G (tr WA) (tr WB) WD (outsAt0 m c t.val t.isLt)
      (outsAt0 m c (t.val - 1) (Nat.lt_of_le_of_lt (Nat.sub_le _ _) t.isLt)).2.1 :=
  (grows_all (blks A t)).2 h

/-- What a point writes, whichever it is. -/
theorem point (t : Fin cfg0.N) :
    ∃ dg, Grows (rows X t) (rows D t) (rows (pre X G WA) t) (rows (pre X G WB) t) G (tr WA) (tr WB) WD (outsAt0 m c t.val t.isLt) dg := by
  by_cases h : t.val % 32 = 0
  · exact ⟨_, first_point A t h⟩
  · exact ⟨_, later_point A t h⟩

theorem dg_last : (outsAt0 m c tl.val tl.isLt).2.1
    = up fun (_ : Fin 1) d => ∑ s, dns X D G WA WB WD s d * (X s d * Cert.Xattn.inv (X s)) := by
  funext i
  rw [Pipeline.eq_sum_fin_of_reset_step_apply_last (fun n h => (outsAt0 m c n h).2.1) 32 (fun _ => (0 : EReal))
    (fun t => up fun (_ : Fin 1) d => ∑ p, dns X D G WA WB WD (at' t p) d * (X (at' t p) d * Cert.Xattn.inv (X (at' t p))))
    (fun t h i => by rw [(first_point A t h).2.1, addf]; show k0_pay6 (F := Ideal) i + _ = _; rw [zero6]; rfl)
    (fun t h i => by rw [(later_point A t h).2.1]; rfl) (le_of_eq N_0) tl rfl i, zero_add]
  refine (coe_sum _ _).symm.trans (congrArg (fun r : ℝ => (r : EReal)) ?_)
  exact all_rows fun s => dns X D G WA WB WD s (i 1) * (X s (i 1) * Cert.Xattn.inv (X s))

/-! ## The arrays the call returns -/

open Cert.Reference2Ideal.Read

theorem res_rows : (dats m 0 c).arrAt 8 cfg0.N
    = val_main_v50 (F := Ideal) (up X) (up1 G) (up WA) (up WB) (up WD) (up D) := by
  refine (dats m 0 c).arrAt_eq_of_covers 8 _ (by decide +kernel) fun t hf y => ?_
  blk_simp
  obtain ⟨dg, h⟩ := point A t
  rw [after0_8, h.1]
  obtain ⟨y0, y1, rfl⟩ : ∃ (a : Fin 256) (b : Fin 1024), y = ix2 a b := ⟨y 0, y 1, (ix2_eta y).symm⟩
  refine (v50_at X D G WA WB WD (at' t y0) y1).symm.trans ?_
  blk_ext [idx t, at']

theorem res_g : (dats m 0 c).arrAt 9 cfg0.N
    = val_main_v73 (F := Ideal) (up X) (up1 G) (up WA) (up WB) (up WD) (up D) := by
  refine (dats m 0 c).arrAt_eq_of_after_last 9 tl (by decide +kernel) _ fun j => ?_
  blk_simp
  rw [after0_9, dg_last A]
  idx_vars j
  exact (v73_at X D G WA WB WD _ _).symm

theorem res_gate : (dats m 0 c).arrAt 10 cfg0.N
    = val_main_v74 (F := Ideal) (up X) (up1 G) (up WA) (up WB) (up WD) (up D) := by
  refine (dats m 0 c).arrAt_eq_of_covers 10 _ (by decide +kernel) fun t hf y => ?_
  blk_simp
  obtain ⟨dg, h⟩ := point A t
  rw [after0_10, h.2.2.1]
  obtain ⟨y0, y1, rfl⟩ : ∃ (a : Fin 256) (b : Fin 2816), y = ix2 a b := ⟨y 0, y 1, (ix2_eta y).symm⟩
  refine (v74_at X D G WA WB WD (at' t y0) y1).symm.trans ?_
  blk_ext [idx t, at']

theorem res_gated : (dats m 0 c).arrAt 11 cfg0.N
    = val_main_v75 (F := Ideal) (up X) (up1 G) (up WA) (up WD) (up D) := by
  refine (dats m 0 c).arrAt_eq_of_covers 11 _ (by decide +kernel) fun t hf y => ?_
  blk_simp
  obtain ⟨dg, h⟩ := point A t
  rw [after0_11, h.2.2.2.1]
  obtain ⟨y0, y1, rfl⟩ : ∃ (a : Fin 256) (b : Fin 2816), y = ix2 a b := ⟨y 0, y 1, (ix2_eta y).symm⟩
  refine (v75_at X D G WA WD (at' t y0) y1).symm.trans ?_
  blk_ext [idx t, at']

theorem res_act : (dats m 0 c).arrAt 12 cfg0.N
    = val_main_v78 (F := Ideal) (up X) (up1 G) (up WA) (up WB) := by
  refine (dats m 0 c).arrAt_eq_of_covers 12 _ (by decide +kernel) fun t hf y => ?_
  blk_simp
  obtain ⟨dg, h⟩ := point A t
  rw [after0_12, h.2.2.2.2.1]
  obtain ⟨y0, y1, rfl⟩ : ∃ (a : Fin 256) (b : Fin 2816), y = ix2 a b := ⟨y 0, y 1, (ix2_eta y).symm⟩
  refine (v78_at X G WA WB (at' t y0) y1).symm.trans ?_
  blk_ext [idx t, at']

theorem res_n : (dats m 0 c).arrAt 13 cfg0.N = val_main_v79 (F := Ideal) (up X) (up1 G) := by
  refine (dats m 0 c).arrAt_eq_of_covers 13 _ (by decide +kernel) fun t hf y => ?_
  blk_simp
  obtain ⟨dg, h⟩ := point A t
  rw [after0_13, h.2.2.2.2.2]
  obtain ⟨y0, y1, rfl⟩ : ∃ (a : Fin 256) (b : Fin 1024), y = ix2 a b := ⟨y 0, y 1, (ix2_eta y).symm⟩
  refine (v79_at X G (at' t y0) y1).symm.trans ?_
  blk_ext [idx t, at']
end

end Cert.Fdx

end
-- ==== Proof.XattnPay.lean ====
/- What one point of the call's grid computes from its blocks, over the reals: the payloads of the four heads, the
strips they store side by side, and the gradient past the norm. -/
module

public import proofs.«01_k».proof.Proof.XattnReal
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Xattn

open Cert.Kernel5Ideal Cert.Kernel5Ideal.Gen
open Idealize.ShloMosaic Idealize.ShloMosaic.TcCoe Idealize.SL.Sem Cert.RealLift

/-! ## Products, slices and the softmax of images of real blocks -/

theorem up_at {a b : ℕ} (H : Fin a → Fin b → ℝ) (i : Fin a) (j : Fin b) : up H (ix2 i j) = ((H i j : ℝ) : EReal) := rfl

section
variable (A : Fin 512 → Fin 256 → ℝ) (B : Fin 256 → Fin 256 → ℝ)

theorem mul_t : (matmul (φ₁ := .bf16) (φ₂ := .bf16) dot_S512x256_S256x256_S512x256_1_1_0_0_n_n none (up A : FVec Ideal S512x256 .bf16) (up B : FVec Ideal S256x256 .bf16)
    (constant S512x256 .f32 0x00000000#32) : FVec Ideal S512x256 .f32) = up fun p j => ∑ d, A p d * B j d := by
  funext i
  idx_vars i
  pointwise []
  simp only [up_at, coe_sum, EReal.coe_mul]

theorem mul_n : (matmul (φ₁ := .bf16) (φ₂ := .bf16) dot_S512x256_S256x256_S512x256_1_0_0_1_n_n none (up A : FVec Ideal S512x256 .bf16) (up B : FVec Ideal S256x256 .bf16)
    (constant S512x256 .f32 0x00000000#32) : FVec Ideal S512x256 .f32) = up fun p d => ∑ j, A p j * B j d := by
  funext i
  idx_vars i
  pointwise []
  simp only [up_at, coe_sum, EReal.coe_mul]

theorem mul_rows (C : Fin 512 → Fin 256 → ℝ) : (matmul (φ₁ := .bf16) (φ₂ := .bf16) dot_S512x256_S512x256_S256x256_0_0_1_1_n_n none (up A : FVec Ideal S512x256 .bf16)
    (up C : FVec Ideal S512x256 .bf16) (constant S256x256 .f32 0x00000000#32) : FVec Ideal S256x256 .f32)
      = up fun j d => ∑ p, A p j * C p d := by
  funext i
  idx_vars i
  pointwise []
  simp only [up_at, coe_sum, EReal.coe_mul]

/-- The softmax of scaled scores. -/
theorem soft_up : k0_pay27 (F := Ideal) (up A) = up fun p j => soft (fun j => A p j * (1 / 16)) j := by
  funext i
  idx_vars i
  pointwise [k0_pay27]
  rw [ofBits_sixteenth, ofBits_bot]
  simp only [up_at, ← EReal.coe_mul]
  obtain ⟨M, hM⟩ := fold_max_coe (by norm_num) fun x => A i0 x * (1 / 16)
  rw [hM]
  simp only [← EReal.coe_sub, Ideal.exp_coe]
  rw [← coe_sum, div_coe (sum_exp_pos (by norm_num) _).ne']
  exact congrArg _ (soft_shift (fun j => A i0 j * (1 / 16)) M i1)

/-- The softmax's gradient. -/
theorem dsoft_up (D : Fin 512 → Fin 256 → ℝ) :
    k0_pay44 (F := Ideal) (up A) (up D) (mulf (up D : FVec Ideal S512x256 .f32) (up A : FVec Ideal S512x256 .f32))
      = up fun p j => A p j * (D p j - ∑ l, D p l * A p l) * (1 / 16) := by
  funext i
  idx_vars i
  pointwise [k0_pay44]
  rw [ofBits_sixteenth]
  simp only [up_at, coe_sum, EReal.coe_mul, EReal.coe_sub]
end

theorem slice_up (q : Fin 512 → Fin 1024 → ℝ) (o : ℕ) (a : Fin 4) (e : o = a * 256) (h) :
    (extractStridedSlice S512x256 ![0, o] (up q : FVec Ideal S512x1024 .bf16) h : FVec Ideal S512x256 .bf16)
      = up fun p d => q p (col a d) := by
  subst e
  funext i
  idx_vars i
  pointwise []
  rfl

theorem ld_up (K : Fin 256 → Fin 1024 → ℝ) (o : ℕ) (a : Fin 4) (e : o = a * 256) (h) :
    (View.ld (Val := Elt Ideal) (e' := .bf16) (up K) (Rect.unit (s := S256x1024) ![0, o] ![256, 256] h) : FVec Ideal S256x256 .bf16) = up fun j d => K j (col a d) := by
  subst e
  funext i
  idx_vars i
  pointwise []
  rfl

theorem up_col {n : ℕ} (f : Fin n → Fin 1024 → ℝ) (a : Fin 4) {x : (⟨2, ![n, 256]⟩ : Shape).Idx} {y : (⟨2, ![n, 1024]⟩ : Shape).Idx}
    (h0 : (y 0 : ℕ) = x 0) (h1 : (y 1 : ℕ) = (a : ℕ) * 256 + x 1) : up (fun p d => f p (col a d)) x = up f y :=
  congrArg (fun r : ℝ => (r : EReal)) (congr (congrArg f (Fin.ext h0.symm)) (Fin.ext h1.symm))

/-- The four strips a point stores side by side. -/
theorem strips (f : Fin 512 → Fin 1024 → ℝ) :
    View.canon (Val := Elt Ideal) (s := S512x1024) (e := .bf16)
      [⟨Rect.unit ![0, 768] ![512, 256] inb_S512x1024_S512x256_0_768, up fun p d => f p (col 3 d)⟩,
       ⟨Rect.unit ![0, 512] ![512, 256] inb_S512x1024_S512x256_0_512, up fun p d => f p (col 2 d)⟩,
       ⟨Rect.unit ![0, 256] ![512, 256] inb_S512x1024_S512x256_0_256, up fun p d => f p (col 1 d)⟩,
       ⟨Rect.unit ![0, 0] ![512, 256] inb_S512x1024_S512x256_0_0, up fun p d => f p (col 0 d)⟩] = up f := by
  funext y
  canon_tiles x hx
  · exact up_col f 3 hx0 (by rw [hx1]; rfl)
  · exact up_col f 2 hx0 (by rw [hx1]; rfl)
  · exact up_col f 1 hx0 (by rw [hx1]; rfl)
  · exact up_col f 0 hx0 (by rw [hx1]; simp)

theorem stage {κ : Kind} {sp : Space} (v : View sig κ sp S512x1024 .bf16) (f : Fin 512 → Fin 1024 → ℝ) :
    v.readCov (Val := Elt Ideal)
      [⟨Rect.unit ![0, 768] ![512, 256] inb_S512x1024_S512x256_0_768, up fun p d => f p (col 3 d)⟩,
       ⟨Rect.unit ![0, 512] ![512, 256] inb_S512x1024_S512x256_0_512, up fun p d => f p (col 2 d)⟩,
       ⟨Rect.unit ![0, 256] ![512, 256] inb_S512x1024_S512x256_0_256, up fun p d => f p (col 1 d)⟩,
       ⟨Rect.unit ![0, 0] ![512, 256] inb_S512x1024_S512x256_0_0, up fun p d => f p (col 0 d)⟩]
      (Rect.unit (s := S512x1024) ![0, 0] ![512, 1024] inb_S512x1024_S512x1024_0_0).toLoadRect = up f := by
  rw [View.readCov_eq_canon', strips]
  exact View.ld_unit_zero (Val := Elt Ideal) (e := .bf16) (S := S512x1024) (off := ![0, 0]) (by funext a; fin_cases a <;> rfl) _ (up f)

theorem ld_at (X : FVec Ideal S256x1024 .f32) (n : ℕ) (h) {x : (⟨2, ![256, 256]⟩ : Shape).Idx} {y : S256x1024.Idx}
    (h0 : (y 0 : ℕ) = x 0) (h1 : (y 1 : ℕ) = n + x 1) :
    View.ld (Val := Elt Ideal) (e' := .f32) X (Rect.unit (s := S256x1024) ![0, n] ![256, 256] h) x = X y := by
  idx_vars x
  idx_vars y
  have h0 := (Fin.ext h0 : _ = _)
  subst h0
  pointwise []
  congr 2
  exact Fin.ext h1.symm

/-- The four strips of an accumulator, each the strip before plus an image of a real strip. -/
theorem grown (X : FVec Ideal S256x1024 .f32) (f : Fin 256 → Fin 1024 → ℝ) :
    View.canon (Val := Elt Ideal) (s := S256x1024) (e := .f32)
      [⟨Rect.unit ![0, 768] ![256, 256] inb_S256x1024_S256x256_0_768,
          addf (F := Ideal) (s := S256x256) (φ := .f32) (View.ld (Val := Elt Ideal) (e' := .f32) X (Rect.unit (s := S256x1024) ![0, 768] ![256, 256] inb_S256x1024_S256x256_0_768)) (up fun p d => f p (col 3 d))⟩,
       ⟨Rect.unit ![0, 512] ![256, 256] inb_S256x1024_S256x256_0_512,
          addf (F := Ideal) (s := S256x256) (φ := .f32) (View.ld (Val := Elt Ideal) (e' := .f32) X (Rect.unit (s := S256x1024) ![0, 512] ![256, 256] inb_S256x1024_S256x256_0_512)) (up fun p d => f p (col 2 d))⟩,
       ⟨Rect.unit ![0, 256] ![256, 256] inb_S256x1024_S256x256_0_256,
          addf (F := Ideal) (s := S256x256) (φ := .f32) (View.ld (Val := Elt Ideal) (e' := .f32) X (Rect.unit (s := S256x1024) ![0, 256] ![256, 256] inb_S256x1024_S256x256_0_256)) (up fun p d => f p (col 1 d))⟩,
       ⟨Rect.unit ![0, 0] ![256, 256] inb_S256x1024_S256x256_0_0,
          addf (F := Ideal) (s := S256x256) (φ := .f32) (View.ld (Val := Elt Ideal) (e' := .f32) X (Rect.unit (s := S256x1024) ![0, 0] ![256, 256] inb_S256x1024_S256x256_0_0)) (up fun p d => f p (col 0 d))⟩]
      = addf X (up f) := by
  funext y
  canon_tiles x hx
  · refine congr (congrArg (fun u v : EReal => u + v) ?_) (up_col f 3 hx0 (by rw [hx1]; rfl))
    exact ld_at X _ _ hx0 hx1
  · refine congr (congrArg (fun u v : EReal => u + v) ?_) (up_col f 2 hx0 (by rw [hx1]; rfl))
    exact ld_at X _ _ hx0 hx1
  · refine congr (congrArg (fun u v : EReal => u + v) ?_) (up_col f 1 hx0 (by rw [hx1]; rfl))
    exact ld_at X _ _ hx0 hx1
  · refine congr (congrArg (fun u v : EReal => u + v) ?_) (up_col f 0 hx0 (by rw [hx1]; simp))
    exact ld_at X _ _ hx0 (by omega)

/-! ## The payloads that only pass a block on -/

theorem pass9 (x) : k0_pay9 (F := Ideal) x = x := shapeCast_self _ _
theorem pass10 (x : Vec Ideal S512x1024 .f32) : k0_pay10 (F := Ideal) x = x := rfl
theorem pass11 (x) : k0_pay11 (F := Ideal) x = x := shapeCast_self _ _
theorem pass13 (x) : k0_pay13 (F := Ideal) x = x := shapeCast_self _ _
theorem pass14 (x) : k0_pay14 (F := Ideal) x = x := shapeCast_self _ _
theorem pass18 (x) : k0_pay18 (F := Ideal) x = x := shapeCast_self _ _
theorem pass24 (x) : k0_pay24 (F := Ideal) x = x := shapeCast_self _ _
theorem pass25 (x) : k0_pay25 (F := Ideal) x = x := shapeCast_self _ _
theorem pass35 (x) : k0_pay35 (F := Ideal) x = x := shapeCast_self _ _
theorem pass36 (x) : k0_pay36 (F := Ideal) x = x := shapeCast_self _ _
theorem pass47 (x) : k0_pay47 (F := Ideal) x = x := shapeCast_self _ _
theorem pass48 (x) : k0_pay48 (F := Ideal) x = x := shapeCast_self _ _
theorem pass52 (x) : k0_pay52 (F := Ideal) x = x := shapeCast_self _ _

theorem trunc_id {s : Shape} (x : FVec Ideal s .f32) (h) : truncf (F := Ideal) .bf16 x h = x := rfl

/-! ## The four heads -/

theorem hd_col (a : Fin 4) (d : Fin 256) : hd (col a d) = a := Fin.ext (by simp only [hd, col]; omega)
theorem ps_col (a : Fin 4) (d : Fin 256) : ps (col a d) = d := Fin.ext (by simp only [ps, col]; omega)

section
variable (q o : Fin 512 → Fin 1024 → ℝ) (K V : Fin 256 → Fin 1024 → ℝ)

/-- The weights, the score's gradient, and the strips of the attended rows, of the query's gradient and of the keys'
and values' gradients, of one head. -/
abbrev Pr (a : Fin 4) : Fin 512 → Fin 256 → ℝ := fun p j => prob (q p) K a j
abbrev Ds (a : Fin 4) : Fin 512 → Fin 256 → ℝ := fun p j => dscore (q p) (o p) K V a j
abbrev St (a : Fin 4) : Fin 256 → Fin 256 → ℝ := fun j d => K j (col a d)
def dkS (j : Fin 256) (e : Fin 1024) : ℝ := ∑ p, dscore (q p) (o p) K V (hd e) j * q p (col (hd e) (ps e))
def dvS (j : Fin 256) (e : Fin 1024) : ℝ := ∑ p, prob (q p) K (hd e) j * o p (col (hd e) (ps e))

theorem prob0 : k0_pay15 (F := Ideal) (up q) (up (St K 0)) = up (Pr q K 0) := by
  rw [k0_pay15, pass11, pass13, slice_up q 0 0 rfl, mul_t]
  exact soft_up _

theorem score1 : k0_pay26 (F := Ideal) (up q) (up (St K 1)) = up fun p j => ∑ d, q p (col 1 d) * K j (col 1 d) := by
  rw [k0_pay26, pass24, slice_up q 256 1 rfl, mul_t]

theorem prob1 : k0_pay27 (F := Ideal) (k0_pay26 (up q) (up (St K 1))) = up (Pr q K 1) := by
  rw [score1, soft_up]
  rfl

theorem prob2 : k0_pay37 (F := Ideal) (up q) (up (St K 2)) = up (Pr q K 2) := by
  rw [k0_pay37, pass35, slice_up q 512 2 rfl, mul_t]
  exact soft_up _

theorem prob3 : k0_pay49 (F := Ideal) (up q) (up (St K 3)) = up (Pr q K 3) := by
  rw [k0_pay49, pass47, slice_up q 768 3 rfl, mul_t]
  exact soft_up _

/-- The weights against the values: one head's strip of the attended rows. -/
theorem att_strip (a : Fin 4) : (matmul (φ₁ := .bf16) (φ₂ := .bf16) dot_S512x256_S256x256_S512x256_1_0_0_1_n_n none (up (Pr q K a)) (up (St V a))
    (constant S512x256 .f32 0x00000000#32) : FVec Ideal S512x256 .f32) = up fun p d => att (q p) K V (col a d) := by
  rw [mul_n]
  simp only [att, hd_col, ps_col]

theorem att0 : k0_pay18 (F := Ideal) (k0_pay17 (up q) (up (St K 0)) (up (St V 0))) = up fun p d => att (q p) K V (col 0 d) := by
  rw [pass18, k0_pay17, k0_pay16, pass14, prob0, trunc_id, trunc_id, att_strip]

theorem att1 : k0_pay29 (F := Ideal) (k0_pay25 (up (St V 1))) (k0_pay26 (up q) (up (St K 1))) = up fun p d => att (q p) K V (col 1 d) := by
  rw [k0_pay29, shapeCast_self, k0_pay28, pass25, prob1, trunc_id, trunc_id, att_strip]

theorem att2 : k0_pay39 (F := Ideal) (up q) (up (St K 2)) (up (St V 2)) = up fun p d => att (q p) K V (col 2 d) := by
  rw [k0_pay39, shapeCast_self, k0_pay38, pass36, prob2, trunc_id, trunc_id, att_strip]

theorem att3 : k0_pay52 (F := Ideal) (k0_pay51 (up q) (up (St K 3)) (up (St V 3))) = up fun p d => att (q p) K V (col 3 d) := by
  rw [pass52, k0_pay51, k0_pay50, pass48, prob3, trunc_id, trunc_id, att_strip]

/-- The gradient at the weights. -/
theorem dprob_strip (a : Fin 4) (n : ℕ) (e : n = a * 256) (h) : (matmul (φ₁ := .bf16) (φ₂ := .bf16) dot_S512x256_S256x256_S512x256_1_1_0_0_n_n none
    (extractStridedSlice S512x256 ![0, n] (up o) h) (up (St V a)) (constant S512x256 .f32 0x00000000#32) : FVec Ideal S512x256 .f32)
      = up fun p j => dprob (o p) V a j := by
  rw [slice_up o n a e, mul_t]
  rfl

theorem ds0 : k0_pay21 (F := Ideal) (up o) (up (St V 0)) (up (Pr q K 0)) = up (Ds q o K V 0) := by
  rw [k0_pay21, k0_pay19, dprob_strip o V 0 0 rfl]
  exact dsoft_up (Pr q K 0) _

theorem ds1 : k0_pay32 (F := Ideal) (up o) (up (St V 1)) (k0_pay26 (up q) (up (St K 1))) = up (Ds q o K V 1) := by
  rw [k0_pay32, k0_pay30, dprob_strip o V 1 256 rfl, prob1]
  exact dsoft_up (Pr q K 1) _

theorem dp2 : k0_pay41 (F := Ideal) (up o) (up (St V 2)) = up fun p j => dprob (o p) V 2 j := by
  rw [k0_pay41, k0_pay40, pass36, dprob_strip o V 2 512 rfl]

theorem ds2 : k0_pay44 (F := Ideal) (k0_pay37 (up q) (up (St K 2))) (k0_pay41 (up o) (up (St V 2)))
    (k0_pay43 (up q) (up o) (up (St K 2)) (up (St V 2))) = up (Ds q o K V 2) := by
  rw [k0_pay43, prob2, dp2]
  exact dsoft_up (Pr q K 2) (fun p j => dprob (o p) V 2 j)

theorem ds3 : k0_pay55 (F := Ideal) (up o) (up (St V 3)) (up (Pr q K 3)) = up (Ds q o K V 3) := by
  rw [k0_pay55, k0_pay53, dprob_strip o V 3 768 rfl]
  exact dsoft_up (Pr q K 3) _

/-- The query's gradient, a head's strip. -/
theorem dq_strip (a : Fin 4) : (matmul (φ₁ := .bf16) (φ₂ := .bf16) dot_S512x256_S256x256_S512x256_1_0_0_1_n_n none (up (Ds q o K V a)) (up (St K a))
    (constant S512x256 .f32 0x00000000#32) : FVec Ideal S512x256 .f32) = up fun p d => dquery (q p) (o p) K V (col a d) := by
  rw [mul_n]
  simp only [dquery, hd_col, ps_col]

theorem dq0 : k0_pay22 (F := Ideal) (up o) (up (St K 0)) (up (St V 0)) (up (Pr q K 0)) = up fun p d => dquery (q p) (o p) K V (col 0 d) := by
  rw [k0_pay22, shapeCast_self, ds0, trunc_id, dq_strip]

theorem dq1 : k0_pay33 (F := Ideal) (up o) (up (St K 1)) (up (St V 1)) (k0_pay26 (up q) (up (St K 1)))
    = up fun p d => dquery (q p) (o p) K V (col 1 d) := by
  rw [k0_pay33, shapeCast_self, ds1, trunc_id, dq_strip]

theorem dq2 : k0_pay45 (F := Ideal) (up (St K 2)) (k0_pay37 (up q) (up (St K 2))) (k0_pay41 (up o) (up (St V 2)))
    (k0_pay43 (up q) (up o) (up (St K 2)) (up (St V 2))) = up fun p d => dquery (q p) (o p) K V (col 2 d) := by
  rw [k0_pay45, shapeCast_self, ds2, trunc_id, dq_strip]

theorem dq3 : k0_pay56 (F := Ideal) (up o) (up (St K 3)) (up (St V 3)) (up (Pr q K 3)) = up fun p d => dquery (q p) (o p) K V (col 3 d) := by
  rw [k0_pay56, shapeCast_self, ds3, trunc_id, dq_strip]

/-- The keys' gradient, a head's strip. -/
theorem dk_strip (a : Fin 4) (n : ℕ) (e : n = a * 256) (h) : (matmul (φ₁ := .bf16) (φ₂ := .bf16) dot_S512x256_S512x256_S256x256_0_0_1_1_n_n none
    (up (Ds q o K V a)) (extractStridedSlice S512x256 ![0, n] (up q) h) (constant S256x256 .f32 0x00000000#32) : FVec Ideal S256x256 .f32)
      = up fun j d => dkS q o K V j (col a d) := by
  rw [slice_up q n a e, mul_rows]
  simp only [dkS, hd_col, ps_col]

variable (X : Vec Ideal S256x256 .f32)

theorem dk0 : k0_pay23 (F := Ideal) (up q) (up o) (up (St V 0)) (up (Pr q K 0)) X = addf X (up fun j d => dkS q o K V j (col 0 d)) := by
  rw [k0_pay23, shapeCast_self, ds0, dk_strip q o K V 0 0 rfl]

theorem dk1 : k0_pay34 (F := Ideal) (up q) (k0_pay32 (up o) (up (St V 1)) (k0_pay26 (up q) (up (St K 1)))) X
    = addf X (up fun j d => dkS q o K V j (col 1 d)) := by
  rw [k0_pay34, shapeCast_self, ds1, dk_strip q o K V 1 256 rfl]

theorem dk2 : k0_pay46 (F := Ideal) (up q) (k0_pay37 (up q) (up (St K 2))) (k0_pay41 (up o) (up (St V 2)))
    (k0_pay43 (up q) (up o) (up (St K 2)) (up (St V 2))) X = addf X (up fun j d => dkS q o K V j (col 2 d)) := by
  rw [k0_pay46, shapeCast_self, ds2, dk_strip q o K V 2 512 rfl]

theorem dk3 : k0_pay57 (F := Ideal) (up q) (up o) (up (St V 3)) (up (Pr q K 3)) X = addf X (up fun j d => dkS q o K V j (col 3 d)) := by
  rw [k0_pay57, shapeCast_self, ds3, dk_strip q o K V 3 768 rfl]

/-- The values' gradient, a head's strip. -/
theorem dv_strip (a : Fin 4) (n : ℕ) (e : n = a * 256) (h) : (matmul (φ₁ := .bf16) (φ₂ := .bf16) dot_S512x256_S512x256_S256x256_0_0_1_1_n_n none
    (up (Pr q K a)) (extractStridedSlice S512x256 ![0, n] (up o) h) (constant S256x256 .f32 0x00000000#32) : FVec Ideal S256x256 .f32)
      = up fun j d => dvS q o K j (col a d) := by
  rw [slice_up o n a e, mul_rows]
  simp only [dvS, hd_col, ps_col]

theorem dv0 : k0_pay20 (F := Ideal) (up o) (k0_pay16 (up q) (up (St K 0))) X = addf X (up fun j d => dvS q o K j (col 0 d)) := by
  rw [k0_pay20, shapeCast_self, k0_pay16, k0_pay19, prob0, trunc_id, dv_strip q o K 0 0 rfl]

theorem dv1 : k0_pay31 (F := Ideal) (up o) (k0_pay26 (up q) (up (St K 1))) X = addf X (up fun j d => dvS q o K j (col 1 d)) := by
  rw [k0_pay31, shapeCast_self, k0_pay28, k0_pay30, prob1, trunc_id, dv_strip q o K 1 256 rfl]

theorem dv2 : k0_pay42 (F := Ideal) (up q) (up o) (up (St K 2)) X = addf X (up fun j d => dvS q o K j (col 2 d)) := by
  rw [k0_pay42, shapeCast_self, k0_pay38, k0_pay40, prob2, trunc_id, dv_strip q o K 2 512 rfl]

theorem dv3 : k0_pay54 (F := Ideal) (up o) (k0_pay50 (up q) (up (St K 3))) X = addf X (up fun j d => dvS q o K j (col 3 d)) := by
  rw [k0_pay54, shapeCast_self, k0_pay50, k0_pay53, prob3, trunc_id, dv_strip q o K 3 768 rfl]

end

/-! ## The rest of a point: the weights' gradients and the norm's -/

/-- The image of a matrix whose rows are packed by heads. -/
def upq (W : Fin 1024 → Fin 1024 → ℝ) : S4x256x1024.Idx → EReal := fun i => ((W (col (i 0) (i 1)) (i 2) : ℝ) : EReal)

theorem unpack (W : Fin 1024 → Fin 1024 → ℝ) (h) : (shapeCast S1024x1024 (upq W : FVec Ideal S4x256x1024 .bf16) h : FVec Ideal S1024x1024 .bf16) = up W := by
  funext i
  idx_vars i
  pointwise []
  refine congrArg (fun r : ℝ => (r : EReal)) (congrArg (fun k => W k i1) (Fin.ext ?_))
  show (i0 : ℕ) / 256 * 256 + (i0 : ℕ) % 256 = i0
  omega

section
variable (x y : Fin 512 → Fin 1024 → ℝ) (g : Fin 1024 → ℝ) (W : Fin 1024 → Fin 1024 → ℝ)

theorem mul_back : (matmul (φ₁ := .bf16) (φ₂ := .bf16) dot_S512x1024_S1024x1024_S512x1024_1_1_0_0_n_n none (up x) (up W)
    (constant S512x1024 .f32 0x00000000#32) : FVec Ideal S512x1024 .f32) = up fun p => back (x p) W := by
  funext i
  idx_vars i
  pointwise []
  simp only [up_at, back, coe_sum, EReal.coe_mul]

theorem mul_outer : (matmul (φ₁ := .bf16) (φ₂ := .bf16) dot_S512x1024_S512x1024_S1024x1024_0_0_1_1_n_n none (up x) (up y)
    (constant S1024x1024 .f32 0x00000000#32) : FVec Ideal S1024x1024 .f32) = up fun a b => ∑ p, x p a * y p b := by
  funext i
  idx_vars i
  pointwise []
  simp only [up_at, coe_sum, EReal.coe_mul]

theorem do_up : k0_pay12 (F := Ideal) (up x) (upq W) = up fun p => back (x p) W := by
  rw [k0_pay12, shapeCast_self, unpack, pass10, mul_back, trunc_id]

theorem oacc_up (X) : k0_pay59 (F := Ideal) X (k0_pay58 (up y) (up x)) = addf X (up fun a b => ∑ p, x p a * y p b) := by
  rw [k0_pay59, shapeCast_self, k0_pay58, mul_outer]

theorem inv_up : k0_pay60 (F := Ideal) (up x) = up fun p (_ : Fin 1) => inv (x p) := by
  funext i
  idx_vars i
  rw [up_at, inv, ← coe_rinv (by norm_num) rmsEps_pos, ← coe_meanSq (by norm_num)]
  pointwise [k0_pay60]
  rw [ofBits_1024, ofBits_rmsEps]
  rfl

theorem xhat_up : k0_pay61 (F := Ideal) (up x) = up fun p d => x p d * inv (x p) := by
  funext i
  idx_vars i
  pointwise [k0_pay61]
  rw [inv_up]
  simp only [up_at, EReal.coe_mul]

theorem qacc_up (X) : k0_pay62 (F := Ideal) (up fun _ : Fin 1 => g) (up x) (up y) X = addf X (up fun a b => ∑ p, nrm (x p) g a * y p b) := by
  have e : (mulf (k0_pay61 (up x)) (broadcastTo S512x1024 (up fun _ : Fin 1 => g) broadcasts_S1x1024_S512x1024) : FVec Ideal S512x1024 .f32)
      = up fun p => nrm (x p) g := by
    rw [xhat_up]
    funext i
    idx_vars i
    pointwise []
    simp only [up_at, nrm, EReal.coe_mul]
  rw [k0_pay62, shapeCast_self, e, trunc_id, mul_outer]

theorem dn_up : k0_pay63 (F := Ideal) (up y) (upq W) = up fun p => back (y p) W := by
  rw [k0_pay63, shapeCast_self, unpack, mul_back]

theorem gain_up (X) : k0_pay64 (F := Ideal) (up x) (up y) (upq W) X
    = addf X (up fun (_ : Fin 1) d => ∑ p, back (y p) W d * (x p d * inv (x p))) := by
  rw [k0_pay64, shapeCast_self, xhat_up, dn_up]
  funext i
  idx_vars i
  pointwise []
  simp only [up_at, coe_sum, EReal.coe_mul]

theorem drow_up (n : Fin 512 → Fin 1024 → ℝ) : k0_pay1 (F := Ideal) (up fun _ : Fin 1 => g) (up y) (up fun p (_ : Fin 1) => inv (x p))
    (up fun p d => x p d * inv (x p)) (up n) = up fun p => drow (x p) g (y p) (n p) := by
  funext i
  idx_vars i
  pointwise [k0_pay1]
  simp only [up_at, drow, ofBits_1024, ← EReal.coe_mul, ← coe_sum, div_coe (by norm_num : (1024 : ℝ) ≠ 0), ← EReal.coe_sub, ← EReal.coe_add]

theorem post_up (x : Fin 1024 → Fin 1024 → ℝ) : k0_pay2 (F := Ideal) (up x) = upq x := by
  funext i
  idx_vars i
  pointwise [k0_pay2]
  rfl

theorem post_up' (x : Fin 1024 → Fin 1024 → ℝ) : k0_pay3 (F := Ideal) (up x) = upq x := by
  funext i
  idx_vars i
  pointwise [k0_pay3]
  rfl
end

end Cert.Xattn

end
-- ==== Proof.XattnRef.lean ====
/- The gradient of the attention into the memory, as the reference program computes it, over the reals. -/
module

public import proofs.«01_k».proof.Proof.Gen.Reference5Ideal.Read
public import proofs.«01_k».proof.Proof.XattnReal

@[expose] public section

set_option maxRecDepth 16384

noncomputable section

namespace Cert.Xattn

open Idealize.ShloMosaic Idealize.ShloMosaic.TcCoe Idealize.SL.Sem Cert.RealLift
open Cert.Reference5Ideal.Gen Cert.Reference5Ideal Cert.Reference5Ideal.Read

variable (H DH : Fin 8192 → Fin 1024 → ℝ) (G : Fin 1024 → ℝ) (K V : Fin 256 → Fin 1024 → ℝ) (WQ WO : Fin 1024 → Fin 1024 → ℝ)

/-- The queries, and the gradient at the attended rows. -/
abbrev Q (s : Fin 8192) : Fin 1024 → ℝ := proj (nrm (H s) G) WQ
abbrev O (s : Fin 8192) : Fin 1024 → ℝ := back (DH s) WO

theorem v6_at (s : Fin 8192) (z : Fin 1) :
    val_main_v6 (F := Ideal) (up H) (ix2 s z) = ((meanSq 1024 rmsEps (H s) : ℝ) : EReal) := by
  rw [← coe_meanSq (by norm_num)]
  pointwise [val_main_v6, val_main_v5, val_main_v4, val_main_v3, val_main_v2, val_main_v1, val_main_v0, val_main_cst,
    val_main_cst_0, val_main_cst_1, up]
  rw [ofBits_1024, ofBits_rmsEps]

theorem v7_at (s : Fin 8192) (z : Fin 1) : val_main_v7 (F := Ideal) (up H) (ix2 s z) = ((inv (H s) : ℝ) : EReal) := by
  pointwise [val_main_v7]
  rw [v6_at, coe_rinv (by norm_num) rmsEps_pos]

theorem v12_at (s : Fin 8192) (d : Fin 1024) :
    val_main_v12 (F := Ideal) (up H) (ix2 s d) = ((H s d * inv (H s) : ℝ) : EReal) := by
  pointwise [val_main_v12, val_main_v11]
  rw [v7_at]; rfl

theorem v15_at (s : Fin 8192) (d : Fin 1024) :
    val_main_v15 (F := Ideal) (up H) (up1 G) (ix2 s d) = ((nrm (H s) G d : ℝ) : EReal) := by
  pointwise [val_main_v15, val_main_v14, val_main_v13]
  rw [v12_at]; rfl

theorem v16_at (s : Fin 8192) (e : Fin 1024) :
    val_main_v16 (F := Ideal) (up H) (up1 G) (up WQ) (ix2 s e) = ((Q H G WQ s e : ℝ) : EReal) := by
  pointwise [val_main_v16]
  simp only [v15_at, proj, coe_sum, EReal.coe_mul]; rfl

theorem v17_at (s : Fin 8192) (a : Fin 4) (d : Fin 256) :
    val_main_v17 (F := Ideal) (up H) (up1 G) (up WQ) (ix3 s a d) = ((Q H G WQ s (col a d) : ℝ) : EReal) := by
  pointwise [val_main_v17]
  exact v16_at H G WQ s (col a d)

theorem v18_at (j : Fin 256) (a : Fin 4) (d : Fin 256) :
    val_main_v18 (F := Ideal) (up K) (ix3 j a d) = ((K j (col a d) : ℝ) : EReal) := by
  pointwise [val_main_v18]
  rfl

theorem v19_at (j : Fin 256) (a : Fin 4) (d : Fin 256) :
    val_main_v19 (F := Ideal) (up V) (ix3 j a d) = ((V j (col a d) : ℝ) : EReal) := by
  pointwise [val_main_v19]
  rfl

theorem v21_at (i) : val_main_v21 (F := Ideal) i = ((1 / 16 : ℝ) : EReal) := by
  pointwise [val_main_v21, val_main_cst_3]
  exact ofBits_sixteenth

theorem v22_at (a : Fin 4) (s : Fin 8192) (j : Fin 256) :
    val_main_v22 (F := Ideal) (up H) (up1 G) (up K) (up WQ) (ix3 a s j) = ((score (Q H G WQ s) K a j : ℝ) : EReal) := by
  pointwise [val_main_v22, val_main_v20]
  rw [v21_at, score, EReal.coe_mul, coe_sum]
  simp only [v17_at, v18_at, EReal.coe_mul]

/-- A maximum along the last of three axes. -/
theorem max_at (X : FVec Ideal S4x8192x256 .f32) (b : FVec Ideal S_ .f32) (a : Fin 4) (s : Fin 8192) :
    Host.reduce FloatOps.maximumf X b reducesTo_S4x8192x256_S4x8192_d2 h_S_ (ix2 a s)
      = Finset.univ.fold max (b (Shape.Idx.first h_S_)) (fun k : Fin 256 => X (ix3 a s k)) := by
  pointwise []

theorem v23_at (a : Fin 4) (s : Fin 8192) :
    ∃ M : ℝ, val_main_v23 (F := Ideal) (up H) (up1 G) (up K) (up WQ) (ix2 a s) = ((M : ℝ) : EReal) := by
  obtain ⟨M, hM⟩ := fold_max_coe (by norm_num) (score (Q H G WQ s) K a)
  refine ⟨M, (max_at _ _ a s).trans ?_⟩
  rw [← hM, val_main_cst_4_apply]
  simp only [v22_at]
  rw [Ideal.ofBits_def, ofBits_bot]

/-- The score every exponent is taken against. -/
theorem v30_at (a : Fin 4) (s : Fin 8192) :
    ∃ M : ℝ, val_main_v30 (F := Ideal) (up H) (up1 G) (up K) (up WQ) (ix2 a s) = ((M : ℝ) : EReal) := by
  obtain ⟨M, hM⟩ := v23_at H G K WQ a s
  refine ⟨M, ?_⟩
  rw [val_main_v30_apply, hM, val_main_v29_apply, val_main_cst_6_apply, Ideal.ofBits_def, ofBits_bot]
  exact max_eq_right bot_le

theorem v43_at (a : Fin 4) (s : Fin 8192) : ∃ M : ℝ, ∀ j, val_main_v43 (F := Ideal) (up H) (up1 G) (up K) (up WQ)
    (ix3 a s j) = ((Real.exp (score (Q H G WQ s) K a j - M) : ℝ) : EReal) := by
  obtain ⟨M, hM⟩ := v30_at H G K WQ a s
  refine ⟨M, fun j => ?_⟩
  pointwise [val_main_v43, val_main_v42, val_main_v41, val_main_v40]
  rw [hM, v22_at, ← EReal.coe_sub, Ideal.exp_coe]

theorem v59_at (s : Fin 8192) (d : Fin 1024) :
    val_main_v59 (F := Ideal) (up WO) (up DH) (ix2 s d) = ((O DH WO s d : ℝ) : EReal) := by
  pointwise [val_main_v59, val_main_v56]
  simp only [back, coe_sum, EReal.coe_mul]; rfl

theorem v61_at (a : Fin 4) (d : Fin 256) (s : Fin 8192) :
    val_main_v61 (F := Ideal) (up WO) (up DH) (ix3 a d s) = ((O DH WO s (col a d) : ℝ) : EReal) := by
  pointwise [val_main_v61, val_main_v60]
  exact v59_at DH WO s (col a d)

theorem v62_at (a : Fin 4) (s : Fin 8192) (j : Fin 256) :
    val_main_v62 (F := Ideal) (up V) (up WO) (up DH) (ix3 a s j) = ((dprob (O DH WO s) V a j : ℝ) : EReal) := by
  pointwise [val_main_v62]
  simp only [v61_at, v19_at, dprob, coe_sum, EReal.coe_mul]

theorem v47_at (a : Fin 4) (s : Fin 8192) (j : Fin 256) :
    val_main_v47 (F := Ideal) (up H) (up1 G) (up K) (up WQ) (ix3 a s j) = ((prob (Q H G WQ s) K a j : ℝ) : EReal) := by
  obtain ⟨M, hM⟩ := v43_at H G K WQ a s
  pointwise [val_main_v47, val_main_v46, val_main_v45, val_main_v44, val_main_cst_12]
  simp only [hM]
  rw [← coe_sum, div_coe (sum_exp_pos (by norm_num) _).ne', soft_shift]; rfl

theorem v77_at (i) : val_main_v77 (F := Ideal) i = ((1 / 16 : ℝ) : EReal) := by
  pointwise [val_main_v77, val_main_cst_16]
  exact ofBits_sixteenth

theorem v49_at (i) : val_main_v49 (F := Ideal) i = ((1 : ℝ) : EReal) := by
  pointwise [val_main_v49, val_main_cst_13]
  rfl

/-- The sum of the exponentials, and the three factors of a score's gradient. -/
theorem v45_at {a : Fin 4} {s : Fin 8192} {M : ℝ} (hM : ∀ j, val_main_v43 (F := Ideal) (up H) (up1 G) (up K) (up WQ)
    (ix3 a s j) = ((Real.exp (score (Q H G WQ s) K a j - M) : ℝ) : EReal)) (z : Fin 1) :
    val_main_v45 (F := Ideal) (up H) (up1 G) (up K) (up WQ) (ix3 a s z)
      = ((∑ j, Real.exp (score (Q H G WQ s) K a j - M) : ℝ) : EReal) := by
  pointwise [val_main_v45, val_main_v44, val_main_cst_12]
  simp only [hM, coe_sum]

theorem v65_at {a : Fin 4} {s : Fin 8192} {M : ℝ} (hM : ∀ j, val_main_v43 (F := Ideal) (up H) (up1 G) (up K) (up WQ)
    (ix3 a s j) = ((Real.exp (score (Q H G WQ s) K a j - M) : ℝ) : EReal)) (j : Fin 256) :
    val_main_v65 (F := Ideal) (up H) (up1 G) (up K) (up WQ) (ix3 a s j)
      = ((1 / ((∑ j, Real.exp (score (Q H G WQ s) K a j - M)) * ∑ j, Real.exp (score (Q H G WQ s) K a j - M)) : ℝ) : EReal) := by
  have hz := sum_exp_pos (by norm_num) (fun j => score (Q H G WQ s) K a j - M)
  pointwise [val_main_v65, val_main_v50, val_main_v48]
  rw [v49_at, v45_at H G K WQ hM, ← EReal.coe_mul, div_coe (mul_pos hz hz).ne']

theorem v67_at {a : Fin 4} {s : Fin 8192} {M : ℝ} (hM : ∀ j, val_main_v43 (F := Ideal) (up H) (up1 G) (up K) (up WQ)
    (ix3 a s j) = ((Real.exp (score (Q H G WQ s) K a j - M) : ℝ) : EReal)) (j : Fin 256) :
    val_main_v67 (F := Ideal) (up H) (up1 G) (up K) (up V) (up WQ) (up WO) (up DH) (ix3 a s j)
      = ((dprob (O DH WO s) V a j * (1 / ((∑ j, Real.exp (score (Q H G WQ s) K a j - M))
          * ∑ j, Real.exp (score (Q H G WQ s) K a j - M))) * Real.exp (score (Q H G WQ s) K a j - M) : ℝ) : EReal) := by
  rw [val_main_v67_apply, val_main_v66_apply, v62_at, v65_at H G K WQ hM, hM, Ideal.mulf_def, Ideal.mulf_def,
    EReal.coe_mul, EReal.coe_mul]

theorem v68_at {a : Fin 4} {s : Fin 8192} {M : ℝ} (hM : ∀ j, val_main_v43 (F := Ideal) (up H) (up1 G) (up K) (up WQ)
    (ix3 a s j) = ((Real.exp (score (Q H G WQ s) K a j - M) : ℝ) : EReal)) :
    val_main_v68 (F := Ideal) (up H) (up1 G) (up K) (up V) (up WQ) (up WO) (up DH) (ix2 a s)
      = ((∑ j, dprob (O DH WO s) V a j * (1 / ((∑ j, Real.exp (score (Q H G WQ s) K a j - M))
          * ∑ j, Real.exp (score (Q H G WQ s) K a j - M))) * Real.exp (score (Q H G WQ s) K a j - M) : ℝ) : EReal) := by
  pointwise [val_main_v68, val_main_cst_14]
  rw [coe_sum]
  exact Finset.sum_congr rfl fun j _ => v67_at H DH G K V WQ WO hM j

theorem v75_at {a : Fin 4} {s : Fin 8192} {M : ℝ} (hM : ∀ j, val_main_v43 (F := Ideal) (up H) (up1 G) (up K) (up WQ)
    (ix3 a s j) = ((Real.exp (score (Q H G WQ s) K a j - M) : ℝ) : EReal)) (j : Fin 256) :
    val_main_v75 (F := Ideal) (up H) (up1 G) (up K) (up V) (up WQ) (up WO) (up DH) (ix3 a s j)
      = ((dprob (O DH WO s) V a j / (∑ j, Real.exp (score (Q H G WQ s) K a j - M))
        + -(∑ j, dprob (O DH WO s) V a j * (1 / ((∑ j, Real.exp (score (Q H G WQ s) K a j - M))
          * ∑ j, Real.exp (score (Q H G WQ s) K a j - M))) * Real.exp (score (Q H G WQ s) K a j - M)) : ℝ) : EReal) := by
  have hz := sum_exp_pos (by norm_num) (fun j => score (Q H G WQ s) K a j - M)
  pointwise [val_main_v75, val_main_v74, val_main_v73, val_main_v72, val_main_v71, val_main_v70, val_main_v69, val_main_cst_15]
  rw [v62_at, v45_at H G K WQ hM, div_coe hz.ne', v68_at H DH G K V WQ WO hM]
  simp only [Finset.univ_unique, Finset.sum_singleton, ← EReal.coe_neg, ← EReal.coe_add]

theorem v78_at (a : Fin 4) (s : Fin 8192) (j : Fin 256) :
    val_main_v78 (F := Ideal) (up H) (up1 G) (up K) (up V) (up WQ) (up WO) (up DH) (ix3 a s j)
      = ((dscore (Q H G WQ s) (O DH WO s) K V a j : ℝ) : EReal) := by
  obtain ⟨M, hM⟩ := v43_at H G K WQ a s
  pointwise [val_main_v78, val_main_v76]
  rw [v75_at H DH G K V WQ WO hM, hM, v77_at, ← EReal.coe_mul, ← EReal.coe_mul]
  congr 1
  have hz := sum_exp_pos (by norm_num) (fun j => score (Q H G WQ s) K a j - M)
  have hp : ∀ j, prob (Q H G WQ s) K a j = Real.exp (score (Q H G WQ s) K a j - M) / ∑ j, Real.exp (score (Q H G WQ s) K a j - M) :=
    fun j => (soft_shift _ M j).symm
  simp only [dscore, hp]
  generalize (∑ j, Real.exp (score (Q H G WQ s) K a j - M)) = z at hz ⊢
  have e : ∀ x, dprob (O DH WO s) V a x * (1 / (z * z)) * Real.exp (score (Q H G WQ s) K a x - M)
      = dprob (O DH WO s) V a x * (Real.exp (score (Q H G WQ s) K a x - M) / z) * (1 / z) := fun x => by
    field_simp
  simp only [e, ← Finset.sum_mul]
  field_simp
  ring

theorem v53_at (s : Fin 8192) (e : Fin 1024) :
    val_main_v53 (F := Ideal) (up H) (up1 G) (up K) (up V) (up WQ) (ix2 s e) = ((att (Q H G WQ s) K V e : ℝ) : EReal) := by
  have h51 : ∀ a d, val_main_v51 (F := Ideal) (up H) (up1 G) (up K) (up V) (up WQ) (ix3 a d s)
      = ((∑ j, prob (Q H G WQ s) K a j * V j (col a d) : ℝ) : EReal) := fun a d => by
    pointwise [val_main_v51]
    simp only [v19_at, v47_at, coe_sum, EReal.coe_mul, mul_comm]
  pointwise [val_main_v53, val_main_v52]
  exact h51 (hd e) (ps e)

/-- The values' gradient. -/
theorem v83_at (j : Fin 256) (e : Fin 1024) :
    val_main_v83 (F := Ideal) (up H) (up1 G) (up K) (up WQ) (up WO) (up DH) (ix2 j e)
      = ((∑ s, prob (Q H G WQ s) K (hd e) j * O DH WO s (col (hd e) (ps e)) : ℝ) : EReal) := by
  have h63 : ∀ a d, val_main_v63 (F := Ideal) (up H) (up1 G) (up K) (up WQ) (up WO) (up DH) (ix3 a d j)
      = ((∑ s, prob (Q H G WQ s) K a j * O DH WO s (col a d) : ℝ) : EReal) := fun a d => by
    pointwise [val_main_v63]
    simp only [v61_at, v47_at, coe_sum, EReal.coe_mul, mul_comm]
  pointwise [val_main_v83, val_main_v64]
  exact h63 (hd e) (ps e)

/-- The keys' gradient. -/
theorem v84_at (j : Fin 256) (e : Fin 1024) :
    val_main_v84 (F := Ideal) (up H) (up1 G) (up K) (up V) (up WQ) (up WO) (up DH) (ix2 j e)
      = ((∑ s, dscore (Q H G WQ s) (O DH WO s) K V (hd e) j * Q H G WQ s (col (hd e) (ps e)) : ℝ) : EReal) := by
  have h79 : ∀ a d, val_main_v79 (F := Ideal) (up H) (up1 G) (up K) (up V) (up WQ) (up WO) (up DH) (ix3 a j d)
      = ((∑ s, dscore (Q H G WQ s) (O DH WO s) K V a j * Q H G WQ s (col a d) : ℝ) : EReal) := fun a d => by
    pointwise [val_main_v79]
    simp only [v78_at, v17_at, coe_sum, EReal.coe_mul]
  pointwise [val_main_v84, val_main_v80]
  exact h79 (hd e) (ps e)

theorem v85_at (s : Fin 8192) (e : Fin 1024) :
    val_main_v85 (F := Ideal) (up H) (up1 G) (up K) (up V) (up WQ) (up WO) (up DH) (ix2 s e)
      = ((dquery (Q H G WQ s) (O DH WO s) K V e : ℝ) : EReal) := by
  have h81 : ∀ a d, val_main_v81 (F := Ideal) (up H) (up1 G) (up K) (up V) (up WQ) (up WO) (up DH) (ix3 a s d)
      = ((∑ j, dscore (Q H G WQ s) (O DH WO s) K V a j * K j (col a d) : ℝ) : EReal) := fun a d => by
    pointwise [val_main_v81]
    simp only [v78_at, v18_at, coe_sum, EReal.coe_mul]
  pointwise [val_main_v85, val_main_v82]
  exact h81 (hd e) (ps e)

/-- The gradient at the normalised row. -/
theorem v88_at (s : Fin 8192) (d : Fin 1024) :
    val_main_v88 (F := Ideal) (up H) (up1 G) (up K) (up V) (up WQ) (up WO) (up DH) (ix2 s d)
      = ((back (dquery (Q H G WQ s) (O DH WO s) K V) WQ d : ℝ) : EReal) := by
  pointwise [val_main_v88]
  simp only [v85_at, back, coe_sum, EReal.coe_mul]; rfl

/-- The query weight's gradient. -/
theorem v87_at (x y : Fin 1024) :
    val_main_v87 (F := Ideal) (up H) (up1 G) (up K) (up V) (up WQ) (up WO) (up DH) (ix2 x y)
      = ((∑ s, nrm (H s) G x * dquery (Q H G WQ s) (O DH WO s) K V y : ℝ) : EReal) := by
  pointwise [val_main_v87, val_main_v86]
  simp only [v85_at, v15_at, coe_sum, EReal.coe_mul, mul_comm]

/-- The output weight's gradient. -/
theorem v58_at (x y : Fin 1024) :
    val_main_v58 (F := Ideal) (up H) (up1 G) (up K) (up V) (up WQ) (up DH) (ix2 x y)
      = ((∑ s, att (Q H G WQ s) K V x * DH s y : ℝ) : EReal) := by
  have h56 : ∀ s, val_main_v56 (F := Ideal) (up DH) (ix2 s y) = ((DH s y : ℝ) : EReal) := fun s => by
    pointwise [val_main_v56]; rfl
  pointwise [val_main_v58, val_main_v57]
  simp only [v53_at, h56, coe_sum, EReal.coe_mul, mul_comm]

/-- The gain's gradient. -/
theorem v113_at (z : Fin 1) (d : Fin 1024) :
    val_main_v113 (F := Ideal) (up H) (up1 G) (up K) (up V) (up WQ) (up WO) (up DH) (ix2 z d)
      = ((∑ s, back (dquery (Q H G WQ s) (O DH WO s) K V) WQ d * (H s d * inv (H s)) : ℝ) : EReal) := by
  have h90 : val_main_v90 (F := Ideal) (up H) (up1 G) (up K) (up V) (up WQ) (up WO) (up DH) (ix1 d)
      = ((∑ s, back (dquery (Q H G WQ s) (O DH WO s) K V) WQ d * (H s d * inv (H s)) : ℝ) : EReal) := by
    pointwise [val_main_v90, val_main_v89, val_main_cst_17]
    simp only [v88_at, v12_at, coe_sum, EReal.coe_mul]
    exact Finset.sum_congr rfl fun s _ => mul_comm _ _
  pointwise [val_main_v113, val_main_v94, val_main_v91, val_main_cst_18]
  simp only [Finset.univ_unique, Finset.sum_singleton]
  exact h90

/-- The shards: the two weights' gradients by quarters. -/
theorem v115_q (a : Fin 4) (b : Fin 256) (y : Fin 1024) :
    val_main_v115 (F := Ideal) (up H) (up1 G) (up K) (up V) (up WQ) (up WO) (up DH) (ix3 a ⟨(b : ℕ), by omega⟩ y)
      = ((∑ s, nrm (H s) G (col a b) * dquery (Q H G WQ s) (O DH WO s) K V y : ℝ) : EReal) := by
  pointwise [val_main_v115, val_main_v114, val_main_v110]
  exact v87_at H DH G K V WQ WO (col a b) y

theorem v115_o (a : Fin 4) (b : Fin 256) (y : Fin 1024) :
    val_main_v115 (F := Ideal) (up H) (up1 G) (up K) (up V) (up WQ) (up WO) (up DH) (ix3 a ⟨(b : ℕ) + 256, by omega⟩ y)
      = ((∑ s, att (Q H G WQ s) K V (col a b) * DH s y : ℝ) : EReal) := by
  pointwise [val_main_v115, val_main_v114, val_main_v111]
  rw [dif_neg (by omega), dif_pos (by omega)]
  exact v58_at H DH G K V WQ (col a b) y

theorem v10_at (s : Fin 8192) (z : Fin 1) :
    val_main_v10 (F := Ideal) (up H) (ix2 s z) = ((-(1 / 2) * (inv (H s) / meanSq 1024 rmsEps (H s)) : ℝ) : EReal) := by
  pointwise [val_main_v10, val_main_v9, val_main_cst_2, val_main_v8]
  rw [ofBits_neg_half, v7_at, v6_at, div_coe (meanSq_pos (by norm_num) rmsEps_pos _).ne', EReal.coe_mul]

theorem v93_at (s : Fin 8192) (d : Fin 1024) :
    val_main_v93 (F := Ideal) (up H) (up1 G) (up K) (up V) (up WQ) (up WO) (up DH) (ix2 s d)
      = ((back (dquery (Q H G WQ s) (O DH WO s) K V) WQ d * G d : ℝ) : EReal) := by
  pointwise [val_main_v93, val_main_v92, val_main_v14, val_main_v13]
  rw [v88_at, EReal.coe_mul]; rfl

theorem v96_at (s : Fin 8192) :
    val_main_v96 (F := Ideal) (up H) (up1 G) (up K) (up V) (up WQ) (up WO) (up DH) (ix1 s)
      = ((∑ k, H s k * (back (dquery (Q H G WQ s) (O DH WO s) K V) WQ k * G k) : ℝ) : EReal) := by
  pointwise [val_main_v96, val_main_v95, val_main_cst_19]
  simp only [v93_at, coe_sum, EReal.coe_mul]; rfl

theorem v101_at (s : Fin 8192) (z : Fin 1) :
    val_main_v101 (F := Ideal) (up H) (up1 G) (up K) (up V) (up WQ) (up WO) (up DH) (ix2 s z)
      = (((∑ k, H s k * (back (dquery (Q H G WQ s) (O DH WO s) K V) WQ k * G k))
        * (-(1 / 2) * (inv (H s) / meanSq 1024 rmsEps (H s))) : ℝ) : EReal) := by
  pointwise [val_main_v101, val_main_v97]
  rw [v96_at, v10_at]
  exact (EReal.coe_mul _ _).symm

theorem v105_at (s : Fin 8192) (d : Fin 1024) :
    val_main_v105 (F := Ideal) (up H) (up1 G) (up K) (up V) (up WQ) (up WO) (up DH) (ix2 s d)
      = (((∑ k, H s k * (back (dquery (Q H G WQ s) (O DH WO s) K V) WQ k * G k))
        * (-(1 / 2) * (inv (H s) / meanSq 1024 rmsEps (H s))) / 1024 : ℝ) : EReal) := by
  pointwise [val_main_v105, val_main_v104, val_main_v103, val_main_v102, val_main_cst_20, val_main_cst_21]
  simp only [Finset.univ_unique, Finset.sum_singleton, v101_at]
  rw [ofBits_1024, div_coe (by norm_num)]

/-- The rows' gradient. -/
theorem v109_at (s : Fin 8192) (d : Fin 1024) :
    val_main_v109 (F := Ideal) (up H) (up1 G) (up K) (up V) (up WQ) (up WO) (up DH) (ix2 s d)
      = ((drow (H s) G (DH s) (back (dquery (Q H G WQ s) (O DH WO s) K V) WQ) d : ℝ) : EReal) := by
  have h99 : val_main_v99 (F := Ideal) (up H) (up1 G) (up K) (up V) (up WQ) (up WO) (up DH) (ix2 s d)
      = ((back (dquery (Q H G WQ s) (O DH WO s) K V) WQ d * G d * inv (H s) : ℝ) : EReal) := by
    pointwise [val_main_v99, val_main_v98]
    rw [v93_at, v7_at]
    exact (EReal.coe_mul _ _).symm
  rw [val_main_v109_apply, val_main_v108_apply, val_main_v107_apply, val_main_v106_apply, val_main_v100_apply, h99, v105_at]
  rw [drow, norm_grad (by norm_num) rmsEps_pos (H s) (fun d => back (dquery (Q H G WQ s) (O DH WO s) K V) WQ d * G d)]
  simp only [EReal.coe_add, EReal.coe_mul]
  rfl

end Cert.Xattn

end
-- ==== Proof.XattnBlk.lean ====
/- What the blocks of each point of the call's grid hold, over the reals, and what the call prepares outside it. -/
module

public import proofs.«01_k».proof.Proof.XattnPay
public import proofs.«01_k».proof.Proof.XattnRef
public import Idealize.ShloMosaic.Lib.Claim

@[expose] public section

set_option maxRecDepth 16384

noncomputable section

namespace Cert.Xattn

open Cert.Kernel5Ideal Cert.Kernel5Ideal.Gen
open Idealize.ShloMosaic Idealize.ShloMosaic.TcCoe Idealize.SL.Sem Cert.RealLift

variable (m : (ℓ : Loc nD τ sig) → Buf (Elt Ideal) ℓ)

abbrev X0 (c : Dev nD) : FVec Ideal S8192x1024 .f32 := m ((c.tc : Thread nD τ).loc main_arg0)
abbrev X1 (c : Dev nD) : FVec Ideal S1024 .f32 := m ((c.tc : Thread nD τ).loc main_arg1)
abbrev X2 (c : Dev nD) : FVec Ideal S256x1024 .f32 := m ((c.tc : Thread nD τ).loc main_arg2)
abbrev X3 (c : Dev nD) : FVec Ideal S256x1024 .f32 := m ((c.tc : Thread nD τ).loc main_arg3)
abbrev X4 (c : Dev nD) : FVec Ideal S1024x1024 .f32 := m ((c.tc : Thread nD τ).loc main_arg4)
abbrev X5 (c : Dev nD) : FVec Ideal S1024x1024 .f32 := m ((c.tc : Thread nD τ).loc main_arg5)
abbrev X6 (c : Dev nD) : FVec Ideal S1024x1024 .f32 := m ((c.tc : Thread nD τ).loc main_arg6)
abbrev X7 (c : Dev nD) : FVec Ideal S1024x1024 .f32 := m ((c.tc : Thread nD τ).loc main_arg7)
abbrev X8 (c : Dev nD) : FVec Ideal S8192x1024 .f32 := m ((c.tc : Thread nD τ).loc main_arg8)

theorem idx : ∀ t : Fin cfg0.N, win0_0.index t = ![(t : ℕ), 0] ∧ win0_1.index t = ![(t : ℕ), 0] ∧ win0_2.index t = ![(t : ℕ), 0]
    ∧ win0_3.index t = ![0, 0] ∧ win0_4.index t = ![0, 0] ∧ win0_5.index t = ![0, 0] ∧ win0_6.index t = ![0, 0, 0]
    ∧ win0_7.index t = ![0, 1, 0] ∧ win0_8.index t = ![(t : ℕ), 0] ∧ win0_12.index t = ![0, 0, 0] :=
  (by decide +kernel : ∀ t : Fin grid0.N, _)

/-- Four square weights packed quarter by quarter. -/
def packed (x0 x1 x2 x3 : FVec Ideal S1024x1024 .f32) : FVec Ideal S4x1024x1024 .bf16 :=
  truncf (F := Ideal) .bf16 (concatenate S4x1024x1024 1
      [⟨S4x256x1024, shapeCast S4x256x1024 x0 shapeCasts_S1024x1024_S4x256x1024⟩,
       ⟨S4x256x1024, shapeCast S4x256x1024 x1 shapeCasts_S1024x1024_S4x256x1024⟩,
       ⟨S4x256x1024, shapeCast S4x256x1024 x2 shapeCasts_S1024x1024_S4x256x1024⟩,
       ⟨S4x256x1024, shapeCast S4x256x1024 x3 shapeCasts_S1024x1024_S4x256x1024⟩]
      concatenates_S4x256x1024_S4x256x1024_S4x256x1024_S4x256x1024_S4x1024x1024_d1) bitsLt_bf16_f32

theorem packed_at0 (x0 x1 x2 x3 : FVec Ideal S1024x1024 .f32) (a : Fin 4) (b : Fin 256) (d : Fin 1024) :
    packed x0 x1 x2 x3 (ix3 a ⟨b, by omega⟩ d) = x0 (ix2 (col a b) d) := by
  pointwise [packed]
  blk_point [col]

theorem packed_at1 (x0 x1 x2 x3 : FVec Ideal S1024x1024 .f32) (a : Fin 4) (b : Fin 256) (d : Fin 1024) :
    packed x0 x1 x2 x3 (ix3 a ⟨256 + b, by omega⟩ d) = x1 (ix2 (col a b) d) := by
  pointwise [packed]
  blk_point [col]
  all_goals (exfalso; omega)

/-- The packed weights at the region's start. -/
theorem pack_eq (c : Dev nD) : V m c main_v6 = packed (X4 m c) (X5 m c) (X6 m c) (X7 m c) := by
  unfold V
  after_results
  rfl

/-- The reciprocal root of the mean squares, and the queries, as computed outside the grid. -/
def hostInv (x : FVec Ideal S8192x1024 .f32) : FVec Ideal S8192x1 .f32 :=
  Host.rsqrt (addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))

def hostNorm (x : FVec Ideal S8192x1024 .f32) (g : FVec Ideal S1024 .f32) : FVec Ideal S8192x1024 .f32 :=
  mulf (mulf x (broadcastInDim S8192x1024 ![0, 1] bcast_S8192x1_S8192x1024_0_1 (hostInv x)))
    (broadcastInDim S8192x1024 ![0, 1] bcast_S1x1024_S8192x1024_0_1 (shapeCast S1x1024 g shapeCasts_S1024_S1x1024))

def hostQuery (x : FVec Ideal S8192x1024 .f32) (g : FVec Ideal S1024 .f32) (w : FVec Ideal S1024x1024 .f32) : FVec Ideal S8192x1024 .bf16 :=
  truncf (F := Ideal) .bf16 (Host.dotGeneral (φ₁ := .bf16) (φ₂ := .bf16) dot_S8192x1024_S1024x1024_S8192x1024_1_0_0_1_n_n none
    (truncf (F := Ideal) .bf16 (hostNorm x g) bitsLt_bf16_f32) (truncf (F := Ideal) .bf16 w bitsLt_bf16_f32)) bitsLt_bf16_f32

theorem query_eq (c : Dev nD) : V m c main_v22 = hostQuery (X0 m c) (X1 m c) (X4 m c) := by
  unfold V
  after_results
  rfl

section
variable (H : Fin 8192 → Fin 1024 → ℝ) (G : Fin 1024 → ℝ) (W : Fin 1024 → Fin 1024 → ℝ)

theorem hostInv_at (s : Fin 8192) (z : Fin 1) : hostInv (up H) (ix2 s z) = ((inv (H s) : ℝ) : EReal) := by
  rw [inv, ← coe_rinv (by norm_num) rmsEps_pos, ← coe_meanSq (by norm_num)]
  pointwise [hostInv]
  rw [ofBits_1024, ofBits_rmsEps]
  rfl

theorem hostNorm_up : hostNorm (up H) (up1 G) = up fun s => nrm (H s) G := by
  funext i
  idx_vars i
  pointwise [hostNorm]
  rw [hostInv_at]
  simp only [up_at, up1, nrm, EReal.coe_mul]
  rfl

theorem hostQuery_up : hostQuery (up H) (up1 G) (up W) = up (Q H G W) := by
  rw [hostQuery, hostNorm_up]
  funext i
  idx_vars i
  pointwise []
  simp only [up_at, proj, coe_sum, EReal.coe_mul]
end

/-- The arguments are the images of real arrays. -/
structure Args (c : Dev nD) (H DH : Fin 8192 → Fin 1024 → ℝ) (G : Fin 1024 → ℝ) (K V : Fin 256 → Fin 1024 → ℝ)
    (WQ WO : Fin 1024 → Fin 1024 → ℝ) : Prop where
  h : X0 m c = up H
  g : X1 m c = up1 G
  k : X2 m c = up K
  v : X3 m c = up V
  wq : X4 m c = up WQ
  wo : X5 m c = up WO
  dh : X8 m c = up DH

/-- The rows of one point of the grid. -/
abbrev rows (f : Fin 8192 → Fin 1024 → ℝ) (t : Fin cfg0.N) : Fin 512 → Fin 1024 → ℝ :=
  fun p => f ⟨(t : ℕ) * 512 + p, by have := t.isLt; have e : cfg0.N = 16 := N_0; omega⟩

section
variable {m} {c : Dev nD} {H DH : Fin 8192 → Fin 1024 → ℝ} {G : Fin 1024 → ℝ} {K V : Fin 256 → Fin 1024 → ℝ}
    {WQ WO : Fin 1024 → Fin 1024 → ℝ} (A : Args m c H DH G K V WQ WO) (t : Fin cfg0.N)
include A

theorem b0 : (iblk m c 0 t : FVec Ideal S512x1024 .f32) = up (rows H t) := by
  have e : (up (rows H t) : FVec Ideal S512x1024 .f32) = fun i => X0 m c (ix2 ⟨(t : ℕ) * 512 + (i 0), by have := t.isLt; have e : cfg0.N = 16 := N_0; have := (i 0).isLt; simp at this; omega⟩ (i 1)) := by
    rw [A.h]; rfl
  rw [e]
  funext j
  blk_ext [iblk, Gen.V, idx t]

theorem b1 : (iblk m c 1 t : FVec Ideal S512x1024 .f32) = up (rows DH t) := by
  have e : (up (rows DH t) : FVec Ideal S512x1024 .f32) = fun i => X8 m c (ix2 ⟨(t : ℕ) * 512 + (i 0), by have := t.isLt; have e : cfg0.N = 16 := N_0; have := (i 0).isLt; simp at this; omega⟩ (i 1)) := by
    rw [A.dh]; rfl
  rw [e]
  funext j
  blk_ext [iblk, Gen.V, idx t]

theorem b2 : (iblk m c 2 t : FVec Ideal S512x1024 .bf16) = up (rows (Q H G WQ) t) := by
  have e : (up (rows (Q H G WQ) t) : FVec Ideal S512x1024 .bf16) = fun i => Gen.V m c main_v22 (ix2 ⟨(t : ℕ) * 512 + (i 0), by have := t.isLt; have e : cfg0.N = 16 := N_0; have := (i 0).isLt; simp at this; omega⟩ (i 1)) := by
    rw [query_eq, A.h, A.g, A.wq, hostQuery_up]; rfl
  rw [e]
  funext j
  blk_ext [iblk, idx t]

theorem b3 : (iblk m c 3 t : FVec Ideal S1x1024 .f32) = up fun _ : Fin 1 => G := by
  have e : Gen.V m c main_v0 = shapeCast S1x1024 (X1 m c) shapeCasts_S1024_S1x1024 := by unfold Gen.V; after_results; rfl
  have e' : (up fun _ : Fin 1 => G : FVec Ideal S1x1024 .f32) = Gen.V m c main_v0 := by
    rw [e, A.g]
    funext i
    idx_vars i
    pointwise [up, up1]
  rw [e']
  funext j
  blk_ext [iblk, idx t]

theorem b4 : (iblk m c 4 t : FVec Ideal S256x1024 .bf16) = up K := by
  have e : Gen.V m c main_v23 = up K := by
    rw [← A.k]; unfold Gen.V; after_results; rfl
  rw [← e]
  funext j
  blk_ext [iblk, idx t]

theorem b5 : (iblk m c 5 t : FVec Ideal S256x1024 .bf16) = up V := by
  have e : Gen.V m c main_v24 = up V := by
    rw [← A.v]; unfold Gen.V; after_results; rfl
  rw [← e]
  funext j
  blk_ext [iblk, idx t]

theorem b6 : (iblk m c 6 t : FVec Ideal S4x256x1024 .bf16) = upq WQ := by
  have e : (upq WQ : FVec Ideal S4x256x1024 .bf16) = fun i => Gen.V m c main_v6 (ix3 (i 0) ⟨(i 1 : Fin 256), by omega⟩ (i 2)) := by
    rw [pack_eq]; funext i; idx_vars i; exact ((packed_at0 _ _ _ _ i0 i1 i2).trans (by rw [A.wq]; rfl)).symm
  rw [e]
  funext j
  blk_ext [iblk, idx t]

theorem b7 : (iblk m c 7 t : FVec Ideal S4x256x1024 .bf16) = upq WO := by
  have e : (upq WO : FVec Ideal S4x256x1024 .bf16) = fun i => Gen.V m c main_v6 (ix3 (i 0) ⟨256 + (i 1 : Fin 256), by omega⟩ (i 2)) := by
    rw [pack_eq]; funext i; idx_vars i; exact ((packed_at1 _ _ _ _ i0 i1 i2).trans (by rw [A.wo]; rfl)).symm
  rw [e]
  funext j
  blk_ext [iblk, idx t]
end

end Cert.Xattn

end
-- ==== Proof.XattnPre.lean ====
/- The precondition of the attention call read back: its float arguments are the images of real arrays; and where the mask of the shards
is set. -/
module

public import proofs.«01_k».proof.Proof.XattnBlk
public import proofs.«01_k».proof.Proof.Gen.Pre_finite_xattn
public import proofs.«01_k».proof.Proof.Gen.On_written_qo
public import Idealize.ShloMosaic.Lib.ReduceAll

@[expose] public section

set_option maxRecDepth 16384

noncomputable section

namespace Cert.RealLift

open Idealize.ShloMosaic

/-- A matrix of which every element is smaller than infinity is the image of a real one. -/
theorem up_of_finite {a b : ℕ} {t u : Shape} [Subsingleton u.Idx] (dims : Fin t.rank → Fin 2) (hb : t.BroadcastsInDim ⟨2, ![a, b]⟩ dims)
    (x : FVec Ideal ⟨2, ![a, b]⟩ .f32) {axes : List (Fin 2)} (hr : (⟨2, ![a, b]⟩ : Shape).ReducesTo axes u) {w : Shape} (init : w.Idx → BitVec 1) (hu : 0 < w.numel) (j : u.Idx)
    (h : Host.reduce IntOp.andi (cmpf .olt (Host.absf x) (broadcastInDim ⟨2, ![a, b]⟩ dims hb (constant (F := Ideal) t .f32 0x7F800000#32))) init hr hu j = 1#1) :
    ∃ X : Fin a → Fin b → ℝ, x = Cert.Xattn.up X := by
  obtain ⟨r, hx⟩ := exists_real dims hb x (Host.reduce_andi_all _ _ hr hu j h)
  refine ⟨fun p q => r (ix2 p q), hx.trans (funext fun i => ?_)⟩
  exact congrArg (fun k => ((r k : ℝ) : EReal)) (funext fun k => by fin_cases k <;> rfl)

/-- A vector of which every element is smaller than infinity is the image of a real one. -/
theorem up1_of_finite {a : ℕ} {t u : Shape} [Subsingleton u.Idx] (dims : Fin t.rank → Fin 1) (hb : t.BroadcastsInDim ⟨1, ![a]⟩ dims)
    (x : FVec Ideal ⟨1, ![a]⟩ .f32) {axes : List (Fin 1)} (hr : (⟨1, ![a]⟩ : Shape).ReducesTo axes u) {w : Shape} (init : w.Idx → BitVec 1) (hu : 0 < w.numel) (j : u.Idx)
    (h : Host.reduce IntOp.andi (cmpf .olt (Host.absf x) (broadcastInDim ⟨1, ![a]⟩ dims hb (constant (F := Ideal) t .f32 0x7F800000#32))) init hr hu j = 1#1) :
    ∃ X : Fin a → ℝ, x = Cert.Xattn.up1 X := by
  obtain ⟨r, hx⟩ := exists_real dims hb x (Host.reduce_andi_all _ _ hr hu j h)
  refine ⟨fun p => r (ix1 p), hx.trans (funext fun i => ?_)⟩
  exact congrArg (fun k => ((r k : ℝ) : EReal)) (funext fun k => by fin_cases k <;> rfl)

end Cert.RealLift

namespace Cert.Xattn

open Cert.Kernel5Ideal Cert.Kernel5Ideal.Gen
open Idealize.ShloMosaic Idealize.ShloMosaic.TcCoe Idealize.SL.Sem Cert.RealLift

variable (m : (ℓ : Loc nD τ sig) → Buf (Elt Ideal) ℓ)

instance : Subsingleton S_.Idx := ⟨fun a b => funext fun i => i.elim0⟩

/-- Under the precondition the arguments are the images of real arrays. -/
theorem args_of_finite (c : Dev nD)
    (h : Cert.Pre_finite_xattn.fn (F := Ideal) (X0 m c) (X1 m c) (X2 m c) (X3 m c) (X4 m c) (X5 m c) (X6 m c) (X7 m c) (X8 m c) = fun _ => 1#1) :
    ∃ H DH G K V WQ WO, Args m c H DH G K V WQ WO := by
  have e := congrFun h (Shape.Idx.first Cert.Pre_finite_xattn.Gen.h_S_)
  unfold Cert.Pre_finite_xattn.fn Cert.Pre_finite_xattn.fn_part1 at e
  obtain ⟨e, e8⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨H, hH⟩ := up_of_finite _ _ _ _ _ _ _ e0
  obtain ⟨G, hG⟩ := up1_of_finite _ _ _ _ _ _ _ e1
  obtain ⟨K, hK⟩ := up_of_finite _ _ _ _ _ _ _ e2
  obtain ⟨V, hV⟩ := up_of_finite _ _ _ _ _ _ _ e3
  obtain ⟨WQ, hWQ⟩ := up_of_finite _ _ _ _ _ _ _ e4
  obtain ⟨WO, hWO⟩ := up_of_finite _ _ _ _ _ _ _ e5
  obtain ⟨DH, hDH⟩ := up_of_finite _ _ _ _ _ _ _ e8
  exact ⟨H, DH, G, K, V, WQ, WO, ⟨hH, hG, hK, hV, hWQ, hWO, hDH⟩⟩

/-- The mask of the shards is set on the first 512 rows only. -/
theorem row_of_mask (x0 x1 x2 x3 x4 x5 x6 x7 x8) (i : S4x1024x1024.Idx)
    (h : (Cert.On_written_qo.fn (F := Ideal) x0 x1 x2 x3 x4 x5 x6 x7 x8).2.2.2.2 i = 1#1) : (i 1 : ℕ) < 512 := by
  have h' : IntOp.cmpi .slt (BitVec.ofNat 32 (i 1 : ℕ)) 512#32 = 1#1 := h
  have hb : (i 1 : ℕ) < 1024 := (i 1).isLt
  generalize (i 1 : ℕ) = n at h' hb ⊢
  rw [IntOp.cmpi_slt, BitVec.toInt_eq_toNat_of_lt (by simp only [BitVec.toNat_ofNat]; omega),
    BitVec.toInt_eq_toNat_of_lt (by decide)] at h'
  simp only [BitVec.toNat_ofNat] at h'
  omega

end Cert.Xattn

end
-- ==== Proof.FdxPre.lean ====
/- The precondition of the feed-forward block's call read back: its float arguments are the images of real arrays. -/
module

public import proofs.«01_k».proof.Proof.FdxBlk
public import proofs.«01_k».proof.Proof.XattnPre
public import proofs.«01_k».proof.Proof.Gen.Pre_finite_ffn
public import Idealize.ShloMosaic.Lib.ReduceAll

@[expose] public section

set_option maxRecDepth 16384

noncomputable section

namespace Cert.Fdx

open Cert.Kernel2Ideal Cert.Kernel2Ideal.Gen
open Idealize.ShloMosaic Idealize.ShloMosaic.TcCoe Idealize.SL.Sem Cert.RealLift

variable (m : (ℓ : Loc nD τ sig) → Buf (Elt Ideal) ℓ)

instance : Subsingleton S_.Idx := ⟨fun a b => funext fun i => i.elim0⟩

/-- Under the precondition the arguments are the images of real arrays. -/
theorem args_of_finite (c : Dev nD)
    (h : Cert.Pre_finite_ffn.fn (F := Ideal) (X0 m c) (X1 m c) (X2 m c) (X3 m c) (X4 m c) (X5 m c) = fun _ => 1#1) :
    ∃ X D G WA WB WD, Args m c X D G WA WB WD := by
  have e := congrFun h (Shape.Idx.first Cert.Pre_finite_ffn.Gen.h_S_)
  unfold Cert.Pre_finite_ffn.fn Cert.Pre_finite_ffn.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := up_of_finite _ _ _ _ _ _ _ e0
  obtain ⟨G, hG⟩ := up1_of_finite _ _ _ _ _ _ _ e1
  obtain ⟨WA, hWA⟩ := up_of_finite _ _ _ _ _ _ _ e2
  obtain ⟨WB, hWB⟩ := up_of_finite _ _ _ _ _ _ _ e3
  obtain ⟨WD, hWD⟩ := up_of_finite _ _ _ _ _ _ _ e4
  obtain ⟨D, hD⟩ := up_of_finite _ _ _ _ _ _ _ e5
  exact ⟨X, D, G, WA, WB, WD, ⟨hX, hG, hWA, hWB, hWD, hD⟩⟩

end Cert.Fdx

end
-- ==== Proof.LossPt.lean ====
/- One point of the last feed-forward block's grid with the loss behind it: what it writes and how it grows the carried loss and row, as
images of real arrays. -/
module

public import proofs.«01_k».proof.Proof.FdxPt
public import proofs.«01_k».proof.Proof.Gen.Kernel3Ideal.Value
public import Idealize.ShloMosaic.Lib.Claim
public import Idealize.ShloMosaic.Lib.Pipeline.ReadBack

@[expose] public section

set_option maxRecDepth 16384

noncomputable section

namespace Cert.Loss

open Cert.Kernel3Ideal Cert.Kernel3Ideal.Gen
open Idealize.ShloMosaic Idealize.ShloMosaic.TcCoe Idealize.SL.Sem Cert.RealLift Cert.Xattn Cert.Ffn
open Cert.Fdx (trunc_id ext_id at2)

theorem ofBits_inv1024 : Ideal.ofBits .f32 0x3A800000#32 = ((1 / 1024 : ℝ) : EReal) := by
  simp [Ideal.ofBits, Ideal.ieee]
  rw [← EReal.coe_mul]; norm_num

theorem ofBits_inv2048 : Ideal.ofBits .f32 0x3A000000#32 = ((1 / 2048 : ℝ) : EReal) := by
  simp [Ideal.ofBits, Ideal.ieee]
  rw [← EReal.coe_mul]; norm_num

/-! ## The products -/

section
variable (x : Fin 512 → Fin 1024 → ℝ) (W : Fin 768 → Fin 1024 → ℝ) (W' : Fin 512 → Fin 1024 → ℝ) (y : Fin 512 → Fin 768 → ℝ) (y' : Fin 512 → Fin 512 → ℝ)

theorem fwd768 : (matmul (φ₁ := .bf16) (φ₂ := .bf16) dot_S512x1024_S768x1024_S512x768_1_1_0_0_n_n none (up x) (up W)
    (constant S512x768 .f32 0x00000000#32) : FVec Ideal S512x768 .f32) = up fun p => fwd (x p) W := by
  funext i
  idx_vars i
  pointwise []
  simp only [at2, fwd, coe_sum, EReal.coe_mul]

theorem fwd512 : (matmul (φ₁ := .bf16) (φ₂ := .bf16) dot_S512x1024_S512x1024_S512x512_1_1_0_0_n_n none (up x) (up W')
    (constant S512x512 .f32 0x00000000#32) : FVec Ideal S512x512 .f32) = up fun p => fwd (x p) W' := by
  funext i
  idx_vars i
  pointwise []
  simp only [at2, fwd, coe_sum, EReal.coe_mul]

theorem bwd768 : (matmul (φ₁ := .bf16) (φ₂ := .bf16) dot_S512x768_S768x1024_S512x1024_1_0_0_1_n_n none (up y) (up W)
    (constant S512x1024 .f32 0x00000000#32) : FVec Ideal S512x1024 .f32) = up fun p => bwd (y p) W := by
  funext i
  idx_vars i
  pointwise []
  simp only [at2, bwd, coe_sum, EReal.coe_mul]

theorem bwd512 : (matmul (φ₁ := .bf16) (φ₂ := .bf16) dot_S512x512_S512x1024_S512x1024_1_0_0_1_n_n none (up y') (up W')
    (constant S512x1024 .f32 0x00000000#32) : FVec Ideal S512x1024 .f32) = up fun p => bwd (y' p) W' := by
  funext i
  idx_vars i
  pointwise []
  simp only [at2, bwd, coe_sum, EReal.coe_mul]
end

/-! ## The block's output, its norm, and the loss -/

/-- A row of the block's output: the residual row and the gated product. -/
def outRow {a : ℕ} (X : Fin a → Fin 1024 → ℝ) (G : Fin 1024 → ℝ) (WG WU WD : Fin 2816 → Fin 1024 → ℝ) (p : Fin a) (d : Fin 1024) : ℝ :=
  X p d + bwd (fun f => act (fwd (nrm (X p) G) WG f) (fwd (nrm (X p) G) WU f)) WD d

/-- The difference between a normalised row and its target, and the gradient of the mean half square there. -/
def dif {a : ℕ} (y : Fin a → Fin 1024 → ℝ) (g : Fin 1024 → ℝ) (T : Fin a → Fin 1024 → ℝ) (p : Fin a) (d : Fin 1024) : ℝ := nrm (y p) g d - T p d
def ct {a : ℕ} (y : Fin a → Fin 1024 → ℝ) (g : Fin 1024 → ℝ) (T : Fin a → Fin 1024 → ℝ) (p : Fin a) (d : Fin 1024) : ℝ := dif y g T p d * (1 / 1024)

section
variable (x : Fin 512 → Fin 1024 → ℝ) (g : Fin 1024 → ℝ)

theorem nrm_up : k0_pay6 (F := Ideal) (up x) (up fun _ : Fin 1 => g) = up fun p => nrm (x p) g := by
  have hi : (rsqrt (addf (divf (shapeCast S512x1 (multiReduction .add [1] S512 (mulf (up x) (up x) : FVec Ideal S512x1024 .f32) 0x00000000#32
      reduces_S512x1024_S512 (.inl rfl) rfl) shapeCasts_S512_S512x1) (broadcast S512x1 (Scalar.ofBits .f32 0x44800000#32)))
      (broadcast S512x1 (Scalar.ofBits .f32 0x358637BD#32))) : FVec Ideal S512x1 .f32) = up fun p (_ : Fin 1) => Cert.Xattn.inv (x p) := by
    funext i
    idx_vars i
    rw [at2, Cert.Xattn.inv, ← coe_rinv (by norm_num) rmsEps_pos, ← coe_meanSq (by norm_num)]
    pointwise []
    rw [ofBits_1024, ofBits_rmsEps]
    rfl
  simp only [k0_pay6]
  rw [hi, shapeCast_self, trunc_id]
  funext i
  idx_vars i
  pointwise []
  simp only [at2, nrm, EReal.coe_mul]

variable {a : FVec Ideal S512x1024 .f32} {b c d : FVec Ideal S512x512 .f32} {e : FVec Ideal S512x1024 .bf16} {y : Fin 512 → Fin 1024 → ℝ}
    (h : k0_pay27 a b c d e = up y)
include h

theorem inv_up : k0_pay29 a b c d e = up fun p (_ : Fin 1) => Cert.Xattn.inv (y p) := by
  rw [k0_pay29, h]
  funext i
  idx_vars i
  rw [at2, Cert.Xattn.inv, ← coe_rinv (by norm_num) rmsEps_pos, ← coe_meanSq (by norm_num)]
  pointwise []
  rw [ofBits_1024, ofBits_rmsEps]
  rfl

theorem hat_up : k0_pay30 a b c d e = up fun p d => y p d * Cert.Xattn.inv (y p) := by
  rw [k0_pay30, inv_up h, h]
  funext i
  idx_vars i
  pointwise []
  simp only [at2, EReal.coe_mul]

variable (T : Fin 512 → Fin 1024 → ℝ)

theorem dif_up : k0_pay31 a b c d e (up fun _ : Fin 1 => g) (up T) = up (dif y g T) := by
  rw [k0_pay31, hat_up h, k0_pay28, shapeCast_self]
  funext i
  idx_vars i
  pointwise []
  simp only [at2, dif, nrm, ← EReal.coe_mul, ← EReal.coe_sub]

theorem loss_up (A) : k0_pay32 a b c d e (up fun _ : Fin 1 => g) (up T) A
    = addf A (up fun (_ : Fin 1) (_ : Fin 128) => (∑ p, ∑ d, dif y g T p d * dif y g T p d) * (1 / 2048)) := by
  simp only [k0_pay32]
  rw [dif_up g h, shapeCast_self, mul_up]
  funext i
  idx_vars i
  pointwise []
  simp only [at2, ofBits_inv2048, ← EReal.coe_mul, ← coe_sum]

theorem ct_up : k0_pay1 (k0_pay31 a b c d e (up fun _ : Fin 1 => g) (up T)) (Scalar.ofBits .f32 0x3A800000#32) = up (ct y g T) := by
  rw [k0_pay1, dif_up g h]
  funext i
  idx_vars i
  pointwise []
  simp only [at2, ct, ofBits_inv1024, ← EReal.coe_mul]

theorem gain_up (A) : k0_pay2 (k0_pay30 a b c d e) (k0_pay31 a b c d e (up fun _ : Fin 1 => g) (up T)) (Scalar.ofBits .f32 0x3A800000#32) A
    = addf A (up fun (_ : Fin 1) d => ∑ p, ct y g T p d * (y p d * Cert.Xattn.inv (y p))) := by
  rw [k0_pay2, ct_up g h, hat_up h, shapeCast_self]
  funext i
  idx_vars i
  pointwise []
  simp only [at2, coe_sum, EReal.coe_mul]

theorem drow_up : k0_pay3 (k0_pay28 (up fun _ : Fin 1 => g)) (k0_pay29 a b c d e) (k0_pay30 a b c d e)
      (k0_pay31 a b c d e (up fun _ : Fin 1 => g) (up T)) (Scalar.ofBits .f32 0x3A800000#32)
    = up fun p => drow (y p) g (fun _ => 0) (ct y g T p) := by
  have e0 : (mulf (up (ct y g T)) (broadcastTo S512x1024 (up fun _ : Fin 1 => g) broadcasts_S1x1024_S512x1024) : FVec Ideal S512x1024 .f32)
      = up fun p d => ct y g T p d * g d := by
    funext i
    idx_vars i
    pointwise []
    simp only [at2, EReal.coe_mul]
  rw [k0_pay3, ct_up g h, hat_up h, inv_up h, k0_pay28, shapeCast_self, e0]
  funext i
  idx_vars i
  pointwise []
  simp only [at2, drow, zero_add, ofBits_1024, ← EReal.coe_mul, ← coe_sum, div_coe (by norm_num : (1024 : ℝ) ≠ 0), ← EReal.coe_sub, ← EReal.coe_add]
end

/-! ## The strips of lanes -/

theorem cover : ∀ y : S512x2816.Idx, ∃ p ∈ ([
       ⟨Rect.unit ![0, 2304] ![512, 512] inb_S512x2816_S512x512_0_2304, fun _ => (0 : EReal)⟩,
       ⟨Rect.unit ![0, 1536] ![512, 768] inb_S512x2816_S512x768_0_1536, fun _ => (0 : EReal)⟩,
       ⟨Rect.unit ![0, 768] ![512, 768] inb_S512x2816_S512x768_0_768, fun _ => (0 : EReal)⟩,
       ⟨Rect.unit ![0, 0] ![512, 768] inb_S512x2816_S512x768_0_0, fun _ => (0 : EReal)⟩]
         : List (View.Piece (Elt Ideal) S512x2816 .bf16)), y ∈ p.1.set :=
  View.cover_of_tiledBy _ ![512, 256] (by decide +kernel)

theorem stage (F : Fin 512 → Fin 2816 → ℝ) : View.canon (Val := Elt Ideal) (s := S512x2816) (e := .bf16)
      [⟨Rect.unit ![0, 2304] ![512, 512] inb_S512x2816_S512x512_0_2304, up (lanes 2304 F)⟩,
       ⟨Rect.unit ![0, 1536] ![512, 768] inb_S512x2816_S512x768_0_1536, up (lanes 1536 F)⟩,
       ⟨Rect.unit ![0, 768] ![512, 768] inb_S512x2816_S512x768_0_768, up (lanes 768 F)⟩,
       ⟨Rect.unit ![0, 0] ![512, 768] inb_S512x2816_S512x768_0_0, up (lanes 0 F)⟩] = up F := by
  funext y
  canon_tiles x hx using (by have h := cover y; simpa only [List.mem_cons, List.not_mem_nil, exists_eq_or_imp, exists_eq_left, or_false] using h)
  all_goals exact lanes_at _ F (by simp [hx0]) (by simp [hx1])

/-! ## A point -/

section
variable (X : Fin 512 → Fin 1024 → ℝ) (G : Fin 1024 → ℝ) (WG WU WD : Fin 2816 → Fin 1024 → ℝ)

/-- The gated lanes of one strip. -/
def actStrip {w : ℕ} (k : ℕ) (p : Fin 512) (j : Fin w) : ℝ :=
  fwd (nrm (X p) G) (strip k WG) j * sg (fwd (nrm (X p) G) (strip k WG) j) * fwd (nrm (X p) G) (strip k WU) j

/-- The four partial products are the whole. -/
theorem sum_strips : (up fun p d => X p d + bwd (actStrip (w := 768) X G WG WU 0 p) (strip 0 WD) d + bwd (actStrip (w := 768) X G WG WU 768 p) (strip 768 WD) d
      + bwd (actStrip (w := 768) X G WG WU 1536 p) (strip 1536 WD) d + bwd (actStrip (w := 512) X G WG WU 2304 p) (strip 2304 WD) d)
    = up (outRow X G WG WU WD) := by
  congr 1
  funext p d
  have e1 := split4 fun f => act (fwd (nrm (X p) G) WG f) (fwd (nrm (X p) G) WU f) * WD f d
  have key : ∀ x a b c d : ℝ, x + a + b + c + d = x + (a + b + c + d) := by intros; ring
  exact (key _ _ _ _ _).trans (congrArg (X p d + ·) e1)
end

variable (m : (ℓ : Loc nD τ sig) → Buf (Elt Ideal) ℓ)

/-- What a point's blocks hold. -/
structure Blks (c : Dev nD) (t : Fin cfg0.N) (X T : Fin 512 → Fin 1024 → ℝ) (G GF : Fin 1024 → ℝ)
    (WG WU WD : Fin 2816 → Fin 1024 → ℝ) : Prop where
  b0 : (iblk m c 0 t : FVec Ideal S512x1024 .f32) = up X
  b1 : (iblk m c 1 t : FVec Ideal S1x1024 .f32) = up fun _ : Fin 1 => G
  b2 : (iblk m c 2 t : FVec Ideal S2816x1024 .bf16) = up WG
  b3 : (iblk m c 3 t : FVec Ideal S2816x1024 .bf16) = up WU
  b4 : (iblk m c 4 t : FVec Ideal S2816x1024 .bf16) = up WD
  b5 : (iblk m c 5 t : FVec Ideal S512x1024 .f32) = up T
  b6 : (iblk m c 6 t : FVec Ideal S1x1024 .f32) = up fun _ : Fin 1 => GF

variable {m : (ℓ : Loc nD τ sig) → Buf (Elt Ideal) ℓ} {c : Dev nD} {t : Fin cfg0.N} {X T : Fin 512 → Fin 1024 → ℝ}
    {G GF : Fin 1024 → ℝ} {WG WU WD : Fin 2816 → Fin 1024 → ℝ} (A : Blks m c t X T G GF WG WU WD)

/-- What a point leaves. -/
abbrev Outs : Type := FVec Ideal S512x1024 .f32 × FVec Ideal S1x128 .f32 × FVec Ideal S1x1024 .f32 × FVec Ideal S512x2816 .bf16
  × FVec Ideal S512x2816 .bf16

/-- What a point writes, and how it grows the carried loss and the carried row. -/
def Grows (X T : Fin 512 → Fin 1024 → ℝ) (G GF : Fin 1024 → ℝ) (WG WU WD : Fin 2816 → Fin 1024 → ℝ) (x : Outs)
    (ls : FVec Ideal S1x128 .f32) (dg : FVec Ideal S1x1024 .f32) : Prop :=
  x.1 = up (fun p => drow (outRow X G WG WU WD p) GF (fun _ => 0) (ct (outRow X G WG WU WD) GF T p))
  ∧ x.2.1 = addf ls (up fun (_ : Fin 1) (_ : Fin 128) =>
      (∑ p, ∑ d, dif (outRow X G WG WU WD) GF T p d * dif (outRow X G WG WU WD) GF T p d) * (1 / 2048))
  ∧ x.2.2.1 = addf dg (up fun (_ : Fin 1) d => ∑ p, ct (outRow X G WG WU WD) GF T p d * (outRow X G WG WU WD p d * Cert.Xattn.inv (outRow X G WG WU WD p)))
  ∧ x.2.2.2.1 = up (fun p => fwd (nrm (X p) G) WG)
  ∧ x.2.2.2.2 = up (fun p => fwd (nrm (X p) G) WU)

/-- The block's output as the point computes it. -/
theorem out_up : k0_pay27 (F := Ideal)
      (up fun p d => X p d + bwd (actStrip (w := 768) X G WG WU 0 p) (strip 0 WD) d + bwd (actStrip (w := 768) X G WG WU 768 p) (strip 768 WD) d
        + bwd (actStrip (w := 768) X G WG WU 1536 p) (strip 1536 WD) d)
      (up fun p => fwd (nrm (X p) G) (strip 2304 WG)) (up fun p => fwd (nrm (X p) G) (strip 2304 WU)) (up fun _ _ => 0) (up (strip 2304 WD))
    = up (outRow X G WG WU WD) := by
  refine Eq.trans ?_ (sum_strips X G WG WU WD)
  simp only [k0_pay27, shapeCast_self, trunc_id, one_up, exp_up, mul_up, add_up, sub_up, sig_up, bwd512]
  rfl

set_option maxHeartbeats 8000000 in
include A in
theorem grows_all :
    (t.val % 16 = 0 → Grows X T G GF WG WU WD (outsAt0 m c t.val t.isLt) k0_pay4 k0_pay5)
    ∧ (¬ t.val % 16 = 0 → Grows X T G GF WG WU WD (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.1) := by
  refine ⟨fun h0 => ?_, fun h0 => ?_⟩
  all_goals first | rw [outsAt0_A m c t h0] | rw [outsAt0_B m c t h0]
  all_goals refine ⟨?_, ?_, ?_, ?_, ?_⟩
  all_goals frame_out
  all_goals simp (disch := decide) only [k0_pay7, k0_pay8, k0_pay9, k0_pay10, k0_pay11, k0_pay12, k0_pay13, k0_pay14, k0_pay15, k0_pay16, k0_pay17, k0_pay18, k0_pay19,
      k0_pay20, k0_pay21, k0_pay22, k0_pay23, k0_pay24, k0_pay25, k0_pay26,
      A.b0, A.b1, A.b2, A.b3, A.b4, A.b5, A.b6, shapeCast_self, trunc_id, ext_id, nrm_up, ld_strip, one_up, zero_up, exp_up, mul_up, add_up, sub_up,
      sig_up, fwd768, fwd512, bwd768, bwd512, ↓ View.readCov_cons_toLoadRect, ↓ View.readCov_skip, ↓ View.readCov_fill, read_unread_whole]
  · exact drow_up GF out_up T
  · exact loss_up GF out_up T _
  · exact gain_up GF out_up T _
  · exact stage fun p => fwd (nrm (X p) G) WG
  · exact stage fun p => fwd (nrm (X p) G) WU
  · exact drow_up GF out_up T
  · exact loss_up GF out_up T _
  · exact gain_up GF out_up T _
  · exact stage fun p => fwd (nrm (X p) G) WG
  · exact stage fun p => fwd (nrm (X p) G) WU

end Cert.Loss

end
-- ==== Proof.SguReal.lean ====
/- The gradient of the chunked spatial gating, over the reals: the gelu, the layer norm of a row, and the mixing of the
128 positions of a chunk within each of eight groups of lanes. -/
module

public import proofs.«01_k».proof.Proof.XattnReal

@[expose] public section

noncomputable section

namespace Cert.Sgu

open Idealize.ShloMosaic Cert.RealLift Cert.Xattn

/-! ## The constants of the gelu and of the layer norm, as their float words read -/

def gc : ℝ := 13386282 * (2 ^ 24)⁻¹

theorem ofBits_gc : Ideal.ofBits .f32 0x3F4C422A#32 = ((gc : ℝ) : EReal) := by
  simp [Ideal.ofBits, Ideal.ieee, gc]

def lnEps : ℝ := 10995116 * (2 ^ 40)⁻¹

theorem lnEps_pos : 0 < lnEps := by unfold lnEps; positivity

theorem ofBits_lnEps : Ideal.ofBits .f32 0x3727C5AC#32 = ((lnEps : ℝ) : EReal) := by
  simp [Ideal.ofBits, Ideal.ieee, lnEps]

theorem ofBits_half : Ideal.ofBits .f32 0x3F000000#32 = ((1 / 2 : ℝ) : EReal) := by
  simp [Ideal.ofBits, Ideal.ieee]
  rw [← EReal.coe_mul]; norm_num

theorem ofBits_two : Ideal.ofBits .f32 0x40000000#32 = ((2 : ℝ) : EReal) := by
  simp [Ideal.ofBits, Ideal.ieee]
  rw [← EReal.coe_mul]; norm_num

theorem ofBits_three : Ideal.ofBits .f32 0x40400000#32 = ((3 : ℝ) : EReal) := by
  simp [Ideal.ofBits, Ideal.ieee]
  rw [← EReal.coe_mul]; norm_num

theorem ofBits_8943 : Ideal.ofBits .f32 0x460BBC00#32 = ((8943 : ℝ) : EReal) := by
  simp [Ideal.ofBits, Ideal.ieee]
  rw [← EReal.coe_mul]; norm_num

theorem ofBits_200000 : Ideal.ofBits .f32 0x48435000#32 = ((200000 : ℝ) : EReal) := by
  simp [Ideal.ofBits, Ideal.ieee]
  rw [← EReal.coe_mul]; norm_num

/-! ## Rows -/

/-- The image of a real array of three axes. -/
def up3 {a b c : ℕ} (H : Fin a → Fin b → Fin c → ℝ) : (⟨3, ![a, b, c]⟩ : Shape).Idx → EReal :=
  fun i => ((H (i 0) (i 1) (i 2) : ℝ) : EReal)

/-- The gelu's inner value, the gelu and its derivative. -/
def th (z : ℝ) : ℝ := Real.tanh (gc * (z + 8943 / 200000 * z * z * z))
def ge (z : ℝ) : ℝ := 1 / 2 * z * (1 + th z)
def dge (z : ℝ) : ℝ :=
  1 / 2 * (1 + th z) + 1 / 2 * z * (1 - th z * th z) * gc * (26829 / 200000 * z * z + 1)

/-- The chain rule through the gelu's own steps is its derivative. -/
theorem gelu_chain (z c : ℝ) :
    c * (1 / 2 * (1 + th z)) + gc * (1 / 2 * (z * c) * ((1 + th z) * (1 - th z)))
      + 8943 * (gc * (1 / 2 * (z * c) * ((1 + th z) * (1 - th z))) / 200000) * (3 * (z * z)) = c * dge z := by
  unfold dge; ring

variable (v y : Fin 1024 → ℝ)

/-- The layer norm of a row: mean, centred row, reciprocal root, normalised row. -/
def mu : ℝ := (∑ k, v k) / 1024
def cen (d : Fin 1024) : ℝ := v d - mu v
def lrs : ℝ := rinv 1024 lnEps (cen v)
def yl (d : Fin 1024) : ℝ := cen v d * lrs v

/-- Its gradient. -/
def dln (d : Fin 1024) : ℝ :=
  lrs v * (y d - (∑ k, y k) / 1024 - yl v d * ((∑ k, y k * yl v k) / 1024))

theorem sum_cen : ∑ k, cen v k = 0 := by
  simp only [cen, Finset.sum_sub_distrib, Finset.sum_const, Finset.card_univ, Fintype.card_fin, mu, nsmul_eq_mul]
  push_cast
  ring

/-- The chain rule through the norm's own steps: what reaches the centred row less its mean. -/
theorem ln_chain (d : Fin 1024) :
    y d * lrs v + (∑ k, cen v k * y k) * (-(1 / 2) * (lrs v / meanSq 1024 lnEps (cen v))) / 1024 * (2 * cen v d)
      + ((∑ k, -(y k * lrs v))
        + ∑ k, -((∑ j, cen v j * y j) * (-(1 / 2) * (lrs v / meanSq 1024 lnEps (cen v))) / 1024 * (2 * cen v k))) / 1024
      = dln v y d := by
  have h := rinv_div (w := 1024) (e := lnEps) (by norm_num) lnEps_pos (cen v)
  have h2 : ∑ k, -((∑ j, cen v j * y j) * (-(1 / 2) * (lrs v / meanSq 1024 lnEps (cen v))) / 1024 * (2 * cen v k)) = 0 := by
    rw [Finset.sum_neg_distrib, ← Finset.mul_sum, ← Finset.mul_sum, sum_cen]; ring
  have h3 : ∑ k, y k * yl v k = (∑ j, cen v j * y j) * lrs v := by
    rw [Finset.sum_mul]; exact Finset.sum_congr rfl fun k _ => by unfold yl; ring
  rw [h2, Finset.sum_neg_distrib, ← Finset.sum_mul]
  unfold dln
  rw [h3, show lrs v / meanSq 1024 lnEps (cen v) = lrs v * lrs v * lrs v from h]
  unfold yl
  ring

/-- The two halves of a row of 2048. -/
def lo (d : Fin 1024) : Fin 2048 := ⟨d, by omega⟩
def hi (d : Fin 1024) : Fin 2048 := ⟨1024 + d, by omega⟩

variable (z : Fin 2048 → ℝ) (lg lb : Fin 1024 → ℝ)

def uu (d : Fin 1024) : ℝ := ge (z (lo d))
def vv (d : Fin 1024) : ℝ := ge (z (hi d))
def vn (d : Fin 1024) : ℝ := yl (vv z) d * lg d + lb d

/-- The two halves of the gradient at the gelu's output, and that at its input. -/
def both (a b : Fin 1024 → ℝ) (j : Fin 2048) : ℝ := if h : (j : ℕ) < 1024 then a ⟨j, h⟩ else b ⟨(j : ℕ) - 1024, by omega⟩
theorem both_lo (a b : Fin 1024 → ℝ) (j : Fin 2048) (h : (j : ℕ) < 1024) : both a b j = a ⟨j, h⟩ := dif_pos h
theorem both_hi (a b : Fin 1024 → ℝ) (j : Fin 2048) (h : ¬ (j : ℕ) < 1024) : both a b j = b ⟨(j : ℕ) - 1024, by omega⟩ := dif_neg h

def dz (a b : Fin 1024 → ℝ) (j : Fin 2048) : ℝ := both a b j * dge (z j)

/-- A row of 1024 into 2048 lanes, and back. -/
def wide (n : Fin 1024 → ℝ) (W : Fin 1024 → Fin 2048 → ℝ) (j : Fin 2048) : ℝ := ∑ d, n d * W d j
def slim (x : Fin 2048 → ℝ) (W : Fin 1024 → Fin 2048 → ℝ) (d : Fin 1024) : ℝ := ∑ j, x j * W d j

/-! ## The mixing of positions -/

/-- A lane's group, a row's position in its chunk, and the row of the same chunk at another position. -/
def gp (d : Fin 1024) : Fin 8 := ⟨(d : ℕ) / 128, by omega⟩
def ps {n : ℕ} (s : Fin n) : Fin 128 := ⟨(s : ℕ) % 128, by omega⟩
def ck {n : ℕ} (hn : n % 128 = 0) (s : Fin n) (q : Fin 128) : Fin n := ⟨(s : ℕ) / 128 * 128 + q, by omega⟩

variable {n : ℕ} (hn : n % 128 = 0) (WS : Fin 8 → Fin 128 → Fin 128 → ℝ) (BS : Fin 8 → Fin 128 → ℝ)

/-- The mixed rows, and the gradient's way back. -/
def mix (X : Fin n → Fin 1024 → ℝ) (s : Fin n) (d : Fin 1024) : ℝ :=
  (∑ q, WS (gp d) (ps s) q * X (ck hn s q) d) + BS (gp d) (ps s)
def tp (g : Fin 8) (p q : Fin 128) : ℝ := WS g q p
def unmix (X : Fin n → Fin 1024 → ℝ) (s : Fin n) (d : Fin 1024) : ℝ :=
  ∑ p, tp WS (gp d) (ps s) p * X (ck hn s p) d

/-! The rows of a call of `n` rows: mixed, gated, and the gradients at the mixed rows, at the normalised rows, at the gate
and at the gelu's input. -/

variable (Z : Fin n → Fin 2048 → ℝ) (D : Fin n → Fin 1024 → ℝ) (WO : Fin 1024 → Fin 1024 → ℝ)

def sv : Fin n → Fin 1024 → ℝ := mix hn WS BS fun s => vn (Z s) lg lb
def yy (s : Fin n) (d : Fin 1024) : ℝ := uu (Z s) d * sv lg lb hn WS BS Z s d
def ds (s : Fin n) (d : Fin 1024) : ℝ := back (D s) WO d * uu (Z s) d
def dv : Fin n → Fin 1024 → ℝ := unmix hn WS (ds Z D WO)
def du (s : Fin n) (d : Fin 1024) : ℝ := back (D s) WO d * sv lg lb hn WS BS Z s d
def dzz (s : Fin n) : Fin 2048 → ℝ :=
  dz (Z s) (du lg lb hn WS BS Z D WO s) (dln (vv (Z s)) fun d => dv hn WS Z D WO s d * lg d)

end Cert.Sgu

end
-- ==== Proof.LossRef.lean ====
/- The last feed-forward block with the loss behind it, as the reference program computes the loss and its gradient, over the reals. -/
module

public import proofs.«01_k».proof.Proof.Gen.Reference3Ideal.Read
public import proofs.«01_k».proof.Proof.FdxRef
public import proofs.«01_k».proof.Proof.SguReal
public import proofs.«01_k».proof.Proof.LossPt

@[expose] public section

set_option maxRecDepth 16384

noncomputable section

namespace Cert.Loss

open Idealize.ShloMosaic Idealize.ShloMosaic.TcCoe Idealize.SL.Sem Cert.RealLift Cert.Ffn
open Cert.Xattn (up up1 nrm back drow)
open Cert.Fdx (tr pre at2 trunc_id)
open Cert.Sgu (ofBits_half ofBits_two)
open Cert.Reference3Ideal.Gen Cert.Reference3Ideal Cert.Reference3Ideal.Read

variable (X T : Fin 8192 → Fin 1024 → ℝ) (G GF : Fin 1024 → ℝ) (WA WB : Fin 1024 → Fin 2816 → ℝ) (WD : Fin 2816 → Fin 1024 → ℝ)

/-- The block's output. -/
def ys : Fin 8192 → Fin 1024 → ℝ := outRow X G (tr WA) (tr WB) WD

/-! ## The block -/

theorem v6_at (s : Fin 8192) (z : Fin 1) :
    val_main_v6 (F := Ideal) (up X) (ix2 s z) = ((meanSq 1024 rmsEps (X s) : ℝ) : EReal) := by
  rw [← coe_meanSq (by norm_num)]
  pointwise [val_main_v6, val_main_v5, val_main_v4, val_main_v3, val_main_v2, val_main_v1, val_main_v0, val_main_cst,
    val_main_cst_0, val_main_cst_1, up]
  rw [ofBits_1024, ofBits_rmsEps]

theorem v12_at (s : Fin 8192) (d : Fin 1024) :
    val_main_v12 (F := Ideal) (up X) (up1 G) (ix2 s d) = ((nrm (X s) G d : ℝ) : EReal) := by
  pointwise [val_main_v12, val_main_v11, val_main_v10, val_main_v9, val_main_v8, val_main_v7]
  rw [v6_at, coe_rinv (by norm_num) rmsEps_pos]
  simp only [nrm, Cert.Xattn.inv, EReal.coe_mul]; rfl

theorem v13_at (s : Fin 8192) (f : Fin 2816) :
    val_main_v13 (F := Ideal) (up X) (up1 G) (up WA) (ix2 s f) = ((pre X G WA s f : ℝ) : EReal) := by
  pointwise [val_main_v13]
  simp only [v12_at, pre, fwd, tr, coe_sum, EReal.coe_mul]; rfl

theorem v15_at (s : Fin 8192) (f : Fin 2816) :
    val_main_v15 (F := Ideal) (up X) (up1 G) (up WB) (ix2 s f) = ((pre X G WB s f : ℝ) : EReal) := by
  pointwise [val_main_v15]
  simp only [v12_at, pre, fwd, tr, coe_sum, EReal.coe_mul]; rfl

theorem sig_at (s : Fin 8192) (f : Fin 2816) :
    val_main_call0_v5 (F := Ideal) (up X) (up1 G) (up WA) (ix2 s f) = ((sg (pre X G WA s f) : ℝ) : EReal) := by
  have h1 : val_main_call0_v1 (F := Ideal) (up X) (up1 G) (up WA) (ix2 s f) = ((Real.exp (0 - pre X G WA s f) : ℝ) : EReal) := by
    pointwise [val_main_call0_v1, val_main_call0_v0]
    rw [v13_at, ← EReal.coe_neg, Ideal.exp_coe, zero_sub]
  pointwise [val_main_call0_v5, val_main_call0_v4, val_main_call0_cst_0, val_main_call0_v3, val_main_call0_v2, val_main_call0_cst]
  rw [h1, ← EReal.coe_one, ← EReal.coe_add, div_coe (by positivity)]
  rfl

theorem v16_at (s : Fin 8192) (f : Fin 2816) :
    val_main_v16 (F := Ideal) (up X) (up1 G) (up WA) (up WB) (ix2 s f) = ((act (pre X G WA s f) (pre X G WB s f) : ℝ) : EReal) := by
  pointwise [val_main_v16, val_main_v14]
  rw [sig_at, v13_at, v15_at, ← EReal.coe_mul, ← EReal.coe_mul, act]

theorem v18_at (s : Fin 8192) (d : Fin 1024) :
    val_main_v18 (F := Ideal) (up X) (up1 G) (up WA) (up WB) (up WD) (ix2 s d) = ((ys X G WA WB WD s d : ℝ) : EReal) := by
  have h17 : val_main_v17 (F := Ideal) (up X) (up1 G) (up WA) (up WB) (up WD) (ix2 s d)
      = ((bwd (fun f => act (pre X G WA s f) (pre X G WB s f)) WD d : ℝ) : EReal) := by
    pointwise [val_main_v17]
    simp only [v16_at, bwd, coe_sum, EReal.coe_mul]; rfl
  pointwise [val_main_v18]
  rw [h17, at2, ← EReal.coe_add]
  rfl

/-! ## The norm behind it, the loss, and the gradient there -/

theorem v25_at (s : Fin 8192) (z : Fin 1) :
    val_main_v25 (F := Ideal) (up X) (up1 G) (up WA) (up WB) (up WD) (ix2 s z) = ((meanSq 1024 rmsEps (ys X G WA WB WD s) : ℝ) : EReal) := by
  rw [← coe_meanSq (by norm_num)]
  pointwise [val_main_v25, val_main_v24, val_main_v23, val_main_v22, val_main_v21, val_main_v20, val_main_v19, val_main_cst_2,
    val_main_cst_3, val_main_cst_4]
  simp only [v18_at]
  rw [ofBits_1024, ofBits_rmsEps]

theorem v26_at (s : Fin 8192) (z : Fin 1) :
    val_main_v26 (F := Ideal) (up X) (up1 G) (up WA) (up WB) (up WD) (ix2 s z) = ((Cert.Xattn.inv (ys X G WA WB WD s) : ℝ) : EReal) := by
  pointwise [val_main_v26]
  rw [v25_at, coe_rinv (by norm_num) rmsEps_pos]

theorem v29_at (s : Fin 8192) (z : Fin 1) :
    val_main_v29 (F := Ideal) (up X) (up1 G) (up WA) (up WB) (up WD) (ix2 s z)
      = ((-(1 / 2) * (Cert.Xattn.inv (ys X G WA WB WD s) / meanSq 1024 rmsEps (ys X G WA WB WD s)) : ℝ) : EReal) := by
  pointwise [val_main_v29, val_main_v28, val_main_cst_5, val_main_v27]
  rw [ofBits_neg_half, v26_at, v25_at, div_coe (meanSq_pos (by norm_num) rmsEps_pos _).ne', EReal.coe_mul]

theorem v31_at (s : Fin 8192) (d : Fin 1024) :
    val_main_v31 (F := Ideal) (up X) (up1 G) (up WA) (up WB) (up WD) (ix2 s d)
      = ((ys X G WA WB WD s d * Cert.Xattn.inv (ys X G WA WB WD s) : ℝ) : EReal) := by
  pointwise [val_main_v31, val_main_v30]
  rw [v26_at, v18_at, ← EReal.coe_mul]

theorem v35_at (s : Fin 8192) (d : Fin 1024) :
    val_main_v35 (F := Ideal) (up X) (up1 G) (up WA) (up WB) (up WD) (up T) (up1 GF) (ix2 s d) = ((dif (ys X G WA WB WD) GF T s d : ℝ) : EReal) := by
  pointwise [val_main_v35, val_main_v34, val_main_v33, val_main_v32]
  rw [v31_at]
  simp only [dif, nrm, EReal.coe_mul, EReal.coe_sub]; rfl

theorem v70_at (z : Fin 1) (k : Fin 128) :
    val_main_v70 (F := Ideal) (up X) (up1 G) (up WA) (up WB) (up WD) (up T) (up1 GF) (ix2 z k)
      = ((1 / 2 * ∑ s, (∑ d, dif (ys X G WA WB WD) GF T s d * dif (ys X G WA WB WD) GF T s d) / 1024 : ℝ) : EReal) := by
  have h41 : ∀ s : Fin 8192, val_main_v41 (F := Ideal) (up X) (up1 G) (up WA) (up WB) (up WD) (up T) (up1 GF) (ix1 s)
      = (((∑ d, dif (ys X G WA WB WD) GF T s d * dif (ys X G WA WB WD) GF T s d) / 1024 : ℝ) : EReal) := fun s => by
    pointwise [val_main_v41, val_main_v40, val_main_cst_8, val_main_v39, val_main_cst_7, val_main_v36]
    simp only [v35_at, ← EReal.coe_mul, ← coe_sum, ofBits_1024, div_coe (by norm_num : (1024 : ℝ) ≠ 0)]
  pointwise [val_main_v70, val_main_v43, val_main_cst_10, val_main_v42, val_main_cst_9]
  simp only [h41, ofBits_half, ← EReal.coe_mul, ← coe_sum]

theorem v49_at (s : Fin 8192) (d : Fin 1024) :
    val_main_v49 (F := Ideal) (up X) (up1 G) (up WA) (up WB) (up WD) (up T) (up1 GF) (ix2 s d) = ((ct (ys X G WA WB WD) GF T s d : ℝ) : EReal) := by
  pointwise [val_main_v49, val_main_v48, val_main_v47, val_main_v46, val_main_cst_13, val_main_v45, val_main_v44, val_main_cst_12, val_main_cst_11,
    val_main_v38, val_main_v37, val_main_cst_6]
  rw [v35_at]
  simp only [ofBits_half, ofBits_two, ofBits_1024, ofBits_one, ← EReal.coe_one, ← EReal.coe_mul, div_coe (by norm_num : (1024 : ℝ) ≠ 0)]
  congr 1
  rw [ct]
  ring

theorem v71_at (z : Fin 1) (d : Fin 1024) :
    val_main_v71 (F := Ideal) (up X) (up1 G) (up WA) (up WB) (up WD) (up T) (up1 GF) (ix2 z d)
      = ((∑ s, ct (ys X G WA WB WD) GF T s d * (ys X G WA WB WD s d * Cert.Xattn.inv (ys X G WA WB WD s)) : ℝ) : EReal) := by
  have h51 : val_main_v51 (F := Ideal) (up X) (up1 G) (up WA) (up WB) (up WD) (up T) (up1 GF) (ix1 d)
      = ((∑ s, ct (ys X G WA WB WD) GF T s d * (ys X G WA WB WD s d * Cert.Xattn.inv (ys X G WA WB WD s)) : ℝ) : EReal) := by
    pointwise [val_main_v51, val_main_cst_14, val_main_v50]
    simp only [v49_at, v31_at, coe_sum, EReal.coe_mul]
    exact Finset.sum_congr rfl fun q _ => mul_comm _ _
  pointwise [val_main_v71, val_main_v55, val_main_v52, val_main_cst_15]
  simp only [Finset.univ_unique, Finset.sum_singleton]
  exact h51

theorem v54_at (s : Fin 8192) (d : Fin 1024) :
    val_main_v54 (F := Ideal) (up X) (up1 G) (up WA) (up WB) (up WD) (up T) (up1 GF) (ix2 s d) = ((ct (ys X G WA WB WD) GF T s d * GF d : ℝ) : EReal) := by
  pointwise [val_main_v54, val_main_v53, val_main_v32]
  rw [v49_at, EReal.coe_mul]; rfl

theorem v57_at (s : Fin 8192) :
    val_main_v57 (F := Ideal) (up X) (up1 G) (up WA) (up WB) (up WD) (up T) (up1 GF) (ix1 s)
      = ((∑ k, ys X G WA WB WD s k * (ct (ys X G WA WB WD) GF T s k * GF k) : ℝ) : EReal) := by
  pointwise [val_main_v57, val_main_v56, val_main_cst_16]
  simp only [v54_at, v18_at, coe_sum, EReal.coe_mul]

theorem v65_at (s : Fin 8192) (d : Fin 1024) :
    val_main_v65 (F := Ideal) (up X) (up1 G) (up WA) (up WB) (up WD) (up T) (up1 GF) (ix2 s d)
      = (((∑ k, ys X G WA WB WD s k * (ct (ys X G WA WB WD) GF T s k * GF k))
        * (-(1 / 2) * (Cert.Xattn.inv (ys X G WA WB WD s) / meanSq 1024 rmsEps (ys X G WA WB WD s))) / 1024 : ℝ) : EReal) := by
  pointwise [val_main_v65, val_main_v64, val_main_v63, val_main_v62, val_main_v61, val_main_v58, val_main_cst_17, val_main_cst_18]
  simp only [Finset.univ_unique, Finset.sum_singleton, v57_at, v29_at, ← EReal.coe_mul]
  rw [ofBits_1024, div_coe (by norm_num)]

theorem v69_at (s : Fin 8192) (d : Fin 1024) :
    val_main_v69 (F := Ideal) (up X) (up1 G) (up WA) (up WB) (up WD) (up T) (up1 GF) (ix2 s d)
      = ((drow (ys X G WA WB WD s) GF (fun _ => 0) (ct (ys X G WA WB WD) GF T s) d : ℝ) : EReal) := by
  have h60 : val_main_v60 (F := Ideal) (up X) (up1 G) (up WA) (up WB) (up WD) (up T) (up1 GF) (ix2 s d)
      = ((ct (ys X G WA WB WD) GF T s d * GF d * Cert.Xattn.inv (ys X G WA WB WD s) : ℝ) : EReal) := by
    pointwise [val_main_v60, val_main_v59]
    rw [v54_at, v26_at]
    exact (EReal.coe_mul _ _).symm
  rw [val_main_v69_apply, val_main_v68_apply, val_main_v67_apply, val_main_v66_apply, h60, v65_at, v18_at]
  rw [drow, norm_grad (by norm_num) rmsEps_pos (ys X G WA WB WD s) (fun d => ct (ys X G WA WB WD) GF T s d * GF d), zero_add]
  simp only [EReal.coe_add, EReal.coe_mul]
  rfl

/-! ## What the backward pass takes of the block -/

theorem v73_at (s : Fin 8192) (f : Fin 2816) :
    val_main_v73 (F := Ideal) (up X) (up1 G) (up WA) (ix2 s f) = ((pre X G WA s f : ℝ) : EReal) := v13_at X G WA s f

theorem v75_at (s : Fin 8192) (f : Fin 2816) :
    val_main_v75 (F := Ideal) (up X) (up1 G) (up WB) (ix2 s f) = ((pre X G WB s f : ℝ) : EReal) := v15_at X G WB s f

end Cert.Loss

end
-- ==== Proof.LossBlk.lean ====
/- What the blocks of each point of the last feed-forward block's grid hold, over the reals, and what the call prepares outside it. -/
module

public import proofs.«01_k».proof.Proof.LossPt
public import proofs.«01_k».proof.Proof.LossRef

@[expose] public section

set_option maxRecDepth 16384

noncomputable section

namespace Cert.Loss

open Cert.Kernel3Ideal Cert.Kernel3Ideal.Gen
open Idealize.ShloMosaic Idealize.ShloMosaic.TcCoe Idealize.SL.Sem Cert.RealLift Cert.Ffn
open Cert.Xattn (up up1 nrm back drow)
open Cert.Fdx (tr pre at2 trunc_id)

variable (m : (ℓ : Loc nD τ sig) → Buf (Elt Ideal) ℓ)

abbrev X0 (c : Dev nD) : FVec Ideal S8192x1024 .f32 := m ((c.tc : Thread nD τ).loc main_arg0)
abbrev X1 (c : Dev nD) : FVec Ideal S1024 .f32 := m ((c.tc : Thread nD τ).loc main_arg1)
abbrev X2 (c : Dev nD) : FVec Ideal S1024x2816 .f32 := m ((c.tc : Thread nD τ).loc main_arg2)
abbrev X3 (c : Dev nD) : FVec Ideal S1024x2816 .f32 := m ((c.tc : Thread nD τ).loc main_arg3)
abbrev X4 (c : Dev nD) : FVec Ideal S2816x1024 .f32 := m ((c.tc : Thread nD τ).loc main_arg4)
abbrev X5 (c : Dev nD) : FVec Ideal S8192x1024 .f32 := m ((c.tc : Thread nD τ).loc main_arg5)
abbrev X6 (c : Dev nD) : FVec Ideal S1024 .f32 := m ((c.tc : Thread nD τ).loc main_arg6)

theorem idx : ∀ t : Fin cfg0.N, win0_0.index t = ![(t : ℕ), 0] ∧ win0_1.index t = ![0, 0] ∧ win0_2.index t = ![0, 0]
    ∧ win0_3.index t = ![0, 0] ∧ win0_4.index t = ![0, 0] ∧ win0_5.index t = ![(t : ℕ), 0] ∧ win0_6.index t = ![0, 0]
    ∧ win0_7.index t = ![(t : ℕ), 0] ∧ win0_10.index t = ![(t : ℕ), 0] ∧ win0_11.index t = ![(t : ℕ), 0] :=
  (by decide +kernel : ∀ t : Fin grid0.N, _)

/-- A weight in four parts and back, by rows and by columns. -/
def whole (w : FVec Ideal S2816x1024 .f32) : FVec Ideal S2816x1024 .bf16 :=
  shapeCast S2816x1024 (shapeCast S4x704x1024 (truncf (F := Ideal) .bf16 w bitsLt_bf16_f32) shapeCasts_S2816x1024_S4x704x1024)
    shapeCasts_S4x704x1024_S2816x1024

def cols (w : FVec Ideal S1024x2816 .f32) : FVec Ideal S2816x1024 .bf16 :=
  whole (transpose S2816x1024 [1, 0] w transposes_S1024x2816_S2816x1024_1_0)

theorem whole_up (WD : Fin 2816 → Fin 1024 → ℝ) : whole (up WD) = up WD := by
  rw [whole, shapeCast_shapeCast]
  rfl

theorem cols_up (W : Fin 1024 → Fin 2816 → ℝ) : cols (up W) = up (tr W) := by
  have e : (transpose S2816x1024 [1, 0] (up W) transposes_S1024x2816_S2816x1024_1_0 : FVec Ideal S2816x1024 .f32) = up (tr W) := by
    funext i
    idx_vars i
    pointwise [up, tr]
  rw [cols, e, whole_up]

/-- The arguments are the images of real arrays. -/
structure Args (c : Dev nD) (X T : Fin 8192 → Fin 1024 → ℝ) (G GF : Fin 1024 → ℝ) (WA WB : Fin 1024 → Fin 2816 → ℝ)
    (WD : Fin 2816 → Fin 1024 → ℝ) : Prop where
  h : X0 m c = up X
  g : X1 m c = up1 G
  wa : X2 m c = up WA
  wb : X3 m c = up WB
  wd : X4 m c = up WD
  tg : X5 m c = up T
  gf : X6 m c = up1 GF

/-- A row of one point of the grid among all rows, and a point's rows. -/
def at' (t : Fin cfg0.N) (p : Fin 512) : Fin 8192 := ⟨(t : ℕ) * 512 + p, by have := t.isLt; have e : cfg0.N = 16 := N_0; omega⟩
abbrev rows {n : ℕ} (f : Fin 8192 → Fin n → ℝ) (t : Fin cfg0.N) : Fin 512 → Fin n → ℝ := fun p => f (at' t p)

section
variable {m} {c : Dev nD} {X T : Fin 8192 → Fin 1024 → ℝ} {G GF : Fin 1024 → ℝ} {WA WB : Fin 1024 → Fin 2816 → ℝ} {WD : Fin 2816 → Fin 1024 → ℝ}
    (A : Args m c X T G GF WA WB WD) (t : Fin cfg0.N)
include A

theorem b0 : (iblk m c 0 t : FVec Ideal S512x1024 .f32) = up (rows X t) := by
  have e : (up (rows X t) : FVec Ideal S512x1024 .f32) = fun i => X0 m c (ix2 (at' t (i 0)) (i 1)) := by
    rw [A.h]; rfl
  rw [e]
  funext j
  blk_ext [iblk, Gen.V, idx t, at']

theorem b1 : (iblk m c 1 t : FVec Ideal S1x1024 .f32) = up fun _ : Fin 1 => G := by
  have e : Gen.V m c main_v8 = shapeCast S1x1024 (X1 m c) shapeCasts_S1024_S1x1024 := by unfold Gen.V; after_results; rfl
  have e' : (up fun _ : Fin 1 => G : FVec Ideal S1x1024 .f32) = Gen.V m c main_v8 := by
    rw [e, A.g]
    funext i
    idx_vars i
    pointwise [up, up1]
  rw [e']
  funext j
  blk_ext [iblk, idx t]

theorem b2 : (iblk m c 2 t : FVec Ideal S2816x1024 .bf16) = up (tr WA) := by
  have e : Gen.V m c main_v10 = cols (X2 m c) := by unfold Gen.V; after_results; rfl
  rw [← cols_up, ← A.wa, ← e]
  funext j
  blk_ext [iblk, idx t]

theorem b3 : (iblk m c 3 t : FVec Ideal S2816x1024 .bf16) = up (tr WB) := by
  have e : Gen.V m c main_v11 = cols (X3 m c) := by unfold Gen.V; after_results; rfl
  rw [← cols_up, ← A.wb, ← e]
  funext j
  blk_ext [iblk, idx t]

theorem b4 : (iblk m c 4 t : FVec Ideal S2816x1024 .bf16) = up WD := by
  have e : Gen.V m c main_v12 = whole (X4 m c) := by unfold Gen.V; after_results; rfl
  rw [← whole_up, ← A.wd, ← e]
  funext j
  blk_ext [iblk, idx t]

theorem b5 : (iblk m c 5 t : FVec Ideal S512x1024 .f32) = up (rows T t) := by
  have e : (up (rows T t) : FVec Ideal S512x1024 .f32) = fun i => X5 m c (ix2 (at' t (i 0)) (i 1)) := by
    rw [A.tg]; rfl
  rw [e]
  funext j
  blk_ext [iblk, Gen.V, idx t, at']

theorem b6 : (iblk m c 6 t : FVec Ideal S1x1024 .f32) = up fun _ : Fin 1 => GF := by
  have e : Gen.V m c main_v9 = shapeCast S1x1024 (X6 m c) shapeCasts_S1024_S1x1024 := by unfold Gen.V; after_results; rfl
  have e' : (up fun _ : Fin 1 => GF : FVec Ideal S1x1024 .f32) = Gen.V m c main_v9 := by
    rw [e, A.gf]
    funext i
    idx_vars i
    pointwise [up, up1]
  rw [e']
  funext j
  blk_ext [iblk, idx t]

/-- The blocks of a point. -/
theorem blks : Blks m c t (rows X t) (rows T t) G GF (tr WA) (tr WB) WD :=
  ⟨b0 A t, b1 A t, b2 A t, b3 A t, b4 A t, b5 A t, b6 A t⟩
end

end Cert.Loss

end
-- ==== Proof.Loss.lean ====
/- The value of the last feed-forward block's call with the loss behind it: the blocks written at the points of the grid are the rows of the
results, and the loss and the row carried over the grid hold the sums over all rows. -/
module

public import proofs.«01_k».proof.Proof.LossBlk

@[expose] public section

set_option maxRecDepth 16384

noncomputable section

namespace Cert.Loss

open Cert.Kernel3Ideal Cert.Kernel3Ideal.Gen
open Idealize.ShloMosaic Idealize.ShloMosaic.TcCoe Idealize.SL.Sem Cert.RealLift Cert.Ffn
open Cert.Xattn (up up1 nrm back drow)
open Cert.Fdx (tr pre at2 trunc_id)

/-- The points' rows are all the rows. -/
theorem all_rows (F : Fin 8192 → ℝ) : ∑ t : Fin cfg0.N, ∑ p : Fin 512, F (at' t p) = ∑ s, F s :=
  Fin.sum_mul_add_congr (fun _ _ _ => rfl) (by rw [show cfg0.N = 16 from N_0])

/-- The last point. -/
def tl : Fin cfg0.N := ⟨15, by rw [show cfg0.N = 16 from N_0]; decide⟩

theorem zero4 (i) : k0_pay4 (F := Ideal) i = 0 := by idx_vars i; pointwise [k0_pay4]
theorem zero5 (i) : k0_pay5 (F := Ideal) i = 0 := by idx_vars i; pointwise [k0_pay5]

section
variable {m : (ℓ : Loc nD τ sig) → Buf (Elt Ideal) ℓ} {c : Dev nD} {X T : Fin 8192 → Fin 1024 → ℝ} {G GF : Fin 1024 → ℝ}
    {WA WB : Fin 1024 → Fin 2816 → ℝ} {WD : Fin 2816 → Fin 1024 → ℝ} (A : Args m c X T G GF WA WB WD)
include A

theorem first_point (t : Fin cfg0.N) (h : t.val % 16 = 0) :
    Grows (rows X t) (rows T t) G GF (tr WA) (tr WB) WD (outsAt0 m c t.val t.isLt) k0_pay4 k0_pay5 :=
  (grows_all (blks A t)).1 h
theorem later_point (t : Fin cfg0.N) (h : ¬ t.val % 16 = 0) :
    Grows (rows X t) (rows T t) G GF (tr WA) (tr WB) WD (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.1 :=
  (grows_all (blks A t)).2 h

/-- What a point writes, whichever it is. -/
theorem point (t : Fin cfg0.N) :
    ∃ ls dg, Grows (rows X t) (rows T t) G GF (tr WA) (tr WB) WD (outsAt0 m c t.val t.isLt) ls dg := by
  by_cases h : t.val % 16 = 0
  · exact ⟨_, _, first_point A t h⟩
  · exact ⟨_, _, later_point A t h⟩

/-- The squares of one row's differences. -/
def sqs (X T : Fin 8192 → Fin 1024 → ℝ) (G GF : Fin 1024 → ℝ) (WA WB : Fin 1024 → Fin 2816 → ℝ) (WD : Fin 2816 → Fin 1024 → ℝ) (s : Fin 8192) : ℝ :=
  ∑ d, dif (ys X G WA WB WD) GF T s d * dif (ys X G WA WB WD) GF T s d

theorem loss_last : (outsAt0 m c tl.val tl.isLt).2.1
    = up fun (_ : Fin 1) (_ : Fin 128) => 1 / 2 * ∑ s, sqs X T G GF WA WB WD s / 1024 := by
  funext i
  rw [Pipeline.eq_sum_fin_of_reset_step_apply_last (fun n h => (outsAt0 m c n h).2.1) 16 (fun _ => (0 : EReal))
    (fun t => up fun (_ : Fin 1) (_ : Fin 128) => (∑ p, sqs X T G GF WA WB WD (at' t p)) * (1 / 2048))
    (fun t h i => by rw [(first_point A t h).2.1, addf]; show k0_pay4 (F := Ideal) i + _ = _; rw [zero4]; rfl)
    (fun t h i => by rw [(later_point A t h).2.1]; rfl) (le_of_eq N_0) tl rfl i, zero_add]
  refine (coe_sum _ _).symm.trans (congrArg (fun r : ℝ => (r : EReal)) ?_)
  rw [← Finset.sum_mul, all_rows (sqs X T G GF WA WB WD), ← Finset.sum_div]
  ring

theorem dg_last : (outsAt0 m c tl.val tl.isLt).2.2.1
    = up fun (_ : Fin 1) d => ∑ s, ct (ys X G WA WB WD) GF T s d * (ys X G WA WB WD s d * Cert.Xattn.inv (ys X G WA WB WD s)) := by
  funext i
  rw [Pipeline.eq_sum_fin_of_reset_step_apply_last (fun n h => (outsAt0 m c n h).2.2.1) 16 (fun _ => (0 : EReal))
    (fun t => up fun (_ : Fin 1) d => ∑ p, ct (ys X G WA WB WD) GF T (at' t p) d * (ys X G WA WB WD (at' t p) d * Cert.Xattn.inv (ys X G WA WB WD (at' t p))))
    (fun t h i => by rw [(first_point A t h).2.2.1, addf]; show k0_pay5 (F := Ideal) i + _ = _; rw [zero5]; rfl)
    (fun t h i => by rw [(later_point A t h).2.2.1]; rfl) (le_of_eq N_0) tl rfl i, zero_add]
  refine (coe_sum _ _).symm.trans (congrArg (fun r : ℝ => (r : EReal)) ?_)
  exact all_rows fun s => ct (ys X G WA WB WD) GF T s (i 1) * (ys X G WA WB WD s (i 1) * Cert.Xattn.inv (ys X G WA WB WD s))

/-! ## The arrays the call returns -/

open Cert.Reference3Ideal.Read

theorem res_rows : (dats m 0 c).arrAt 7 cfg0.N
    = val_main_v69 (F := Ideal) (up X) (up1 G) (up WA) (up WB) (up WD) (up T) (up1 GF) := by
  refine (dats m 0 c).arrAt_eq_of_covers 7 _ (by decide +kernel) fun t hf y => ?_
  blk_simp
  obtain ⟨ls, dg, h⟩ := point A t
  rw [after0_7, h.1]
  obtain ⟨y0, y1, rfl⟩ : ∃ (a : Fin 512) (b : Fin 1024), y = ix2 a b := ⟨y 0, y 1, (ix2_eta y).symm⟩
  refine (v69_at X T G GF WA WB WD (at' t y0) y1).symm.trans ?_
  blk_ext [idx t, at']

theorem res_loss : (dats m 0 c).arrAt 8 cfg0.N
    = val_main_v70 (F := Ideal) (up X) (up1 G) (up WA) (up WB) (up WD) (up T) (up1 GF) := by
  refine (dats m 0 c).arrAt_eq_of_after_last 8 tl (by decide +kernel) _ fun j => ?_
  blk_simp
  rw [after0_8, loss_last A]
  idx_vars j
  exact (v70_at X T G GF WA WB WD _ _).symm

theorem res_g : (dats m 0 c).arrAt 9 cfg0.N
    = val_main_v71 (F := Ideal) (up X) (up1 G) (up WA) (up WB) (up WD) (up T) (up1 GF) := by
  refine (dats m 0 c).arrAt_eq_of_after_last 9 tl (by decide +kernel) _ fun j => ?_
  blk_simp
  rw [after0_9, dg_last A]
  idx_vars j
  exact (v71_at X T G GF WA WB WD _ _).symm

theorem res_gate : (dats m 0 c).arrAt 10 cfg0.N = val_main_v73 (F := Ideal) (up X) (up1 G) (up WA) := by
  refine (dats m 0 c).arrAt_eq_of_covers 10 _ (by decide +kernel) fun t hf y => ?_
  blk_simp
  obtain ⟨ls, dg, h⟩ := point A t
  rw [after0_10, h.2.2.2.1]
  obtain ⟨y0, y1, rfl⟩ : ∃ (a : Fin 512) (b : Fin 2816), y = ix2 a b := ⟨y 0, y 1, (ix2_eta y).symm⟩
  refine (v73_at X G WA (at' t y0) y1).symm.trans ?_
  blk_ext [idx t, at']

theorem res_gated : (dats m 0 c).arrAt 11 cfg0.N = val_main_v75 (F := Ideal) (up X) (up1 G) (up WB) := by
  refine (dats m 0 c).arrAt_eq_of_covers 11 _ (by decide +kernel) fun t hf y => ?_
  blk_simp
  obtain ⟨ls, dg, h⟩ := point A t
  rw [after0_11, h.2.2.2.2]
  obtain ⟨y0, y1, rfl⟩ : ∃ (a : Fin 512) (b : Fin 2816), y = ix2 a b := ⟨y 0, y 1, (ix2_eta y).symm⟩
  refine (v75_at X G WB (at' t y0) y1).symm.trans ?_
  blk_ext [idx t, at']
end

end Cert.Loss

end
-- ==== Proof.LossPre.lean ====
/- The precondition of the last feed-forward block's call with the loss read back: its float arguments are the images of real arrays. -/
module

public import proofs.«01_k».proof.Proof.LossBlk
public import proofs.«01_k».proof.Proof.XattnPre
public import proofs.«01_k».proof.Proof.Gen.Pre_finite_loss
public import Idealize.ShloMosaic.Lib.ReduceAll

@[expose] public section

set_option maxRecDepth 16384

noncomputable section

namespace Cert.Loss

open Cert.Kernel3Ideal Cert.Kernel3Ideal.Gen
open Idealize.ShloMosaic Idealize.ShloMosaic.TcCoe Idealize.SL.Sem Cert.RealLift

variable (m : (ℓ : Loc nD τ sig) → Buf (Elt Ideal) ℓ)

instance : Subsingleton Cert.Pre_finite_loss.S_.Idx := ⟨fun a b => funext fun i => i.elim0⟩

/-- Under the precondition the arguments are the images of real arrays. -/
theorem args_of_finite (c : Dev nD)
    (h : Cert.Pre_finite_loss.fn (F := Ideal) (X0 m c) (X1 m c) (X2 m c) (X3 m c) (X4 m c) (X5 m c) (X6 m c) = fun _ => 1#1) :
    ∃ X T G GF WA WB WD, Args m c X T G GF WA WB WD := by
  have e := congrFun h (Shape.Idx.first Cert.Pre_finite_loss.Gen.h_S_)
  unfold Cert.Pre_finite_loss.fn Cert.Pre_finite_loss.fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := up_of_finite _ _ _ _ _ _ _ e0
  obtain ⟨G, hG⟩ := up1_of_finite _ _ _ _ _ _ _ e1
  obtain ⟨WA, hWA⟩ := up_of_finite _ _ _ _ _ _ _ e2
  obtain ⟨WB, hWB⟩ := up_of_finite _ _ _ _ _ _ _ e3
  obtain ⟨WD, hWD⟩ := up_of_finite _ _ _ _ _ _ _ e4
  obtain ⟨T, hT⟩ := up_of_finite _ _ _ _ _ _ _ e5
  obtain ⟨GF, hGF⟩ := up1_of_finite _ _ _ _ _ _ _ e6
  exact ⟨X, T, G, GF, WA, WB, WD, ⟨hX, hG, hWA, hWB, hWD, hT, hGF⟩⟩

end Cert.Loss

end
-- ==== Proof.MixReal.lean ====
/- The gradient of the gated layer norm of the convolved rows, over the reals: the layer norm of a row of any width, the silu behind it, and
the two halves of the mixed row. -/
module

public import proofs.«01_k».proof.Proof.SguReal
public import proofs.«01_k».proof.Proof.Ffn

@[expose] public section

noncomputable section

namespace Cert.Mix

open Idealize.ShloMosaic Cert.RealLift Cert.Xattn Cert.Ffn
open Cert.Sgu (lnEps lnEps_pos)

theorem ofBits_512 : Ideal.ofBits .f32 0x44000000#32 = ((512 : ℝ) : EReal) := by
  simp [Ideal.ofBits, Ideal.ieee]
  rw [← EReal.coe_mul]; norm_num

variable (v y : Fin 512 → ℝ)

/-- The layer norm of a row: mean, centred row, reciprocal root, normalised row. -/
def avg : ℝ := (∑ k, v k) / 512
def dev (d : Fin 512) : ℝ := v d - avg v
def root : ℝ := rinv 512 lnEps (dev v)
def hat (d : Fin 512) : ℝ := dev v d * root v

/-- Its gradient. -/
def dhat (d : Fin 512) : ℝ := root v * (y d - (∑ k, y k) / 512 - hat v d * ((∑ k, y k * hat v k) / 512))

theorem sum_dev : ∑ k, dev v k = 0 := by
  have e : (∑ k, dev v k) = (∑ k, v k) - 512 * avg v := by
    simp only [dev, Finset.sum_sub_distrib, Finset.sum_const, Finset.card_univ, Fintype.card_fin, nsmul_eq_mul, Nat.cast_ofNat]
  rw [e, avg]
  ring

/-- The chain rule through the norm's own steps, what reaches a centred entry being `f`. -/
theorem hat_chain (f : Fin 512 → ℝ) (hf : f = fun k => (∑ j, dev v j * y j) * (-(1 / 2) * (root v / meanSq 512 lnEps (dev v))) / 512 * (2 * dev v k))
    (d : Fin 512) : y d * root v + f d + ((∑ k, -(y k * root v)) + ∑ k, -f k) / 512 = dhat v y d := by
  have hf0 : ∑ k, -f k = 0 := by
    rw [Finset.sum_neg_distrib, hf, ← Finset.mul_sum, ← Finset.mul_sum, sum_dev]
    ring
  have hy : ∑ k, y k * hat v k = (∑ j, dev v j * y j) * root v := by
    rw [Finset.sum_mul]
    exact Finset.sum_congr rfl fun k _ => by rw [hat]; ring
  have hr : root v / meanSq 512 lnEps (dev v) = root v * root v * root v := rinv_div (by norm_num) lnEps_pos (dev v)
  rw [hf0, Finset.sum_neg_distrib, ← Finset.sum_mul, dhat, hy, hf, hr, hat]
  ring

/-- The two halves of a row of 1024, and two rows of 512 side by side. -/
def fst (d : Fin 512) : Fin 1024 := ⟨d, by omega⟩
def snd (d : Fin 512) : Fin 1024 := ⟨512 + d, by omega⟩
def side (a b : Fin 512 → ℝ) (j : Fin 1024) : ℝ := if h : (j : ℕ) < 512 then a ⟨j, h⟩ else b ⟨(j : ℕ) - 512, by omega⟩
theorem side_fst (a b : Fin 512 → ℝ) (j : Fin 1024) (h : (j : ℕ) < 512) : side a b j = a ⟨j, h⟩ := dif_pos h
theorem side_snd (a b : Fin 512 → ℝ) (j : Fin 1024) (h : ¬ (j : ℕ) < 512) : side a b j = b ⟨(j : ℕ) - 512, by omega⟩ := dif_neg h

/-- The gradient of the silu. -/
def dsilu (c x : ℝ) : ℝ := c * (sg x * (1 + x * (1 - sg x)))

variable {n : ℕ} (A C B : Fin n → Fin 512 → ℝ) (D : Fin n → Fin 1024 → ℝ) (lg lb : Fin 512 → ℝ) (WO : Fin 1024 → Fin 1024 → ℝ) (s : Fin n)

/-- The silu's argument, the mixed row, and the gradients at the mixed row, the silu's argument, the convolved row, and at the two
factors of the other half. -/
def aff (d : Fin 512) : ℝ := hat (A s) d * lg d + lb d
def mixed : Fin 1024 → ℝ := side (fun d => aff A lg lb s d * sg (aff A lg lb s d)) fun d => B s d * C s d
def dmix : Fin 1024 → ℝ := fwd (D s) WO
def daff (d : Fin 512) : ℝ := dsilu (dmix D WO s (fst d)) (aff A lg lb s d)
def dconv : Fin 512 → ℝ := dhat (A s) fun d => daff A D lg lb WO s d * lg d
def dother (d : Fin 512) : ℝ := dmix D WO s (snd d) * B s d

end Cert.Mix

end
-- ==== Proof.MixPt.lean ====
/- One point of the gated mix's backward grid: what it writes and how it grows the carried rows and the carried product, as images of real
arrays. -/
module

public import proofs.«01_k».proof.Proof.MixReal
public import proofs.«01_k».proof.Proof.FdxPt
public import proofs.«01_k».proof.Proof.Gen.Kernel4Ideal.Value
public import Idealize.ShloMosaic.Lib.Claim
public import Idealize.ShloMosaic.Lib.Pipeline.ReadBack

@[expose] public section

set_option maxRecDepth 16384

noncomputable section

namespace Cert.Mix

open Cert.Kernel4Ideal Cert.Kernel4Ideal.Gen
open Idealize.ShloMosaic Idealize.ShloMosaic.TcCoe Idealize.SL.Sem Cert.RealLift Cert.Xattn Cert.Ffn
open Cert.Fdx (trunc_id ext_id at2)
open Cert.Sgu (lnEps lnEps_pos ofBits_lnEps)

section
variable (x y : Fin 1024 → Fin 1024 → ℝ)

theorem dmix_up : (matmul (φ₁ := .bf16) (φ₂ := .bf16) dot_S1024x1024_S1024x1024_S1024x1024_1_1_0_0_n_n none (up x) (up y)
    (constant S1024x1024 .f32 0x00000000#32) : FVec Ideal S1024x1024 .f32) = up (dmix x y) := by
  funext i
  idx_vars i
  pointwise []
  simp only [at2, dmix, fwd, coe_sum, EReal.coe_mul]

theorem outer_up : (matmul (φ₁ := .bf16) (φ₂ := .bf16) dot_S1024x1024_S1024x1024_S1024x1024_0_0_1_1_n_n none (up x) (up y)
    (constant S1024x1024 .f32 0x00000000#32) : FVec Ideal S1024x1024 .f32) = up fun i j => ∑ p, x p i * y p j := by
  funext i
  idx_vars i
  pointwise []
  simp only [at2, coe_sum, EReal.coe_mul]
end

section
variable (A : Fin 1024 → Fin 512 → ℝ)

theorem dev_up : k0_pay12 (F := Ideal) (up A) = up fun p => dev (A p) := by
  rw [k0_pay12, shapeCast_self]
  funext i
  idx_vars i
  pointwise []
  simp only [at2, dev, avg, ofBits_512, ← coe_sum, div_coe (by norm_num : (512 : ℝ) ≠ 0), ← EReal.coe_sub]

theorem root_up : k0_pay13 (F := Ideal) (up A) = up fun p (_ : Fin 1) => root (A p) := by
  rw [k0_pay13, dev_up]
  funext i
  idx_vars i
  rw [at2, root, ← coe_rinv (by norm_num) lnEps_pos, ← coe_meanSq (by norm_num)]
  pointwise []
  rw [ofBits_512, ofBits_lnEps]
  rfl

theorem hat_up : k0_pay14 (F := Ideal) (up A) = up fun p => hat (A p) := by
  rw [k0_pay14, dev_up, root_up]
  funext i
  idx_vars i
  pointwise []
  simp only [at2, hat, EReal.coe_mul]

variable (C B : Fin 1024 → Fin 512 → ℝ) (D WO : Fin 1024 → Fin 1024 → ℝ) (lg lb : Fin 512 → ℝ)

theorem aff_up : (addf (mulf (up fun p => hat (A p)) (broadcastTo S1024x512 (up fun _ : Fin 1 => lg) broadcasts_S1x512_S1024x512))
    (broadcastTo S1024x512 (up fun _ : Fin 1 => lb) broadcasts_S1x512_S1024x512) : FVec Ideal S1024x512 .f32) = up (aff A lg lb) := by
  funext i
  idx_vars i
  pointwise []
  simp only [at2, aff, EReal.coe_mul, EReal.coe_add]

theorem fst_up (x : Fin 1024 → Fin 1024 → ℝ) : (extractStridedSlice S1024x512 ![0, 0] (up x) slices_S1024x1024_o0_0_S1024x512 : FVec Ideal S1024x512 .f32)
    = up fun p d => x p (fst d) := by
  funext i
  idx_vars i
  pointwise [fst]
  rfl

theorem snd_up (x : Fin 1024 → Fin 1024 → ℝ) : k0_pay2 (F := Ideal) (up x) = up fun p d => x p (snd d) := by
  rw [k0_pay2]
  funext i
  idx_vars i
  pointwise [snd]
  rfl

theorem daff_up : k0_pay15 (F := Ideal) (up (dmix D WO)) (up fun p => hat (A p)) (up fun _ : Fin 1 => lg) (up fun _ : Fin 1 => lb)
    = up (daff A D lg lb WO) := by
  simp only [k0_pay15, shapeCast_self]
  rw [aff_up, fst_up]
  simp only [one_up, zero_up, exp_up, mul_up, add_up, sub_up, sig_up]
  rfl

theorem dlg_up (X) : k0_pay16 (F := Ideal) (up (dmix D WO)) (up fun p => hat (A p)) (up fun _ : Fin 1 => lg) (up fun _ : Fin 1 => lb) X
    = addf X (up fun (_ : Fin 1) d => ∑ p, daff A D lg lb WO p d * hat (A p) d) := by
  rw [k0_pay16, daff_up, mul_up, shapeCast_self]
  funext i
  idx_vars i
  pointwise []
  simp only [at2, coe_sum]

theorem dlb_up (X) : k0_pay17 (F := Ideal) (up (dmix D WO)) (up fun p => hat (A p)) (up fun _ : Fin 1 => lg) (up fun _ : Fin 1 => lb) X
    = addf X (up fun (_ : Fin 1) d => ∑ p, daff A D lg lb WO p d) := by
  rw [k0_pay17, daff_up, shapeCast_self]
  funext i
  idx_vars i
  pointwise []
  simp only [at2, coe_sum]

theorem dconv_up : k0_pay1 (F := Ideal) (up fun p (_ : Fin 1) => root (A p)) (up fun p => hat (A p)) (up (daff A D lg lb WO)) (up fun _ : Fin 1 => lg)
    = up (dconv A D lg lb WO) := by
  have e : (mulf (up (daff A D lg lb WO)) (broadcastTo S1024x512 (up fun _ : Fin 1 => lg) broadcasts_S1x512_S1024x512) : FVec Ideal S1024x512 .f32)
      = up fun p d => daff A D lg lb WO p d * lg d := by
    funext i
    idx_vars i
    pointwise []
    simp only [at2, EReal.coe_mul]
  rw [k0_pay1, shapeCast_self, e, trunc_id]
  funext i
  idx_vars i
  pointwise []
  simp only [at2, dconv, dhat, ofBits_512, ← EReal.coe_mul, ← coe_sum, div_coe (by norm_num : (512 : ℝ) ≠ 0), ← EReal.coe_sub]

theorem dother_up : k0_pay3 (F := Ideal) (up (dmix D WO)) (up B) = up (dother B D WO) := by
  simp only [k0_pay3, snd_up, shapeCast_self, ext_id, trunc_id, mul_up]
  rfl

theorem dgate_up : k0_pay4 (F := Ideal) (up (dmix D WO)) (up C) = up (dother C D WO) := dother_up C D WO
end

/-! ## A point -/

variable (m : (ℓ : Loc nD τ sig) → Buf (Elt Ideal) ℓ)

/-- A matrix in four parts. -/
def quart (x : FVec Ideal S1024x1024 .bf16) : FVec Ideal S4x256x1024 .bf16 := shapeCast S4x256x1024 x shapeCasts_S1024x1024_S4x256x1024

/-- What a point's blocks hold. -/
structure Blks (c : Dev nD) (t : Fin cfg0.N) (A C B : Fin 1024 → Fin 512 → ℝ) (D K WO : Fin 1024 → Fin 1024 → ℝ) (lg lb : Fin 512 → ℝ) : Prop where
  b0 : (iblk m c 0 t : FVec Ideal S1024x1024 .f32) = up D
  b1 : (iblk m c 1 t : FVec Ideal S1024x1024 .bf16) = up K
  b2 : (iblk m c 2 t : FVec Ideal S1024x512 .f32) = up A
  b3 : (iblk m c 3 t : FVec Ideal S1024x512 .bf16) = up C
  b4 : (iblk m c 4 t : FVec Ideal S1024x512 .bf16) = up B
  b5 : (iblk m c 5 t : FVec Ideal S1x512 .f32) = up fun _ : Fin 1 => lg
  b6 : (iblk m c 6 t : FVec Ideal S1x512 .f32) = up fun _ : Fin 1 => lb
  b7 : (iblk m c 7 t : FVec Ideal S4x256x1024 .bf16) = quart (up WO)

variable {m : (ℓ : Loc nD τ sig) → Buf (Elt Ideal) ℓ} {c : Dev nD} {t : Fin cfg0.N} {A C B : Fin 1024 → Fin 512 → ℝ}
    {D K WO : Fin 1024 → Fin 1024 → ℝ} {lg lb : Fin 512 → ℝ} (H : Blks m c t A C B D K WO lg lb)

theorem pay10_up : k0_pay10 (F := Ideal) (up D) (quart (up WO)) = up (dmix D WO) := by
  rw [k0_pay10, k0_pay9, trunc_id, shapeCast_self, quart, shapeCast_shapeCast]
  exact dmix_up D WO

theorem pay11_up (X) : k0_pay11 (F := Ideal) (up D) X (up K) = addf X (up fun i j => ∑ p, K p i * D p j) := by
  rw [k0_pay11, k0_pay9, trunc_id, shapeCast_self, shapeCast_self]
  exact congrArg (addf X) (outer_up K D)

/-- What a point leaves. -/
abbrev Outs : Type := FVec Ideal S1024x512 .bf16 × FVec Ideal S1024x512 .bf16 × FVec Ideal S1024x512 .bf16 × FVec Ideal S1x512 .f32
  × FVec Ideal S1x512 .f32 × FVec Ideal S4x256x1024 .bf16 × FVec Ideal S1024x1024 .f32

/-- What a point writes, and how it grows the two carried rows and the carried product. -/
def Grows (A C B : Fin 1024 → Fin 512 → ℝ) (D K WO : Fin 1024 → Fin 1024 → ℝ) (lg lb : Fin 512 → ℝ) (x : Outs)
    (dg db : FVec Ideal S1x512 .f32) (w : FVec Ideal S1024x1024 .f32) : Prop :=
  x.1 = up (dconv A D lg lb WO) ∧ x.2.1 = up (dother B D WO) ∧ x.2.2.1 = up (dother C D WO)
  ∧ x.2.2.2.1 = addf dg (up fun (_ : Fin 1) d => ∑ p, daff A D lg lb WO p d * hat (A p) d)
  ∧ x.2.2.2.2.1 = addf db (up fun (_ : Fin 1) d => ∑ p, daff A D lg lb WO p d)
  ∧ x.2.2.2.2.2.2 = addf w (up fun i j => ∑ p, K p i * D p j)

/-- What the point before left. -/
abbrev prev (m : (ℓ : Loc nD τ sig) → Buf (Elt Ideal) ℓ) (c : Dev nD) (t : Fin cfg0.N) : Outs :=
  outsAt0 m c (t.val - 1) (Nat.lt_of_le_of_lt (Nat.sub_le _ _) t.isLt)

include H

set_option maxHeartbeats 8000000 in
theorem grows_first (h0 : t.val % 8 = 0) (h1 : ¬ t.val % 8 = 7) :
    Grows A C B D K WO lg lb (outsAt0 m c t.val t.isLt) k0_pay7 k0_pay8 k0_pay6 := by
  rw [outsAt0_A m c t h0 h1]
  refine ⟨?_, ?_, ?_, ?_, ?_, ?_⟩
  all_goals frame_out
  all_goals simp (disch := decide) only [H.b0, H.b1, H.b2, H.b3, H.b4, H.b5, H.b6, H.b7, pay10_up, hat_up, root_up, daff_up,
      ↓ View.readCov_cons_toLoadRect, ↓ View.readCov_skip, ↓ View.readCov_fill, read_unread_whole]
  · exact dconv_up A D WO lg lb
  · exact dother_up B D WO
  · exact dgate_up C D WO
  · exact dlg_up A D WO lg lb _
  · exact dlb_up A D WO lg lb _
  · exact pay11_up _

set_option maxHeartbeats 8000000 in
theorem grows_mid (h0 : ¬ t.val % 8 = 0) (h1 : ¬ t.val % 8 = 7) :
    Grows A C B D K WO lg lb (outsAt0 m c t.val t.isLt) (prev m c t).2.2.2.1 (prev m c t).2.2.2.2.1 (prev m c t).2.2.2.2.2.2 := by
  rw [outsAt0_B m c t h0 h1]
  refine ⟨?_, ?_, ?_, ?_, ?_, ?_⟩
  all_goals frame_out
  all_goals simp (disch := decide) only [H.b0, H.b1, H.b2, H.b3, H.b4, H.b5, H.b6, H.b7, pay10_up, hat_up, root_up, daff_up,
      ↓ View.readCov_cons_toLoadRect, ↓ View.readCov_skip, ↓ View.readCov_fill, read_unread_whole]
  · exact dconv_up A D WO lg lb
  · exact dother_up B D WO
  · exact dgate_up C D WO
  · exact dlg_up A D WO lg lb _
  · exact dlb_up A D WO lg lb _
  · exact pay11_up _

set_option maxHeartbeats 8000000 in
theorem grows_last (h0 : ¬ t.val % 8 = 0) (h1 : t.val % 8 = 7) :
    Grows A C B D K WO lg lb (outsAt0 m c t.val t.isLt) (prev m c t).2.2.2.1 (prev m c t).2.2.2.2.1 (prev m c t).2.2.2.2.2.2
    ∧ (outsAt0 m c t.val t.isLt).2.2.2.2.2.1 = k0_pay5 (addf (prev m c t).2.2.2.2.2.2 (up fun i j => ∑ p, K p i * D p j)) := by
  rw [outsAt0_C m c t h0 h1]
  refine ⟨⟨?_, ?_, ?_, ?_, ?_, ?_⟩, ?_⟩
  all_goals frame_out
  all_goals simp (disch := decide) only [H.b0, H.b1, H.b2, H.b3, H.b4, H.b5, H.b6, H.b7, pay10_up, hat_up, root_up, daff_up,
      ↓ View.readCov_cons_toLoadRect, ↓ View.readCov_skip, ↓ View.readCov_fill, read_unread_whole]
  · exact dconv_up A D WO lg lb
  · exact dother_up B D WO
  · exact dgate_up C D WO
  · exact dlg_up A D WO lg lb _
  · exact dlb_up A D WO lg lb _
  · exact pay11_up _
  · exact congrArg k0_pay5 (pay11_up _)

end Cert.Mix

end
-- ==== Proof.MixHost.lean ====
/- The rows the gated mix's backward call prepares outside its grid are the ones the reference computes forwards. The operations are read in
stretches, each from what the stretch before it left. -/
module

public import proofs.«01_k».proof.Proof.MixPt
public import proofs.«01_k».proof.Proof.Gen.Reference4Ideal.Read

@[expose] public section

set_option maxRecDepth 16384

noncomputable section

namespace Cert.Mix

open Cert.Kernel4Ideal Cert.Kernel4Ideal.Gen
open Idealize.ShloMosaic Idealize.ShloMosaic.TcCoe Idealize.SL.Sem Cert.Reference4Ideal.Read

theorem row1024 (x : FVec Ideal S1024 .f32) :
    (shapeCast S1x1024 x shapeCasts_S1024_S1x1024 : FVec Ideal S1x1024 .f32) = broadcastInDim S1x1024 ![1] Cert.Reference4Ideal.Gen.bcast_S1024_S1x1024_1 x := by
  funext i
  idx_vars i
  pointwise []

theorem row512 (x : FVec Ideal S512 .f32) :
    (shapeCast S1x512 x shapeCasts_S512_S1x512 : FVec Ideal S1x512 .f32) = broadcastInDim S1x512 ![1] Cert.Reference4Ideal.Gen.bcast_S512_S1x512_1 x := by
  funext i
  idx_vars i
  pointwise []

/-- The contents after some of the operations: `n` of them from number `a` on. -/
def stretch (a n : ℕ) (F : Valuation τ sig (Elt Ideal)) : Valuation τ sig (Elt Ideal) := StableHlo.after ((hostOps0.drop a).take n) F

theorem after_split (l : List (HloOp τ sig (Elt Ideal))) (n : ℕ) (F : Valuation τ sig (Elt Ideal)) :
    StableHlo.after l F = StableHlo.after (l.drop n) (StableHlo.after (l.take n) F) := by
  induction n generalizing l F with
  | zero => rfl
  | succ n ih =>
    cases l with
    | nil => rfl
    | cons op l => exact ih l _

theorem stretches (F : Valuation τ sig (Elt Ideal)) :
    StableHlo.after hostOps0 F = stretch 91 44 (stretch 74 17 (stretch 73 1 (stretch 44 29 (stretch 43 1 (stretch 0 43 F))))) := by
  rw [after_split hostOps0 43 F, after_split (hostOps0.drop 43) 1, after_split _ 29, after_split _ 1, after_split _ 17]
  simp only [List.drop_drop]
  rfl

abbrev ref (r : Ref sig .tc) : DevRef τ sig := Proc.devRef .tc r

variable {F : Valuation τ sig (Elt Ideal)} {x0 : FVec Ideal S8192x1024 .f32} {x1 : FVec Ideal S1024 .f32} {x2 : FVec Ideal S1024x2560 .f32}
    {x3 : FVec Ideal S31x512 .f32} {x4 x5 x6 : FVec Ideal S512 .f32} {x7 : FVec Ideal S3x512 .f32} {x8 : FVec Ideal S512 .f32}

/-- The arguments the later stretches read. -/
structure Later (F : Valuation τ sig (Elt Ideal)) (x3 : FVec Ideal S31x512 .f32) (x4 x5 x6 : FVec Ideal S512 .f32) (x7 : FVec Ideal S3x512 .f32)
    (x8 : FVec Ideal S512 .f32) : Prop where
  h3 : F (Proc.devRef .tc main_arg3) = x3
  h4 : F (Proc.devRef .tc main_arg4) = x4
  h5 : F (Proc.devRef .tc main_arg5) = x5
  h6 : F (Proc.devRef .tc main_arg6) = x6
  h7 : F (Proc.devRef .tc main_arg7) = x7
  h8 : F (Proc.devRef .tc main_arg8) = x8

theorem s1 (h0 : F (Proc.devRef .tc main_arg0) = x0) (h1 : F (Proc.devRef .tc main_arg1) = x1) (h2 : F (Proc.devRef .tc main_arg2) = x2)
    (L : Later F x3 x4 x5 x6 x7 x8) :
    stretch 0 43 F (Proc.devRef .tc main_v18) = val_main_v13 (F := Ideal) x0 x1 x2
    ∧ stretch 0 43 F (Proc.devRef .tc main_v19) = val_main_v13 (F := Ideal) x0 x1 x2
    ∧ stretch 0 43 F (Proc.devRef .tc main_v28) = val_main_v25 (F := Ideal) x0 x1 x2
    ∧ stretch 0 43 F (Proc.devRef .tc main_v29) = val_main_v26 (F := Ideal)
    ∧ stretch 0 43 F (Proc.devRef .tc main_v36) = val_main_v33 (F := Ideal)
    ∧ Later (stretch 0 43 F) x3 x4 x5 x6 x7 x8 := by
  have e : (fun i => shapeCast main_v12.ty.shape (F (Proc.devRef .tc main_arg1)) shapeCasts_S1024_S1x1024 i)
    = broadcastInDim S1x1024 ![1] Cert.Reference4Ideal.Gen.bcast_S1024_S1x1024_1 x1 := by rw [h1]; exact row1024 _
  simp only [stretch, hostOps0, List.drop_zero, List.take_succ_cons, List.take_zero]
  refine ⟨?_, ?_, ?_, ?_, ?_, ⟨?_, ?_, ?_, ?_, ?_, ?_⟩⟩
  · after_results
    rw [e, h0, h2]
    rfl
  · after_results
    rw [e, h0, h2]
    rfl
  · after_results
    rw [e, h0, h2]
    rfl
  · after_results
    rfl
  · after_results
    rfl
  · after_results; exact L.h3
  · after_results; exact L.h4
  · after_results; exact L.h5
  · after_results; exact L.h6
  · after_results; exact L.h7
  · after_results; exact L.h8

theorem s2 (h18 : F (Proc.devRef .tc main_v18) = val_main_v13 (F := Ideal) x0 x1 x2) (h19 : F (Proc.devRef .tc main_v19) = val_main_v13 (F := Ideal) x0 x1 x2)
    (h28 : F (Proc.devRef .tc main_v28) = val_main_v25 (F := Ideal) x0 x1 x2)
    (h29 : F (Proc.devRef .tc main_v29) = val_main_v26 (F := Ideal)) (h36 : F (Proc.devRef .tc main_v36) = val_main_v33 (F := Ideal))
    (L : Later F x3 x4 x5 x6 x7 x8) :
    stretch 43 1 F (Proc.devRef .tc main_v18) = val_main_v13 (F := Ideal) x0 x1 x2
    ∧ stretch 43 1 F (Proc.devRef .tc main_v19) = val_main_v13 (F := Ideal) x0 x1 x2
    ∧ stretch 43 1 F (Proc.devRef .tc main_v37) = val_main_v34 (F := Ideal) x0 x1 x2
    ∧ stretch 43 1 F (Proc.devRef .tc main_v36) = val_main_v33 (F := Ideal)
    ∧ Later (stretch 43 1 F) x3 x4 x5 x6 x7 x8 := by
  simp only [stretch, hostOps0, List.drop_succ_cons, List.drop_zero, List.take_succ_cons, List.take_zero]
  refine ⟨?_, ?_, ?_, ?_, ⟨?_, ?_, ?_, ?_, ?_, ?_⟩⟩
  · after_results; exact h18
  · after_results; exact h19
  · rw [StableHlo.after_cons, StableHlo.after_nil, StableHlo.nary_result]
    show concatenate S8222x512 0 [⟨S15x512, (F (Proc.devRef .tc main_v29) : FVec Ideal S15x512 .f32)⟩,
      ⟨S8192x512, (F (Proc.devRef .tc main_v28) : FVec Ideal S8192x512 .f32)⟩, ⟨S15x512, (F (Proc.devRef .tc main_v29) : FVec Ideal S15x512 .f32)⟩]
      concatenates_S15x512_S8192x512_S15x512_S8222x512_d0 = _
    rw [h29, h28]
    rfl
  · after_results; exact h36
  · after_results; exact L.h3
  · after_results; exact L.h4
  · after_results; exact L.h5
  · after_results; exact L.h6
  · after_results; exact L.h7
  · after_results; exact L.h8

theorem s3 (h18 : F (Proc.devRef .tc main_v18) = val_main_v13 (F := Ideal) x0 x1 x2) (h19 : F (Proc.devRef .tc main_v19) = val_main_v13 (F := Ideal) x0 x1 x2)
    (h37 : F (Proc.devRef .tc main_v37) = val_main_v34 (F := Ideal) x0 x1 x2) (h36 : F (Proc.devRef .tc main_v36) = val_main_v33 (F := Ideal))
    (L : Later F x3 x4 x5 x6 x7 x8) :
    stretch 44 29 F (Proc.devRef .tc main_v18) = val_main_v13 (F := Ideal) x0 x1 x2
    ∧ stretch 44 29 F (Proc.devRef .tc main_v19) = val_main_v13 (F := Ideal) x0 x1 x2
    ∧ stretch 44 29 F (Proc.devRef .tc main_v51) = val_main_v48 (F := Ideal) x0 x1 x2 x3 x4
    ∧ stretch 44 29 F (Proc.devRef .tc main_v54) = val_main_v49 (F := Ideal) x0 x1 x2
    ∧ stretch 44 29 F (Proc.devRef .tc main_v55) = val_main_v50 (F := Ideal)
    ∧ stretch 44 29 F (Proc.devRef .tc main_v62) = val_main_v57 (F := Ideal)
    ∧ Later (stretch 44 29 F) x3 x4 x5 x6 x7 x8 := by
  simp only [stretch, hostOps0, List.drop_succ_cons, List.drop_zero, List.take_succ_cons, List.take_zero]
  refine ⟨?_, ?_, ?_, ?_, ?_, ?_, ⟨?_, ?_, ?_, ?_, ?_, ?_⟩⟩
  · after_results; exact h18
  · after_results; exact h19
  · after_results
    rw [h37, h36, L.h3, L.h4]
    rfl
  · after_results
    rw [h19]
    rfl
  · after_results
    rfl
  · after_results
    rfl
  · after_results; exact L.h3
  · after_results; exact L.h4
  · after_results; exact L.h5
  · after_results; exact L.h6
  · after_results; exact L.h7
  · after_results; exact L.h8

theorem s4 (h18 : F (Proc.devRef .tc main_v18) = val_main_v13 (F := Ideal) x0 x1 x2) (h19 : F (Proc.devRef .tc main_v19) = val_main_v13 (F := Ideal) x0 x1 x2)
    (h51 : F (Proc.devRef .tc main_v51) = val_main_v48 (F := Ideal) x0 x1 x2 x3 x4)
    (h54 : F (Proc.devRef .tc main_v54) = val_main_v49 (F := Ideal) x0 x1 x2) (h55 : F (Proc.devRef .tc main_v55) = val_main_v50 (F := Ideal))
    (h62 : F (Proc.devRef .tc main_v62) = val_main_v57 (F := Ideal)) (L : Later F x3 x4 x5 x6 x7 x8) :
    stretch 73 1 F (Proc.devRef .tc main_v18) = val_main_v13 (F := Ideal) x0 x1 x2
    ∧ stretch 73 1 F (Proc.devRef .tc main_v19) = val_main_v13 (F := Ideal) x0 x1 x2
    ∧ stretch 73 1 F (Proc.devRef .tc main_v51) = val_main_v48 (F := Ideal) x0 x1 x2 x3 x4
    ∧ stretch 73 1 F (Proc.devRef .tc main_v63) = val_main_v58 (F := Ideal) x0 x1 x2
    ∧ stretch 73 1 F (Proc.devRef .tc main_v62) = val_main_v57 (F := Ideal)
    ∧ Later (stretch 73 1 F) x3 x4 x5 x6 x7 x8 := by
  simp only [stretch, hostOps0, List.drop_succ_cons, List.drop_zero, List.take_succ_cons, List.take_zero]
  refine ⟨?_, ?_, ?_, ?_, ?_, ⟨?_, ?_, ?_, ?_, ?_, ?_⟩⟩
  · after_results; exact h18
  · after_results; exact h19
  · after_results; exact h51
  · rw [StableHlo.after_cons, StableHlo.after_nil, StableHlo.nary_result]
    show concatenate S8194x512 0 [⟨S1x512, (F (Proc.devRef .tc main_v55) : FVec Ideal S1x512 .f32)⟩,
      ⟨S8192x512, (F (Proc.devRef .tc main_v54) : FVec Ideal S8192x512 .f32)⟩, ⟨S1x512, (F (Proc.devRef .tc main_v55) : FVec Ideal S1x512 .f32)⟩]
      concatenates_S1x512_S8192x512_S1x512_S8194x512_d0 = _
    rw [h55, h54]
    rfl
  · after_results; exact h62
  · after_results; exact L.h3
  · after_results; exact L.h4
  · after_results; exact L.h5
  · after_results; exact L.h6
  · after_results; exact L.h7
  · after_results; exact L.h8

theorem s5 (h18 : F (Proc.devRef .tc main_v18) = val_main_v13 (F := Ideal) x0 x1 x2) (h19 : F (Proc.devRef .tc main_v19) = val_main_v13 (F := Ideal) x0 x1 x2)
    (h51 : F (Proc.devRef .tc main_v51) = val_main_v48 (F := Ideal) x0 x1 x2 x3 x4)
    (h63 : F (Proc.devRef .tc main_v63) = val_main_v58 (F := Ideal) x0 x1 x2)
    (h62 : F (Proc.devRef .tc main_v62) = val_main_v57 (F := Ideal)) (L : Later F x3 x4 x5 x6 x7 x8) :
    stretch 74 17 F (Proc.devRef .tc main_v18) = val_main_v13 (F := Ideal) x0 x1 x2
    ∧ stretch 74 17 F (Proc.devRef .tc main_v19) = val_main_v13 (F := Ideal) x0 x1 x2
    ∧ stretch 74 17 F (Proc.devRef .tc main_v51) = val_main_v48 (F := Ideal) x0 x1 x2 x3 x4
    ∧ stretch 74 17 F (Proc.devRef .tc main_v77) = val_main_v72 (F := Ideal) x0 x1 x2 x7 x8
    ∧ Later (stretch 74 17 F) x3 x4 x5 x6 x7 x8 := by
  simp only [stretch, hostOps0, List.drop_succ_cons, List.drop_zero, List.take_succ_cons, List.take_zero]
  refine ⟨?_, ?_, ?_, ?_, ⟨?_, ?_, ?_, ?_, ?_, ?_⟩⟩
  · after_results; exact h18
  · after_results; exact h19
  · after_results; exact h51
  · after_results
    rw [h63, h62, L.h7, L.h8]
    rfl
  · after_results; exact L.h3
  · after_results; exact L.h4
  · after_results; exact L.h5
  · after_results; exact L.h6
  · after_results; exact L.h7
  · after_results; exact L.h8

theorem s6 (h18 : F (Proc.devRef .tc main_v18) = val_main_v13 (F := Ideal) x0 x1 x2) (h19 : F (Proc.devRef .tc main_v19) = val_main_v13 (F := Ideal) x0 x1 x2)
    (h51 : F (Proc.devRef .tc main_v51) = val_main_v48 (F := Ideal) x0 x1 x2 x3 x4)
    (h77 : F (Proc.devRef .tc main_v77) = val_main_v72 (F := Ideal) x0 x1 x2 x7 x8) (L : Later F x3 x4 x5 x6 x7 x8) :
    stretch 91 44 F (Proc.devRef .tc main_v18) = val_main_v13 (F := Ideal) x0 x1 x2
    ∧ stretch 91 44 F (Proc.devRef .tc main_v51) = val_main_v48 (F := Ideal) x0 x1 x2 x3 x4
    ∧ stretch 91 44 F (Proc.devRef .tc main_v112) = val_main_v72 (F := Ideal) x0 x1 x2 x7 x8
    ∧ stretch 91 44 F (Proc.devRef .tc main_v111) = val_main_v104 (F := Ideal) x0 x1 x2 x3 x4 x5 x6 x7 x8 := by
  have e5 : (fun i => shapeCast main_v94.ty.shape (F (Proc.devRef .tc main_arg5)) shapeCasts_S512_S1x512 i)
    = broadcastInDim S1x512 ![1] Cert.Reference4Ideal.Gen.bcast_S512_S1x512_1 x5 := by rw [L.h5]; exact row512 _
  have e6 : (fun i => shapeCast main_v97.ty.shape (F (Proc.devRef .tc main_arg6)) shapeCasts_S512_S1x512 i)
    = broadcastInDim S1x512 ![1] Cert.Reference4Ideal.Gen.bcast_S512_S1x512_1 x6 := by rw [L.h6]; exact row512 _
  simp only [stretch, hostOps0, List.drop_succ_cons, List.drop_zero, List.take_succ_cons, List.take_zero, List.take_nil]
  refine ⟨?_, ?_, ?_, ?_⟩
  · after_results; exact h18
  · after_results; exact h51
  · after_results
    rw [h77]
    rfl
  · after_results
    rw [e5, e6, h51, h77, h19]
    rfl

/-- The rows the grid reads. -/
theorem host (m : (ℓ : Loc nD τ sig) → Buf (Elt Ideal) ℓ) (c : Dev nD)
    (h0 : m (c, Proc.devRef .tc main_arg0) = x0) (h1 : m (c, Proc.devRef .tc main_arg1) = x1) (h2 : m (c, Proc.devRef .tc main_arg2) = x2)
    (h3 : m (c, Proc.devRef .tc main_arg3) = x3) (h4 : m (c, Proc.devRef .tc main_arg4) = x4) (h5 : m (c, Proc.devRef .tc main_arg5) = x5)
    (h6 : m (c, Proc.devRef .tc main_arg6) = x6) (h7 : m (c, Proc.devRef .tc main_arg7) = x7) (h8 : m (c, Proc.devRef .tc main_arg8) = x8) :
    Gen.V m c main_v18 = val_main_v13 (F := Ideal) x0 x1 x2
    ∧ Gen.V m c main_v51 = val_main_v48 (F := Ideal) x0 x1 x2 x3 x4
    ∧ Gen.V m c main_v112 = val_main_v72 (F := Ideal) x0 x1 x2 x7 x8
    ∧ Gen.V m c main_v111 = val_main_v104 (F := Ideal) x0 x1 x2 x3 x4 x5 x6 x7 x8 := by
  unfold Gen.V
  rw [stretches]
  obtain ⟨a18, a19, a28, a29, a36, L⟩ := s1 (F := fun b => m (c, b)) h0 h1 h2 ⟨h3, h4, h5, h6, h7, h8⟩
  obtain ⟨a18, a19, a37, a36, L⟩ := s2 a18 a19 a28 a29 a36 L
  obtain ⟨a18, a19, a51, a54, a55, a62, L⟩ := s3 a18 a19 a37 a36 L
  obtain ⟨a18, a19, a51, a63, a62, L⟩ := s4 a18 a19 a51 a54 a55 a62 L
  obtain ⟨a18, a19, a51, a77, L⟩ := s5 a18 a19 a51 a63 a62 L
  exact s6 a18 a19 a51 a77 L

end Cert.Mix

end
-- ==== Proof.MixRef.lean ====
/- The gradient of the gated mix as the reference program computes it, over the reals: the convolved rows are real, and what follows is the
chain rule through the layer norm and the silu. -/
module

public import proofs.«01_k».proof.Proof.Gen.Reference4Ideal.Read
public import proofs.«01_k».proof.Proof.FdxPt
public import proofs.«01_k».proof.Proof.MixReal

@[expose] public section

set_option maxRecDepth 16384

noncomputable section

namespace Cert.Mix

open Idealize.ShloMosaic Idealize.ShloMosaic.TcCoe Idealize.SL.Sem Cert.RealLift Cert.Ffn
open Cert.Xattn (up up1 nrm)
open Cert.Fdx (at2 trunc_id)
open Cert.Sgu (lnEps lnEps_pos ofBits_lnEps ofBits_two)
open Cert.Reference4Ideal.Gen Cert.Reference4Ideal Cert.Reference4Ideal.Read

/-! ## Arrays with real entries -/

/-- Every entry is the image of a real number. -/
def AllReal {s : Shape} (x : s.Idx → EReal) : Prop := ∀ i, ∃ r : ℝ, x i = (r : EReal)

theorem AllReal.of_up {a b : ℕ} (H : Fin a → Fin b → ℝ) : AllReal (up H) := fun i => ⟨H (i 0) (i 1), rfl⟩
theorem AllReal.of_up1 {a : ℕ} (H : Fin a → ℝ) : AllReal (up1 H) := fun i => ⟨H (i 0), rfl⟩

theorem AllReal.mul {s : Shape} {x y : FVec Ideal s .f32} (hx : AllReal x) (hy : AllReal y) : AllReal (mulf x y) := fun i => by
  obtain ⟨a, ha⟩ := hx i
  obtain ⟨b, hb⟩ := hy i
  exact ⟨a * b, by show x i * y i = _; rw [ha, hb, EReal.coe_mul]⟩

theorem AllReal.add {s : Shape} {x y : FVec Ideal s .f32} (hx : AllReal x) (hy : AllReal y) : AllReal (addf x y) := fun i => by
  obtain ⟨a, ha⟩ := hx i
  obtain ⟨b, hb⟩ := hy i
  exact ⟨a + b, by show x i + y i = _; rw [ha, hb, EReal.coe_add]⟩

theorem real_sum {ι : Type} [Fintype ι] (f : ι → EReal) (h : ∀ k, ∃ r : ℝ, f k = (r : EReal)) : ∃ r : ℝ, ∑ k, f k = (r : EReal) := by
  choose g hg using h
  exact ⟨∑ k, g k, by rw [coe_sum]; exact Finset.sum_congr rfl fun k _ => hg k⟩

theorem AllReal.exists_up {a b : ℕ} {x : (⟨2, ![a, b]⟩ : Shape).Idx → EReal} (h : AllReal x) : ∃ H : Fin a → Fin b → ℝ, x = up H := by
  choose g hg using h
  exact ⟨fun p j => g (ix2 p j), funext fun i => (hg i).trans (by rw [up, ix2_eta])⟩

/-- Rows padded on both ends by zero rows are real where the rows are. -/
theorem AllReal.pad {n k w : ℕ} {x : (⟨2, ![n, w]⟩ : Shape).Idx → EReal} {y z : (⟨2, ![k, w]⟩ : Shape).Idx → EReal} {t : Shape} (a : Fin t.rank)
    (h) (hx : AllReal x) (hy : AllReal y) (hz : AllReal z) :
    AllReal (concatenate t a [⟨⟨2, ![k, w]⟩, y⟩, ⟨⟨2, ![n, w]⟩, x⟩, ⟨⟨2, ![k, w]⟩, z⟩] h) := fun j => by
  rw [concatenate_cons_apply, concatenateAt_cons]
  split
  · exact hy _
  · rw [concatenateAt_cons]
    split
    · exact hx _
    · rw [concatenateAt_singleton]
      exact hz _

variable (X : Fin 8192 → Fin 1024 → ℝ) (G : Fin 1024 → ℝ) (W : Fin 1024 → Fin 2560 → ℝ)

/-- The normalised rows times the weight. -/
def zs (s : Fin 8192) (j : Fin 2560) : ℝ := ∑ d, nrm (X s) G d * W d j

theorem v13_eq : val_main_v13 (F := Ideal) (up X) (up1 G) (up W) = up (zs X G W) := by
  have h6 : ∀ (s : Fin 8192) (z : Fin 1), val_main_v6 (F := Ideal) (up X) (ix2 s z) = ((meanSq 1024 rmsEps (X s) : ℝ) : EReal) := fun s z => by
    rw [← coe_meanSq (by norm_num)]
    pointwise [val_main_v6, val_main_v5, val_main_v4, val_main_v3, val_main_v2, val_main_v1, val_main_v0, val_main_cst,
      val_main_cst_0, val_main_cst_1, up]
    rw [ofBits_1024, ofBits_rmsEps]
  have h12 : ∀ (s : Fin 8192) (d : Fin 1024), val_main_v12 (F := Ideal) (up X) (up1 G) (ix2 s d) = ((nrm (X s) G d : ℝ) : EReal) := fun s d => by
    pointwise [val_main_v12, val_main_v11, val_main_v10, val_main_v9, val_main_v8, val_main_v7]
    rw [h6, coe_rinv (by norm_num) rmsEps_pos]
    simp only [nrm, Cert.Xattn.inv, EReal.coe_mul]; rfl
  funext i
  idx_vars i
  pointwise [val_main_v13]
  simp only [h12, at2, zs, coe_sum, EReal.coe_mul]

/-- The third of the five parts of the product, one factor of the other half. -/
def gates (s : Fin 8192) (d : Fin 512) : ℝ := zs X G W s ⟨1536 + d, by omega⟩

theorem v17_eq : val_main_v17 (F := Ideal) (up X) (up1 G) (up W) = up (gates X G W) := by
  funext i
  idx_vars i
  pointwise [val_main_v17]
  rw [v13_eq]
  rfl

/-! ## The convolved rows -/

section
variable (WA : Fin 31 → Fin 512 → ℝ) (BA : Fin 512 → ℝ) (WB : Fin 3 → Fin 512 → ℝ) (BB : Fin 512 → ℝ)

theorem v25_real : AllReal (val_main_v25 (F := Ideal) (up X) (up1 G) (up W)) := by
  refine AllReal.mul (fun i => ?_) fun i => ?_
  · rw [val_main_v14, v13_eq]
    exact AllReal.of_up _ _
  · obtain ⟨a, b, rfl⟩ : ∃ (a : Fin 8192) (b : Fin 512), i = ix2 a b := ⟨i 0, i 1, (ix2_eta i).symm⟩
    obtain ⟨r, hr⟩ : ∃ r : ℝ, val_main_v15 (F := Ideal) (up X) (up1 G) (up W) (ix2 a b) = (r : EReal) := by
      rw [val_main_v15, v13_eq]
      exact AllReal.of_up _ _
    refine ⟨sg r, ?_⟩
    pointwise [val_main_v24, val_main_v23, val_main_v22, val_main_v21, val_main_v20, val_main_v19, val_main_cst_2, val_main_cst_3]
    rw [hr, ← EReal.coe_neg, Ideal.exp_coe, ← EReal.coe_one, ← EReal.coe_add, div_coe (by positivity), sg, zero_sub]

theorem v26_real : AllReal (val_main_v26 (F := Ideal)) := fun i => ⟨0, by
  rw [val_main_v26_apply, val_main_cst_4_apply]
  simp [Ideal.ofBits, Ideal.ieee]⟩

theorem v50_real : AllReal (val_main_v50 (F := Ideal)) := fun i => ⟨0, by
  rw [val_main_v50_apply, val_main_cst_7_apply]
  simp [Ideal.ofBits, Ideal.ieee]⟩

theorem v49_real : AllReal (val_main_v49 (F := Ideal) (up X) (up1 G) (up W)) := by
  refine AllReal.mul (fun i => ?_) fun i => ?_
  · rw [val_main_v18, v13_eq]
    exact AllReal.of_up _ _
  · rw [val_main_v16, v13_eq]
    exact AllReal.of_up _ _

theorem v48_real : AllReal (val_main_v48 (F := Ideal) (up X) (up1 G) (up W) (up WA) (up1 BA)) := by
  refine AllReal.add (fun i => ?_) fun i => by
    rw [val_main_v47_apply, val_main_v46_apply]
    exact AllReal.of_up1 BA _
  have h34 : AllReal (val_main_v34 (F := Ideal) (up X) (up1 G) (up W)) := AllReal.pad 0 _ (v25_real X G W) v26_real v26_real
  have h44 : AllReal (val_main_v44 (F := Ideal) (up X) (up1 G) (up W) (up WA)) := AllReal.mul (fun j => h34 _) fun j => by
    rw [val_main_v43_apply, val_main_v42_apply]
    exact AllReal.of_up WA _
  rw [val_main_v45_apply]
  obtain ⟨r, hr⟩ := real_sum _ fun k => h44 (idx_main_v45 i k)
  refine ⟨0 + r, ?_⟩
  rw [hr, EReal.coe_add]
  congr 1
  rw [val_main_cst_6_apply]
  simp [Ideal.ofBits, Ideal.ieee]

theorem v72_real : AllReal (val_main_v72 (F := Ideal) (up X) (up1 G) (up W) (up WB) (up1 BB)) := by
  refine AllReal.add (fun i => ?_) fun i => by
    rw [val_main_v71_apply, val_main_v70_apply]
    exact AllReal.of_up1 BB _
  have h58 : AllReal (val_main_v58 (F := Ideal) (up X) (up1 G) (up W)) := AllReal.pad 0 _ (v49_real X G W) v50_real v50_real
  have h68 : AllReal (val_main_v68 (F := Ideal) (up X) (up1 G) (up W) (up WB)) := AllReal.mul (fun j => h58 _) fun j => by
    rw [val_main_v67_apply, val_main_v66_apply]
    exact AllReal.of_up WB _
  rw [val_main_v69_apply]
  obtain ⟨r, hr⟩ := real_sum _ fun k => h68 (idx_main_v69 i k)
  refine ⟨0 + r, ?_⟩
  rw [hr, EReal.coe_add]
  congr 1
  rw [val_main_cst_10_apply]
  simp [Ideal.ofBits, Ideal.ieee]
end

/-! ## The layer norm and the silu, forwards -/

variable {x0 : FVec Ideal S8192x1024 .f32} {x1 : FVec Ideal S1024 .f32} {x2 : FVec Ideal S1024x2560 .f32} {x3 : FVec Ideal S31x512 .f32}
    {x4 : FVec Ideal S512 .f32} {x7 : FVec Ideal S3x512 .f32} {x8 : FVec Ideal S512 .f32} {A C B : Fin 8192 → Fin 512 → ℝ}
    (lg lb : Fin 512 → ℝ) (D : Fin 8192 → Fin 1024 → ℝ) (WO : Fin 1024 → Fin 1024 → ℝ)

section
variable (hA : val_main_v48 (F := Ideal) x0 x1 x2 x3 x4 = up A)
include hA

theorem v78_at (s : Fin 8192) (d : Fin 512) : val_main_v78 (F := Ideal) x0 x1 x2 x3 x4 (ix2 s d) = ((dev (A s) d : ℝ) : EReal) := by
  pointwise [val_main_v78, val_main_v77, val_main_v76, val_main_v75, val_main_v74, val_main_v73, val_main_cst_11, val_main_cst_12]
  simp only [hA, at2, dev, avg, ofBits_512, ← coe_sum, div_coe (by norm_num : (512 : ℝ) ≠ 0), ← EReal.coe_sub]

theorem v87_at (s : Fin 8192) (d : Fin 512) : val_main_v87 (F := Ideal) x0 x1 x2 x3 x4 (ix2 s d) = ((dev (A s) d : ℝ) : EReal) := v78_at hA s d

theorem v89_at (s : Fin 8192) (z : Fin 1) : val_main_v89 (F := Ideal) x0 x1 x2 x3 x4 (ix2 s z) = ((meanSq 512 lnEps (dev (A s)) : ℝ) : EReal) := by
  rw [← coe_meanSq (by norm_num)]
  pointwise [val_main_v89, val_main_v88, val_main_v85, val_main_v84, val_main_v83, val_main_v82, val_main_v79, val_main_cst_14, val_main_cst_15,
    val_main_cst_16]
  simp only [v78_at hA]
  rw [ofBits_512, ofBits_lnEps]

theorem v90_at (s : Fin 8192) (z : Fin 1) : val_main_v90 (F := Ideal) x0 x1 x2 x3 x4 (ix2 s z) = ((root (A s) : ℝ) : EReal) := by
  pointwise [val_main_v90]
  rw [v89_at hA, coe_rinv (by norm_num) lnEps_pos, root]

theorem v93_at (s : Fin 8192) (z : Fin 1) : val_main_v93 (F := Ideal) x0 x1 x2 x3 x4 (ix2 s z)
    = ((-(1 / 2) * (root (A s) / meanSq 512 lnEps (dev (A s))) : ℝ) : EReal) := by
  pointwise [val_main_v93, val_main_v92, val_main_cst_17, val_main_v91]
  rw [ofBits_neg_half, v90_at hA, v89_at hA, div_coe (meanSq_pos (by norm_num) lnEps_pos _).ne', EReal.coe_mul]

theorem v95_at (s : Fin 8192) (d : Fin 512) : val_main_v95 (F := Ideal) x0 x1 x2 x3 x4 (ix2 s d) = ((hat (A s) d : ℝ) : EReal) := by
  pointwise [val_main_v95, val_main_v94]
  rw [v87_at hA, v90_at hA, ← EReal.coe_mul, hat]

theorem v101_at (s : Fin 8192) (d : Fin 512) :
    val_main_v101 (F := Ideal) x0 x1 x2 x3 x4 (up1 lg) (up1 lb) (ix2 s d) = ((aff A lg lb s d : ℝ) : EReal) := by
  pointwise [val_main_v101, val_main_v100, val_main_v99, val_main_v98, val_main_v97, val_main_v96]
  rw [v95_at hA]
  simp only [aff, EReal.coe_add, EReal.coe_mul]
  rfl

theorem sig_at (s : Fin 8192) (d : Fin 512) :
    val_main_v102_2 (F := Ideal) x0 x1 x2 x3 x4 (up1 lg) (up1 lb) (ix2 s d) = ((sg (aff A lg lb s d) : ℝ) : EReal) := by
  have h1 : val_main_call0_v1 (F := Ideal) x0 x1 x2 x3 x4 (up1 lg) (up1 lb) (ix2 s d) = ((Real.exp (0 - aff A lg lb s d) : ℝ) : EReal) := by
    pointwise [val_main_call0_v1, val_main_call0_v0]
    rw [v101_at lg lb hA, ← EReal.coe_neg, Ideal.exp_coe, zero_sub]
  pointwise [val_main_v102_2, val_main_call0_v4, val_main_call0_cst_0, val_main_call0_v3, val_main_call0_v2, val_main_call0_cst]
  rw [h1, ← EReal.coe_one, ← EReal.coe_add, div_coe (by positivity)]
  rfl

theorem sigd_at (s : Fin 8192) (d : Fin 512) :
    val_main_v102_1 (F := Ideal) x0 x1 x2 x3 x4 (up1 lg) (up1 lb) (ix2 s d)
      = ((sg (aff A lg lb s d) * (1 - sg (aff A lg lb s d)) : ℝ) : EReal) := by
  pointwise [val_main_v102_1, val_main_call0_v7, val_main_call0_v6, val_main_call0_cst_1]
  rw [sig_at lg lb hA, ← EReal.coe_one, ← EReal.coe_sub, ← EReal.coe_mul]

theorem v102_at (s : Fin 8192) (d : Fin 512) :
    val_main_v102_0 (F := Ideal) x0 x1 x2 x3 x4 (up1 lg) (up1 lb) (ix2 s d) = ((aff A lg lb s d * sg (aff A lg lb s d) : ℝ) : EReal) := by
  pointwise [val_main_v102_0]
  rw [v101_at lg lb hA, sig_at lg lb hA, ← EReal.coe_mul]
end

theorem v104_eq (hA : val_main_v48 (F := Ideal) x0 x1 x2 x3 x4 = up A) (hC : val_main_v72 (F := Ideal) x0 x1 x2 x7 x8 = up C)
    (hB : val_main_v17 (F := Ideal) x0 x1 x2 = up B) :
    val_main_v104 (F := Ideal) x0 x1 x2 x3 x4 (up1 lg) (up1 lb) x7 x8 = up (mixed A C B lg lb) := by
  funext i
  obtain ⟨s, j, rfl⟩ : ∃ (s : Fin 8192) (j : Fin 1024), i = ix2 s j := ⟨i 0, i 1, (ix2_eta i).symm⟩
  rw [at2, mixed]
  by_cases h : (j : ℕ) < 512
  · rw [side_fst _ _ _ h, ← v102_at lg lb hA]
    pointwise [val_main_v104]
    simp only [h, dite_true]
  · rw [side_snd _ _ _ h, EReal.coe_mul, ← at2 B, ← at2 C, ← hB, ← hC]
    pointwise [val_main_v104, val_main_v103]
    simp only [h, dite_false]

/-! ## Backwards -/

theorem v108_at (s : Fin 8192) (j : Fin 1024) : val_main_v108 (F := Ideal) (up WO) (up D) (ix2 s j) = ((dmix D WO s j : ℝ) : EReal) := by
  pointwise [val_main_v108]
  simp only [at2, dmix, fwd, coe_sum, EReal.coe_mul]

theorem v109_at (s : Fin 8192) (d : Fin 512) : val_main_v109 (F := Ideal) (up WO) (up D) (ix2 s d) = ((dmix D WO s (fst d) : ℝ) : EReal) := by
  rw [← v108_at]
  pointwise [val_main_v109, fst]

theorem v110_at (s : Fin 8192) (d : Fin 512) : val_main_v110 (F := Ideal) (up WO) (up D) (ix2 s d) = ((dmix D WO s (snd d) : ℝ) : EReal) := by
  rw [← v108_at]
  pointwise [val_main_v110, snd]

theorem v148_at (hB : val_main_v17 (F := Ideal) x0 x1 x2 = up B) (s : Fin 8192) (d : Fin 512) :
    val_main_v148 (F := Ideal) x0 x1 x2 (up WO) (up D) (ix2 s d) = ((dother B D WO s d : ℝ) : EReal) := by
  rw [val_main_v148, trunc_id]
  pointwise [val_main_v111]
  rw [v110_at, hB, at2, ← EReal.coe_mul, mul_comm, dother]

theorem v149_at (hC : val_main_v72 (F := Ideal) x0 x1 x2 x7 x8 = up C) (s : Fin 8192) (d : Fin 512) :
    val_main_v149 (F := Ideal) x0 x1 x2 x7 x8 (up WO) (up D) (ix2 s d) = ((dother C D WO s d : ℝ) : EReal) := by
  rw [val_main_v149, trunc_id]
  pointwise [val_main_v112]
  rw [v110_at, hC, at2, ← EReal.coe_mul, dother]

section
variable (hA : val_main_v48 (F := Ideal) x0 x1 x2 x3 x4 = up A)
include hA

theorem v113_at (s : Fin 8192) (d : Fin 512) :
    val_main_v113 (F := Ideal) x0 x1 x2 x3 x4 (up1 lg) (up1 lb) (up WO) (up D) (ix2 s d) = ((daff A D lg lb WO s d : ℝ) : EReal) := by
  pointwise [val_main_v113, val_main_call1_v1, val_main_call1_v2, val_main_call1_v0]
  rw [v109_at, sig_at lg lb hA, sigd_at lg lb hA, v101_at lg lb hA]
  simp only [← EReal.coe_mul, ← EReal.coe_add]
  congr 1
  rw [daff, dsilu]
  ring

theorem v151_at (z : Fin 1) (d : Fin 512) :
    val_main_v151 (F := Ideal) x0 x1 x2 x3 x4 (up1 lg) (up1 lb) (up WO) (up D) (ix2 z d) = ((∑ s, daff A D lg lb WO s d : ℝ) : EReal) := by
  have h : val_main_v114 (F := Ideal) x0 x1 x2 x3 x4 (up1 lg) (up1 lb) (up WO) (up D) (ix1 d) = ((∑ s, daff A D lg lb WO s d : ℝ) : EReal) := by
    pointwise [val_main_v114, val_main_cst_18]
    simp only [v113_at lg lb D WO hA, coe_sum]
  pointwise [val_main_v151, val_main_v116, val_main_v115, val_main_cst_19]
  simp only [Finset.univ_unique, Finset.sum_singleton]
  exact h

theorem v150_at (z : Fin 1) (d : Fin 512) :
    val_main_v150 (F := Ideal) x0 x1 x2 x3 x4 (up1 lg) (up1 lb) (up WO) (up D) (ix2 z d) = ((∑ s, daff A D lg lb WO s d * hat (A s) d : ℝ) : EReal) := by
  have h : val_main_v118 (F := Ideal) x0 x1 x2 x3 x4 (up1 lg) (up1 lb) (up WO) (up D) (ix1 d) = ((∑ s, daff A D lg lb WO s d * hat (A s) d : ℝ) : EReal) := by
    pointwise [val_main_v118, val_main_cst_20, val_main_v117]
    simp only [v113_at lg lb D WO hA, v95_at hA, coe_sum, EReal.coe_mul]
    exact Finset.sum_congr rfl fun q _ => mul_comm _ _
  pointwise [val_main_v150, val_main_v122, val_main_v119, val_main_cst_21]
  simp only [Finset.univ_unique, Finset.sum_singleton]
  exact h

theorem v121_at (s : Fin 8192) (d : Fin 512) :
    val_main_v121 (F := Ideal) x0 x1 x2 x3 x4 (up1 lg) (up1 lb) (up WO) (up D) (ix2 s d) = ((daff A D lg lb WO s d * lg d : ℝ) : EReal) := by
  pointwise [val_main_v121, val_main_v120, val_main_v96]
  rw [v113_at lg lb D WO hA, EReal.coe_mul]
  rfl

theorem v127_at (s : Fin 8192) (d : Fin 512) :
    val_main_v127 (F := Ideal) x0 x1 x2 x3 x4 (up1 lg) (up1 lb) (up WO) (up D) (ix2 s d) = ((daff A D lg lb WO s d * lg d * root (A s) : ℝ) : EReal) := by
  pointwise [val_main_v127, val_main_v126]
  rw [v121_at lg lb D WO hA, v90_at hA]
  exact (EReal.coe_mul _ _).symm

theorem v124_at (s : Fin 8192) :
    val_main_v124 (F := Ideal) x0 x1 x2 x3 x4 (up1 lg) (up1 lb) (up WO) (up D) (ix1 s) = ((∑ k, dev (A s) k * (daff A D lg lb WO s k * lg k) : ℝ) : EReal) := by
  pointwise [val_main_v124, val_main_v123, val_main_cst_22]
  simp only [v121_at lg lb D WO hA, v87_at hA, coe_sum, EReal.coe_mul]

/-- What reaches a centred entry through the norm's root. -/
def viaRoot (A : Fin 8192 → Fin 512 → ℝ) (D : Fin 8192 → Fin 1024 → ℝ) (lg lb : Fin 512 → ℝ) (WO : Fin 1024 → Fin 1024 → ℝ) (s : Fin 8192) (k : Fin 512) : ℝ :=
  (∑ j, dev (A s) j * (daff A D lg lb WO s j * lg j)) * (-(1 / 2) * (root (A s) / meanSq 512 lnEps (dev (A s)))) / 512 * (2 * dev (A s) k)

theorem v136_at (s : Fin 8192) (d : Fin 512) :
    val_main_v136 (F := Ideal) x0 x1 x2 x3 x4 (up1 lg) (up1 lb) (up WO) (up D) (ix2 s d) = ((viaRoot A D lg lb WO s d : ℝ) : EReal) := by
  pointwise [val_main_v136, val_main_v135, val_main_v134, val_main_v133, val_main_v132, val_main_v128, val_main_v125, val_main_cst_24, val_main_cst_25,
    val_main_v81, val_main_v80, val_main_cst_13]
  simp only [Finset.univ_unique, Finset.sum_singleton, v124_at lg lb D WO hA, v93_at hA, v78_at hA, ofBits_512, ofBits_two, ← EReal.coe_mul,
    div_coe (by norm_num : (512 : ℝ) ≠ 0)]
  rfl

theorem v145_at (s : Fin 8192) (d : Fin 512) :
    val_main_v145 (F := Ideal) x0 x1 x2 x3 x4 (up1 lg) (up1 lb) (up WO) (up D) (ix2 s d)
      = ((((∑ k, -(daff A D lg lb WO s k * lg k * root (A s))) + ∑ k, -viaRoot A D lg lb WO s k) / 512 : ℝ) : EReal) := by
  have h1 : val_main_v130 (F := Ideal) x0 x1 x2 x3 x4 (up1 lg) (up1 lb) (up WO) (up D) (ix1 s)
      = ((∑ k, -(daff A D lg lb WO s k * lg k * root (A s)) : ℝ) : EReal) := by
    pointwise [val_main_v130, val_main_v129, val_main_cst_23]
    simp only [v127_at lg lb D WO hA, coe_sum, EReal.coe_neg]
  have h2 : val_main_v138 (F := Ideal) x0 x1 x2 x3 x4 (up1 lg) (up1 lb) (up WO) (up D) (ix1 s)
      = ((∑ k, -viaRoot A D lg lb WO s k : ℝ) : EReal) := by
    pointwise [val_main_v138, val_main_v137, val_main_cst_26]
    simp only [v136_at lg lb D WO hA, coe_sum, EReal.coe_neg]
  pointwise [val_main_v145, val_main_v144, val_main_v143, val_main_v142, val_main_v141, val_main_v131, val_main_v139, val_main_cst_27, val_main_cst_28]
  simp only [Finset.univ_unique, Finset.sum_singleton, h1, h2, ofBits_512, ← EReal.coe_add, div_coe (by norm_num : (512 : ℝ) ≠ 0)]

theorem v147_at (s : Fin 8192) (d : Fin 512) :
    val_main_v147 (F := Ideal) x0 x1 x2 x3 x4 (up1 lg) (up1 lb) (up WO) (up D) (ix2 s d) = ((dconv A D lg lb WO s d : ℝ) : EReal) := by
  rw [val_main_v147, trunc_id, val_main_v146_apply, val_main_v140_apply, v127_at lg lb D WO hA, v136_at lg lb D WO hA, v145_at lg lb D WO hA, dconv,
    ← hat_chain (A s) (fun k => daff A D lg lb WO s k * lg k) (viaRoot A D lg lb WO s) rfl d]
  simp only [EReal.coe_add]
  rfl
end

/-- The weight's gradient. -/
theorem v107_eq {K : Fin 8192 → Fin 1024 → ℝ} (hK : val_main_v104 (F := Ideal) x0 x1 x2 x3 x4 (up1 lg) (up1 lb) x7 x8 = up K) :
    val_main_v107 (F := Ideal) x0 x1 x2 x3 x4 (up1 lg) (up1 lb) x7 x8 (up D) = up fun i j => ∑ s, K s i * D s j := by
  funext i
  idx_vars i
  pointwise [val_main_v107, val_main_v106]
  simp only [hK, at2, coe_sum, EReal.coe_mul]
  exact Finset.sum_congr rfl fun q _ => mul_comm _ _

end Cert.Mix

end
-- ==== Proof.MixBlk.lean ====
/- What the blocks of each point of the gated mix's backward grid hold, over the reals. -/
module

public import proofs.«01_k».proof.Proof.MixHost
public import proofs.«01_k».proof.Proof.MixRef

@[expose] public section

set_option maxRecDepth 16384

noncomputable section

namespace Cert.Mix

open Cert.Kernel4Ideal Cert.Kernel4Ideal.Gen
open Idealize.ShloMosaic Idealize.ShloMosaic.TcCoe Idealize.SL.Sem Cert.RealLift Cert.Ffn
open Cert.Xattn (up up1 nrm)
open Cert.Fdx (at2 trunc_id ext_id)
open Cert.Reference4Ideal.Read

variable (m : (ℓ : Loc nD τ sig) → Buf (Elt Ideal) ℓ)

abbrev X0 (c : Dev nD) : FVec Ideal S8192x1024 .f32 := m ((c.tc : Thread nD τ).loc main_arg0)
abbrev X1 (c : Dev nD) : FVec Ideal S1024 .f32 := m ((c.tc : Thread nD τ).loc main_arg1)
abbrev X2 (c : Dev nD) : FVec Ideal S1024x2560 .f32 := m ((c.tc : Thread nD τ).loc main_arg2)
abbrev X3 (c : Dev nD) : FVec Ideal S31x512 .f32 := m ((c.tc : Thread nD τ).loc main_arg3)
abbrev X4 (c : Dev nD) : FVec Ideal S512 .f32 := m ((c.tc : Thread nD τ).loc main_arg4)
abbrev X5 (c : Dev nD) : FVec Ideal S512 .f32 := m ((c.tc : Thread nD τ).loc main_arg5)
abbrev X6 (c : Dev nD) : FVec Ideal S512 .f32 := m ((c.tc : Thread nD τ).loc main_arg6)
abbrev X7 (c : Dev nD) : FVec Ideal S3x512 .f32 := m ((c.tc : Thread nD τ).loc main_arg7)
abbrev X8 (c : Dev nD) : FVec Ideal S512 .f32 := m ((c.tc : Thread nD τ).loc main_arg8)
abbrev X9 (c : Dev nD) : FVec Ideal S1024x1024 .f32 := m ((c.tc : Thread nD τ).loc main_arg9)
abbrev X10 (c : Dev nD) : FVec Ideal S8192x1024 .f32 := m ((c.tc : Thread nD τ).loc main_arg10)

theorem idx : ∀ t : Fin cfg0.N, win0_0.index t = ![(t : ℕ), 0] ∧ win0_1.index t = ![(t : ℕ), 0] ∧ win0_2.index t = ![(t : ℕ), 0]
    ∧ win0_3.index t = ![(t : ℕ), 0] ∧ win0_4.index t = ![(t : ℕ), 3] ∧ win0_5.index t = ![0, 0] ∧ win0_6.index t = ![0, 0]
    ∧ win0_7.index t = ![0, 0, 0] ∧ win0_8.index t = ![(t : ℕ), 0] ∧ win0_9.index t = ![(t : ℕ), 0] ∧ win0_10.index t = ![(t : ℕ), 0] :=
  (by decide +kernel : ∀ t : Fin grid0.N, _)

/-! ## The convolved rows, as real arrays -/

section
variable (X : Fin 8192 → Fin 1024 → ℝ) (G : Fin 1024 → ℝ) (W : Fin 1024 → Fin 2560 → ℝ)

def convA (WA : Fin 31 → Fin 512 → ℝ) (BA : Fin 512 → ℝ) : Fin 8192 → Fin 512 → ℝ := (v48_real X G W WA BA).exists_up.choose
theorem convA_eq (WA : Fin 31 → Fin 512 → ℝ) (BA : Fin 512 → ℝ) :
    val_main_v48 (F := Ideal) (up X) (up1 G) (up W) (up WA) (up1 BA) = up (convA X G W WA BA) := (v48_real X G W WA BA).exists_up.choose_spec

def convB (WB : Fin 3 → Fin 512 → ℝ) (BB : Fin 512 → ℝ) : Fin 8192 → Fin 512 → ℝ := (v72_real X G W WB BB).exists_up.choose
theorem convB_eq (WB : Fin 3 → Fin 512 → ℝ) (BB : Fin 512 → ℝ) :
    val_main_v72 (F := Ideal) (up X) (up1 G) (up W) (up WB) (up1 BB) = up (convB X G W WB BB) := (v72_real X G W WB BB).exists_up.choose_spec

/-- The product's rows without the last step. -/
def mixRows (WA : Fin 31 → Fin 512 → ℝ) (BA LG LB : Fin 512 → ℝ) (WB : Fin 3 → Fin 512 → ℝ) (BB : Fin 512 → ℝ) : Fin 8192 → Fin 1024 → ℝ :=
  mixed (convA X G W WA BA) (convB X G W WB BB) (gates X G W) LG LB
theorem mixRows_eq (WA : Fin 31 → Fin 512 → ℝ) (BA LG LB : Fin 512 → ℝ) (WB : Fin 3 → Fin 512 → ℝ) (BB : Fin 512 → ℝ) :
    val_main_v104 (F := Ideal) (up X) (up1 G) (up W) (up WA) (up1 BA) (up1 LG) (up1 LB) (up WB) (up1 BB) = up (mixRows X G W WA BA LG LB WB BB) :=
  v104_eq LG LB (convA_eq X G W WA BA) (convB_eq X G W WB BB) (v17_eq X G W)
end

/-- The arguments are the images of real arrays. -/
structure Args (c : Dev nD) (X D : Fin 8192 → Fin 1024 → ℝ) (G : Fin 1024 → ℝ) (W : Fin 1024 → Fin 2560 → ℝ) (WA : Fin 31 → Fin 512 → ℝ)
    (BA LG LB : Fin 512 → ℝ) (WB : Fin 3 → Fin 512 → ℝ) (BB : Fin 512 → ℝ) (WO : Fin 1024 → Fin 1024 → ℝ) : Prop where
  h : X0 m c = up X
  g : X1 m c = up1 G
  w : X2 m c = up W
  wa : X3 m c = up WA
  ba : X4 m c = up1 BA
  lg : X5 m c = up1 LG
  lb : X6 m c = up1 LB
  wb : X7 m c = up WB
  bb : X8 m c = up1 BB
  wo : X9 m c = up WO
  dh : X10 m c = up D

/-- A row of one point of the grid among all rows, and a point's rows. -/
def at' (t : Fin cfg0.N) (p : Fin 1024) : Fin 8192 := ⟨(t : ℕ) * 1024 + p, by have := t.isLt; have e : cfg0.N = 8 := N_0; omega⟩
abbrev rows {n : ℕ} (f : Fin 8192 → Fin n → ℝ) (t : Fin cfg0.N) : Fin 1024 → Fin n → ℝ := fun p => f (at' t p)

section
variable {m} {c : Dev nD} {X D : Fin 8192 → Fin 1024 → ℝ} {G : Fin 1024 → ℝ} {W : Fin 1024 → Fin 2560 → ℝ} {WA : Fin 31 → Fin 512 → ℝ}
    {BA LG LB : Fin 512 → ℝ} {WB : Fin 3 → Fin 512 → ℝ} {BB : Fin 512 → ℝ} {WO : Fin 1024 → Fin 1024 → ℝ}
    (A : Args m c X D G W WA BA LG LB WB BB WO) (t : Fin cfg0.N)
include A

theorem hosts : Gen.V m c main_v18 = up (zs X G W) ∧ Gen.V m c main_v51 = up (convA X G W WA BA)
    ∧ Gen.V m c main_v112 = up (convB X G W WB BB) ∧ Gen.V m c main_v111 = up (mixRows X G W WA BA LG LB WB BB) := by
  obtain ⟨h1, h2, h3, h4⟩ := host m c A.h A.g A.w A.wa A.ba A.lg A.lb A.wb A.bb
  exact ⟨h1.trans (v13_eq X G W), h2.trans (convA_eq X G W WA BA), h3.trans (convB_eq X G W WB BB), h4.trans (mixRows_eq X G W WA BA LG LB WB BB)⟩

theorem b0 : (iblk m c 0 t : FVec Ideal S1024x1024 .f32) = up (rows D t) := by
  have e : (up (rows D t) : FVec Ideal S1024x1024 .f32) = fun i => X10 m c (ix2 (at' t (i 0)) (i 1)) := by
    rw [A.dh]; rfl
  rw [e]
  funext j
  blk_ext [iblk, Gen.V, idx t, at']

theorem b1 : (iblk m c 1 t : FVec Ideal S1024x1024 .bf16) = up (rows (mixRows X G W WA BA LG LB WB BB) t) := by
  have e : (up (rows (mixRows X G W WA BA LG LB WB BB) t) : FVec Ideal S1024x1024 .bf16) = fun i => Gen.V m c main_v111 (ix2 (at' t (i 0)) (i 1)) := by
    rw [(hosts A).2.2.2]; rfl
  rw [e]
  funext j
  blk_ext [iblk, idx t, at']

theorem b2 : (iblk m c 2 t : FVec Ideal S1024x512 .f32) = up (rows (convA X G W WA BA) t) := by
  have e : (up (rows (convA X G W WA BA) t) : FVec Ideal S1024x512 .f32) = fun i => Gen.V m c main_v51 (ix2 (at' t (i 0)) (i 1)) := by
    rw [(hosts A).2.1]; rfl
  rw [e]
  funext j
  blk_ext [iblk, idx t, at']

theorem b3 : (iblk m c 3 t : FVec Ideal S1024x512 .bf16) = up (rows (convB X G W WB BB) t) := by
  have e : (up (rows (convB X G W WB BB) t) : FVec Ideal S1024x512 .bf16) = fun i => Gen.V m c main_v112 (ix2 (at' t (i 0)) (i 1)) := by
    rw [(hosts A).2.2.1]; rfl
  rw [e]
  funext j
  blk_ext [iblk, idx t, at']

theorem b4 : (iblk m c 4 t : FVec Ideal S1024x512 .bf16) = up (rows (gates X G W) t) := by
  have e : (up (rows (gates X G W) t) : FVec Ideal S1024x512 .bf16)
      = fun i => Gen.V m c main_v18 (ix2 (at' t (i 0)) (⟨1536 + (i 1 : ℕ), by have := (i 1).isLt; change (i 1 : ℕ) < 512 at this; omega⟩ : Fin 2560)) := by
    rw [(hosts A).1]; rfl
  rw [e]
  funext j
  blk_ext [iblk, idx t, at']

theorem b5 : (iblk m c 5 t : FVec Ideal S1x512 .f32) = up fun _ : Fin 1 => LG := by
  have e : Gen.V m c main_v113 = shapeCast S1x512 (X5 m c) shapeCasts_S512_S1x512 := by unfold Gen.V; after_results; rfl
  have e' : (up fun _ : Fin 1 => LG : FVec Ideal S1x512 .f32) = Gen.V m c main_v113 := by
    rw [e, A.lg]
    funext i
    idx_vars i
    pointwise [up, up1]
  rw [e']
  funext j
  blk_ext [iblk, idx t]

theorem b6 : (iblk m c 6 t : FVec Ideal S1x512 .f32) = up fun _ : Fin 1 => LB := by
  have e : Gen.V m c main_v114 = shapeCast S1x512 (X6 m c) shapeCasts_S512_S1x512 := by unfold Gen.V; after_results; rfl
  have e' : (up fun _ : Fin 1 => LB : FVec Ideal S1x512 .f32) = Gen.V m c main_v114 := by
    rw [e, A.lb]
    funext i
    idx_vars i
    pointwise [up, up1]
  rw [e']
  funext j
  blk_ext [iblk, idx t]

theorem b7 : (iblk m c 7 t : FVec Ideal S4x256x1024 .bf16) = quart (up WO) := by
  have e : Gen.V m c main_v1 = quart (X9 m c) := by unfold Gen.V; after_results; rfl
  rw [← A.wo, ← e]
  funext j
  blk_ext [iblk, idx t]

/-- The blocks of a point. -/
theorem blks : Blks m c t (rows (convA X G W WA BA) t) (rows (convB X G W WB BB) t) (rows (gates X G W) t) (rows D t)
    (rows (mixRows X G W WA BA LG LB WB BB) t) WO LG LB :=
  ⟨b0 A t, b1 A t, b2 A t, b3 A t, b4 A t, b5 A t, b6 A t, b7 A t⟩
end

end Cert.Mix

end
-- ==== Proof.Mix.lean ====
/- The value of the gated mix's backward call: the blocks written at the points of the grid are the rows of the results, and the rows and the
product carried over the grid hold the sums over all rows. -/
module

public import proofs.«01_k».proof.Proof.MixBlk

@[expose] public section

set_option maxRecDepth 16384

noncomputable section

namespace Cert.Mix

open Cert.Kernel4Ideal Cert.Kernel4Ideal.Gen
open Idealize.ShloMosaic Idealize.ShloMosaic.TcCoe Idealize.SL.Sem Cert.RealLift Cert.Ffn
open Cert.Xattn (up up1 nrm)
open Cert.Fdx (at2 trunc_id)

/-- The points' rows are all the rows. -/
theorem all_rows (F : Fin 8192 → ℝ) : ∑ t : Fin cfg0.N, ∑ p : Fin 1024, F (at' t p) = ∑ s, F s :=
  Fin.sum_mul_add_congr (fun _ _ _ => rfl) (by rw [show cfg0.N = 8 from N_0])

/-- The last point. -/
def tl : Fin cfg0.N := ⟨7, by rw [show cfg0.N = 8 from N_0]; decide⟩

theorem zero6 (i) : k0_pay6 (F := Ideal) i = 0 := by idx_vars i; pointwise [k0_pay6]
theorem zero7 (i) : k0_pay7 (F := Ideal) i = 0 := by idx_vars i; pointwise [k0_pay7]
theorem zero8 (i) : k0_pay8 (F := Ideal) i = 0 := by idx_vars i; pointwise [k0_pay8]

section
variable {m : (ℓ : Loc nD τ sig) → Buf (Elt Ideal) ℓ} {c : Dev nD} {X D : Fin 8192 → Fin 1024 → ℝ} {G : Fin 1024 → ℝ} {W : Fin 1024 → Fin 2560 → ℝ}
    {WA : Fin 31 → Fin 512 → ℝ} {BA LG LB : Fin 512 → ℝ} {WB : Fin 3 → Fin 512 → ℝ} {BB : Fin 512 → ℝ} {WO : Fin 1024 → Fin 1024 → ℝ}
    (A : Args m c X D G W WA BA LG LB WB BB WO)
include A

theorem first_point (t : Fin cfg0.N) (h : t.val % 8 = 0) :
    Grows (rows (convA X G W WA BA) t) (rows (convB X G W WB BB) t) (rows (gates X G W) t) (rows D t) (rows (mixRows X G W WA BA LG LB WB BB) t) WO LG LB
      (outsAt0 m c t.val t.isLt) k0_pay7 k0_pay8 k0_pay6 :=
  grows_first (blks A t) h (by omega)

theorem later_point (t : Fin cfg0.N) (h : ¬ t.val % 8 = 0) :
    Grows (rows (convA X G W WA BA) t) (rows (convB X G W WB BB) t) (rows (gates X G W) t) (rows D t) (rows (mixRows X G W WA BA LG LB WB BB) t) WO LG LB
      (outsAt0 m c t.val t.isLt) (prev m c t).2.2.2.1 (prev m c t).2.2.2.2.1 (prev m c t).2.2.2.2.2.2 := by
  by_cases h1 : t.val % 8 = 7
  · exact (grows_last (blks A t) h h1).1
  · exact grows_mid (blks A t) h h1

/-- What a point writes, whichever it is. -/
theorem point (t : Fin cfg0.N) : ∃ dg db w,
    Grows (rows (convA X G W WA BA) t) (rows (convB X G W WB BB) t) (rows (gates X G W) t) (rows D t) (rows (mixRows X G W WA BA LG LB WB BB) t) WO LG LB
      (outsAt0 m c t.val t.isLt) dg db w := by
  by_cases h : t.val % 8 = 0
  · exact ⟨_, _, _, first_point A t h⟩
  · exact ⟨_, _, _, later_point A t h⟩

theorem dg_last : (outsAt0 m c tl.val tl.isLt).2.2.2.1
    = up fun (_ : Fin 1) d => ∑ s, daff (convA X G W WA BA) D LG LB WO s d * hat (convA X G W WA BA s) d := by
  funext i
  rw [Pipeline.eq_sum_fin_of_reset_step_apply_last (fun n h => (outsAt0 m c n h).2.2.2.1) 8 (fun _ => (0 : EReal))
    (fun t => up fun (_ : Fin 1) d => ∑ p, daff (convA X G W WA BA) D LG LB WO (at' t p) d * hat (convA X G W WA BA (at' t p)) d)
    (fun t h i => by rw [(first_point A t h).2.2.2.1, addf]; show k0_pay7 (F := Ideal) i + _ = _; rw [zero7]; rfl)
    (fun t h i => by rw [(later_point A t h).2.2.2.1]; rfl) (le_of_eq N_0) tl rfl i, zero_add]
  refine (coe_sum _ _).symm.trans (congrArg (fun r : ℝ => (r : EReal)) ?_)
  exact all_rows fun s => daff (convA X G W WA BA) D LG LB WO s (i 1) * hat (convA X G W WA BA s) (i 1)

theorem db_last : (outsAt0 m c tl.val tl.isLt).2.2.2.2.1
    = up fun (_ : Fin 1) d => ∑ s, daff (convA X G W WA BA) D LG LB WO s d := by
  funext i
  rw [Pipeline.eq_sum_fin_of_reset_step_apply_last (fun n h => (outsAt0 m c n h).2.2.2.2.1) 8 (fun _ => (0 : EReal))
    (fun t => up fun (_ : Fin 1) d => ∑ p, daff (convA X G W WA BA) D LG LB WO (at' t p) d)
    (fun t h i => by rw [(first_point A t h).2.2.2.2.1, addf]; show k0_pay8 (F := Ideal) i + _ = _; rw [zero8]; rfl)
    (fun t h i => by rw [(later_point A t h).2.2.2.2.1]; rfl) (le_of_eq N_0) tl rfl i, zero_add]
  refine (coe_sum _ _).symm.trans (congrArg (fun r : ℝ => (r : EReal)) ?_)
  exact all_rows fun s => daff (convA X G W WA BA) D LG LB WO s (i 1)

theorem w_last : (outsAt0 m c tl.val tl.isLt).2.2.2.2.2.2 = up fun i j => ∑ s, mixRows X G W WA BA LG LB WB BB s i * D s j := by
  funext i
  rw [Pipeline.eq_sum_fin_of_reset_step_apply_last (fun n h => (outsAt0 m c n h).2.2.2.2.2.2) 8 (fun _ => (0 : EReal))
    (fun t => up fun i j => ∑ p, mixRows X G W WA BA LG LB WB BB (at' t p) i * D (at' t p) j)
    (fun t h i => by rw [(first_point A t h).2.2.2.2.2, addf]; show k0_pay6 (F := Ideal) i + _ = _; rw [zero6])
    (fun t h i => by rw [(later_point A t h).2.2.2.2.2]; rfl) (le_of_eq N_0) tl rfl i, zero_add]
  refine (coe_sum _ _).symm.trans (congrArg (fun r : ℝ => (r : EReal)) ?_)
  exact all_rows fun s => mixRows X G W WA BA LG LB WB BB s (i 0) * D s (i 1)

/-! ## The arrays the call returns -/

open Cert.Reference4Ideal.Read

theorem res_a : (dats m 0 c).arrAt 8 cfg0.N
    = val_main_v147 (F := Ideal) (up X) (up1 G) (up W) (up WA) (up1 BA) (up1 LG) (up1 LB) (up WO) (up D) := by
  refine (dats m 0 c).arrAt_eq_of_covers 8 _ (by decide +kernel) fun t hf y => ?_
  blk_simp
  obtain ⟨dg, db, w, h⟩ := point A t
  rw [after0_8, h.1]
  obtain ⟨y0, y1, rfl⟩ : ∃ (a : Fin 1024) (b : Fin 512), y = ix2 a b := ⟨y 0, y 1, (ix2_eta y).symm⟩
  refine (v147_at LG LB D WO (convA_eq X G W WA BA) (at' t y0) y1).symm.trans ?_
  blk_ext [idx t, at']

theorem res_c : (dats m 0 c).arrAt 9 cfg0.N = val_main_v148 (F := Ideal) (up X) (up1 G) (up W) (up WO) (up D) := by
  refine (dats m 0 c).arrAt_eq_of_covers 9 _ (by decide +kernel) fun t hf y => ?_
  blk_simp
  obtain ⟨dg, db, w, h⟩ := point A t
  rw [after0_9, h.2.1]
  obtain ⟨y0, y1, rfl⟩ : ∃ (a : Fin 1024) (b : Fin 512), y = ix2 a b := ⟨y 0, y 1, (ix2_eta y).symm⟩
  refine (v148_at D WO (v17_eq X G W) (at' t y0) y1).symm.trans ?_
  blk_ext [idx t, at']

theorem res_gate : (dats m 0 c).arrAt 10 cfg0.N
    = val_main_v149 (F := Ideal) (up X) (up1 G) (up W) (up WB) (up1 BB) (up WO) (up D) := by
  refine (dats m 0 c).arrAt_eq_of_covers 10 _ (by decide +kernel) fun t hf y => ?_
  blk_simp
  obtain ⟨dg, db, w, h⟩ := point A t
  rw [after0_10, h.2.2.1]
  obtain ⟨y0, y1, rfl⟩ : ∃ (a : Fin 1024) (b : Fin 512), y = ix2 a b := ⟨y 0, y 1, (ix2_eta y).symm⟩
  refine (v149_at D WO (convB_eq X G W WB BB) (at' t y0) y1).symm.trans ?_
  blk_ext [idx t, at']

theorem res_lg : (dats m 0 c).arrAt 11 cfg0.N
    = val_main_v150 (F := Ideal) (up X) (up1 G) (up W) (up WA) (up1 BA) (up1 LG) (up1 LB) (up WO) (up D) := by
  refine (dats m 0 c).arrAt_eq_of_after_last 11 tl (by decide +kernel) _ fun j => ?_
  blk_simp
  rw [after0_11, dg_last A]
  idx_vars j
  exact (v150_at LG LB D WO (convA_eq X G W WA BA) _ _).symm

theorem res_lb : (dats m 0 c).arrAt 12 cfg0.N
    = val_main_v151 (F := Ideal) (up X) (up1 G) (up W) (up WA) (up1 BA) (up1 LG) (up1 LB) (up WO) (up D) := by
  refine (dats m 0 c).arrAt_eq_of_after_last 12 tl (by decide +kernel) _ fun j => ?_
  blk_simp
  rw [after0_12, db_last A]
  idx_vars j
  exact (v151_at LG LB D WO (convA_eq X G W WA BA) _ _).symm

theorem res_wo : (dats m 0 c).arrAt 13 cfg0.N
    = val_main_v153 (F := Ideal) (up X) (up1 G) (up W) (up WA) (up1 BA) (up1 LG) (up1 LB) (up WB) (up1 BB) (up D) := by
  have e : (outsAt0 m c tl.val tl.isLt).2.2.2.2.2.1 = quart (up fun i j => ∑ s, mixRows X G W WA BA LG LB WB BB s i * D s j) := by
    obtain ⟨g, h⟩ := grows_last (blks A tl) (by decide) (by decide)
    rw [h, ← g.2.2.2.2.2, w_last A]
    rfl
  have e' : val_main_v153 (F := Ideal) (up X) (up1 G) (up W) (up WA) (up1 BA) (up1 LG) (up1 LB) (up WB) (up1 BB) (up D)
      = quart (up fun i j => ∑ s, mixRows X G W WA BA LG LB WB BB s i * D s j) := by
    rw [val_main_v153, trunc_id, val_main_v152, v107_eq LG LB D (mixRows_eq X G W WA BA LG LB WB BB)]
    rfl
  refine (dats m 0 c).arrAt_eq_of_after_last 13 tl (by decide +kernel) _ fun j => ?_
  blk_simp
  rw [after0_13, e, e']
end

end Cert.Mix

end
-- ==== Proof.MixPre.lean ====
/- The precondition of the gated mix's backward call read back: its float arguments are the images of real arrays. -/
module

public import proofs.«01_k».proof.Proof.MixBlk
public import proofs.«01_k».proof.Proof.XattnPre
public import proofs.«01_k».proof.Proof.Gen.Pre_finite_mix
public import Idealize.ShloMosaic.Lib.ReduceAll

@[expose] public section

set_option maxRecDepth 16384

noncomputable section

namespace Cert.Mix

open Cert.Kernel4Ideal Cert.Kernel4Ideal.Gen
open Idealize.ShloMosaic Idealize.ShloMosaic.TcCoe Idealize.SL.Sem Cert.RealLift

variable (m : (ℓ : Loc nD τ sig) → Buf (Elt Ideal) ℓ)

instance : Subsingleton Cert.Pre_finite_mix.S_.Idx := ⟨fun a b => funext fun i => i.elim0⟩

/-- Under the precondition the arguments are the images of real arrays. -/
theorem args_of_finite (c : Dev nD)
    (h : Cert.Pre_finite_mix.fn (F := Ideal) (X0 m c) (X1 m c) (X2 m c) (X3 m c) (X4 m c) (X5 m c) (X6 m c) (X7 m c) (X8 m c) (X9 m c) (X10 m c)
      = fun _ => 1#1) :
    ∃ X D G W WA BA LG LB WB BB WO, Args m c X D G W WA BA LG LB WB BB WO := by
  have e := congrFun h (Shape.Idx.first Cert.Pre_finite_mix.Gen.h_S_)
  unfold Cert.Pre_finite_mix.fn Cert.Pre_finite_mix.fn_part1 Cert.Pre_finite_mix.fn_part2 Cert.Pre_finite_mix.fn_part3 at e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := up_of_finite _ _ _ _ _ _ _ e0
  obtain ⟨G, hG⟩ := up1_of_finite _ _ _ _ _ _ _ e1
  obtain ⟨W, hW⟩ := up_of_finite _ _ _ _ _ _ _ e2
  obtain ⟨WA, hWA⟩ := up_of_finite _ _ _ _ _ _ _ e3
  obtain ⟨BA, hBA⟩ := up1_of_finite _ _ _ _ _ _ _ e4
  obtain ⟨LG, hLG⟩ := up1_of_finite _ _ _ _ _ _ _ e5
  obtain ⟨LB, hLB⟩ := up1_of_finite _ _ _ _ _ _ _ e6
  obtain ⟨WB, hWB⟩ := up_of_finite _ _ _ _ _ _ _ e7
  obtain ⟨BB, hBB⟩ := up1_of_finite _ _ _ _ _ _ _ e8
  obtain ⟨WO, hWO⟩ := up_of_finite _ _ _ _ _ _ _ e9
  obtain ⟨D, hD⟩ := up_of_finite _ _ _ _ _ _ _ e10
  exact ⟨X, D, G, W, WA, BA, LG, LB, WB, BB, WO, ⟨hX, hG, hW, hWA, hBA, hLG, hLB, hWB, hBB, hWO, hD⟩⟩

end Cert.Mix

end
-- ==== Proof.Pieces.lean ====
/- Stores that overlap: where the later ones cover an index, the earlier ones do not matter. -/
module

public import Idealize.ShloMosaic.Lib.Pipeline.ValueKit
public import Idealize.ShloMosaic.Lib.Pipeline.ReadBack

@[expose] public section

namespace Cert.Pieces

open Idealize.ShloMosaic

/-- Where the later stores cover an index, the earlier ones do not matter there. -/
theorem canon_later {Val : EltTy → Type} {s : Shape} {e : EltTy} [∀ e, Nonempty (Val e)] (L' : List (View.Piece Val s e)) :
    ∀ (L : List (View.Piece Val s e)) (y : s.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := hy
      rcases List.mem_cons.mp hq with rfl | hq
      · exact absurd hy hm
      · exact canon_later L' L y ⟨q, hq, hy⟩

end Cert.Pieces

end
-- ==== Proof.Xattn.lean ====
/- The gradient of the attention into the memory: the arrays the call returns are the ones the reference returns. -/
module

public import proofs.«01_k».proof.Proof.XattnBlk
public import proofs.«01_k».proof.Proof.Pieces

@[expose] public section

set_option maxRecDepth 16384

noncomputable section

namespace Cert.Xattn

open Cert.Kernel5Ideal Cert.Kernel5Ideal.Gen
open Idealize.ShloMosaic Idealize.ShloMosaic.TcCoe Idealize.SL.Sem Cert.RealLift Cert.Pieces

/-- Four strips over a fill of the whole buffer. -/
theorem over_fill (w0 w1 w2 w3 : S256x256.Idx → Elt Ideal .f32) (X : S256x1024.Idx → Elt Ideal .f32) :
    View.canon (Val := Elt Ideal) (s := S256x1024) (e := .f32)
      [⟨Rect.unit ![0, 768] ![256, 256] inb_S256x1024_S256x256_0_768, w3⟩,
       ⟨Rect.unit ![0, 512] ![256, 256] inb_S256x1024_S256x256_0_512, w2⟩,
       ⟨Rect.unit ![0, 256] ![256, 256] inb_S256x1024_S256x256_0_256, w1⟩,
       ⟨Rect.unit ![0, 0] ![256, 256] inb_S256x1024_S256x256_0_0, w0⟩,
       ⟨Rect.unit ![0, 0] ![256, 1024] inb_S256x1024_S256x1024_0_0, X⟩]
      = View.canon (Val := Elt Ideal) (s := S256x1024) (e := .f32)
      [⟨Rect.unit ![0, 768] ![256, 256] inb_S256x1024_S256x256_0_768, w3⟩,
       ⟨Rect.unit ![0, 512] ![256, 256] inb_S256x1024_S256x256_0_512, w2⟩,
       ⟨Rect.unit ![0, 256] ![256, 256] inb_S256x1024_S256x256_0_256, w1⟩,
       ⟨Rect.unit ![0, 0] ![256, 256] inb_S256x1024_S256x256_0_0, w0⟩] :=
  funext fun y => canon_later (Val := Elt Ideal) (s := S256x1024) (e := .f32) [⟨Rect.unit ![0, 0] ![256, 1024] inb_S256x1024_S256x1024_0_0, X⟩]
      [⟨Rect.unit ![0, 768] ![256, 256] inb_S256x1024_S256x256_0_768, w3⟩,
       ⟨Rect.unit ![0, 512] ![256, 256] inb_S256x1024_S256x256_0_512, w2⟩,
       ⟨Rect.unit ![0, 256] ![256, 256] inb_S256x1024_S256x256_0_256, w1⟩,
       ⟨Rect.unit ![0, 0] ![256, 256] inb_S256x1024_S256x256_0_0, w0⟩] y
    (View.cover_of_tiled_head _ _ _ (by rfl) _)

/-- What a point leaves in the five results it grows and in the rows' gradient, over what it found. -/
def Grows (H DH : Fin 8192 → Fin 1024 → ℝ) (G : Fin 1024 → ℝ) (K V : Fin 256 → Fin 1024 → ℝ) (WQ WO : Fin 1024 → Fin 1024 → ℝ)
    (t : Fin cfg0.N)
    (x : Vec Ideal S512x1024 .f32 × Vec Ideal S256x1024 .f32 × Vec Ideal S256x1024 .f32 × Vec Ideal S1x1024 .f32 × Vec Ideal S4x512x1024 .bf16 × Vec Ideal S1024x1024 .f32 × Vec Ideal S1024x1024 .f32)
    (dk dv : FVec Ideal S256x1024 .f32) (dg : FVec Ideal S1x1024 .f32) (qa oa : FVec Ideal S1024x1024 .f32) : Prop :=
  let q := rows (Q H G WQ) t
  let o := rows (O DH WO) t
  x.1 = up (fun p => drow (rows H t p) G (rows DH t p) (back (dquery (q p) (o p) K V) WQ))
  ∧ x.2.1 = addf dk (up (dkS q o K V))
  ∧ x.2.2.1 = addf dv (up (dvS q o K))
  ∧ x.2.2.2.1 = addf dg (up fun (_ : Fin 1) d => ∑ p, back (dquery (q p) (o p) K V) WQ d * (rows H t p d * inv (rows H t p)))
  ∧ x.2.2.2.2.2.1 = addf qa (up fun a b => ∑ p, nrm (rows H t p) G a * dquery (q p) (o p) K V b)
  ∧ x.2.2.2.2.2.2 = addf oa (up fun a b => ∑ p, att (q p) K V a * rows DH t p b)

variable {m : (ℓ : Loc nD τ sig) → Buf (Elt Ideal) ℓ} {c : Dev nD} {H DH : Fin 8192 → Fin 1024 → ℝ} {G : Fin 1024 → ℝ}
    {K V : Fin 256 → Fin 1024 → ℝ} {WQ WO : Fin 1024 → Fin 1024 → ℝ} (A : Args m c H DH G K V WQ WO) (t : Fin cfg0.N)
include A

theorem grows_A (h0 : t.val % 16 = 0) (h1 : ¬ t.val % 16 = 15) :
    Grows H DH G K V WQ WO t (outsAt0 m c t.val t.isLt) k0_pay6 k0_pay7 k0_pay8 k0_pay4 k0_pay5 := by
  rw [outsAt0_A m c t h0 h1]
  refine ⟨?_, ?_, ?_, ?_, ?_, ?_⟩
  · frame_out
    rw [b0 A, b1 A, b2 A, b3 A, b4 A, b5 A, b6 A, b7 A]
    simp only [pass9, pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), dn_up, inv_up, xhat_up, drow_up]
  · frame_out
    rw [b1 A, b2 A, b4 A, b5 A, b7 A]
    simp (disch := decide) only [↓ View.readCov_skip, ↓ View.readCov_fill]
    rw [over_fill]
    simp only [pass11, pass14, pass25, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3, dk0, dk1, dk2, dk3]
    exact grown _ _
  · frame_out
    rw [b1 A, b2 A, b4 A, b7 A]
    simp (disch := decide) only [↓ View.readCov_skip, ↓ View.readCov_fill]
    rw [over_fill]
    simp only [pass11, do_up, ld_up K 0 0 rfl, ld_up V 0 0 rfl, ld_up K 256 1 rfl, ld_up V 256 1 rfl, ld_up K 512 2 rfl,
      ld_up V 512 2 rfl, ld_up K 768 3 rfl, ld_up V 768 3 rfl, dv0, dv1, dv2, dv3]
    exact grown _ _
  · frame_out
    rw [b0 A, b1 A, b2 A, b4 A, b5 A, b6 A, b7 A]
    simp only [pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), gain_up]
  · frame_out
    rw [b0 A, b1 A, b2 A, b3 A, b4 A, b5 A, b7 A]
    simp only [pass9, pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), qacc_up]
  · frame_out
    rw [b1 A, b2 A, b4 A, b5 A]
    simp only [pass10, pass11, ld_up K 0 0 rfl, ld_up V 0 0 rfl, ld_up K 256 1 rfl, ld_up V 256 1 rfl, ld_up K 512 2 rfl,
      ld_up V 512 2 rfl, ld_up K 768 3 rfl, ld_up V 768 3 rfl, att0, att1, att2, att3]
    rw [stage _ (fun p => att (rows (Q H G WQ) t p) K V), oacc_up]

theorem grows_B (h0 : ¬ t.val % 16 = 0) (h1 : ¬ t.val % 16 = 15) :
    Grows H DH G K V WQ WO t (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 := by
  rw [outsAt0_B m c t h0 h1]
  refine ⟨?_, ?_, ?_, ?_, ?_, ?_⟩
  · frame_out
    rw [b0 A, b1 A, b2 A, b3 A, b4 A, b5 A, b6 A, b7 A]
    simp only [pass9, pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), dn_up, inv_up, xhat_up, drow_up]
  · frame_out
    rw [b1 A, b2 A, b4 A, b5 A, b7 A]
    simp only [pass11, pass14, pass25, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3, dk0, dk1, dk2, dk3]
    exact grown _ _
  · frame_out
    rw [b1 A, b2 A, b4 A, b7 A]
    simp only [pass11, do_up, ld_up K 0 0 rfl, ld_up V 0 0 rfl, ld_up K 256 1 rfl, ld_up V 256 1 rfl, ld_up K 512 2 rfl,
      ld_up V 512 2 rfl, ld_up K 768 3 rfl, ld_up V 768 3 rfl, dv0, dv1, dv2, dv3]
    exact grown _ _
  · frame_out
    rw [b0 A, b1 A, b2 A, b4 A, b5 A, b6 A, b7 A]
    simp only [pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), gain_up]
  · frame_out
    rw [b0 A, b1 A, b2 A, b3 A, b4 A, b5 A, b7 A]
    simp only [pass9, pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), read_unread_whole, qacc_up]
  · frame_out
    rw [b1 A, b2 A, b4 A, b5 A]
    simp only [pass10, pass11, ld_up K 0 0 rfl, ld_up V 0 0 rfl, ld_up K 256 1 rfl, ld_up V 256 1 rfl, ld_up K 512 2 rfl,
      ld_up V 512 2 rfl, ld_up K 768 3 rfl, ld_up V 768 3 rfl, att0, att1, att2, att3]
    rw [stage _ (fun p => att (rows (Q H G WQ) t p) K V), read_unread_whole, oacc_up]

theorem grows_C (h0 : ¬ t.val % 16 = 0) (h1 : t.val % 16 = 15) :
    Grows H DH G K V WQ WO t (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 := by
  rw [outsAt0_C m c t h0 h1]
  refine ⟨?_, ?_, ?_, ?_, ?_, ?_⟩
  · frame_out
    rw [b0 A, b1 A, b2 A, b3 A, b4 A, b5 A, b6 A, b7 A]
    simp only [pass9, pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), dn_up, inv_up, xhat_up, drow_up]
  · frame_out
    rw [b1 A, b2 A, b4 A, b5 A, b7 A]
    simp only [pass11, pass14, pass25, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3, dk0, dk1, dk2, dk3]
    exact grown _ _
  · frame_out
    rw [b1 A, b2 A, b4 A, b7 A]
    simp only [pass11, do_up, ld_up K 0 0 rfl, ld_up V 0 0 rfl, ld_up K 256 1 rfl, ld_up V 256 1 rfl, ld_up K 512 2 rfl,
      ld_up V 512 2 rfl, ld_up K 768 3 rfl, ld_up V 768 3 rfl, dv0, dv1, dv2, dv3]
    exact grown _ _
  · frame_out
    rw [b0 A, b1 A, b2 A, b4 A, b5 A, b6 A, b7 A]
    simp only [pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), gain_up]
  · frame_out
    rw [b0 A, b1 A, b2 A, b3 A, b4 A, b5 A, b7 A]
    simp only [pass9, pass11, pass13, pass14, pass24, pass25, pass35, pass47, pass48, do_up, ld_up K 0 0 rfl, ld_up V 0 0 rfl, ld_up K 256 1 rfl, ld_up V 256 1 rfl, ld_up K 512 2 rfl,
      ld_up V 512 2 rfl, ld_up K 768 3 rfl, ld_up V 768 3 rfl, prob0, prob3,
      dq0, dq1, dq2, dq3]
    rw [stage _ (fun p => dquery (rows (Q H G WQ) t p) (rows (O DH WO) t p) K V), read_unread_whole, qacc_up]
  · frame_out
    rw [b1 A, b2 A, b4 A, b5 A]
    simp only [pass10, pass11, ld_up K 0 0 rfl, ld_up V 0 0 rfl, ld_up K 256 1 rfl, ld_up V 256 1 rfl, ld_up K 512 2 rfl,
      ld_up V 512 2 rfl, ld_up K 768 3 rfl, ld_up V 768 3 rfl, att0, att1, att2, att3]
    rw [stage _ (fun p => att (rows (Q H G WQ) t p) K V), read_unread_whole, oacc_up]

/-- The two packed shards the last point writes. -/
theorem shards_C (h0 : ¬ t.val % 16 = 0) (h1 : t.val % 16 = 15) : (outsAt0 m c t.val t.isLt).2.2.2.2.1
    = View.canon (Val := Elt Ideal) (s := S4x512x1024) (e := .bf16)
      [⟨Rect.unit ![0, 256, 0] ![4, 256, 1024] inb_S4x512x1024_S4x256x1024_0_256_0, k0_pay3 (F := Ideal) (outsAt0 m c t.val t.isLt).2.2.2.2.2.2⟩,
       ⟨Rect.unit ![0, 0, 0] ![4, 256, 1024] inb_S4x512x1024_S4x256x1024_0_0_0, k0_pay2 (F := Ideal) (outsAt0 m c t.val t.isLt).2.2.2.2.2.1⟩] := by
  rw [outsAt0_C m c t h0 h1]
  frame_out

omit A in
/-- A result grown from zero point by point holds the sum over the points. -/
theorem swept {a b : ℕ} (f : (n : ℕ) → n < cfg0.N → FVec Ideal ⟨2, ![a, b]⟩ .f32) (T : Fin cfg0.N → Fin a → Fin b → ℝ)
    (Z : FVec Ideal ⟨2, ![a, b]⟩ .f32) (hz : ∀ i, Z i = 0) (h0 : ∀ t : Fin cfg0.N, t.val % 16 = 0 → f t.val t.isLt = addf Z (up (T t)))
    (hs : ∀ t : Fin cfg0.N, ¬t.val % 16 = 0 →
      f t.val t.isLt = addf (f (t.val - 1) (Nat.lt_of_le_of_lt (Nat.sub_le _ _) t.isLt)) (up (T t)))
    (t : Fin cfg0.N) (ht : t.val + 1 = cfg0.N) : f t.val t.isLt = up fun i j => ∑ t, T t i j := by
  funext i
  rw [Pipeline.eq_sum_fin_of_reset_step_apply_last f 16 (fun _ => (0 : EReal)) (fun t i => up (T t) i)
    (fun t h i => by rw [h0 t h, addf]; show Z i + up (T t) i = _; rw [hz]) (fun t h i => by rw [hs t h]; rfl) (le_of_eq N_0) t ht i, zero_add]
  exact (coe_sum _ _).symm

omit A in
/-- The points' rows are all the rows. -/
theorem all_rows (F : Fin 8192 → ℝ) : ∑ t : Fin cfg0.N, ∑ p : Fin 512, F ⟨(t : ℕ) * 512 + p, by have := t.isLt; have e : cfg0.N = 16 := N_0; omega⟩
    = ∑ s, F s :=
  Fin.sum_mul_add_congr (fun _ _ _ => rfl) (by rw [show cfg0.N = 16 from N_0])

/-- The last point. -/
def tl : Fin cfg0.N := ⟨15, by rw [show cfg0.N = 16 from N_0]; decide⟩

/-- A point that is not the first grows what the point before left. -/
theorem grows_next (h0 : ¬ t.val % 16 = 0) :
    Grows H DH G K V WQ WO t (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2 := by
  by_cases h1 : t.val % 16 = 15
  · exact grows_C A t h0 h1
  · exact grows_B A t h0 h1

theorem grows_first (h0 : t.val % 16 = 0) :
    Grows H DH G K V WQ WO t (outsAt0 m c t.val t.isLt) k0_pay6 k0_pay7 k0_pay8 k0_pay4 k0_pay5 :=
  grows_A A t h0 (by omega)

theorem rows_at : (outsAt0 m c t.val t.isLt).1 = up (fun p => drow (rows H t p) G (rows DH t p)
    (back (dquery (rows (Q H G WQ) t p) (rows (O DH WO) t p) K V) WQ)) := by
  by_cases h0 : t.val % 16 = 0
  · exact (grows_first A t h0).1
  · exact (grows_next A t h0).1

omit A in
theorem zero6 (i) : k0_pay6 (F := Ideal) i = 0 := by idx_vars i; pointwise [k0_pay6]
omit A in
theorem zero7 (i) : k0_pay7 (F := Ideal) i = 0 := by idx_vars i; pointwise [k0_pay7]
omit A in
theorem zero8 (i) : k0_pay8 (F := Ideal) i = 0 := by idx_vars i; pointwise [k0_pay8]
omit A in
theorem zero4 (i) : k0_pay4 (F := Ideal) i = 0 := by idx_vars i; pointwise [k0_pay4]
omit A in
theorem zero5 (i) : k0_pay5 (F := Ideal) i = 0 := by idx_vars i; pointwise [k0_pay5]

theorem dk_last : (outsAt0 m c tl.val tl.isLt).2.1
    = up fun j e => ∑ s, dscore (Q H G WQ s) (O DH WO s) K V (hd e) j * Q H G WQ s (col (hd e) (ps e)) := by
  rw [swept (fun n h => (outsAt0 m c n h).2.1) _ _ zero6 (fun t h => (grows_first A t h).2.1) (fun t h => (grows_next A t h).2.1) tl rfl]
  congr 1
  funext j e
  exact all_rows fun s => dscore (Q H G WQ s) (O DH WO s) K V (hd e) j * Q H G WQ s (col (hd e) (ps e))

theorem dv_last : (outsAt0 m c tl.val tl.isLt).2.2.1
    = up fun j e => ∑ s, prob (Q H G WQ s) K (hd e) j * O DH WO s (col (hd e) (ps e)) := by
  rw [swept (fun n h => (outsAt0 m c n h).2.2.1) _ _ zero7 (fun t h => (grows_first A t h).2.2.1) (fun t h => (grows_next A t h).2.2.1) tl rfl]
  congr 1
  funext j e
  exact all_rows fun s => prob (Q H G WQ s) K (hd e) j * O DH WO s (col (hd e) (ps e))

theorem dg_last : (outsAt0 m c tl.val tl.isLt).2.2.2.1
    = up fun (_ : Fin 1) d => ∑ s, back (dquery (Q H G WQ s) (O DH WO s) K V) WQ d * (H s d * inv (H s)) := by
  rw [swept (fun n h => (outsAt0 m c n h).2.2.2.1) _ _ zero8 (fun t h => (grows_first A t h).2.2.2.1) (fun t h => (grows_next A t h).2.2.2.1) tl rfl]
  congr 1
  funext j d
  exact all_rows fun s => back (dquery (Q H G WQ s) (O DH WO s) K V) WQ d * (H s d * inv (H s))

theorem dwq_last : (outsAt0 m c tl.val tl.isLt).2.2.2.2.2.1
    = up fun a b => ∑ s, nrm (H s) G a * dquery (Q H G WQ s) (O DH WO s) K V b := by
  rw [swept (fun n h => (outsAt0 m c n h).2.2.2.2.2.1) _ _ zero4 (fun t h => (grows_first A t h).2.2.2.2.1) (fun t h => (grows_next A t h).2.2.2.2.1) tl rfl]
  congr 1
  funext a b
  exact all_rows fun s => nrm (H s) G a * dquery (Q H G WQ s) (O DH WO s) K V b

theorem dwo_last : (outsAt0 m c tl.val tl.isLt).2.2.2.2.2.2
    = up fun a b => ∑ s, att (Q H G WQ s) K V a * DH s b := by
  rw [swept (fun n h => (outsAt0 m c n h).2.2.2.2.2.2) _ _ zero5 (fun t h => (grows_first A t h).2.2.2.2.2) (fun t h => (grows_next A t h).2.2.2.2.2) tl rfl]
  congr 1
  funext a b
  exact all_rows fun s => att (Q H G WQ s) K V a * DH s b

/-! ## The arrays the call returns -/

open Cert.Reference5Ideal.Read

theorem res_rows : (dats m 0 c).arrAt 8 cfg0.N
    = val_main_v109 (F := Ideal) (up H) (up1 G) (up K) (up V) (up WQ) (up WO) (up DH) := by
  refine (dats m 0 c).arrAt_eq_of_covers 8 _ (by decide +kernel) fun t hf y => ?_
  blk_simp
  rw [after0_8, rows_at A t]
  obtain ⟨y0, y1, rfl⟩ : ∃ (a : Fin 512) (b : Fin 1024), y = ix2 a b := ⟨y 0, y 1, (ix2_eta y).symm⟩
  have hs : (t : ℕ) * 512 + (y0 : ℕ) < 8192 := by have := t.isLt; have e : cfg0.grid.N = 16 := N_0; omega
  refine (v109_at H DH G K V WQ WO ⟨(t : ℕ) * 512 + y0, hs⟩ y1).symm.trans ?_
  blk_ext [idx t]

theorem res_k : (dats m 0 c).arrAt 9 cfg0.N
    = val_main_v84 (F := Ideal) (up H) (up1 G) (up K) (up V) (up WQ) (up WO) (up DH) := by
  refine (dats m 0 c).arrAt_eq_of_after_last 9 tl (by decide +kernel) _ fun j => ?_
  blk_simp
  rw [after0_9, dk_last A]
  idx_vars j
  exact (v84_at H DH G K V WQ WO _ _).symm

theorem res_v : (dats m 0 c).arrAt 10 cfg0.N
    = val_main_v83 (F := Ideal) (up H) (up1 G) (up K) (up WQ) (up WO) (up DH) := by
  refine (dats m 0 c).arrAt_eq_of_after_last 10 tl (by decide +kernel) _ fun j => ?_
  blk_simp
  rw [after0_10, dv_last A]
  idx_vars j
  exact (v83_at H DH G K WQ WO _ _).symm

theorem res_g : (dats m 0 c).arrAt 11 cfg0.N
    = val_main_v113 (F := Ideal) (up H) (up1 G) (up K) (up V) (up WQ) (up WO) (up DH) := by
  refine (dats m 0 c).arrAt_eq_of_after_last 11 tl (by decide +kernel) _ fun j => ?_
  blk_simp
  rw [after0_11, dg_last A]
  idx_vars j
  exact (v113_at H DH G K V WQ WO _ _).symm

/-- The shards, where the call writes them. -/
theorem res_shards (i : S4x1024x1024.Idx) (hi : (i 1 : ℕ) < 512) : (dats m 0 c).arrAt 12 cfg0.N i
    = val_main_v115 (F := Ideal) (up H) (up1 G) (up K) (up V) (up WQ) (up WO) (up DH) i := by
  rw [(dats m 0 c).arrAt_eq_of_coversWhere 12 (val_main_v115 (F := Ideal) (up H) (up1 G) (up K) (up V) (up WQ) (up WO) (up DH))
    (P := fun i => (i 1 : ℕ) < 512) (fun β => β (1 : Fin _) = 0) (by decide +kernel) (fun t hf y => ?_) (fun j => ?_)]
  · exact if_pos hi
  · have ht : t = tl :=
      (by decide +kernel : ∀ t : Fin cfg0.N, (cfg0.win 12).flush t = true → t = tl) t hf
    subst ht
    blk_simp
    rw [after0_12, shards_C A tl (by decide) (by decide), dwq_last A, dwo_last A, post_up, post_up']
    canon_tiles x h
    · idx_vars x
      refine (v115_o H DH G K V WQ WO x0 x1 x2).symm.trans ?_
      blk_ext [idx tl]
    · idx_vars x
      refine (v115_q H DH G K V WQ WO x0 x1 x2).symm.trans ?_
      blk_ext [idx tl]
  · blk_simp [Pipeline.Window.cell_apply]
    omega

end Cert.Xattn

end
-- ==== Proof.SguPay.lean ====
/- What one point of the gating's backward grid computes from its blocks of 256 rows, over the reals: the row-wise
payloads before and after the mixing of positions. -/
module

public import proofs.«01_k».proof.Proof.SguReal
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Sgu

open Cert.Kernel6Ideal Cert.Kernel6Ideal.Gen
open Idealize.ShloMosaic Idealize.ShloMosaic.TcCoe Idealize.SL.Sem Cert.RealLift Cert.Xattn

theorem at2 {a b : ℕ} (H : Fin a → Fin b → ℝ) (i : Fin a) (j : Fin b) : up H (ix2 i j) = ((H i j : ℝ) : EReal) := rfl

theorem at3 {a b c : ℕ} (H : Fin a → Fin b → Fin c → ℝ) (i : Fin a) (j : Fin b) (k : Fin c) :
    up3 H (ix3 i j k) = ((H i j k : ℝ) : EReal) := rfl

theorem trunc_id {s : Shape} (x : FVec Ideal s .f32) (h) : truncf (F := Ideal) .bf16 x h = x := rfl

theorem ext_id {s : Shape} (x : FVec Ideal s .bf16) (h) : extf (F := Ideal) .f32 x h = x := rfl

theorem named_a (w : BitVec 32) : (Named.named κ "gelu_a" w : Ideal .f32) = ((8943 / 200000 : ℝ) : EReal) := by
  simp [Named.named, κ]

theorem named_a3 (w : BitVec 32) : (Named.named κ "gelu_a3" w : Ideal .f32) = ((26829 / 200000 : ℝ) : EReal) := by
  simp [Named.named, κ]

/-! ## The gelu and the layer norm -/

section
variable (Z : Fin 256 → Fin 2048 → ℝ)

theorem cast_up : k0_pay17 (F := Ideal) (up Z) = up Z := by
  rw [k0_pay17, shapeCast_self, ext_id]

theorem gelu_up : k0_pay18 (F := Ideal) (up Z) = up fun p j => ge (Z p j) := by
  funext i
  idx_vars i
  pointwise [k0_pay18]
  rw [cast_up]
  simp only [at2, named_a, ofBits_gc, ofBits_half, ofBits_one, ← EReal.coe_mul, ← EReal.coe_add, Ideal.tanh_coe]
  rfl

theorem gate_up : k0_pay19 (F := Ideal) (up Z) = up fun p => uu (Z p) := by
  rw [k0_pay19, gelu_up]
  funext i
  idx_vars i
  pointwise []
  rfl

theorem cen_up : k0_pay20 (F := Ideal) (up Z) = up fun p => cen (vv (Z p)) := by
  have e : (extractStridedSlice S256x1024 ![0, 1024] (k0_pay18 (F := Ideal) (up Z)) slices_S256x2048_o0_1024_S256x1024 : FVec Ideal S256x1024 .f32)
      = up fun p => vv (Z p) := by
    rw [gelu_up]
    funext i
    idx_vars i
    pointwise []
    rfl
  rw [k0_pay20, e]
  funext i
  idx_vars i
  pointwise []
  simp only [at2, ofBits_1024, ← coe_sum, div_coe (by norm_num : (1024 : ℝ) ≠ 0), ← EReal.coe_sub]
  rfl

theorem lrs_up : k0_pay21 (F := Ideal) (up Z) = up fun p (_ : Fin 1) => lrs (vv (Z p)) := by
  rw [k0_pay21, cen_up]
  funext i
  idx_vars i
  rw [at2, lrs, ← coe_rinv (by norm_num) lnEps_pos, ← coe_meanSq (by norm_num)]
  pointwise []
  rw [ofBits_1024, ofBits_lnEps]
  rfl

theorem yl_up : k0_pay22 (F := Ideal) (up Z) = up fun p => yl (vv (Z p)) := by
  rw [k0_pay22, cen_up, lrs_up]
  funext i
  idx_vars i
  pointwise []
  simp only [at2, yl, EReal.coe_mul]

variable (LG LB : Fin 1024 → ℝ)

theorem vn_up : k0_pay23 (F := Ideal) (k0_pay22 (up Z)) (up fun _ : Fin 1 => LG) (up fun _ : Fin 1 => LB)
    = up fun p => vn (Z p) LG LB := by
  rw [yl_up]
  funext i
  idx_vars i
  pointwise [k0_pay23]
  simp only [at2, vn, EReal.coe_mul, EReal.coe_add]

/-- The layer norm's gradient. -/
theorem dln_up (X : Fin 256 → Fin 1024 → ℝ) :
    k0_pay218 (F := Ideal) (k0_pay21 (up Z)) (k0_pay22 (up Z)) (k0_pay216 (up X) (up fun _ : Fin 1 => LG))
      (k0_pay217 (up X) (up fun _ : Fin 1 => LG)) = up fun p => dln (vv (Z p)) fun d => X p d * LG d := by
  have e : k0_pay216 (F := Ideal) (up X) (up fun _ : Fin 1 => LG) = up fun p d => X p d * LG d := by
    rw [k0_pay216, shapeCast_self]
    funext i
    idx_vars i
    pointwise []
    simp only [at2, EReal.coe_mul]
  rw [k0_pay217, e, yl_up, lrs_up]
  funext i
  idx_vars i
  pointwise [k0_pay218]
  simp only [at2, ofBits_1024, ← EReal.coe_mul, ← coe_sum, div_coe (by norm_num : (1024 : ℝ) ≠ 0), ← EReal.coe_sub]
  rfl

theorem dlg_up (X : Fin 256 → Fin 1024 → ℝ) (A) : k0_pay214 (F := Ideal) (k0_pay22 (up Z)) (up X) A
    = addf A (up fun (_ : Fin 1) d => ∑ p, X p d * yl (vv (Z p)) d) := by
  rw [k0_pay214, shapeCast_self, yl_up]
  funext i
  idx_vars i
  pointwise []
  simp only [at2, coe_sum, EReal.coe_mul]

theorem dlb_up (X : Fin 256 → Fin 1024 → ℝ) (A) : k0_pay215 (F := Ideal) (up X) A = addf A (up fun (_ : Fin 1) d => ∑ p, X p d) := by
  rw [k0_pay215, shapeCast_self]
  funext i
  idx_vars i
  pointwise []
  simp only [at2, coe_sum]

/-- The gelu's gradient. -/
theorem dgelu_up (X : Fin 256 → Fin 2048 → ℝ) : k0_pay219 (F := Ideal) (k0_pay17 (up Z)) (up X) = up fun p j => X p j * dge (Z p j) := by
  rw [cast_up]
  funext i
  idx_vars i
  pointwise [k0_pay219]
  simp only [at2, named_a, named_a3, ofBits_gc, ofBits_half, ofBits_one, ← EReal.coe_one, ← EReal.coe_mul, ← EReal.coe_add, ← EReal.coe_sub, Ideal.tanh_coe]
  refine congrArg (fun r : ℝ => (r : EReal)) (congrArg (fun r : ℝ => X i0 i1 * r) ?_)
  simp only [dge, th]
  ring
end

/-! ## The products around them and the norm of the input row -/

/-- The image of a matrix whose rows, or whose columns, are packed by four. -/
def upq (W : Fin 1024 → Fin 1024 → ℝ) : S4x256x1024.Idx → EReal := fun i => ((W (col (i 0) (i 1)) (i 2) : ℝ) : EReal)
def upc (W : Fin 1024 → Fin 2048 → ℝ) : S4x1024x512.Idx → EReal :=
  fun i => ((W (i 1) ⟨(i 0 : ℕ) * 512 + (i 2 : ℕ), by have := (i 0).isLt; have := (i 2).isLt; simp at *; omega⟩ : ℝ) : EReal)

theorem unpack (W : Fin 1024 → Fin 1024 → ℝ) (h) : (shapeCast S1024x1024 (upq W : FVec Ideal S4x256x1024 .bf16) h : FVec Ideal S1024x1024 .bf16) = up W := by
  funext i
  idx_vars i
  pointwise []
  refine congrArg (fun r : ℝ => (r : EReal)) (congrArg (fun k => W k i1) (Fin.ext ?_))
  show (i0 : ℕ) / 256 * 256 + (i0 : ℕ) % 256 = i0
  omega

section
variable (x y D : Fin 256 → Fin 1024 → ℝ) (z : Fin 256 → Fin 2048 → ℝ) (g : Fin 1024 → ℝ) (W : Fin 1024 → Fin 1024 → ℝ) (WI : Fin 1024 → Fin 2048 → ℝ)

theorem mul_back : (matmul (φ₁ := .bf16) (φ₂ := .bf16) dot_S256x1024_S1024x1024_S256x1024_1_1_0_0_n_n none (up x) (up W)
    (constant S256x1024 .f32 0x00000000#32) : FVec Ideal S256x1024 .f32) = up fun p => back (x p) W := by
  funext i
  idx_vars i
  pointwise []
  simp only [at2, back, coe_sum, EReal.coe_mul]

theorem mul_slim : (matmul (φ₁ := .bf16) (φ₂ := .bf16) dot_S256x2048_S1024x2048_S256x1024_1_1_0_0_n_n none (up z) (up WI)
    (constant S256x1024 .f32 0x00000000#32) : FVec Ideal S256x1024 .f32) = up fun p => slim (z p) WI := by
  funext i
  idx_vars i
  pointwise []
  simp only [at2, slim, coe_sum, EReal.coe_mul]

theorem mul_outer : (matmul (φ₁ := .bf16) (φ₂ := .bf16) dot_S256x1024_S256x1024_S1024x1024_0_0_1_1_n_n none (up x) (up y)
    (constant S1024x1024 .f32 0x00000000#32) : FVec Ideal S1024x1024 .f32) = up fun a b => ∑ p, x p a * y p b := by
  funext i
  idx_vars i
  pointwise []
  simp only [at2, coe_sum, EReal.coe_mul]

theorem mul_wide : (matmul (φ₁ := .bf16) (φ₂ := .bf16) dot_S256x1024_S256x2048_S1024x2048_0_0_1_1_n_n none (up x) (up z)
    (constant S1024x2048 .f32 0x00000000#32) : FVec Ideal S1024x2048 .f32) = up fun a b => ∑ p, x p a * z p b := by
  funext i
  idx_vars i
  pointwise []
  simp only [at2, coe_sum, EReal.coe_mul]

theorem dy_up : k0_pay24 (F := Ideal) (k0_pay16 (up D)) (upq W) = up fun p => back (D p) W := by
  rw [k0_pay24, shapeCast_self, unpack, k0_pay16, trunc_id, mul_back]

theorem oacc_up (X) : k0_pay213 (F := Ideal) (k0_pay16 (up D)) X (up y) = addf X (up fun a b => ∑ p, y p a * D p b) := by
  rw [k0_pay213, shapeCast_self, k0_pay16, trunc_id, mul_outer]

theorem inv_up : k0_pay221 (F := Ideal) (up x) = up fun p (_ : Fin 1) => Cert.Xattn.inv (x p) := by
  funext i
  idx_vars i
  rw [at2, Cert.Xattn.inv, ← coe_rinv (by norm_num) rmsEps_pos, ← coe_meanSq (by norm_num)]
  pointwise [k0_pay221]
  rw [ofBits_1024, ofBits_rmsEps]
  rfl

theorem xhat_up : k0_pay222 (F := Ideal) (up x) = up fun p d => x p d * Cert.Xattn.inv (x p) := by
  funext i
  idx_vars i
  pointwise [k0_pay222]
  rw [inv_up]
  simp only [at2, EReal.coe_mul]

theorem iacc_up (X) : k0_pay223 (F := Ideal) (k0_pay15 (up fun _ : Fin 1 => g)) (up z) (up x) X
    = addf X (up fun a b => ∑ p, nrm (x p) g a * z p b) := by
  have e : (mulf (k0_pay222 (up x)) (broadcastTo S256x1024 (up fun _ : Fin 1 => g) broadcasts_S1x1024_S256x1024) : FVec Ideal S256x1024 .f32)
      = up fun p => nrm (x p) g := by
    rw [xhat_up]
    funext i
    idx_vars i
    pointwise []
    simp only [at2, nrm, EReal.coe_mul]
  rw [k0_pay223, shapeCast_self, k0_pay15, shapeCast_self, e, trunc_id, k0_pay220, trunc_id, mul_wide]

theorem dn_up : k0_pay224 (F := Ideal) (up z) (up WI) = up fun p => slim (z p) WI := by
  rw [k0_pay224, shapeCast_self, k0_pay220, trunc_id, mul_slim]

theorem gain_up (X) : k0_pay225 (F := Ideal) (up z) (up x) (up WI) X
    = addf X (up fun (_ : Fin 1) d => ∑ p, slim (z p) WI d * (x p d * Cert.Xattn.inv (x p))) := by
  rw [k0_pay225, shapeCast_self, xhat_up, dn_up]
  funext i
  idx_vars i
  pointwise []
  simp only [at2, coe_sum, EReal.coe_mul]

theorem drow_up : k0_pay1 (F := Ideal) (up D) (k0_pay221 (up x)) (k0_pay222 (up x)) (k0_pay226 (k0_pay15 (up fun _ : Fin 1 => g)) (up z) (up WI))
    (k0_pay227 (k0_pay15 (up fun _ : Fin 1 => g)) (up z) (up x) (up WI)) = up fun p => drow (x p) g (D p) (slim (z p) WI) := by
  have e : k0_pay226 (F := Ideal) (k0_pay15 (up fun _ : Fin 1 => g)) (up z) (up WI) = up fun p d => slim (z p) WI d * g d := by
    rw [k0_pay226, k0_pay15, shapeCast_self, dn_up]
    funext i
    idx_vars i
    pointwise []
    simp only [at2, EReal.coe_mul]
  rw [k0_pay227, e, xhat_up, inv_up]
  funext i
  idx_vars i
  pointwise [k0_pay1]
  simp only [at2, drow, ofBits_1024, ← EReal.coe_mul, ← coe_sum, div_coe (by norm_num : (1024 : ℝ) ≠ 0), ← EReal.coe_sub, ← EReal.coe_add]

theorem post_up (x : Fin 1024 → Fin 1024 → ℝ) : k0_pay6 (F := Ideal) (up x) = upq x := by
  funext i
  idx_vars i
  pointwise [k0_pay6]
  rfl
end

end Cert.Sgu

end
-- ==== Proof.SguTile.lean ====
/- The sixteen tiles of a point, one for each of two chunks and eight groups of lanes, over the reals: what a tile's
operations make of images, and what the tiles hold once stored side by side. -/
module

public import proofs.«01_k».proof.Proof.SguPay
public import proofs.«01_k».proof.Proof.Pieces

@[expose] public section

set_option maxRecDepth 16384

noncomputable section

namespace Cert.Sgu

open Cert.Kernel6Ideal Cert.Kernel6Ideal.Gen
open Idealize.ShloMosaic Idealize.ShloMosaic.TcCoe Idealize.SL.Sem Cert.RealLift Cert.Xattn Cert.Pieces

/-- The tile of 128 rows and 128 lanes at a corner, and a group by its number. -/
def cut (r q : ℕ) (X : Fin 256 → Fin 1024 → ℝ) (p e : Fin 128) : ℝ :=
  X ⟨(r + p) % 256, Nat.mod_lt _ (by decide)⟩ ⟨(q + e) % 1024, Nat.mod_lt _ (by decide)⟩
def gr (g : ℕ) : Fin 8 := ⟨g % 8, Nat.mod_lt _ (by decide)⟩

/-- Two tiles' product over the lanes. -/
def outer (r q : ℕ) (X Y : Fin 256 → Fin 1024 → ℝ) (a b : Fin 128) : ℝ := ∑ e, cut r q X a e * cut r q Y b e

section
variable (X Y : Fin 256 → Fin 1024 → ℝ) (r q g : ℕ)

theorem slice_f32 (h) : (extractStridedSlice S128x128 ![r, q] (up X : FVec Ideal S256x1024 .f32) h : FVec Ideal S128x128 .f32) = up (cut r q X) := by
  obtain ⟨h0, h1⟩ : r + 128 ≤ 256 ∧ q + 128 ≤ 1024 := by
    have := h.2 0; have := h.2 1; simp at *; omega
  funext i
  idx_vars i
  pointwise []
  simp only [at2, cut]
  congr 2 <;> exact Fin.ext (by simp; omega)

theorem slice_b16 (h) : (extractStridedSlice S128x128 ![r, q] (up X : FVec Ideal S256x1024 .bf16) h : FVec Ideal S128x128 .bf16) = up (cut r q X) :=
  slice_f32 X r q h

theorem mul_cut : (mulf (up (cut r q X)) (up (cut r q Y)) : FVec Ideal S128x128 .f32) = up (cut r q fun s d => X s d * Y s d) := by
  funext i
  idx_vars i
  pointwise []
  simp only [at2, cut, EReal.coe_mul]

variable (W : Fin 8 → Fin 128 → Fin 128 → ℝ) (B : Fin 8 → Fin 128 → ℝ)

theorem ld_b16 (h) : (View.ld (Val := Elt Ideal) (e' := .bf16) (up3 W) (Rect.unit (s := S8x128x128) ![g, 0, 0] ![1, 128, 128] h) : FVec Ideal S1x128x128 .bf16)
    = up3 fun _ : Fin 1 => W (gr g) := by
  have hg : g + 1 ≤ 8 := h 0
  funext i
  idx_vars i
  obtain rfl : i0 = 0 := Subsingleton.elim _ _
  pointwise []
  have e : gr g = ⟨g, by omega⟩ := Fin.ext (by simp [gr]; omega)
  show _ = ((W (gr g) i1 i2 : ℝ) : EReal)
  rw [e]
  rfl

theorem ld_f32 (h) : (View.ld (Val := Elt Ideal) (e' := .f32) (up3 W) (Rect.unit (s := S8x128x128) ![g, 0, 0] ![1, 128, 128] h) : FVec Ideal S1x128x128 .f32)
    = up3 fun _ : Fin 1 => W (gr g) := ld_b16 g W h

theorem flat_b16 (A : Fin 128 → Fin 128 → ℝ) (h) : (shapeCast S128x128 (up3 fun _ : Fin 1 => A : FVec Ideal S1x128x128 .bf16) h : FVec Ideal S128x128 .bf16) = up A := by
  funext i
  idx_vars i
  pointwise []
  rfl

theorem flat_f32 (A : Fin 128 → Fin 128 → ℝ) (h) : (shapeCast S128x128 (up3 fun _ : Fin 1 => A : FVec Ideal S1x128x128 .f32) h : FVec Ideal S128x128 .f32) = up A :=
  flat_b16 A h

theorem acc (L : FVec Ideal S1x128x128 .f32) (A : Fin 128 → Fin 128 → ℝ) (h h') :
    (shapeCast S1x128x128 (addf (shapeCast S128x128 L h) (up A)) h' : FVec Ideal S1x128x128 .f32) = addf L (up3 fun _ : Fin 1 => A) := by
  funext i
  idx_vars i
  obtain rfl : i0 = 0 := Subsingleton.elim _ _
  pointwise []
  rfl

/-- A tile against its group's weights. -/
theorem nn_tile (hr : r % 128 = 0) (hr' : r < 256) (hq : q = 128 * g) (hg : g < 8) :
    (matmul (φ₁ := .bf16) (φ₂ := .bf16) dot_S128x128_S128x128_S128x128_1_0_0_1_n_n none (up (W (gr g))) (up (cut r q X))
      (constant S128x128 .f32 0x00000000#32) : FVec Ideal S128x128 .f32) = up (cut r q fun s d => ∑ p, W (gp d) (ps s) p * X (ck rfl s p) d) := by
  funext i
  idx_vars i
  pointwise []
  simp only [at2, cut, coe_sum, EReal.coe_mul]
  refine Finset.sum_congr rfl fun p _ => ?_
  congr 2
  · congr 2
    · exact Fin.ext (by simp [gr, gp]; omega)
    · exact Fin.ext (by simp [ps]; omega)
  · congr 1
    exact Fin.ext (by simp [ck]; omega)

theorem nt_tile :
    (matmul (φ₁ := .bf16) (φ₂ := .bf16) dot_S128x128_S128x128_S128x128_1_1_0_0_n_n none (up (cut r q X)) (up (cut r q Y))
      (constant S128x128 .f32 0x00000000#32) : FVec Ideal S128x128 .f32) = up (outer r q X Y) := by
  funext i
  idx_vars i
  pointwise []
  simp only [at2, outer, coe_sum, EReal.coe_mul]

theorem bias_tile (hr : r % 128 = 0) (hr' : r < 256) (hq : q = 128 * g) (hg : g < 8) :
    (addf (up (cut r q X)) (up fun p (_ : Fin 128) => B (gr g) p) : FVec Ideal S128x128 .f32) = up (cut r q fun s d => X s d + B (gp d) (ps s)) := by
  funext i
  idx_vars i
  pointwise []
  simp only [at2, cut, EReal.coe_add]
  congr 3
  · exact Fin.ext (by simp [gr, gp]; omega)
  · exact Fin.ext (by simp [ps]; omega)
end

/-! ## The tiles side by side -/

theorem cut_at (F : Fin 256 → Fin 1024 → ℝ) (r q : ℕ) {x : (⟨2, ![128, 128]⟩ : Shape).Idx} {a : Fin 256} {b : Fin 1024}
    (h0 : (a : ℕ) = r + x 0) (h1 : (b : ℕ) = q + x 1) : up (cut r q F) x = ((F a b : ℝ) : EReal) := by
  refine congrArg (fun r : ℝ => (r : EReal)) (congr (congrArg F (Fin.ext ?_)) (Fin.ext ?_))
  · have := a.isLt; show (r + (x 0 : ℕ)) % 256 = a; omega
  · have := b.isLt; show (q + (x 1 : ℕ)) % 1024 = b; omega

theorem stage_f32 {κ : Kind} {sp : Space} (v : View sig κ sp S256x1024 .f32) (F : Fin 256 → Fin 1024 → ℝ) :
    v.readCov (Val := Elt Ideal)
      [⟨Rect.unit ![128, 896] ![128, 128] inb_S256x1024_S128x128_128_896, up (cut 128 896 F)⟩,
       ⟨Rect.unit ![128, 768] ![128, 128] inb_S256x1024_S128x128_128_768, up (cut 128 768 F)⟩,
       ⟨Rect.unit ![128, 640] ![128, 128] inb_S256x1024_S128x128_128_640, up (cut 128 640 F)⟩,
       ⟨Rect.unit ![128, 512] ![128, 128] inb_S256x1024_S128x128_128_512, up (cut 128 512 F)⟩,
       ⟨Rect.unit ![128, 384] ![128, 128] inb_S256x1024_S128x128_128_384, up (cut 128 384 F)⟩,
       ⟨Rect.unit ![128, 256] ![128, 128] inb_S256x1024_S128x128_128_256, up (cut 128 256 F)⟩,
       ⟨Rect.unit ![128, 128] ![128, 128] inb_S256x1024_S128x128_128_128, up (cut 128 128 F)⟩,
       ⟨Rect.unit ![128, 0] ![128, 128] inb_S256x1024_S128x128_128_0, up (cut 128 0 F)⟩,
       ⟨Rect.unit ![0, 896] ![128, 128] inb_S256x1024_S128x128_0_896, up (cut 0 896 F)⟩,
       ⟨Rect.unit ![0, 768] ![128, 128] inb_S256x1024_S128x128_0_768, up (cut 0 768 F)⟩,
       ⟨Rect.unit ![0, 640] ![128, 128] inb_S256x1024_S128x128_0_640, up (cut 0 640 F)⟩,
       ⟨Rect.unit ![0, 512] ![128, 128] inb_S256x1024_S128x128_0_512, up (cut 0 512 F)⟩,
       ⟨Rect.unit ![0, 384] ![128, 128] inb_S256x1024_S128x128_0_384, up (cut 0 384 F)⟩,
       ⟨Rect.unit ![0, 256] ![128, 128] inb_S256x1024_S128x128_0_256, up (cut 0 256 F)⟩,
       ⟨Rect.unit ![0, 128] ![128, 128] inb_S256x1024_S128x128_0_128, up (cut 0 128 F)⟩,
       ⟨Rect.unit ![0, 0] ![128, 128] inb_S256x1024_S128x128_0_0, up (cut 0 0 F)⟩]
      (Rect.unit (s := S256x1024) ![0, 0] ![256, 1024] inb_S256x1024_S256x1024_0_0).toLoadRect = up F := by
  rw [View.readCov_eq_canon']
  refine (View.ld_unit_zero (Val := Elt Ideal) (e := .f32) (S := S256x1024) (off := ![0, 0]) (by funext a; fin_cases a <;> rfl) _ _).trans ?_
  funext y
  canon_tiles x hx
  all_goals exact cut_at F _ _ (by simp [hx0]) (by simp [hx1])

theorem stage_b16 {κ : Kind} {sp : Space} (v : View sig κ sp S256x1024 .bf16) (F : Fin 256 → Fin 1024 → ℝ) :
    v.readCov (Val := Elt Ideal)
      [⟨Rect.unit ![128, 896] ![128, 128] inb_S256x1024_S128x128_128_896, up (cut 128 896 F)⟩,
       ⟨Rect.unit ![128, 768] ![128, 128] inb_S256x1024_S128x128_128_768, up (cut 128 768 F)⟩,
       ⟨Rect.unit ![128, 640] ![128, 128] inb_S256x1024_S128x128_128_640, up (cut 128 640 F)⟩,
       ⟨Rect.unit ![128, 512] ![128, 128] inb_S256x1024_S128x128_128_512, up (cut 128 512 F)⟩,
       ⟨Rect.unit ![128, 384] ![128, 128] inb_S256x1024_S128x128_128_384, up (cut 128 384 F)⟩,
       ⟨Rect.unit ![128, 256] ![128, 128] inb_S256x1024_S128x128_128_256, up (cut 128 256 F)⟩,
       ⟨Rect.unit ![128, 128] ![128, 128] inb_S256x1024_S128x128_128_128, up (cut 128 128 F)⟩,
       ⟨Rect.unit ![128, 0] ![128, 128] inb_S256x1024_S128x128_128_0, up (cut 128 0 F)⟩,
       ⟨Rect.unit ![0, 896] ![128, 128] inb_S256x1024_S128x128_0_896, up (cut 0 896 F)⟩,
       ⟨Rect.unit ![0, 768] ![128, 128] inb_S256x1024_S128x128_0_768, up (cut 0 768 F)⟩,
       ⟨Rect.unit ![0, 640] ![128, 128] inb_S256x1024_S128x128_0_640, up (cut 0 640 F)⟩,
       ⟨Rect.unit ![0, 512] ![128, 128] inb_S256x1024_S128x128_0_512, up (cut 0 512 F)⟩,
       ⟨Rect.unit ![0, 384] ![128, 128] inb_S256x1024_S128x128_0_384, up (cut 0 384 F)⟩,
       ⟨Rect.unit ![0, 256] ![128, 128] inb_S256x1024_S128x128_0_256, up (cut 0 256 F)⟩,
       ⟨Rect.unit ![0, 128] ![128, 128] inb_S256x1024_S128x128_0_128, up (cut 0 128 F)⟩,
       ⟨Rect.unit ![0, 0] ![128, 128] inb_S256x1024_S128x128_0_0, up (cut 0 0 F)⟩]
      (Rect.unit (s := S256x1024) ![0, 0] ![256, 1024] inb_S256x1024_S256x1024_0_0).toLoadRect = up F := by
  rw [View.readCov_eq_canon']
  refine (View.ld_unit_zero (Val := Elt Ideal) (e := .bf16) (S := S256x1024) (off := ![0, 0]) (by funext a; fin_cases a <;> rfl) _ _).trans ?_
  funext y
  canon_tiles x hx
  all_goals exact cut_at F _ _ (by simp [hx0]) (by simp [hx1])

theorem cover_both : ∀ y : S256x2048.Idx, ∃ p ∈ ([
       ⟨Rect.unit ![0, 1024] ![256, 1024] inb_S256x2048_S256x1024_0_1024, fun _ => (0 : EReal)⟩,
       ⟨Rect.unit ![128, 896] ![128, 128] inb_S256x2048_S128x128_128_896, fun _ => (0 : EReal)⟩,
       ⟨Rect.unit ![128, 768] ![128, 128] inb_S256x2048_S128x128_128_768, fun _ => (0 : EReal)⟩,
       ⟨Rect.unit ![128, 640] ![128, 128] inb_S256x2048_S128x128_128_640, fun _ => (0 : EReal)⟩,
       ⟨Rect.unit ![128, 512] ![128, 128] inb_S256x2048_S128x128_128_512, fun _ => (0 : EReal)⟩,
       ⟨Rect.unit ![128, 384] ![128, 128] inb_S256x2048_S128x128_128_384, fun _ => (0 : EReal)⟩,
       ⟨Rect.unit ![128, 256] ![128, 128] inb_S256x2048_S128x128_128_256, fun _ => (0 : EReal)⟩,
       ⟨Rect.unit ![128, 128] ![128, 128] inb_S256x2048_S128x128_128_128, fun _ => (0 : EReal)⟩,
       ⟨Rect.unit ![128, 0] ![128, 128] inb_S256x2048_S128x128_128_0, fun _ => (0 : EReal)⟩,
       ⟨Rect.unit ![0, 896] ![128, 128] inb_S256x2048_S128x128_0_896, fun _ => (0 : EReal)⟩,
       ⟨Rect.unit ![0, 768] ![128, 128] inb_S256x2048_S128x128_0_768, fun _ => (0 : EReal)⟩,
       ⟨Rect.unit ![0, 640] ![128, 128] inb_S256x2048_S128x128_0_640, fun _ => (0 : EReal)⟩,
       ⟨Rect.unit ![0, 512] ![128, 128] inb_S256x2048_S128x128_0_512, fun _ => (0 : EReal)⟩,
       ⟨Rect.unit ![0, 384] ![128, 128] inb_S256x2048_S128x128_0_384, fun _ => (0 : EReal)⟩,
       ⟨Rect.unit ![0, 256] ![128, 128] inb_S256x2048_S128x128_0_256, fun _ => (0 : EReal)⟩,
       ⟨Rect.unit ![0, 128] ![128, 128] inb_S256x2048_S128x128_0_128, fun _ => (0 : EReal)⟩,
       ⟨Rect.unit ![0, 0] ![128, 128] inb_S256x2048_S128x128_0_0, fun _ => (0 : EReal)⟩] : List (View.Piece (Elt Ideal) S256x2048 .f32)), y ∈ p.1.set :=
  View.cover_of_tiledBy _ ![128, 128] (by decide +kernel)

/-- The gate's tiles with the other half beside them. -/
theorem stage_both {κ : Kind} {sp : Space} (v : View sig κ sp S256x2048 .f32) (F B : Fin 256 → Fin 1024 → ℝ) :
    v.readCov (Val := Elt Ideal)
      [⟨Rect.unit ![0, 1024] ![256, 1024] inb_S256x2048_S256x1024_0_1024, up B⟩,
       ⟨Rect.unit ![128, 896] ![128, 128] inb_S256x2048_S128x128_128_896, up (cut 128 896 F)⟩,
       ⟨Rect.unit ![128, 768] ![128, 128] inb_S256x2048_S128x128_128_768, up (cut 128 768 F)⟩,
       ⟨Rect.unit ![128, 640] ![128, 128] inb_S256x2048_S128x128_128_640, up (cut 128 640 F)⟩,
       ⟨Rect.unit ![128, 512] ![128, 128] inb_S256x2048_S128x128_128_512, up (cut 128 512 F)⟩,
       ⟨Rect.unit ![128, 384] ![128, 128] inb_S256x2048_S128x128_128_384, up (cut 128 384 F)⟩,
       ⟨Rect.unit ![128, 256] ![128, 128] inb_S256x2048_S128x128_128_256, up (cut 128 256 F)⟩,
       ⟨Rect.unit ![128, 128] ![128, 128] inb_S256x2048_S128x128_128_128, up (cut 128 128 F)⟩,
       ⟨Rect.unit ![128, 0] ![128, 128] inb_S256x2048_S128x128_128_0, up (cut 128 0 F)⟩,
       ⟨Rect.unit ![0, 896] ![128, 128] inb_S256x2048_S128x128_0_896, up (cut 0 896 F)⟩,
       ⟨Rect.unit ![0, 768] ![128, 128] inb_S256x2048_S128x128_0_768, up (cut 0 768 F)⟩,
       ⟨Rect.unit ![0, 640] ![128, 128] inb_S256x2048_S128x128_0_640, up (cut 0 640 F)⟩,
       ⟨Rect.unit ![0, 512] ![128, 128] inb_S256x2048_S128x128_0_512, up (cut 0 512 F)⟩,
       ⟨Rect.unit ![0, 384] ![128, 128] inb_S256x2048_S128x128_0_384, up (cut 0 384 F)⟩,
       ⟨Rect.unit ![0, 256] ![128, 128] inb_S256x2048_S128x128_0_256, up (cut 0 256 F)⟩,
       ⟨Rect.unit ![0, 128] ![128, 128] inb_S256x2048_S128x128_0_128, up (cut 0 128 F)⟩,
       ⟨Rect.unit ![0, 0] ![128, 128] inb_S256x2048_S128x128_0_0, up (cut 0 0 F)⟩]
      (Rect.unit (s := S256x2048) ![0, 0] ![256, 2048] inb_S256x2048_S256x2048_0_0).toLoadRect = up fun p => both (F p) (B p) := by
  rw [View.readCov_eq_canon']
  refine (View.ld_unit_zero (Val := Elt Ideal) (e := .f32) (S := S256x2048) (off := ![0, 0]) (by funext a; fin_cases a <;> rfl) _ _).trans ?_
  funext y
  have y1 : (y 1 : ℕ) < 2048 := (y 1).isLt
  canon_tiles x hx using (by have h := cover_both y; simpa only [List.mem_cons, List.not_mem_nil, exists_eq_or_imp, exists_eq_left, or_false] using h)
  · have e : ¬ (y 1 : ℕ) < 1024 := by omega
    refine congrArg (fun r : ℝ => (r : EReal)) ?_
    show B (x 0) (x 1) = both (F (y 0)) (B (y 0)) (y 1)
    refine Eq.trans ?_ (both_hi (F (y 0)) (B (y 0)) (y 1) e).symm
    exact congr (congrArg B (Fin.ext (by simp [hx0]))) (Fin.ext (by simp [hx1]))
  all_goals
    have e : (y 1 : ℕ) < 1024 := by have : (x 1 : ℕ) < 128 := (x 1).isLt; omega
    refine (cut_at F _ _ (a := y 0) (b := ⟨(y 1 : ℕ), e⟩) (by simp [hx0]) (by simp [hx1])).trans ?_
    refine congrArg (fun r : ℝ => (r : EReal)) ?_
    show _ = both (F (y 0)) (B (y 0)) (y 1)
    exact (both_lo (F (y 0)) (B (y 0)) (y 1) e).symm

/-- A group of an accumulator of eight, read and grown twice. -/
abbrev twice (X : FVec Ideal S8x128x128 .f32) (g : ℕ) (h : ∀ a, (![g, 0, 0] : Fin 3 → ℕ) a + (![1, 128, 128] : Fin 3 → ℕ) a ≤ S8x128x128.size a)
    (P Q : Fin 128 → Fin 128 → ℝ) : FVec Ideal S1x128x128 .f32 :=
  addf (F := Ideal) (s := S1x128x128) (φ := .f32)
    (addf (View.ld (Val := Elt Ideal) (e' := .f32) X (Rect.unit (s := S8x128x128) ![g, 0, 0] ![1, 128, 128] h)) (up3 fun _ : Fin 1 => P))
    (up3 fun _ : Fin 1 => Q)

theorem twice_at (X : FVec Ideal S8x128x128 .f32) (P Q : Fin 128 → Fin 128 → ℝ) (R : Fin 8 → Fin 128 → Fin 128 → ℝ) (g : ℕ) (h)
    (x : S1x128x128.Idx) (y : S8x128x128.Idx) (h0 : (y 0 : ℕ) = g + x 0) (h1 : (y 1 : ℕ) = x 1) (h2 : (y 2 : ℕ) = x 2)
    (e : ∀ (k : Fin 8), (k : ℕ) = g → R k = fun p q => P p q + Q p q) : twice X g h P Q x = addf X (up3 R) y := by
  obtain ⟨x0, x1, x2, rfl⟩ : ∃ (a : Fin 1) (b c : Fin 128), x = ix3 a b c := ⟨x 0, x 1, x 2, (ix3_eta x).symm⟩
  obtain ⟨y0, y1, y2, rfl⟩ : ∃ (a : Fin 8) (b c : Fin 128), y = ix3 a b c := ⟨y 0, y 1, y 2, (ix3_eta y).symm⟩
  obtain rfl : x0 = 0 := Subsingleton.elim _ _
  obtain rfl : y1 = x1 := Fin.ext h1
  obtain rfl : y2 = x2 := Fin.ext h2
  have hg : (y0 : ℕ) = g := h0
  subst hg
  have e' : up3 R (ix3 y0 y1 y2) = ((P y1 y2 : ℝ) : EReal) + ((Q y1 y2 : ℝ) : EReal) := by
    rw [at3, e y0 rfl, EReal.coe_add]
  pointwise [twice]
  rw [e', ← add_assoc]
  rfl

theorem strips_cut (F : Fin 256 → Fin 1024 → ℝ) (X : FVec Ideal S8x128x128 .f32) (L : List (View.Piece (Elt Ideal) S8x128x128 .f32)) :
    View.canon (Val := Elt Ideal) (s := S8x128x128) (e := .f32)
      (⟨Rect.unit ![7, 0, 0] ![1, 128, 128] inb_S8x128x128_S1x128x128_7_0_0, twice X 7 inb_S8x128x128_S1x128x128_7_0_0 (cut 0 896 F) (cut 128 896 F)⟩ ::
       ⟨Rect.unit ![6, 0, 0] ![1, 128, 128] inb_S8x128x128_S1x128x128_6_0_0, twice X 6 inb_S8x128x128_S1x128x128_6_0_0 (cut 0 768 F) (cut 128 768 F)⟩ ::
       ⟨Rect.unit ![5, 0, 0] ![1, 128, 128] inb_S8x128x128_S1x128x128_5_0_0, twice X 5 inb_S8x128x128_S1x128x128_5_0_0 (cut 0 640 F) (cut 128 640 F)⟩ ::
       ⟨Rect.unit ![4, 0, 0] ![1, 128, 128] inb_S8x128x128_S1x128x128_4_0_0, twice X 4 inb_S8x128x128_S1x128x128_4_0_0 (cut 0 512 F) (cut 128 512 F)⟩ ::
       ⟨Rect.unit ![3, 0, 0] ![1, 128, 128] inb_S8x128x128_S1x128x128_3_0_0, twice X 3 inb_S8x128x128_S1x128x128_3_0_0 (cut 0 384 F) (cut 128 384 F)⟩ ::
       ⟨Rect.unit ![2, 0, 0] ![1, 128, 128] inb_S8x128x128_S1x128x128_2_0_0, twice X 2 inb_S8x128x128_S1x128x128_2_0_0 (cut 0 256 F) (cut 128 256 F)⟩ ::
       ⟨Rect.unit ![1, 0, 0] ![1, 128, 128] inb_S8x128x128_S1x128x128_1_0_0, twice X 1 inb_S8x128x128_S1x128x128_1_0_0 (cut 0 128 F) (cut 128 128 F)⟩ ::
       ⟨Rect.unit ![0, 0, 0] ![1, 128, 128] inb_S8x128x128_S1x128x128_0_0_0, twice X 0 inb_S8x128x128_S1x128x128_0_0_0 (cut 0 0 F) (cut 128 0 F)⟩ :: L)
      = addf X (up3 fun g p e => cut 0 (128 * g) F p e + cut 128 (128 * g) F p e) := by
  funext y
  refine (canon_later L [_, _, _, _, _, _, _, _] y (View.cover_of_tiled_head _ _ _ (by rfl) y)).trans ?_
  canon_tiles x hx
  all_goals exact twice_at X _ _ _ _ _ x y (by omega) (by omega) (by omega) (fun k hk => by rw [hk])

theorem strips_outer (F Y : Fin 256 → Fin 1024 → ℝ) (X : FVec Ideal S8x128x128 .f32) (L : List (View.Piece (Elt Ideal) S8x128x128 .f32)) :
    View.canon (Val := Elt Ideal) (s := S8x128x128) (e := .f32)
      (⟨Rect.unit ![7, 0, 0] ![1, 128, 128] inb_S8x128x128_S1x128x128_7_0_0, twice X 7 inb_S8x128x128_S1x128x128_7_0_0 (outer 0 896 F Y) (outer 128 896 F Y)⟩ ::
       ⟨Rect.unit ![6, 0, 0] ![1, 128, 128] inb_S8x128x128_S1x128x128_6_0_0, twice X 6 inb_S8x128x128_S1x128x128_6_0_0 (outer 0 768 F Y) (outer 128 768 F Y)⟩ ::
       ⟨Rect.unit ![5, 0, 0] ![1, 128, 128] inb_S8x128x128_S1x128x128_5_0_0, twice X 5 inb_S8x128x128_S1x128x128_5_0_0 (outer 0 640 F Y) (outer 128 640 F Y)⟩ ::
       ⟨Rect.unit ![4, 0, 0] ![1, 128, 128] inb_S8x128x128_S1x128x128_4_0_0, twice X 4 inb_S8x128x128_S1x128x128_4_0_0 (outer 0 512 F Y) (outer 128 512 F Y)⟩ ::
       ⟨Rect.unit ![3, 0, 0] ![1, 128, 128] inb_S8x128x128_S1x128x128_3_0_0, twice X 3 inb_S8x128x128_S1x128x128_3_0_0 (outer 0 384 F Y) (outer 128 384 F Y)⟩ ::
       ⟨Rect.unit ![2, 0, 0] ![1, 128, 128] inb_S8x128x128_S1x128x128_2_0_0, twice X 2 inb_S8x128x128_S1x128x128_2_0_0 (outer 0 256 F Y) (outer 128 256 F Y)⟩ ::
       ⟨Rect.unit ![1, 0, 0] ![1, 128, 128] inb_S8x128x128_S1x128x128_1_0_0, twice X 1 inb_S8x128x128_S1x128x128_1_0_0 (outer 0 128 F Y) (outer 128 128 F Y)⟩ ::
       ⟨Rect.unit ![0, 0, 0] ![1, 128, 128] inb_S8x128x128_S1x128x128_0_0_0, twice X 0 inb_S8x128x128_S1x128x128_0_0_0 (outer 0 0 F Y) (outer 128 0 F Y)⟩ :: L)
      = addf X (up3 fun g a b => outer 0 (128 * g) F Y a b + outer 128 (128 * g) F Y a b) := by
  funext y
  refine (canon_later L [_, _, _, _, _, _, _, _] y (View.cover_of_tiled_head _ _ _ (by rfl) y)).trans ?_
  canon_tiles x hx
  all_goals exact twice_at X _ _ _ _ _ x y (by omega) (by omega) (by omega) (fun k hk => by rw [hk])

end Cert.Sgu

end
-- ==== Proof.SguPt.lean ====
/- One point of the gating's backward grid: what it writes and how it grows the carried arrays, as images of real arrays. -/
module

public import proofs.«01_k».proof.Proof.SguTile
public import Idealize.ShloMosaic.Lib.Claim

@[expose] public section

set_option maxRecDepth 16384

noncomputable section

namespace Cert.Sgu

open Cert.Kernel6Ideal Cert.Kernel6Ideal.Gen
open Idealize.ShloMosaic Idealize.ShloMosaic.TcCoe Idealize.SL.Sem Cert.RealLift Cert.Xattn

variable (m : (ℓ : Loc nD τ sig) → Buf (Elt Ideal) ℓ)

/-- What a point's blocks hold. -/
structure Blks (c : Dev nD) (t : Fin cfg0.N) (X D : Fin 256 → Fin 1024 → ℝ) (Z : Fin 256 → Fin 2048 → ℝ) (G LG LB : Fin 1024 → ℝ)
    (WS : Fin 8 → Fin 128 → Fin 128 → ℝ) (BS : Fin 8 → Fin 128 → ℝ) (WI : Fin 1024 → Fin 2048 → ℝ) (WO : Fin 1024 → Fin 1024 → ℝ) : Prop where
  b0 : (iblk m c 0 t : FVec Ideal S256x1024 .f32) = up X
  b1 : (iblk m c 1 t : FVec Ideal S256x1024 .f32) = up D
  b2 : (iblk m c 2 t : FVec Ideal S256x2048 .bf16) = up Z
  b3 : (iblk m c 3 t : FVec Ideal S1x1024 .f32) = up fun _ : Fin 1 => G
  b4 : (iblk m c 4 t : FVec Ideal S1x1024 .f32) = up fun _ : Fin 1 => LG
  b5 : (iblk m c 5 t : FVec Ideal S1x1024 .f32) = up fun _ : Fin 1 => LB
  b6 : (iblk m c 6 t : FVec Ideal S8x128x128 .bf16) = up3 WS
  b7 : (iblk m c 7 t : FVec Ideal S8x128x128 .bf16) = up3 (tp WS)
  b8 : (iblk m c 8 t : FVec Ideal S8x128x128 .f32) = up3 fun g p _ => BS g p
  b9 : (iblk m c 9 t : FVec Ideal S1024x2048 .bf16) = up WI
  b10 : (iblk m c 10 t : FVec Ideal S4x256x1024 .bf16) = upq WO

variable {m : (ℓ : Loc nD τ sig) → Buf (Elt Ideal) ℓ} {c : Dev nD} {t : Fin cfg0.N} {X D : Fin 256 → Fin 1024 → ℝ} {Z : Fin 256 → Fin 2048 → ℝ}
    {G LG LB : Fin 1024 → ℝ} {WS : Fin 8 → Fin 128 → Fin 128 → ℝ} {BS : Fin 8 → Fin 128 → ℝ} {WI : Fin 1024 → Fin 2048 → ℝ}
    {WO : Fin 1024 → Fin 1024 → ℝ} (A : Blks m c t X D Z G LG LB WS BS WI WO)

/-- What a point leaves. -/
abbrev Outs : Type := FVec Ideal S256x1024 .f32 × FVec Ideal S8x128x128 .f32 × FVec Ideal S8x128 .f32 × FVec Ideal S1x1024 .f32 × FVec Ideal S1x1024 .f32
  × FVec Ideal S1x1024 .f32 × FVec Ideal S4x1024x512 .bf16 × FVec Ideal S4x256x1024 .bf16 × FVec Ideal S1024x2048 .f32 × FVec Ideal S1024x1024 .f32
  × FVec Ideal S8x128x128 .f32

/-- What a point writes, and how it grows the carried arrays. -/
def Grows (X D : Fin 256 → Fin 1024 → ℝ) (Z : Fin 256 → Fin 2048 → ℝ) (G LG LB : Fin 1024 → ℝ) (WS : Fin 8 → Fin 128 → Fin 128 → ℝ)
    (BS : Fin 8 → Fin 128 → ℝ) (WI : Fin 1024 → Fin 2048 → ℝ) (WO : Fin 1024 → Fin 1024 → ℝ) (x : Outs)
    (dws : FVec Ideal S8x128x128 .f32) (dlg dlb dg : FVec Ideal S1x1024 .f32) (ia : FVec Ideal S1024x2048 .f32)
    (oa : FVec Ideal S1024x1024 .f32) (ba : FVec Ideal S8x128x128 .f32) : Prop :=
  x.1 = up (fun p => drow (X p) G (D p) (slim (dzz LG LB rfl WS BS Z D WO p) WI))
  ∧ x.2.1 = addf dws (up3 fun g a b => outer 0 (128 * g) (ds Z D WO) (fun s => vn (Z s) LG LB) a b
      + outer 128 (128 * g) (ds Z D WO) (fun s => vn (Z s) LG LB) a b)
  ∧ x.2.2.2.1 = addf dlg (up fun (_ : Fin 1) d => ∑ p, dv rfl WS Z D WO p d * yl (vv (Z p)) d)
  ∧ x.2.2.2.2.1 = addf dlb (up fun (_ : Fin 1) d => ∑ p, dv rfl WS Z D WO p d)
  ∧ x.2.2.2.2.2.1 = addf dg (up fun (_ : Fin 1) d => ∑ p, slim (dzz LG LB rfl WS BS Z D WO p) WI d * (X p d * Cert.Xattn.inv (X p)))
  ∧ x.2.2.2.2.2.2.2.2.1 = addf ia (up fun a b => ∑ p, nrm (X p) G a * dzz LG LB rfl WS BS Z D WO p b)
  ∧ x.2.2.2.2.2.2.2.2.2.1 = addf oa (up fun a b => ∑ p, yy LG LB rfl WS BS Z p a * D p b)
  ∧ x.2.2.2.2.2.2.2.2.2.2 = addf ba (up3 fun g p e => cut 0 (128 * g) (ds Z D WO) p e + cut 128 (128 * g) (ds Z D WO) p e)

set_option maxHeartbeats 8000000 in
include A in
theorem grows_all :
    (t.val % 32 = 0 → Grows X D Z G LG LB WS BS WI WO (outsAt0 m c t.val t.isLt) k0_pay11 k0_pay12 k0_pay13 k0_pay14 k0_pay8 k0_pay9 k0_pay10)
    ∧ (¬ t.val % 32 = 0 → Grows X D Z G LG LB WS BS WI WO (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2.2.2.1
      (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2) := by
  refine ⟨fun h0 => ?_, fun h0 => ?_⟩
  rotate_left
  by_cases h1 : t.val % 32 = 31
  all_goals first | rw [outsAt0_A m c t h0 (by omega)] | rw [outsAt0_B m c t h0 h1] | rw [outsAt0_C m c t h0 h1]
  all_goals refine ⟨?_, ?_, ?_, ?_, ?_, ?_, ?_, ?_⟩
  all_goals frame_out
  all_goals simp (disch := decide) only [k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92, k0_pay93, k0_pay94, k0_pay95, k0_pay96,
      k0_pay97, k0_pay98, k0_pay99, k0_pay100, k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134, k0_pay135, k0_pay136,
      k0_pay137, k0_pay138, k0_pay139, k0_pay140, k0_pay141, k0_pay142, k0_pay143, k0_pay144, k0_pay145, k0_pay146, k0_pay147, k0_pay148, k0_pay149,
      k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173, k0_pay174, k0_pay175,
      k0_pay176, k0_pay177, k0_pay178, k0_pay179, k0_pay180, k0_pay181, k0_pay182, k0_pay183, k0_pay184, k0_pay185, k0_pay186, k0_pay187, k0_pay188,
      k0_pay189, k0_pay190, k0_pay191, k0_pay192, k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210, k0_pay211, k0_pay212, A.b0, A.b1, A.b2, A.b3, A.b4,
      A.b5, A.b6, A.b7, A.b8, A.b9, A.b10, gate_up, vn_up, dy_up, shapeCast_self, trunc_id, slice_f32, slice_b16, mul_cut, ld_b16, ld_f32, flat_b16,
      flat_f32, acc, nn_tile, nt_tile, bias_tile, ↓ View.readCov_cons_toLoadRect, ↓ View.readCov_skip, ↓ View.readCov_fill, read_unread_whole]
  all_goals simp only [stage_f32, stage_b16, stage_both, strips_cut, strips_outer, dln_up, dlg_up, dlb_up, dgelu_up, iacc_up, gain_up, drow_up, oacc_up]
  all_goals rfl

end Cert.Sgu
-- ==== Proof.SguRef.lean ====
/- The gating's gradient as the reference program computes it, over the reals. -/
module

public import proofs.«01_k».proof.Proof.Gen.Reference6Ideal.Read
public import proofs.«01_k».proof.Proof.SguReal
public import Idealize.ShloMosaic.Lib.TwoAxisContraction

@[expose] public section

set_option maxRecDepth 16384

noncomputable section

namespace Cert.Sgu

open Idealize.ShloMosaic Idealize.ShloMosaic.TcCoe Idealize.SL.Sem Cert.RealLift
open Cert.Xattn (up up1 nrm back drow)
open Cert.Reference6Ideal.Gen Cert.Reference6Ideal Cert.Reference6Ideal.Read

variable (X D : Fin 8192 → Fin 1024 → ℝ) (G : Fin 1024 → ℝ) (WI : Fin 1024 → Fin 2048 → ℝ) (LG LB : Fin 1024 → ℝ)
  (WS : Fin 8 → Fin 128 → Fin 128 → ℝ) (BS : Fin 8 → Fin 128 → ℝ) (WO : Fin 1024 → Fin 1024 → ℝ)

/-- The rows before the gelu. -/
def zz (s : Fin 8192) : Fin 2048 → ℝ := wide (nrm (X s) G) WI

theorem v6_at (s : Fin 8192) (z : Fin 1) :
    val_main_v6 (F := Ideal) (up X) (ix2 s z) = ((meanSq 1024 rmsEps (X s) : ℝ) : EReal) := by
  rw [← coe_meanSq (by norm_num)]
  pointwise [val_main_v6, val_main_v5, val_main_v4, val_main_v3, val_main_v2, val_main_v1, val_main_v0, val_main_cst,
    val_main_cst_0, val_main_cst_1, up]
  rw [ofBits_1024, ofBits_rmsEps]

theorem v7_at (s : Fin 8192) (z : Fin 1) : val_main_v7 (F := Ideal) (up X) (ix2 s z) = ((Cert.Xattn.inv (X s) : ℝ) : EReal) := by
  pointwise [val_main_v7]
  rw [v6_at, coe_rinv (by norm_num) rmsEps_pos]

theorem v10_at (s : Fin 8192) (z : Fin 1) :
    val_main_v10 (F := Ideal) (up X) (ix2 s z) = ((-(1 / 2) * (Cert.Xattn.inv (X s) / meanSq 1024 rmsEps (X s)) : ℝ) : EReal) := by
  pointwise [val_main_v10, val_main_v9, val_main_cst_2, val_main_v8]
  rw [ofBits_neg_half, v7_at, v6_at, div_coe (meanSq_pos (by norm_num) rmsEps_pos _).ne', EReal.coe_mul]

theorem v12_at (s : Fin 8192) (d : Fin 1024) :
    val_main_v12 (F := Ideal) (up X) (ix2 s d) = ((X s d * Cert.Xattn.inv (X s) : ℝ) : EReal) := by
  pointwise [val_main_v12, val_main_v11]
  rw [v7_at]; rfl

theorem v15_at (s : Fin 8192) (d : Fin 1024) :
    val_main_v15 (F := Ideal) (up X) (up1 G) (ix2 s d) = ((nrm (X s) G d : ℝ) : EReal) := by
  pointwise [val_main_v15, val_main_v14, val_main_v13]
  rw [v12_at]; rfl

theorem v16_at (s : Fin 8192) (j : Fin 2048) :
    val_main_v16 (F := Ideal) (up X) (up1 G) (up WI) (ix2 s j) = ((zz X G WI s j : ℝ) : EReal) := by
  pointwise [val_main_v16]
  simp only [v15_at, zz, wide, coe_sum, EReal.coe_mul]; rfl

/-! ## The gelu -/

theorem v21_at (s : Fin 8192) (j : Fin 2048) :
    val_main_v21 (F := Ideal) (up X) (up1 G) (up WI) (ix2 s j) = ((3 * (zz X G WI s j * zz X G WI s j) : ℝ) : EReal) := by
  pointwise [val_main_v21, val_main_v20, val_main_cst_3, val_main_v19]
  rw [ofBits_three, v16_at, EReal.coe_mul, EReal.coe_mul]

theorem v29_at (s : Fin 8192) (j : Fin 2048) :
    val_main_v29 (F := Ideal) (up X) (up1 G) (up WI) (ix2 s j) = ((th (zz X G WI s j) : ℝ) : EReal) := by
  pointwise [val_main_v29, val_main_v28, val_main_v27, val_main_cst_6, val_main_v26, val_main_v25, val_main_v24, val_main_cst_5, val_main_v23,
    val_main_v22, val_main_cst_4, val_main_v18, val_main_v17]
  rw [ofBits_gc, ofBits_200000, ofBits_8943, v16_at]
  simp only [← EReal.coe_mul]
  rw [div_coe (by norm_num), ← EReal.coe_add, ← EReal.coe_mul]
  refine (Ideal.tanh_coe _).trans (congrArg (fun r : ℝ => (r : EReal)) ?_)
  unfold th
  congr 2
  ring

theorem v34_at (s : Fin 8192) (j : Fin 2048) :
    val_main_v34 (F := Ideal) (up X) (up1 G) (up WI) (ix2 s j) = (((1 + th (zz X G WI s j)) * (1 - th (zz X G WI s j)) : ℝ) : EReal) := by
  pointwise [val_main_v34, val_main_v33, val_main_v32, val_main_cst_8, val_main_v31, val_main_v30, val_main_cst_7]
  simp only [v29_at, ← EReal.coe_one, ← EReal.coe_add, ← EReal.coe_sub, ← EReal.coe_mul]

theorem v38_at (s : Fin 8192) (j : Fin 2048) :
    val_main_v38 (F := Ideal) (up X) (up1 G) (up WI) (ix2 s j) = ((1 / 2 * (1 + th (zz X G WI s j)) : ℝ) : EReal) := by
  pointwise [val_main_v38, val_main_v37, val_main_cst_10, val_main_v36, val_main_v35, val_main_cst_9]
  simp only [ofBits_half, v29_at, ← EReal.coe_one, ← EReal.coe_add, ← EReal.coe_mul]

theorem v39_at (s : Fin 8192) (j : Fin 2048) :
    val_main_v39 (F := Ideal) (up X) (up1 G) (up WI) (ix2 s j) = ((ge (zz X G WI s j) : ℝ) : EReal) := by
  pointwise [val_main_v39]
  rw [v16_at, v38_at, ← EReal.coe_mul]
  congr 1
  unfold ge
  ring

theorem v40_at (s : Fin 8192) (d : Fin 1024) :
    val_main_v40 (F := Ideal) (up X) (up1 G) (up WI) (ix2 s d) = ((uu (zz X G WI s) d : ℝ) : EReal) := by
  pointwise [val_main_v40]
  exact v39_at X G WI s (lo d)

theorem v41_at (s : Fin 8192) (d : Fin 1024) :
    val_main_v41 (F := Ideal) (up X) (up1 G) (up WI) (ix2 s d) = ((vv (zz X G WI s) d : ℝ) : EReal) := by
  pointwise [val_main_v41]
  exact v39_at X G WI s (hi d)

/-! ## The layer norm -/

theorem v45_at (s : Fin 8192) (z : Fin 1) :
    val_main_v45 (F := Ideal) (up X) (up1 G) (up WI) (ix2 s z) = ((mu (vv (zz X G WI s)) : ℝ) : EReal) := by
  pointwise [val_main_v45, val_main_v44, val_main_cst_12, val_main_v43, val_main_v42, val_main_cst_11]
  simp only [v41_at]
  rw [ofBits_1024, ← coe_sum, div_coe (by norm_num)]
  rfl

theorem v47_at (s : Fin 8192) (d : Fin 1024) :
    val_main_v47 (F := Ideal) (up X) (up1 G) (up WI) (ix2 s d) = ((cen (vv (zz X G WI s)) d : ℝ) : EReal) := by
  pointwise [val_main_v47, val_main_v46]
  rw [v41_at, v45_at, ← EReal.coe_sub]
  rfl

theorem v56_at (s : Fin 8192) (d : Fin 1024) :
    val_main_v56 (F := Ideal) (up X) (up1 G) (up WI) (ix2 s d) = ((cen (vv (zz X G WI s)) d : ℝ) : EReal) := by
  pointwise [val_main_v56, val_main_v55]
  rw [v41_at, v45_at, ← EReal.coe_sub]
  rfl

theorem v50_at (s : Fin 8192) (d : Fin 1024) :
    val_main_v50 (F := Ideal) (up X) (up1 G) (up WI) (ix2 s d) = ((2 * cen (vv (zz X G WI s)) d : ℝ) : EReal) := by
  pointwise [val_main_v50, val_main_v49, val_main_cst_13]
  rw [ofBits_two, v47_at, ← EReal.coe_mul]

theorem v58_at (s : Fin 8192) (z : Fin 1) :
    val_main_v58 (F := Ideal) (up X) (up1 G) (up WI) (ix2 s z) = ((meanSq 1024 lnEps (cen (vv (zz X G WI s))) : ℝ) : EReal) := by
  rw [← coe_meanSq (by norm_num)]
  pointwise [val_main_v58, val_main_v57, val_main_cst_16, val_main_v54, val_main_v53, val_main_cst_15, val_main_v52, val_main_v51, val_main_v48, val_main_cst_14]
  simp only [v47_at]
  rw [ofBits_1024, ofBits_lnEps]

theorem v59_at (s : Fin 8192) (z : Fin 1) :
    val_main_v59 (F := Ideal) (up X) (up1 G) (up WI) (ix2 s z) = ((lrs (vv (zz X G WI s)) : ℝ) : EReal) := by
  pointwise [val_main_v59]
  rw [v58_at, coe_rinv (by norm_num) lnEps_pos]; rfl

theorem v62_at (s : Fin 8192) (z : Fin 1) :
    val_main_v62 (F := Ideal) (up X) (up1 G) (up WI) (ix2 s z) = ((-(1 / 2) * (lrs (vv (zz X G WI s)) / meanSq 1024 lnEps (cen (vv (zz X G WI s)))) : ℝ) : EReal) := by
  pointwise [val_main_v62, val_main_v61, val_main_cst_17, val_main_v60]
  rw [ofBits_neg_half, v59_at, v58_at, div_coe (meanSq_pos (by norm_num) lnEps_pos _).ne', EReal.coe_mul]

theorem v64_at (s : Fin 8192) (d : Fin 1024) :
    val_main_v64 (F := Ideal) (up X) (up1 G) (up WI) (ix2 s d) = ((yl (vv (zz X G WI s)) d : ℝ) : EReal) := by
  pointwise [val_main_v64, val_main_v63]
  rw [v56_at, v59_at, ← EReal.coe_mul]; rfl

theorem v70_at (s : Fin 8192) (d : Fin 1024) :
    val_main_v70 (F := Ideal) (up X) (up1 G) (up WI) (up1 LG) (up1 LB) (ix2 s d) = ((vn (zz X G WI s) LG LB d : ℝ) : EReal) := by
  pointwise [val_main_v70, val_main_v69, val_main_v68, val_main_v67, val_main_v66, val_main_v65]
  rw [v64_at]; rfl

/-! ## The mixing -/

def row (n : Fin 64) (q : Fin 128) : Fin 8192 := ⟨(n : ℕ) * 128 + q, by omega⟩
def lane (g : Fin 8) (f : Fin 128) : Fin 1024 := ⟨(g : ℕ) * 128 + f, by omega⟩

theorem gp_lane (g : Fin 8) (f : Fin 128) : gp (lane g f) = g := Fin.ext (by simp only [gp, lane]; omega)
theorem ps_row (n : Fin 64) (q : Fin 128) : ps (row n q) = q := Fin.ext (by simp only [ps, row]; omega)
theorem ck_row (n : Fin 64) (p q : Fin 128) : ck rfl (row n p) q = row n q := Fin.ext (by simp only [ck, row]; omega)
theorem row_of (s : Fin 8192) : row ⟨(s : ℕ) / 128, by omega⟩ ⟨(s : ℕ) % 128, by omega⟩ = s := Fin.ext (by simp only [row]; omega)
theorem lane_of (d : Fin 1024) : lane ⟨(d : ℕ) / 128, by omega⟩ ⟨(d : ℕ) % 128, by omega⟩ = d := Fin.ext (by simp only [lane]; omega)

theorem v71_at (n : Fin 64) (q : Fin 128) (g : Fin 8) (f : Fin 128) :
    val_main_v71 (F := Ideal) (up X) (up1 G) (up WI) (up1 LG) (up1 LB) (ix4 n q g f) = ((vn (zz X G WI (row n q)) LG LB (lane g f) : ℝ) : EReal) := by
  pointwise [val_main_v71]
  exact v70_at X G WI LG LB (row n q) (lane g f)

theorem v72_at (g : Fin 8) (n : Fin 64) (f p : Fin 128) :
    val_main_v72 (F := Ideal) (up X) (up1 G) (up WI) (up1 LG) (up1 LB) (up3 WS) (ix4 g n f p) = ((∑ q, WS g p q * vn (zz X G WI (row n q)) LG LB (lane g f) : ℝ) : EReal) := by
  pointwise [val_main_v72]
  simp only [v71_at, coe_sum, EReal.coe_mul]
  exact Finset.sum_congr rfl fun q _ => mul_comm _ _

theorem v78_at (n : Fin 64) (p : Fin 128) (g : Fin 8) (f : Fin 128) :
    val_main_v78 (F := Ideal) (up X) (up1 G) (up WI) (up1 LG) (up1 LB) (up3 WS) (up BS) (ix4 n p g f) = ((sv LG LB rfl WS BS (zz X G WI) (row n p) (lane g f) : ℝ) : EReal) := by
  rw [sv, mix, gp_lane, ps_row]
  simp only [ck_row]
  pointwise [val_main_v78, val_main_v77, val_main_v76, val_main_v75, val_main_v74, val_main_v73]
  rw [v72_at, EReal.coe_add]; rfl

theorem v79_at (s : Fin 8192) (d : Fin 1024) :
    val_main_v79 (F := Ideal) (up X) (up1 G) (up WI) (up1 LG) (up1 LB) (up3 WS) (up BS) (ix2 s d) = ((sv LG LB rfl WS BS (zz X G WI) s d : ℝ) : EReal) := by
  pointwise [val_main_v79]
  refine (v78_at X G WI LG LB WS BS ⟨(s : ℕ) / 128, by omega⟩ ⟨(s : ℕ) % 128, by omega⟩ ⟨(d : ℕ) / 128, by omega⟩ ⟨(d : ℕ) % 128, by omega⟩).trans ?_
  rw [row_of, lane_of]

theorem v80_at (s : Fin 8192) (d : Fin 1024) :
    val_main_v80 (F := Ideal) (up X) (up1 G) (up WI) (up1 LG) (up1 LB) (up3 WS) (up BS) (ix2 s d) = ((yy LG LB rfl WS BS (zz X G WI) s d : ℝ) : EReal) := by
  pointwise [val_main_v80]
  rw [v40_at, v79_at, ← EReal.coe_mul]; rfl

theorem v83_at (s : Fin 8192) (d : Fin 1024) : val_main_v83 (F := Ideal) (up D) (ix2 s d) = ((D s d : ℝ) : EReal) := by
  pointwise [val_main_v83]; rfl

theorem v85_at (x y : Fin 1024) :
    val_main_v85 (F := Ideal) (up X) (up1 G) (up WI) (up1 LG) (up1 LB) (up3 WS) (up BS) (up D) (ix2 x y) = ((∑ s, yy LG LB rfl WS BS (zz X G WI) s x * D s y : ℝ) : EReal) := by
  pointwise [val_main_v85, val_main_v84]
  simp only [v80_at, v83_at, coe_sum, EReal.coe_mul]
  exact Finset.sum_congr rfl fun q _ => mul_comm _ _

theorem v86_at (s : Fin 8192) (d : Fin 1024) :
    val_main_v86 (F := Ideal) (up WO) (up D) (ix2 s d) = ((back (D s) WO d : ℝ) : EReal) := by
  pointwise [val_main_v86]
  simp only [v83_at, back, coe_sum, EReal.coe_mul]; rfl

theorem v87_at (s : Fin 8192) (d : Fin 1024) :
    val_main_v87 (F := Ideal) (up X) (up1 G) (up WI) (up WO) (up D) (ix2 s d) = ((ds (zz X G WI) D WO s d : ℝ) : EReal) := by
  pointwise [val_main_v87]
  rw [v40_at, v86_at, ← EReal.coe_mul, mul_comm]; rfl

theorem v88_at (s : Fin 8192) (d : Fin 1024) :
    val_main_v88 (F := Ideal) (up X) (up1 G) (up WI) (up1 LG) (up1 LB) (up3 WS) (up BS) (up WO) (up D) (ix2 s d) = ((du LG LB rfl WS BS (zz X G WI) D WO s d : ℝ) : EReal) := by
  pointwise [val_main_v88]
  rw [v86_at, v79_at, ← EReal.coe_mul]; rfl

theorem v89_at (n : Fin 64) (q : Fin 128) (g : Fin 8) (f : Fin 128) :
    val_main_v89 (F := Ideal) (up X) (up1 G) (up WI) (up WO) (up D) (ix4 n q g f) = ((ds (zz X G WI) D WO (row n q) (lane g f) : ℝ) : EReal) := by
  pointwise [val_main_v89]
  exact v87_at X D G WI WO (row n q) (lane g f)

theorem v96_at (g : Fin 8) (n : Fin 64) (f q : Fin 128) :
    val_main_v96 (F := Ideal) (up X) (up1 G) (up WI) (up WO) (up D) (ix4 g n f q) = ((ds (zz X G WI) D WO (row n q) (lane g f) : ℝ) : EReal) := by
  pointwise [val_main_v96]
  exact v89_at X D G WI WO n q g f

theorem v98_at (g : Fin 8) (n : Fin 64) (f q : Fin 128) :
    val_main_v98 (F := Ideal) (up X) (up1 G) (up WI) (up3 WS) (up WO) (up D) (ix4 g n f q) = ((dv rfl WS (zz X G WI) D WO (row n q) (lane g f) : ℝ) : EReal) := by
  rw [dv, unmix, gp_lane, ps_row]
  simp only [ck_row]
  pointwise [val_main_v98]
  simp only [v96_at, coe_sum, EReal.coe_mul]
  exact Finset.sum_congr rfl fun q _ => mul_comm _ _

theorem v100_at (s : Fin 8192) (d : Fin 1024) :
    val_main_v100 (F := Ideal) (up X) (up1 G) (up WI) (up3 WS) (up WO) (up D) (ix2 s d) = ((dv rfl WS (zz X G WI) D WO s d : ℝ) : EReal) := by
  have h99 : ∀ n q g f, val_main_v99 (F := Ideal) (up X) (up1 G) (up WI) (up3 WS) (up WO) (up D) (ix4 n q g f) = ((dv rfl WS (zz X G WI) D WO (row n q) (lane g f) : ℝ) : EReal) := fun n q g f => by
    pointwise [val_main_v99]
    exact v98_at X D G WI WS WO g n f q
  pointwise [val_main_v100]
  refine (h99 ⟨(s : ℕ) / 128, by omega⟩ ⟨(s : ℕ) % 128, by omega⟩ ⟨(d : ℕ) / 128, by omega⟩ ⟨(d : ℕ) % 128, by omega⟩).trans ?_
  rw [row_of, lane_of]

/-! ## The gradients at the mixing weights, the biases and the layer norm's gain and offset -/

/-- A sum along the first and the last of four axes. -/
theorem sum_outer {a b : ℕ} (h : (⟨4, ![a, 128, 8, b]⟩ : Shape).ReducesTo [0, 3] S128x8) (v : (⟨4, ![a, 128, 8, b]⟩ : Shape).Idx → EReal)
    (init : EReal) (p : Fin 128) (g : Fin 8) :
    Ideal.hostReduceAdd h v init (ix2 p g) = init + ∑ n : Fin a, ∑ f : Fin b, v (ix4 n p g f) := by
  rw [← Fintype.sum_prod_type' (f := fun n f => v (ix4 n p g f))]
  refine congrArg (init + ·) ?_
  refine Finset.sum_nbij' (fun i => (i 0, i 3)) (fun k => ix4 k.1 p g k.2) (fun _ _ => Finset.mem_univ _) (fun k _ => ?_) (fun i hi => ?_)
    (fun _ _ => rfl) (fun i hi => ?_)
  · refine Finset.mem_filter.2 ⟨Finset.mem_univ _, funext fun x => Fin.ext ?_⟩
    match x with
    | ⟨0, _⟩ => rfl
    | ⟨1, _⟩ => rfl
  · have e := (Finset.mem_filter.1 hi).2
    funext x
    refine Fin.ext ?_
    match x with
    | ⟨0, _⟩ => rfl
    | ⟨1, _⟩ => exact (congrArg Fin.val (congrFun e 0)).symm
    | ⟨2, _⟩ => exact (congrArg Fin.val (congrFun e 1)).symm
    | ⟨3, _⟩ => rfl
  · have e := (Finset.mem_filter.1 hi).2
    refine congrArg v ?_
    funext x
    refine Fin.ext ?_
    match x with
    | ⟨0, _⟩ => rfl
    | ⟨1, _⟩ => exact congrArg Fin.val (congrFun e 0)
    | ⟨2, _⟩ => exact congrArg Fin.val (congrFun e 1)
    | ⟨3, _⟩ => rfl

theorem v95_at (g : Fin 8) (p : Fin 128) :
    val_main_v95 (F := Ideal) (up X) (up1 G) (up WI) (up WO) (up D) (ix2 g p) = ((∑ n, ∑ f, ds (zz X G WI) D WO (row n p) (lane g f) : ℝ) : EReal) := by
  have h90 : val_main_v90 (F := Ideal) (up X) (up1 G) (up WI) (up WO) (up D) (ix2 p g) = ((∑ n, ∑ f, ds (zz X G WI) D WO (row n p) (lane g f) : ℝ) : EReal) := by
    rw [val_main_v90, Host.reduceAdd_apply, Ideal.hostReduceAdd_def, sum_outer]
    simp only [v89_at, coe_sum]
    pointwise [val_main_cst_18]
  have h92 : val_main_v92 (F := Ideal) (up X) (up1 G) (up WI) (up WO) (up D) (ix2 p g) = ((∑ n, ∑ f, ds (zz X G WI) D WO (row n p) (lane g f) : ℝ) : EReal) := by
    rw [val_main_v92, Host.reduceAdd_apply, Ideal.hostReduceAdd_def, sum_outer]
    simp only [Finset.univ_unique, Finset.sum_singleton]
    pointwise [val_main_cst_19, val_main_v91]
    exact h90
  pointwise [val_main_v95, val_main_v94, val_main_cst_20, val_main_v93]
  simp only [Finset.univ_unique, Finset.sum_singleton]
  exact h92

theorem v97_at (g : Fin 8) (p q : Fin 128) :
    val_main_v97 (F := Ideal) (up X) (up1 G) (up WI) (up1 LG) (up1 LB) (up WO) (up D) (ix3 g p q) = ((∑ n, ∑ f, ds (zz X G WI) D WO (row n p) (lane g f) * vn (zz X G WI (row n q)) LG LB (lane g f) : ℝ) : EReal) := by
  rw [val_main_v97]
  generalize hA : val_main_v96 (F := Ideal) (up X) (up1 G) (up WI) (up WO) (up D) = A
  generalize hB : val_main_v71 (F := Ideal) (up X) (up1 G) (up WI) (up1 LG) (up1 LB) = B
  have eA : ∀ n f, A (ix4 g n f p) = ((ds (zz X G WI) D WO (row n p) (lane g f) : ℝ) : EReal) := fun n f => hA ▸ v96_at X D G WI WO g n f p
  have eB : ∀ n f, B (ix4 n q g f) = ((vn (zz X G WI (row n q)) LG LB (lane g f) : ℝ) : EReal) := fun n f => hB ▸ v71_at X G WI LG LB n q g f
  clear hA hB
  simp only [Host.dotGeneral]
  rw [Ideal.dotGeneral_apply, ValueIdx.sum_contr2 _ 64 128 rfl rfl rfl]
  simp only [coe_sum, EReal.coe_mul, ← eA, ← eB]
  refine Finset.sum_congr rfl fun n _ => Finset.sum_congr rfl fun f _ => ?_
  have k0 := ValueIdx.contrEquiv2_symm_val0 dot_S8x64x128x128_S64x128x8x128_S8x128x128_12_03_3_1_0_2 64 128 rfl rfl rfl (n, f)
  have k1 := ValueIdx.contrEquiv2_symm_val1 dot_S8x64x128x128_S64x128x8x128_S8x128x128_12_03_3_1_0_2 64 128 rfl rfl rfl (n, f)
  refine congrArg₂ (· * ·) (congrArg A (funext fun x => Fin.ext ?_)) (congrArg B (funext fun x => Fin.ext ?_))
  · match x with
    | ⟨0, _⟩ => rfl
    | ⟨1, _⟩ => exact k0
    | ⟨2, _⟩ => exact k1
    | ⟨3, _⟩ => rfl
  · match x with
    | ⟨0, _⟩ => exact k0
    | ⟨1, _⟩ => rfl
    | ⟨2, _⟩ => rfl
    | ⟨3, _⟩ => exact k1

theorem v174_at (z : Fin 1) (d : Fin 1024) :
    val_main_v174 (F := Ideal) (up X) (up1 G) (up WI) (up3 WS) (up WO) (up D) (ix2 z d) = ((∑ s, dv rfl WS (zz X G WI) D WO s d : ℝ) : EReal) := by
  have h101 : val_main_v101 (F := Ideal) (up X) (up1 G) (up WI) (up3 WS) (up WO) (up D) (ix1 d) = ((∑ s, dv rfl WS (zz X G WI) D WO s d : ℝ) : EReal) := by
    pointwise [val_main_v101, val_main_cst_21]
    simp only [v100_at, coe_sum]
  pointwise [val_main_v174, val_main_v103, val_main_v102, val_main_cst_22]
  simp only [Finset.univ_unique, Finset.sum_singleton]
  exact h101

theorem v173_at (z : Fin 1) (d : Fin 1024) :
    val_main_v173 (F := Ideal) (up X) (up1 G) (up WI) (up3 WS) (up WO) (up D) (ix2 z d) = ((∑ s, dv rfl WS (zz X G WI) D WO s d * yl (vv (zz X G WI s)) d : ℝ) : EReal) := by
  have h105 : val_main_v105 (F := Ideal) (up X) (up1 G) (up WI) (up3 WS) (up WO) (up D) (ix1 d) = ((∑ s, dv rfl WS (zz X G WI) D WO s d * yl (vv (zz X G WI s)) d : ℝ) : EReal) := by
    pointwise [val_main_v105, val_main_cst_23, val_main_v104]
    simp only [v100_at, v64_at, coe_sum, EReal.coe_mul]
    exact Finset.sum_congr rfl fun q _ => mul_comm _ _
  pointwise [val_main_v173, val_main_v109, val_main_v106, val_main_cst_24]
  simp only [Finset.univ_unique, Finset.sum_singleton]
  exact h105

/-! ## The gradient through the layer norm -/

/-- The gradient at the normalised row, and the sum its reciprocal root's gradient takes. -/
def yd (s : Fin 8192) (d : Fin 1024) : ℝ := dv rfl WS (zz X G WI) D WO s d * LG d
def rs (s : Fin 8192) : ℝ :=
  (∑ k, cen (vv (zz X G WI s)) k * yd X D G WI LG WS WO s k)
    * (-(1 / 2) * (lrs (vv (zz X G WI s)) / meanSq 1024 lnEps (cen (vv (zz X G WI s))))) / 1024

theorem v108_at (s : Fin 8192) (d : Fin 1024) : val_main_v108 (F := Ideal) (up X) (up1 G) (up WI) (up1 LG) (up3 WS) (up WO) (up D) (ix2 s d) = ((yd X D G WI LG WS WO s d : ℝ) : EReal) := by
  pointwise [val_main_v108, val_main_v107, val_main_v65]
  rw [v100_at, yd, EReal.coe_mul]; rfl

theorem v111_at (s : Fin 8192) : val_main_v111 (F := Ideal) (up X) (up1 G) (up WI) (up1 LG) (up3 WS) (up WO) (up D) (ix1 s) = ((∑ k, cen (vv (zz X G WI s)) k * yd X D G WI LG WS WO s k : ℝ) : EReal) := by
  pointwise [val_main_v111, val_main_v110, val_main_cst_25]
  simp only [v56_at, v108_at, coe_sum, EReal.coe_mul]

theorem v114_at (s : Fin 8192) (d : Fin 1024) :
    val_main_v114 (F := Ideal) (up X) (up1 G) (up WI) (up1 LG) (up3 WS) (up WO) (up D) (ix2 s d) = ((yd X D G WI LG WS WO s d * lrs (vv (zz X G WI s)) : ℝ) : EReal) := by
  pointwise [val_main_v114, val_main_v113]
  rw [v108_at, v59_at, EReal.coe_mul]

theorem v122_at (s : Fin 8192) (d : Fin 1024) : val_main_v122 (F := Ideal) (up X) (up1 G) (up WI) (up1 LG) (up3 WS) (up WO) (up D) (ix2 s d) = ((rs X D G WI LG WS WO s : ℝ) : EReal) := by
  pointwise [val_main_v122, val_main_v121, val_main_cst_28, val_main_v120, val_main_v119, val_main_cst_27, val_main_v115, val_main_v112]
  simp only [Finset.univ_unique, Finset.sum_singleton, v111_at, v62_at, ← EReal.coe_mul]
  rw [ofBits_1024, div_coe (by norm_num)]; rfl

theorem v123_at (s : Fin 8192) (d : Fin 1024) :
    val_main_v123 (F := Ideal) (up X) (up1 G) (up WI) (up1 LG) (up3 WS) (up WO) (up D) (ix2 s d) = ((rs X D G WI LG WS WO s * (2 * cen (vv (zz X G WI s)) d) : ℝ) : EReal) := by
  rw [val_main_v123_apply, v122_at, v50_at, EReal.coe_mul]; rfl

theorem v117_at (s : Fin 8192) : val_main_v117 (F := Ideal) (up X) (up1 G) (up WI) (up1 LG) (up3 WS) (up WO) (up D) (ix1 s) = ((∑ k, -(yd X D G WI LG WS WO s k * lrs (vv (zz X G WI s))) : ℝ) : EReal) := by
  pointwise [val_main_v117, val_main_v116, val_main_cst_26]
  simp only [v114_at, coe_sum, EReal.coe_neg]

theorem v125_at (s : Fin 8192) : val_main_v125 (F := Ideal) (up X) (up1 G) (up WI) (up1 LG) (up3 WS) (up WO) (up D) (ix1 s) = ((∑ k, -(rs X D G WI LG WS WO s * (2 * cen (vv (zz X G WI s)) k)) : ℝ) : EReal) := by
  pointwise [val_main_v125, val_main_v124, val_main_cst_29]
  simp only [v123_at, coe_sum, EReal.coe_neg]

theorem v132_at (s : Fin 8192) (d : Fin 1024) :
    val_main_v132 (F := Ideal) (up X) (up1 G) (up WI) (up1 LG) (up3 WS) (up WO) (up D) (ix2 s d) = ((((∑ k, -(yd X D G WI LG WS WO s k * lrs (vv (zz X G WI s))))
      + ∑ k, -(rs X D G WI LG WS WO s * (2 * cen (vv (zz X G WI s)) k))) / 1024 : ℝ) : EReal) := by
  pointwise [val_main_v132, val_main_v131, val_main_cst_31, val_main_v130, val_main_v129, val_main_cst_30, val_main_v128, val_main_v126, val_main_v118]
  simp only [Finset.univ_unique, Finset.sum_singleton, v117_at, v125_at, ← EReal.coe_add]
  rw [ofBits_1024, div_coe (by norm_num)]

theorem v133_at (s : Fin 8192) (d : Fin 1024) :
    val_main_v133 (F := Ideal) (up X) (up1 G) (up WI) (up1 LG) (up3 WS) (up WO) (up D) (ix2 s d) = ((dln (vv (zz X G WI s)) (yd X D G WI LG WS WO s) d : ℝ) : EReal) := by
  rw [val_main_v133_apply, val_main_v127_apply, v114_at, v123_at, v132_at, ← ln_chain]
  simp only [EReal.coe_add]
  rfl

/-! ## The gradient through the gelu -/

/-- The gradient at the gelu's output. -/
def gb (s : Fin 8192) : Fin 2048 → ℝ :=
  both (du LG LB rfl WS BS (zz X G WI) D WO s) (dln (vv (zz X G WI s)) (yd X D G WI LG WS WO s))

theorem v134_at (s : Fin 8192) (j : Fin 2048) : val_main_v134 (F := Ideal) (up X) (up1 G) (up WI) (up1 LG) (up1 LB) (up3 WS) (up BS) (up WO) (up D) (ix2 s j) = ((gb X D G WI LG LB WS BS WO s j : ℝ) : EReal) := by
  unfold gb
  by_cases h : (j : ℕ) < 1024
  · rw [both_lo _ _ _ h, ← v88_at]
    pointwise [val_main_v134]
    rw [dif_pos h]
  · rw [both_hi _ _ _ h, ← v133_at]
    pointwise [val_main_v134]
    rw [dif_neg h]

theorem v136_at (s : Fin 8192) (j : Fin 2048) :
    val_main_v136 (F := Ideal) (up X) (up1 G) (up WI) (up1 LG) (up1 LB) (up3 WS) (up BS) (up WO) (up D) (ix2 s j) = ((gb X D G WI LG LB WS BS WO s j * (1 / 2 * (1 + th (zz X G WI s j))) : ℝ) : EReal) := by
  pointwise [val_main_v136]
  rw [v134_at, v38_at, ← EReal.coe_mul]

theorem v141_at (s : Fin 8192) (j : Fin 2048) :
    val_main_v141 (F := Ideal) (up X) (up1 G) (up WI) (up1 LG) (up1 LB) (up3 WS) (up BS) (up WO) (up D) (ix2 s j) = ((gc * (1 / 2 * (zz X G WI s j * gb X D G WI LG LB WS BS WO s j)
      * ((1 + th (zz X G WI s j)) * (1 - th (zz X G WI s j)))) : ℝ) : EReal) := by
  pointwise [val_main_v141, val_main_v140, val_main_cst_33, val_main_v139, val_main_v138, val_main_v137, val_main_cst_32, val_main_v135]
  rw [ofBits_gc, ofBits_half, v134_at, v34_at, v16_at]
  simp only [← EReal.coe_mul]

theorem v147_at (s : Fin 8192) (j : Fin 2048) :
    val_main_v147 (F := Ideal) (up X) (up1 G) (up WI) (up1 LG) (up1 LB) (up3 WS) (up BS) (up WO) (up D) (ix2 s j) = ((8943 * (gc * (1 / 2 * (zz X G WI s j * gb X D G WI LG LB WS BS WO s j)
      * ((1 + th (zz X G WI s j)) * (1 - th (zz X G WI s j)))) / 200000) * (3 * (zz X G WI s j * zz X G WI s j)) : ℝ) : EReal) := by
  pointwise [val_main_v147, val_main_v146, val_main_v145, val_main_cst_35, val_main_v144, val_main_v143, val_main_cst_34]
  rw [ofBits_8943, ofBits_200000, v141_at, v21_at, div_coe (by norm_num), ← EReal.coe_mul, ← EReal.coe_mul]

theorem v148_at (s : Fin 8192) (j : Fin 2048) :
    val_main_v148 (F := Ideal) (up X) (up1 G) (up WI) (up1 LG) (up1 LB) (up3 WS) (up BS) (up WO) (up D) (ix2 s j) = ((dzz LG LB rfl WS BS (zz X G WI) D WO s j : ℝ) : EReal) := by
  rw [val_main_v148_apply, val_main_v142_apply, v136_at, v141_at, v147_at, dzz, dz]
  change ((_ : ℝ) : EReal) + ((_ : ℝ) : EReal) + ((_ : ℝ) : EReal) = _
  rw [← EReal.coe_add, ← EReal.coe_add, gelu_chain]
  rfl

/-! ## The gradients at the weights and at the rows -/

theorem v150_at (x : Fin 1024) (y : Fin 2048) :
    val_main_v150 (F := Ideal) (up X) (up1 G) (up WI) (up1 LG) (up1 LB) (up3 WS) (up BS) (up WO) (up D) (ix2 x y) = ((∑ s, nrm (X s) G x * dzz LG LB rfl WS BS (zz X G WI) D WO s y : ℝ) : EReal) := by
  pointwise [val_main_v150, val_main_v149]
  simp only [v148_at, v15_at, coe_sum, EReal.coe_mul]
  exact Finset.sum_congr rfl fun q _ => mul_comm _ _

/-- The gradient at the normalised input row. -/
def dn (s : Fin 8192) : Fin 1024 → ℝ := slim (dzz LG LB rfl WS BS (zz X G WI) D WO s) WI

theorem v151_at (s : Fin 8192) (d : Fin 1024) : val_main_v151 (F := Ideal) (up X) (up1 G) (up WI) (up1 LG) (up1 LB) (up3 WS) (up BS) (up WO) (up D) (ix2 s d) = ((dn X D G WI LG LB WS BS WO s d : ℝ) : EReal) := by
  pointwise [val_main_v151]
  simp only [v148_at, dn, slim, coe_sum, EReal.coe_mul]; rfl

theorem v175_at (z : Fin 1) (d : Fin 1024) :
    val_main_v175 (F := Ideal) (up X) (up1 G) (up WI) (up1 LG) (up1 LB) (up3 WS) (up BS) (up WO) (up D) (ix2 z d) = ((∑ s, dn X D G WI LG LB WS BS WO s d * (X s d * Cert.Xattn.inv (X s)) : ℝ) : EReal) := by
  have h153 : val_main_v153 (F := Ideal) (up X) (up1 G) (up WI) (up1 LG) (up1 LB) (up3 WS) (up BS) (up WO) (up D) (ix1 d) = ((∑ s, dn X D G WI LG LB WS BS WO s d * (X s d * Cert.Xattn.inv (X s)) : ℝ) : EReal) := by
    pointwise [val_main_v153, val_main_cst_36, val_main_v152]
    simp only [v151_at, v12_at, coe_sum, EReal.coe_mul]
    exact Finset.sum_congr rfl fun q _ => mul_comm _ _
  pointwise [val_main_v175, val_main_v157, val_main_v154, val_main_cst_37]
  simp only [Finset.univ_unique, Finset.sum_singleton]
  exact h153

theorem v156_at (s : Fin 8192) (d : Fin 1024) : val_main_v156 (F := Ideal) (up X) (up1 G) (up WI) (up1 LG) (up1 LB) (up3 WS) (up BS) (up WO) (up D) (ix2 s d) = ((dn X D G WI LG LB WS BS WO s d * G d : ℝ) : EReal) := by
  pointwise [val_main_v156, val_main_v155, val_main_v13]
  rw [v151_at, EReal.coe_mul]; rfl

theorem v159_at (s : Fin 8192) : val_main_v159 (F := Ideal) (up X) (up1 G) (up WI) (up1 LG) (up1 LB) (up3 WS) (up BS) (up WO) (up D) (ix1 s) = ((∑ k, X s k * (dn X D G WI LG LB WS BS WO s k * G k) : ℝ) : EReal) := by
  pointwise [val_main_v159, val_main_v158, val_main_cst_38]
  simp only [v156_at, coe_sum, EReal.coe_mul]; rfl

theorem v168_at (s : Fin 8192) (d : Fin 1024) :
    val_main_v168 (F := Ideal) (up X) (up1 G) (up WI) (up1 LG) (up1 LB) (up3 WS) (up BS) (up WO) (up D) (ix2 s d) = (((∑ k, X s k * (dn X D G WI LG LB WS BS WO s k * G k))
        * (-(1 / 2) * (Cert.Xattn.inv (X s) / meanSq 1024 rmsEps (X s))) / 1024 : ℝ) : EReal) := by
  pointwise [val_main_v168, val_main_v167, val_main_v166, val_main_v165, val_main_v164, val_main_v160, val_main_cst_39, val_main_cst_40]
  simp only [Finset.univ_unique, Finset.sum_singleton, v159_at, v10_at, ← EReal.coe_mul]
  rw [ofBits_1024, div_coe (by norm_num)]

theorem v172_at (s : Fin 8192) (d : Fin 1024) :
    val_main_v172 (F := Ideal) (up X) (up1 G) (up WI) (up1 LG) (up1 LB) (up3 WS) (up BS) (up WO) (up D) (ix2 s d) = ((drow (X s) G (D s) (dn X D G WI LG LB WS BS WO s) d : ℝ) : EReal) := by
  have h162 : val_main_v162 (F := Ideal) (up X) (up1 G) (up WI) (up1 LG) (up1 LB) (up3 WS) (up BS) (up WO) (up D) (ix2 s d) = ((dn X D G WI LG LB WS BS WO s d * G d * Cert.Xattn.inv (X s) : ℝ) : EReal) := by
    pointwise [val_main_v162, val_main_v161]
    rw [v156_at, v7_at]
    exact (EReal.coe_mul _ _).symm
  rw [val_main_v172_apply, val_main_v171_apply, val_main_v170_apply, val_main_v169_apply, val_main_v163_apply, h162, v168_at]
  rw [drow, norm_grad (by norm_num) rmsEps_pos (X s) (fun d => dn X D G WI LG LB WS BS WO s d * G d)]
  simp only [EReal.coe_add, EReal.coe_mul]
  rfl

theorem v178_at (a : Fin 4) (x : Fin 1024) (b : Fin 512) :
    val_main_v178 (F := Ideal) (up X) (up1 G) (up WI) (up1 LG) (up1 LB) (up3 WS) (up BS) (up WO) (up D) (ix3 a x b) = ((∑ s, nrm (X s) G x * dzz LG LB rfl WS BS (zz X G WI) D WO s ⟨(a : ℕ) * 512 + b, by omega⟩ : ℝ) : EReal) := by
  pointwise [val_main_v178, val_main_v177, val_main_v176]
  exact v150_at X D G WI LG LB WS BS WO x ⟨(a : ℕ) * 512 + b, by omega⟩

theorem v180_at (a : Fin 4) (b : Fin 256) (y : Fin 1024) :
    val_main_v180 (F := Ideal) (up X) (up1 G) (up WI) (up1 LG) (up1 LB) (up3 WS) (up BS) (up D) (ix3 a b y) = ((∑ s, yy LG LB rfl WS BS (zz X G WI) s (Cert.Xattn.col a b) * D s y : ℝ) : EReal) := by
  pointwise [val_main_v180, val_main_v179]
  exact v85_at X D G WI LG LB WS BS (Cert.Xattn.col a b) y

end Cert.Sgu

end
-- ==== Proof.SguBlk.lean ====
/- What the blocks of each point of the gating's backward grid hold, over the reals, and what the call prepares outside it. -/
module

public import proofs.«01_k».proof.Proof.SguPt
public import proofs.«01_k».proof.Proof.SguRef

@[expose] public section

set_option maxRecDepth 16384

noncomputable section

namespace Cert.Sgu

open Cert.Kernel6Ideal Cert.Kernel6Ideal.Gen
open Idealize.ShloMosaic Idealize.ShloMosaic.TcCoe Idealize.SL.Sem Cert.RealLift
open Cert.Xattn (up up1 nrm back drow)

variable (m : (ℓ : Loc nD τ sig) → Buf (Elt Ideal) ℓ)

abbrev X0 (c : Dev nD) : FVec Ideal S8192x1024 .f32 := m ((c.tc : Thread nD τ).loc main_arg0)
abbrev X1 (c : Dev nD) : FVec Ideal S1024 .f32 := m ((c.tc : Thread nD τ).loc main_arg1)
abbrev X2 (c : Dev nD) : FVec Ideal S1024x2048 .f32 := m ((c.tc : Thread nD τ).loc main_arg2)
abbrev X3 (c : Dev nD) : FVec Ideal S1024 .f32 := m ((c.tc : Thread nD τ).loc main_arg3)
abbrev X4 (c : Dev nD) : FVec Ideal S1024 .f32 := m ((c.tc : Thread nD τ).loc main_arg4)
abbrev X5 (c : Dev nD) : FVec Ideal S8x128x128 .f32 := m ((c.tc : Thread nD τ).loc main_arg5)
abbrev X6 (c : Dev nD) : FVec Ideal S8x128 .f32 := m ((c.tc : Thread nD τ).loc main_arg6)
abbrev X7 (c : Dev nD) : FVec Ideal S1024x1024 .f32 := m ((c.tc : Thread nD τ).loc main_arg7)
abbrev X8 (c : Dev nD) : FVec Ideal S8192x1024 .f32 := m ((c.tc : Thread nD τ).loc main_arg8)

theorem idx : ∀ t : Fin cfg0.N, win0_0.index t = ![(t : ℕ), 0] ∧ win0_1.index t = ![(t : ℕ), 0] ∧ win0_2.index t = ![(t : ℕ), 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0, 0] ∧ win0_9.index t = ![0, 0] ∧ win0_10.index t = ![0, 0, 0]
    ∧ win0_11.index t = ![(t : ℕ), 0] :=
  (by decide +kernel : ∀ t : Fin grid0.N, _)

/-- The reciprocal root of the mean squares, and the rows before the gelu, as computed outside the grid. -/
def hostInv (x : FVec Ideal S8192x1024 .f32) : FVec Ideal S8192x1 .f32 :=
  Host.rsqrt (addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))

def hostNorm (x : FVec Ideal S8192x1024 .f32) (g : FVec Ideal S1024 .f32) : FVec Ideal S8192x1024 .f32 :=
  mulf (mulf x (broadcastInDim S8192x1024 ![0, 1] bcast_S8192x1_S8192x1024_0_1 (hostInv x)))
    (broadcastInDim S8192x1024 ![0, 1] bcast_S1x1024_S8192x1024_0_1 (shapeCast S1x1024 g shapeCasts_S1024_S1x1024))

def hostWide (x : FVec Ideal S8192x1024 .f32) (g : FVec Ideal S1024 .f32) (w : FVec Ideal S1024x2048 .f32) : FVec Ideal S8192x2048 .bf16 :=
  truncf (F := Ideal) .bf16 (Host.dotGeneral (φ₁ := .bf16) (φ₂ := .bf16) dot_S8192x1024_S1024x2048_S8192x2048_1_0_0_1_n_n none
    (truncf (F := Ideal) .bf16 (hostNorm x g) bitsLt_bf16_f32) (truncf (F := Ideal) .bf16 w bitsLt_bf16_f32)) bitsLt_bf16_f32

theorem wide_eq (c : Dev nD) : V m c main_v24 = hostWide (X0 m c) (X1 m c) (X2 m c) := by
  unfold V
  after_results
  rfl

section
variable (H : Fin 8192 → Fin 1024 → ℝ) (G : Fin 1024 → ℝ) (W : Fin 1024 → Fin 2048 → ℝ)

theorem hostInv_at (s : Fin 8192) (z : Fin 1) : hostInv (up H) (ix2 s z) = ((Cert.Xattn.inv (H s) : ℝ) : EReal) := by
  rw [Cert.Xattn.inv, ← coe_rinv (by norm_num) rmsEps_pos, ← coe_meanSq (by norm_num)]
  pointwise [hostInv]
  rw [ofBits_1024, ofBits_rmsEps]
  rfl

theorem hostNorm_up : hostNorm (up H) (up1 G) = up fun s => nrm (H s) G := by
  funext i
  idx_vars i
  pointwise [hostNorm]
  rw [hostInv_at]
  simp only [at2, up1, nrm, EReal.coe_mul]
  rfl

theorem hostWide_up : hostWide (up H) (up1 G) (up W) = up (zz H G W) := by
  rw [hostWide, hostNorm_up]
  funext i
  idx_vars i
  pointwise []
  simp only [at2, zz, wide, coe_sum, EReal.coe_mul]
end

/-- The arguments are the images of real arrays. -/
structure Args (c : Dev nD) (X D : Fin 8192 → Fin 1024 → ℝ) (G : Fin 1024 → ℝ) (WI : Fin 1024 → Fin 2048 → ℝ) (LG LB : Fin 1024 → ℝ)
    (WS : Fin 8 → Fin 128 → Fin 128 → ℝ) (BS : Fin 8 → Fin 128 → ℝ) (WO : Fin 1024 → Fin 1024 → ℝ) : Prop where
  h : X0 m c = up X
  g : X1 m c = up1 G
  wi : X2 m c = up WI
  lg : X3 m c = up1 LG
  lb : X4 m c = up1 LB
  ws : X5 m c = up3 WS
  bs : X6 m c = up BS
  wo : X7 m c = up WO
  dh : X8 m c = up D

/-- A row of one point of the grid among all rows, and a point's rows. -/
def at' (t : Fin cfg0.N) (p : Fin 256) : Fin 8192 := ⟨(t : ℕ) * 256 + p, by have := t.isLt; have e : cfg0.N = 32 := N_0; omega⟩
abbrev rows {n : ℕ} (f : Fin 8192 → Fin n → ℝ) (t : Fin cfg0.N) : Fin 256 → Fin n → ℝ := fun p => f (at' t p)

section
variable {m} {c : Dev nD} {X D : Fin 8192 → Fin 1024 → ℝ} {G : Fin 1024 → ℝ} {WI : Fin 1024 → Fin 2048 → ℝ} {LG LB : Fin 1024 → ℝ}
    {WS : Fin 8 → Fin 128 → Fin 128 → ℝ} {BS : Fin 8 → Fin 128 → ℝ} {WO : Fin 1024 → Fin 1024 → ℝ}
    (A : Args m c X D G WI LG LB WS BS WO) (t : Fin cfg0.N)
include A

theorem b0 : (iblk m c 0 t : FVec Ideal S256x1024 .f32) = up (rows X t) := by
  have e : (up (rows X t) : FVec Ideal S256x1024 .f32) = fun i => X0 m c (ix2 (at' t (i 0)) (i 1)) := by
    rw [A.h]; rfl
  rw [e]
  funext j
  blk_ext [iblk, Gen.V, idx t, at']

theorem b1 : (iblk m c 1 t : FVec Ideal S256x1024 .f32) = up (rows D t) := by
  have e : (up (rows D t) : FVec Ideal S256x1024 .f32) = fun i => X8 m c (ix2 (at' t (i 0)) (i 1)) := by
    rw [A.dh]; rfl
  rw [e]
  funext j
  blk_ext [iblk, Gen.V, idx t, at']

theorem b2 : (iblk m c 2 t : FVec Ideal S256x2048 .bf16) = up (rows (zz X G WI) t) := by
  have e : (up (rows (zz X G WI) t) : FVec Ideal S256x2048 .bf16) = fun i => Gen.V m c main_v24 (ix2 (at' t (i 0)) (i 1)) := by
    rw [wide_eq, A.h, A.g, A.wi, hostWide_up]; rfl
  rw [e]
  funext j
  blk_ext [iblk, idx t, at']

theorem b3 : (iblk m c 3 t : FVec Ideal S1x1024 .f32) = up fun _ : Fin 1 => G := by
  have e : Gen.V m c main_v0 = shapeCast S1x1024 (X1 m c) shapeCasts_S1024_S1x1024 := by unfold Gen.V; after_results; rfl
  have e' : (up fun _ : Fin 1 => G : FVec Ideal S1x1024 .f32) = Gen.V m c main_v0 := by
    rw [e, A.g]
    funext i
    idx_vars i
    pointwise [up, up1]
  rw [e']
  funext j
  blk_ext [iblk, idx t]

theorem b4 : (iblk m c 4 t : FVec Ideal S1x1024 .f32) = up fun _ : Fin 1 => LG := by
  have e : Gen.V m c main_v1 = shapeCast S1x1024 (X3 m c) shapeCasts_S1024_S1x1024 := by unfold Gen.V; after_results; rfl
  have e' : (up fun _ : Fin 1 => LG : FVec Ideal S1x1024 .f32) = Gen.V m c main_v1 := by
    rw [e, A.lg]
    funext i
    idx_vars i
    pointwise [up, up1]
  rw [e']
  funext j
  blk_ext [iblk, idx t]

theorem b5 : (iblk m c 5 t : FVec Ideal S1x1024 .f32) = up fun _ : Fin 1 => LB := by
  have e : Gen.V m c main_v2 = shapeCast S1x1024 (X4 m c) shapeCasts_S1024_S1x1024 := by unfold Gen.V; after_results; rfl
  have e' : (up fun _ : Fin 1 => LB : FVec Ideal S1x1024 .f32) = Gen.V m c main_v2 := by
    rw [e, A.lb]
    funext i
    idx_vars i
    pointwise [up, up1]
  rw [e']
  funext j
  blk_ext [iblk, idx t]

theorem b6 : (iblk m c 6 t : FVec Ideal S8x128x128 .bf16) = up3 WS := by
  have e : Gen.V m c main_v3 = up3 WS := by rw [← A.ws]; unfold Gen.V; after_results; rfl
  rw [← e]
  funext j
  blk_ext [iblk, idx t]

theorem b7 : (iblk m c 7 t : FVec Ideal S8x128x128 .bf16) = up3 (tp WS) := by
  have e : Gen.V m c main_v4 = transpose S8x128x128 [0, 2, 1] (truncf (F := Ideal) .bf16 (X5 m c) bitsLt_bf16_f32) transposes_S8x128x128_S8x128x128_0_2_1 := by
    unfold Gen.V; after_results
  have e' : (up3 (tp WS) : FVec Ideal S8x128x128 .bf16) = Gen.V m c main_v4 := by
    rw [e, A.ws]
    funext i
    idx_vars i
    pointwise [up3, tp]
  rw [e']
  funext j
  blk_ext [iblk, idx t]

theorem b8 : (iblk m c 8 t : FVec Ideal S8x128x128 .f32) = up3 fun g p _ => BS g p := by
  have e : Gen.V m c main_v6 = broadcastInDim S8x128x128 ![0, 1, 2] bcast_S8x128x1_S8x128x128_0_1_2
      (broadcastInDim S8x128x1 ![0, 1] bcast_S8x128_S8x128x1_0_1 (X6 m c)) := by
    unfold Gen.V; after_results
  have e' : (up3 fun g p _ => BS g p : FVec Ideal S8x128x128 .f32) = Gen.V m c main_v6 := by
    rw [e, A.bs]
    funext i
    idx_vars i
    pointwise [up3, up]
  rw [e']
  funext j
  blk_ext [iblk, idx t]

theorem b9 : (iblk m c 9 t : FVec Ideal S1024x2048 .bf16) = up WI := by
  have e : Gen.V m c main_v7 = up WI := by rw [← A.wi]; unfold Gen.V; after_results; rfl
  rw [← e]
  funext j
  blk_ext [iblk, idx t]

theorem b10 : (iblk m c 10 t : FVec Ideal S4x256x1024 .bf16) = upq WO := by
  have e : Gen.V m c main_v9 = k0_pay6 (F := Ideal) (X7 m c) := by unfold Gen.V; after_results; rfl
  rw [← post_up, ← A.wo, ← e]
  funext j
  blk_ext [iblk, idx t]

/-- The blocks of a point. -/
theorem blks : Blks m c t (rows X t) (rows D t) (rows (zz X G WI) t) G LG LB WS BS WI WO :=
  ⟨b0 A t, b1 A t, b2 A t, b3 A t, b4 A t, b5 A t, b6 A t, b7 A t, b8 A t, b9 A t, b10 A t⟩
end

end Cert.Sgu

end
-- ==== Proof.Sgu.lean ====
/- The value of the gating's backward call: the blocks written at the points of the grid are the rows of the gradient, and the arrays
carried over the grid hold the sums over all rows. -/
module

public import proofs.«01_k».proof.Proof.SguBlk

@[expose] public section

set_option maxRecDepth 16384

noncomputable section

namespace Cert.Sgu

open Cert.Kernel6Ideal Cert.Kernel6Ideal.Gen
open Idealize.ShloMosaic Idealize.ShloMosaic.TcCoe Idealize.SL.Sem Cert.RealLift Cert.Pieces
open Cert.Xattn (up up1 nrm back drow)

/-! ## The last point -/

section
variable {m : (ℓ : Loc nD τ sig) → Buf (Elt Ideal) ℓ} {c : Dev nD} (t : Fin cfg0.N)

theorem sums_C (h0 : ¬ t.val % 32 = 0) (h1 : t.val % 32 = 31) : (outsAt0 m c t.val t.isLt).2.2.1
    = k0_pay7 (outsAt0 m c t.val t.isLt).2.2.2.2.2.2.2.2.2.2 := by
  rw [outsAt0_C m c t h0 h1]
  frame_out
  refine congrArg (k0_pay7 (F := Ideal)) ?_
  refine (View.readCov_eq_canon' _ _ _).trans ?_
  exact View.ld_unit_zero (by funext a; fin_cases a <;> rfl) _ _

theorem out_C (h0 : ¬ t.val % 32 = 0) (h1 : t.val % 32 = 31) : (outsAt0 m c t.val t.isLt).2.2.2.2.2.2.2.1
    = k0_pay6 (outsAt0 m c t.val t.isLt).2.2.2.2.2.2.2.2.2.1 := by
  rw [outsAt0_C m c t h0 h1]
  frame_out

theorem in_C (h0 : ¬ t.val % 32 = 0) (h1 : t.val % 32 = 31) : (outsAt0 m c t.val t.isLt).2.2.2.2.2.2.1
    = View.canon (Val := Elt Ideal) (s := S4x1024x512) (e := .bf16)
      [⟨Rect.unit ![3, 0, 0] ![1, 1024, 512] inb_S4x1024x512_S1x1024x512_3_0_0, k0_pay5 (F := Ideal) (View.ld (Val := Elt Ideal) (e' := .f32) (outsAt0 m c t.val t.isLt).2.2.2.2.2.2.2.2.1 (Rect.unit ![0, 1536] ![1024, 512] inb_S1024x2048_S1024x512_0_1536))⟩,
       ⟨Rect.unit ![2, 0, 0] ![1, 1024, 512] inb_S4x1024x512_S1x1024x512_2_0_0, k0_pay4 (F := Ideal) (View.ld (Val := Elt Ideal) (e' := .f32) (outsAt0 m c t.val t.isLt).2.2.2.2.2.2.2.2.1 (Rect.unit ![0, 1024] ![1024, 512] inb_S1024x2048_S1024x512_0_1024))⟩,
       ⟨Rect.unit ![1, 0, 0] ![1, 1024, 512] inb_S4x1024x512_S1x1024x512_1_0_0, k0_pay3 (F := Ideal) (View.ld (Val := Elt Ideal) (e' := .f32) (outsAt0 m c t.val t.isLt).2.2.2.2.2.2.2.2.1 (Rect.unit ![0, 512] ![1024, 512] inb_S1024x2048_S1024x512_0_512))⟩,
       ⟨Rect.unit ![0, 0, 0] ![1, 1024, 512] inb_S4x1024x512_S1x1024x512_0_0_0, k0_pay2 (F := Ideal) (View.ld (Val := Elt Ideal) (e' := .f32) (outsAt0 m c t.val t.isLt).2.2.2.2.2.2.2.2.1 (Rect.unit ![0, 0] ![1024, 512] inb_S1024x2048_S1024x512_0_0))⟩] := by
  rw [outsAt0_C m c t h0 h1]
  frame_out
  refine congrArg (View.canon (Val := Elt Ideal) (s := S4x1024x512) (e := .bf16)) ?_
  refine congrArg₂ List.cons ?_ (congrArg₂ List.cons ?_ (congrArg₂ List.cons ?_ (congrArg₂ List.cons ?_ rfl)))
  · refine congrArg (Sigma.mk _) (congrArg (k0_pay5 (F := Ideal)) ?_)
    exact View.readCov_fill _ _ _ _ _ (by decide)
  · refine congrArg (Sigma.mk _) (congrArg (k0_pay4 (F := Ideal)) ?_)
    exact View.readCov_fill _ _ _ _ _ (by decide)
  · refine congrArg (Sigma.mk _) (congrArg (k0_pay3 (F := Ideal)) ?_)
    exact View.readCov_fill _ _ _ _ _ (by decide)
  · refine congrArg (Sigma.mk _) (congrArg (k0_pay2 (F := Ideal)) ?_)
    exact View.readCov_fill _ _ _ _ _ (by decide)

end

/-! ## The rows of a point among all rows -/

theorem ps_at (t : Fin cfg0.N) (p : Fin 256) : ps (at' t p) = ps p := Fin.ext (by simp only [ps, at']; omega)
theorem ck_at (t : Fin cfg0.N) (p : Fin 256) (q : Fin 128) : ck rfl (at' t p) q = at' t (ck rfl p q) := Fin.ext (by simp only [ck, at']; omega)

section
variable (Z : Fin 8192 → Fin 2048 → ℝ) (D : Fin 8192 → Fin 1024 → ℝ) (LG LB : Fin 1024 → ℝ)
    (WS : Fin 8 → Fin 128 → Fin 128 → ℝ) (BS : Fin 8 → Fin 128 → ℝ) (WO : Fin 1024 → Fin 1024 → ℝ) (t : Fin cfg0.N) (p : Fin 256) (d : Fin 1024)

theorem sv_rows : sv LG LB rfl WS BS (rows Z t) p d = sv LG LB rfl WS BS Z (at' t p) d := by
  simp only [sv, mix, ps_at, ck_at]

theorem dv_rows : dv rfl WS (rows Z t) (rows D t) WO p d = dv rfl WS Z D WO (at' t p) d := by
  simp only [dv, unmix, ds, ps_at, ck_at]

theorem yy_rows : yy LG LB rfl WS BS (rows Z t) p d = yy LG LB rfl WS BS Z (at' t p) d := by
  simp only [yy, sv_rows]

theorem dzz_rows : dzz LG LB rfl WS BS (rows Z t) (rows D t) WO p = dzz LG LB rfl WS BS Z D WO (at' t p) := by
  simp only [dzz]
  congr 1
  · funext d
    simp only [du, sv_rows]
  · congr 1
    funext d
    rw [dv_rows]
end

/-! ## Sums over the grid -/

/-- A result grown from zero point by point holds the sum over the points. -/
theorem swept {a b : ℕ} (f : (n : ℕ) → n < cfg0.N → FVec Ideal ⟨2, ![a, b]⟩ .f32) (T : Fin cfg0.N → Fin a → Fin b → ℝ)
    (Z : FVec Ideal ⟨2, ![a, b]⟩ .f32) (hz : ∀ i, Z i = 0) (h0 : ∀ t : Fin cfg0.N, t.val % 32 = 0 → f t.val t.isLt = addf Z (up (T t)))
    (hs : ∀ t : Fin cfg0.N, ¬t.val % 32 = 0 →
      f t.val t.isLt = addf (f (t.val - 1) (Nat.lt_of_le_of_lt (Nat.sub_le _ _) t.isLt)) (up (T t)))
    (t : Fin cfg0.N) (ht : t.val + 1 = cfg0.N) : f t.val t.isLt = up fun i j => ∑ t, T t i j := by
  funext i
  rw [Pipeline.eq_sum_fin_of_reset_step_apply_last f 32 (fun _ => (0 : EReal)) (fun t i => up (T t) i)
    (fun t h i => by rw [h0 t h, addf]; show Z i + up (T t) i = _; rw [hz]) (fun t h i => by rw [hs t h]; rfl) (le_of_eq N_0) t ht i, zero_add]
  exact (coe_sum _ _).symm

theorem swept3 {a b d : ℕ} (f : (n : ℕ) → n < cfg0.N → FVec Ideal ⟨3, ![a, b, d]⟩ .f32) (T : Fin cfg0.N → Fin a → Fin b → Fin d → ℝ)
    (Z : FVec Ideal ⟨3, ![a, b, d]⟩ .f32) (hz : ∀ i, Z i = 0) (h0 : ∀ t : Fin cfg0.N, t.val % 32 = 0 → f t.val t.isLt = addf Z (up3 (T t)))
    (hs : ∀ t : Fin cfg0.N, ¬t.val % 32 = 0 →
      f t.val t.isLt = addf (f (t.val - 1) (Nat.lt_of_le_of_lt (Nat.sub_le _ _) t.isLt)) (up3 (T t)))
    (t : Fin cfg0.N) (ht : t.val + 1 = cfg0.N) : f t.val t.isLt = up3 fun i j k => ∑ t, T t i j k := by
  funext i
  rw [Pipeline.eq_sum_fin_of_reset_step_apply_last f 32 (fun _ => (0 : EReal)) (fun t i => up3 (T t) i)
    (fun t h i => by rw [h0 t h, addf]; show Z i + up3 (T t) i = _; rw [hz]) (fun t h i => by rw [hs t h]; rfl) (le_of_eq N_0) t ht i, zero_add]
  exact (coe_sum _ _).symm

/-- The points' rows are all the rows, and the points' pairs of chunks all the chunks. -/
theorem all_rows (F : Fin 8192 → ℝ) : ∑ t : Fin cfg0.N, ∑ p : Fin 256, F (at' t p) = ∑ s, F s :=
  Fin.sum_mul_add_congr (fun _ _ _ => rfl) (by rw [show cfg0.N = 32 from N_0])

def chunk (t : Fin cfg0.N) (k : Fin 2) : Fin 64 := ⟨(t : ℕ) * 2 + k, by have := t.isLt; have e : cfg0.N = 32 := N_0; omega⟩

theorem all_chunks (F : Fin 64 → ℝ) : ∑ t : Fin cfg0.N, (F (chunk t 0) + F (chunk t 1)) = ∑ n, F n := by
  refine Eq.trans (Finset.sum_congr rfl fun t _ => (Fin.sum_univ_two fun k => F (chunk t k)).symm) ?_
  exact Fin.sum_mul_add_congr (fun _ _ _ => rfl) (by rw [show cfg0.N = 32 from N_0])

theorem cut_lo (F : Fin 8192 → Fin 1024 → ℝ) (t : Fin cfg0.N) (g : Fin 8) (p e : Fin 128) :
    cut 0 (128 * g) (rows F t) p e = F (row (chunk t 0) p) (lane g e) := by
  refine congr (congrArg F (Fin.ext ?_)) (Fin.ext ?_)
  · show (t : ℕ) * 256 + (0 + (p : ℕ)) % 256 = ((t : ℕ) * 2 + 0) * 128 + p
    omega
  · show (128 * (g : ℕ) + e) % 1024 = (g : ℕ) * 128 + e
    omega

theorem cut_hi (F : Fin 8192 → Fin 1024 → ℝ) (t : Fin cfg0.N) (g : Fin 8) (p e : Fin 128) :
    cut 128 (128 * g) (rows F t) p e = F (row (chunk t 1) p) (lane g e) := by
  refine congr (congrArg F (Fin.ext ?_)) (Fin.ext ?_)
  · show (t : ℕ) * 256 + (128 + (p : ℕ)) % 256 = ((t : ℕ) * 2 + 1) * 128 + p
    omega
  · show (128 * (g : ℕ) + e) % 1024 = (g : ℕ) * 128 + e
    omega

/-- The last point. -/
def tl : Fin cfg0.N := ⟨31, by rw [show cfg0.N = 32 from N_0]; decide⟩

theorem zero8 (i) : k0_pay8 (F := Ideal) i = 0 := by idx_vars i; pointwise [k0_pay8]
theorem zero9 (i) : k0_pay9 (F := Ideal) i = 0 := by idx_vars i; pointwise [k0_pay9]
theorem zero10 (i) : k0_pay10 (F := Ideal) i = 0 := by idx_vars i; pointwise [k0_pay10]
theorem zero11 (i) : k0_pay11 (F := Ideal) i = 0 := by idx_vars i; pointwise [k0_pay11]
theorem zero12 (i) : k0_pay12 (F := Ideal) i = 0 := by idx_vars i; pointwise [k0_pay12]
theorem zero13 (i) : k0_pay13 (F := Ideal) i = 0 := by idx_vars i; pointwise [k0_pay13]
theorem zero14 (i) : k0_pay14 (F := Ideal) i = 0 := by idx_vars i; pointwise [k0_pay14]

section
variable (W : Fin 1024 → Fin 2048 → ℝ)

/-- A strip of 512 lanes as one of the four blocks the call returns. -/
def strip (k : ℕ) : S1x1024x512.Idx → EReal := fun i => ((W (i 1) ⟨(k * 512 + (i 2 : Fin 512)) % 2048, Nat.mod_lt _ (by decide)⟩ : ℝ) : EReal)

theorem strip_of (k q : ℕ) (hk : k < 4) (hq : q = k * 512) (h) :
    k0_pay2 (F := Ideal) (View.ld (Val := Elt Ideal) (e' := .f32) (up W) (Rect.unit (s := S1024x2048) ![0, q] ![1024, 512] h)) = strip W k := by
  subst hq
  funext i
  idx_vars i
  pointwise [k0_pay2]
  refine congrArg (fun r : ℝ => (r : EReal)) (congr (congrArg W (Fin.ext ?_)) (Fin.ext ?_))
  · rfl
  · have h2 : (i2 : ℕ) < 512 := i2.isLt
    show k * 512 + (i2 : ℕ) = (k * 512 + i2) % 2048
    omega

theorem strips : View.canon (Val := Elt Ideal) (s := S4x1024x512) (e := .bf16)
      [⟨Rect.unit ![3, 0, 0] ![1, 1024, 512] inb_S4x1024x512_S1x1024x512_3_0_0, strip W 3⟩,
       ⟨Rect.unit ![2, 0, 0] ![1, 1024, 512] inb_S4x1024x512_S1x1024x512_2_0_0, strip W 2⟩,
       ⟨Rect.unit ![1, 0, 0] ![1, 1024, 512] inb_S4x1024x512_S1x1024x512_1_0_0, strip W 1⟩,
       ⟨Rect.unit ![0, 0, 0] ![1, 1024, 512] inb_S4x1024x512_S1x1024x512_0_0_0, strip W 0⟩] = upc W := by
  funext y
  canon_tiles x hx
  all_goals
    refine congrArg (fun r : ℝ => (r : EReal)) (congr (congrArg W (Fin.ext ?_)) (Fin.ext ?_))
    · simp [hx1]
    · have := (x 0).isLt
      have := (x 2).isLt
      simp [hx0, hx2] <;> omega

theorem sums_up (Y : Fin 8 → Fin 128 → Fin 128 → ℝ) : k0_pay7 (F := Ideal) (up3 Y) = up fun g p => ∑ e, Y g p e := by
  funext i
  idx_vars i
  pointwise [k0_pay7]
  simp only [at2, at3, coe_sum]
end

/-! ## What the arrays carried over the grid hold at the end -/

section
variable {m : (ℓ : Loc nD τ sig) → Buf (Elt Ideal) ℓ} {c : Dev nD} {X D : Fin 8192 → Fin 1024 → ℝ} {G : Fin 1024 → ℝ} {WI : Fin 1024 → Fin 2048 → ℝ}
    {LG LB : Fin 1024 → ℝ} {WS : Fin 8 → Fin 128 → Fin 128 → ℝ} {BS : Fin 8 → Fin 128 → ℝ} {WO : Fin 1024 → Fin 1024 → ℝ}
    (A : Args m c X D G WI LG LB WS BS WO)
include A

theorem first_point (t : Fin cfg0.N) (h : t.val % 32 = 0) :
    Grows (rows X t) (rows D t) (rows (zz X G WI) t) G LG LB WS BS WI WO (outsAt0 m c t.val t.isLt)
      k0_pay11 k0_pay12 k0_pay13 k0_pay14 k0_pay8 k0_pay9 k0_pay10 :=
  (grows_all (blks A t)).1 h
theorem later_point (t : Fin cfg0.N) (h : ¬ t.val % 32 = 0) :
    Grows (rows X t) (rows D t) (rows (zz X G WI) t) G LG LB WS BS WI WO (outsAt0 m c t.val t.isLt)
      (outsAt0 m c (t.val - 1) (Nat.lt_of_le_of_lt (Nat.sub_le _ _) t.isLt)).2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2.2.2.1
      (outsAt0 m c (t.val - 1) (Nat.lt_of_le_of_lt (Nat.sub_le _ _) t.isLt)).2.2.2.2.2.2.2.2.2.1
      (outsAt0 m c (t.val - 1) (Nat.lt_of_le_of_lt (Nat.sub_le _ _) t.isLt)).2.2.2.2.2.2.2.2.2.2 :=
  (grows_all (blks A t)).2 h

theorem rows_at (t : Fin cfg0.N) : (outsAt0 m c t.val t.isLt).1
    = up fun p => drow (X (at' t p)) G (D (at' t p)) (dn X D G WI LG LB WS BS WO (at' t p)) := by
  have e : (outsAt0 m c t.val t.isLt).1 = up (fun p => drow (rows X t p) G (rows D t p) (slim (dzz LG LB rfl WS BS (rows (zz X G WI) t) (rows D t) WO p) WI)) := by
    by_cases h : t.val % 32 = 0
    · exact (first_point A t h).1
    · exact (later_point A t h).1
  rw [e]
  simp only [dzz_rows]
  rfl

theorem dws_last : (outsAt0 m c tl.val tl.isLt).2.1
    = up3 fun g p q => ∑ n, ∑ f, ds (zz X G WI) D WO (row n p) (lane g f) * vn (zz X G WI (row n q)) LG LB (lane g f) := by
  rw [swept3 (fun n h => (outsAt0 m c n h).2.1) _ _ zero11 (fun t h => (first_point A t h).2.1) (fun t h => (later_point A t h).2.1) tl rfl]
  congr 1
  funext g p q
  refine Eq.trans (Finset.sum_congr rfl fun t _ => ?_)
    (all_chunks fun n => ∑ f, ds (zz X G WI) D WO (row n p) (lane g f) * vn (zz X G WI (row n q)) LG LB (lane g f))
  refine congrArg₂ (· + ·) (Finset.sum_congr rfl fun e _ => ?_) (Finset.sum_congr rfl fun e _ => ?_)
  · exact congrArg₂ (· * ·) (cut_lo (ds (zz X G WI) D WO) t g p e) (cut_lo (fun s => vn (zz X G WI s) LG LB) t g q e)
  · exact congrArg₂ (· * ·) (cut_hi (ds (zz X G WI) D WO) t g p e) (cut_hi (fun s => vn (zz X G WI s) LG LB) t g q e)

theorem dbs_last : (outsAt0 m c tl.val tl.isLt).2.2.2.2.2.2.2.2.2.2
    = up3 fun g p e => ∑ n, ds (zz X G WI) D WO (row n p) (lane g e) := by
  rw [swept3 (fun n h => (outsAt0 m c n h).2.2.2.2.2.2.2.2.2.2) _ _ zero10 (fun t h => (first_point A t h).2.2.2.2.2.2.2) (fun t h => (later_point A t h).2.2.2.2.2.2.2) tl rfl]
  congr 1
  funext g p e
  refine Eq.trans (Finset.sum_congr rfl fun t _ => ?_) (all_chunks fun n => ds (zz X G WI) D WO (row n p) (lane g e))
  exact congrArg₂ (· + ·) (cut_lo (ds (zz X G WI) D WO) t g p e) (cut_hi (ds (zz X G WI) D WO) t g p e)

theorem dlg_last : (outsAt0 m c tl.val tl.isLt).2.2.2.1
    = up fun (_ : Fin 1) d => ∑ s, dv rfl WS (zz X G WI) D WO s d * yl (vv (zz X G WI s)) d := by
  rw [swept (fun n h => (outsAt0 m c n h).2.2.2.1) _ _ zero12 (fun t h => (first_point A t h).2.2.1) (fun t h => (later_point A t h).2.2.1) tl rfl]
  congr 1
  funext z d
  simp only [dv_rows]
  exact all_rows fun s => dv rfl WS (zz X G WI) D WO s d * yl (vv (zz X G WI s)) d

theorem dlb_last : (outsAt0 m c tl.val tl.isLt).2.2.2.2.1
    = up fun (_ : Fin 1) d => ∑ s, dv rfl WS (zz X G WI) D WO s d := by
  rw [swept (fun n h => (outsAt0 m c n h).2.2.2.2.1) _ _ zero13 (fun t h => (first_point A t h).2.2.2.1) (fun t h => (later_point A t h).2.2.2.1) tl rfl]
  congr 1
  funext z d
  simp only [dv_rows]
  exact all_rows fun s => dv rfl WS (zz X G WI) D WO s d

theorem dg_last : (outsAt0 m c tl.val tl.isLt).2.2.2.2.2.1
    = up fun (_ : Fin 1) d => ∑ s, dn X D G WI LG LB WS BS WO s d * (X s d * Cert.Xattn.inv (X s)) := by
  rw [swept (fun n h => (outsAt0 m c n h).2.2.2.2.2.1) _ _ zero14 (fun t h => (first_point A t h).2.2.2.2.1) (fun t h => (later_point A t h).2.2.2.2.1) tl rfl]
  congr 1
  funext z d
  simp only [dzz_rows]
  exact all_rows fun s => dn X D G WI LG LB WS BS WO s d * (X s d * Cert.Xattn.inv (X s))

theorem in_last : (outsAt0 m c tl.val tl.isLt).2.2.2.2.2.2.2.2.1
    = up fun a b => ∑ s, nrm (X s) G a * dzz LG LB rfl WS BS (zz X G WI) D WO s b := by
  rw [swept (fun n h => (outsAt0 m c n h).2.2.2.2.2.2.2.2.1) _ _ zero8 (fun t h => (first_point A t h).2.2.2.2.2.1) (fun t h => (later_point A t h).2.2.2.2.2.1) tl rfl]
  congr 1
  funext a b
  simp only [dzz_rows]
  exact all_rows fun s => nrm (X s) G a * dzz LG LB rfl WS BS (zz X G WI) D WO s b

theorem out_last : (outsAt0 m c tl.val tl.isLt).2.2.2.2.2.2.2.2.2.1
    = up fun a b => ∑ s, yy LG LB rfl WS BS (zz X G WI) s a * D s b := by
  rw [swept (fun n h => (outsAt0 m c n h).2.2.2.2.2.2.2.2.2.1) _ _ zero9 (fun t h => (first_point A t h).2.2.2.2.2.2.1) (fun t h => (later_point A t h).2.2.2.2.2.2.1) tl rfl]
  congr 1
  funext a b
  simp only [yy_rows]
  exact all_rows fun s => yy LG LB rfl WS BS (zz X G WI) s a * D s b

theorem in_blocks : (outsAt0 m c tl.val tl.isLt).2.2.2.2.2.2.1
    = upc fun a b => ∑ s, nrm (X s) G a * dzz LG LB rfl WS BS (zz X G WI) D WO s b := by
  rw [in_C tl (by decide) (by decide), in_last A, ← strips]
  refine congrArg (View.canon (Val := Elt Ideal) (s := S4x1024x512) (e := .bf16)) ?_
  refine congrArg₂ List.cons ?_ (congrArg₂ List.cons ?_ (congrArg₂ List.cons ?_ (congrArg₂ List.cons ?_ rfl)))
  · exact congrArg (Sigma.mk _) (strip_of _ 3 1536 (by decide) rfl _)
  · exact congrArg (Sigma.mk _) (strip_of _ 2 1024 (by decide) rfl _)
  · exact congrArg (Sigma.mk _) (strip_of _ 1 512 (by decide) rfl _)
  · exact congrArg (Sigma.mk _) (strip_of _ 0 0 (by decide) rfl _)

/-! ## The arrays the call returns -/

open Cert.Reference6Ideal.Read

theorem res_rows : (dats m 0 c).arrAt 11 cfg0.N
    = val_main_v172 (F := Ideal) (up X) (up1 G) (up WI) (up1 LG) (up1 LB) (up3 WS) (up BS) (up WO) (up D) := by
  refine (dats m 0 c).arrAt_eq_of_covers 11 _ (by decide +kernel) fun t hf y => ?_
  blk_simp
  rw [after0_11, rows_at A t]
  obtain ⟨y0, y1, rfl⟩ : ∃ (a : Fin 256) (b : Fin 1024), y = ix2 a b := ⟨y 0, y 1, (ix2_eta y).symm⟩
  refine (v172_at X D G WI LG LB WS BS WO (at' t y0) y1).symm.trans ?_
  blk_ext [idx t, at']

theorem res_ws : (dats m 0 c).arrAt 12 cfg0.N
    = val_main_v97 (F := Ideal) (up X) (up1 G) (up WI) (up1 LG) (up1 LB) (up WO) (up D) := by
  refine (dats m 0 c).arrAt_eq_of_after_last 12 tl (by decide +kernel) _ fun j => ?_
  blk_simp
  rw [after0_12, dws_last A]
  idx_vars j
  exact (v97_at X D G WI LG LB WO _ _ _).symm

theorem res_bs : (dats m 0 c).arrAt 13 cfg0.N
    = val_main_v95 (F := Ideal) (up X) (up1 G) (up WI) (up WO) (up D) := by
  refine (dats m 0 c).arrAt_eq_of_after_last 13 tl (by decide +kernel) _ fun j => ?_
  blk_simp
  rw [after0_13, sums_C tl (by decide) (by decide), dbs_last A, sums_up]
  idx_vars j
  refine Eq.trans ?_ (v95_at X D G WI WO _ _).symm
  exact congrArg (fun r : ℝ => (r : EReal)) Finset.sum_comm

theorem res_lg : (dats m 0 c).arrAt 14 cfg0.N
    = val_main_v173 (F := Ideal) (up X) (up1 G) (up WI) (up3 WS) (up WO) (up D) := by
  refine (dats m 0 c).arrAt_eq_of_after_last 14 tl (by decide +kernel) _ fun j => ?_
  blk_simp
  rw [after0_14, dlg_last A]
  idx_vars j
  exact (v173_at X D G WI WS WO _ _).symm

theorem res_lb : (dats m 0 c).arrAt 15 cfg0.N
    = val_main_v174 (F := Ideal) (up X) (up1 G) (up WI) (up3 WS) (up WO) (up D) := by
  refine (dats m 0 c).arrAt_eq_of_after_last 15 tl (by decide +kernel) _ fun j => ?_
  blk_simp
  rw [after0_15, dlb_last A]
  idx_vars j
  exact (v174_at X D G WI WS WO _ _).symm

theorem res_g : (dats m 0 c).arrAt 16 cfg0.N
    = val_main_v175 (F := Ideal) (up X) (up1 G) (up WI) (up1 LG) (up1 LB) (up3 WS) (up BS) (up WO) (up D) := by
  refine (dats m 0 c).arrAt_eq_of_after_last 16 tl (by decide +kernel) _ fun j => ?_
  blk_simp
  rw [after0_16, dg_last A]
  idx_vars j
  exact (v175_at X D G WI LG LB WS BS WO _ _).symm

theorem res_wi : (dats m 0 c).arrAt 17 cfg0.N
    = val_main_v178 (F := Ideal) (up X) (up1 G) (up WI) (up1 LG) (up1 LB) (up3 WS) (up BS) (up WO) (up D) := by
  refine (dats m 0 c).arrAt_eq_of_after_last 17 tl (by decide +kernel) _ fun j => ?_
  blk_simp
  rw [after0_17, in_blocks A]
  idx_vars j
  exact (v178_at X D G WI LG LB WS BS WO _ _ _).symm

theorem res_wo : (dats m 0 c).arrAt 18 cfg0.N
    = val_main_v180 (F := Ideal) (up X) (up1 G) (up WI) (up1 LG) (up1 LB) (up3 WS) (up BS) (up D) := by
  refine (dats m 0 c).arrAt_eq_of_after_last 18 tl (by decide +kernel) _ fun j => ?_
  blk_simp
  rw [after0_18, out_C tl (by decide) (by decide), out_last A, post_up]
  idx_vars j
  exact (v180_at X D G WI LG LB WS BS _ _ _).symm
end

end Cert.Sgu

end
-- ==== Proof.SguPre.lean ====
/- The precondition of the gating's call read back: its float arguments are the images of real arrays. -/
module

public import proofs.«01_k».proof.Proof.SguBlk
public import proofs.«01_k».proof.Proof.XattnPre
public import proofs.«01_k».proof.Proof.Gen.Pre_finite_sgu
public import Idealize.ShloMosaic.Lib.ReduceAll

@[expose] public section

set_option maxRecDepth 16384

noncomputable section

namespace Cert.RealLift

open Idealize.ShloMosaic

/-- An array of rank three of which every element is smaller than infinity is the image of a real one. -/
theorem up3_of_finite {a b c : ℕ} {t u : Shape} [Subsingleton u.Idx] (dims : Fin t.rank → Fin 3) (hb : t.BroadcastsInDim ⟨3, ![a, b, c]⟩ dims)
    (x : FVec Ideal ⟨3, ![a, b, c]⟩ .f32) {axes : List (Fin 3)} (hr : (⟨3, ![a, b, c]⟩ : Shape).ReducesTo axes u) {w : Shape} (init : w.Idx → BitVec 1) (hu : 0 < w.numel) (j : u.Idx)
    (h : Host.reduce IntOp.andi (cmpf .olt (Host.absf x) (broadcastInDim ⟨3, ![a, b, c]⟩ dims hb (constant (F := Ideal) t .f32 0x7F800000#32))) init hr hu j = 1#1) :
    ∃ X : Fin a → Fin b → Fin c → ℝ, x = Cert.Sgu.up3 X := by
  obtain ⟨r, hx⟩ := exists_real dims hb x (Host.reduce_andi_all _ _ hr hu j h)
  refine ⟨fun p q s => r (ix3 p q s), hx.trans (funext fun i => ?_)⟩
  exact congrArg (fun k => ((r k : ℝ) : EReal)) (funext fun k => by fin_cases k <;> rfl)

end Cert.RealLift

namespace Cert.Sgu

open Cert.Kernel6Ideal Cert.Kernel6Ideal.Gen
open Idealize.ShloMosaic Idealize.ShloMosaic.TcCoe Idealize.SL.Sem Cert.RealLift

variable (m : (ℓ : Loc nD τ sig) → Buf (Elt Ideal) ℓ)

instance : Subsingleton S_.Idx := ⟨fun a b => funext fun i => i.elim0⟩

/-- Under the precondition the arguments are the images of real arrays. -/
theorem args_of_finite (c : Dev nD)
    (h : Cert.Pre_finite_sgu.fn (F := Ideal) (X0 m c) (X1 m c) (X2 m c) (X3 m c) (X4 m c) (X5 m c) (X6 m c) (X7 m c) (X8 m c) = fun _ => 1#1) :
    ∃ X D G WI LG LB WS BS WO, Args m c X D G WI LG LB WS BS WO := by
  have e := congrFun h (Shape.Idx.first Cert.Pre_finite_sgu.Gen.h_S_)
  unfold Cert.Pre_finite_sgu.fn Cert.Pre_finite_sgu.fn_part1 Cert.Pre_finite_sgu.fn_part2 at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := up_of_finite _ _ _ _ _ _ _ e0
  obtain ⟨G, hG⟩ := up1_of_finite _ _ _ _ _ _ _ e1
  obtain ⟨WI, hWI⟩ := up_of_finite _ _ _ _ _ _ _ e2
  obtain ⟨LG, hLG⟩ := up1_of_finite _ _ _ _ _ _ _ e3
  obtain ⟨LB, hLB⟩ := up1_of_finite _ _ _ _ _ _ _ e4
  obtain ⟨WS, hWS⟩ := up3_of_finite _ _ _ _ _ _ _ e5
  obtain ⟨BS, hBS⟩ := up_of_finite _ _ _ _ _ _ _ e6
  obtain ⟨WO, hWO⟩ := up_of_finite _ _ _ _ _ _ _ e7
  obtain ⟨D, hD⟩ := up_of_finite _ _ _ _ _ _ _ e8
  exact ⟨X, D, G, WI, LG, LB, WS, BS, WO, ⟨hX, hG, hWI, hLG, hLB, hWS, hBS, hWO, hD⟩⟩

end Cert.Sgu

end
-- ==== Proof.FwdPay.lean ====
/- The attention into the memory: what the forward call computes and the reference's lines are the same sums, quotients and
exponentials at every index, whatever the arguments hold. -/
module

public import proofs.«01_k».proof.Proof.Gen.Kernel8Ideal.Value
public import Idealize.ShloMosaic.Lib.Pointwise
public import Idealize.ShloMosaic.Lib.Pipeline.ValueKit

@[expose] public section

set_option maxRecDepth 16384

noncomputable section

namespace Cert.Fwd

open Idealize.ShloMosaic Idealize.ShloMosaic.TcCoe Idealize.SL.Sem

/-! ## One row of the sequence -/

/-- A matrix from its entries. -/
def mat {a b : ℕ} (f : Fin a → Fin b → EReal) : (⟨2, ![a, b]⟩ : Shape).Idx → EReal := fun i => f (i 0) (i 1)

/-- The entries of a matrix. -/
def ent {a b : ℕ} (x : (⟨2, ![a, b]⟩ : Shape).Idx → EReal) (i : Fin a) (j : Fin b) : EReal := x (ix2 i j)

theorem mat_at {a b : ℕ} (f : Fin a → Fin b → EReal) (i : Fin a) (j : Fin b) : mat f (ix2 i j) = f i j := rfl
theorem mat_ent {a b : ℕ} (x : (⟨2, ![a, b]⟩ : Shape).Idx → EReal) : mat (ent x) = x := funext fun i => congrArg x (ix2_eta i)

/-- The reciprocal root of a row's mean square. -/
def inv (x : Fin 1024 → EReal) : EReal :=
  FloatOps.rsqrt (F := Ideal) (φ := .f32) (FloatOps.divf (F := Ideal) (φ := .f32) (∑ d, x d * x d) (Ideal.ofBits .f32 0x44800000#32) + Ideal.ofBits .f32 0x358637BD#32)

/-- A row, normalised and scaled. -/
def nrm (x g : Fin 1024 → EReal) (d : Fin 1024) : EReal := x d * inv x * g d

/-- A row times a matrix. -/
def proj (n : Fin 1024 → EReal) (W : Fin 1024 → Fin 1024 → EReal) (e : Fin 1024) : EReal := ∑ d, n d * W d e

/-- The lane of head `a`, position `d`, and back. -/
def col (a : Fin 4) (d : Fin 256) : Fin 1024 := ⟨(a : ℕ) * 256 + d, by omega⟩
def hd (e : Fin 1024) : Fin 4 := ⟨(e : ℕ) / 256, by omega⟩
def ps (e : Fin 1024) : Fin 256 := ⟨(e : ℕ) % 256, by omega⟩

theorem hd_col (a : Fin 4) (d : Fin 256) : hd (col a d) = a := Fin.ext (by simp only [hd, col]; omega)
theorem ps_col (a : Fin 4) (d : Fin 256) : ps (col a d) = d := Fin.ext (by simp only [ps, col]; omega)

/-- The weights of a row of products. -/
def soft (s : Fin 256 → EReal) (j : Fin 256) : EReal :=
  let z : Fin 256 → EReal := fun j => s j * Ideal.ofBits .f32 0x3D800000#32
  let M : EReal := Finset.univ.fold max (Ideal.ofBits .f32 0xFF800000#32) z
  FloatOps.divf (F := Ideal) (φ := .f32) (FloatOps.exp (F := Ideal) (φ := .f32) (z j - M)) (∑ l, FloatOps.exp (F := Ideal) (φ := .f32) (z l - M))

/-- The weights of one head, and the attended row. -/
def prob (q : Fin 1024 → EReal) (K : Fin 256 → Fin 1024 → EReal) (a : Fin 4) (j : Fin 256) : EReal :=
  soft (fun j => ∑ d, q (col a d) * K j (col a d)) j
def att (q : Fin 1024 → EReal) (K V : Fin 256 → Fin 1024 → EReal) (e : Fin 1024) : EReal :=
  ∑ j, prob q K (hd e) j * V j (col (hd e) (ps e))

section
open Cert.Kernel8Ideal Cert.Kernel8Ideal.Gen

variable (A : Fin 1024 → Fin 256 → EReal) (B : Fin 256 → Fin 256 → EReal)

theorem mul_t : (matmul (φ₁ := .bf16) (φ₂ := .bf16) dot_S1024x256_S256x256_S1024x256_1_1_0_0_n_n none (mat A : FVec Ideal S1024x256 .bf16) (mat B : FVec Ideal S256x256 .bf16)
    (constant S1024x256 .f32 0x00000000#32) : FVec Ideal S1024x256 .f32) = mat fun p j => ∑ d, A p d * B j d := by
  funext i
  idx_vars i
  pointwise [mat]

theorem mul_n : (matmul (φ₁ := .bf16) (φ₂ := .bf16) dot_S1024x256_S256x256_S1024x256_1_0_0_1_n_n none (mat A : FVec Ideal S1024x256 .bf16) (mat B : FVec Ideal S256x256 .bf16)
    (constant S1024x256 .f32 0x00000000#32) : FVec Ideal S1024x256 .f32) = mat fun p d => ∑ j, A p j * B j d := by
  funext i
  idx_vars i
  pointwise [mat]

theorem mul_w (A : Fin 1024 → Fin 1024 → EReal) (B : Fin 1024 → Fin 1024 → EReal) : (matmul (φ₁ := .bf16) (φ₂ := .bf16) dot_S1024x1024_S1024x1024_S1024x1024_1_0_0_1_n_n none (mat A : FVec Ideal S1024x1024 .bf16) (mat B : FVec Ideal S1024x1024 .bf16)
    (constant S1024x1024 .f32 0x00000000#32) : FVec Ideal S1024x1024 .f32) = mat fun p d => ∑ j, A p j * B j d := by
  funext i
  idx_vars i
  pointwise [mat]

/-- The softmax of scaled products. -/
theorem soft_mat : (divf
    (exp (subf (mulf (mat A : FVec Ideal S1024x256 .f32) (broadcast S1024x256 (Scalar.ofBits (F := Ideal) .f32 0x3D800000#32)))
       (broadcastTo S1024x256 (shapeCast S1024x1 (multiReduction .maximumf [1] S1024 (mulf (mat A : FVec Ideal S1024x256 .f32) (broadcast S1024x256 (Scalar.ofBits .f32 0x3D800000#32))) 0xFF800000#32 reduces_S1024x256_S1024 (.inl rfl) rfl) shapeCasts_S1024_S1024x1) broadcasts_S1024x1_S1024x256)))
    (broadcastTo S1024x256 (shapeCast S1024x1 (multiReduction .add [1] S1024 (exp (subf (mulf (mat A : FVec Ideal S1024x256 .f32) (broadcast S1024x256 (Scalar.ofBits (F := Ideal) .f32 0x3D800000#32)))
       (broadcastTo S1024x256 (shapeCast S1024x1 (multiReduction .maximumf [1] S1024 (mulf (mat A : FVec Ideal S1024x256 .f32) (broadcast S1024x256 (Scalar.ofBits .f32 0x3D800000#32))) 0xFF800000#32 reduces_S1024x256_S1024 (.inl rfl) rfl) shapeCasts_S1024_S1024x1) broadcasts_S1024x1_S1024x256))) 0x00000000#32 reduces_S1024x256_S1024 (.inl rfl) rfl) shapeCasts_S1024_S1024x1) broadcasts_S1024x1_S1024x256) : FVec Ideal S1024x256 .f32) = mat fun p => soft (A p) := by
  funext i
  idx_vars i
  pointwise [mat, soft]

theorem inv_mat (X : Fin 1024 → Fin 1024 → EReal) (g : Fin 1024 → EReal) :
    (truncf (F := Ideal) .bf16 (mulf (mulf (mat X : FVec Ideal S1024x1024 .f32) (broadcastTo S1024x1024 (rsqrt (addf (divf (shapeCast S1024x1 (multiReduction .add [1] S1024 (mulf (mat X : FVec Ideal S1024x1024 .f32) (mat X : FVec Ideal S1024x1024 .f32)) 0x00000000#32 reduces_S1024x1024_S1024 (.inl rfl) rfl) shapeCasts_S1024_S1024x1)
      (broadcast S1024x1 (Scalar.ofBits (F := Ideal) .f32 0x44800000#32))) (broadcast S1024x1 (Scalar.ofBits (F := Ideal) .f32 0x358637BD#32)))) broadcasts_S1024x1_S1024x1024))
      (broadcastTo S1024x1024 (shapeCast S1x1024 (mat fun _ : Fin 1 => g : FVec Ideal S1x1024 .f32) shapeCasts_S1x1024_S1x1024) broadcasts_S1x1024_S1024x1024)) bitsLt_bf16_f32 : FVec Ideal S1024x1024 .bf16) = mat fun p => nrm (X p) g := by
  funext i
  idx_vars i
  pointwise [mat, nrm, inv]

/-- A packed quarter of the weights, put back together. -/
def qrt (W : Fin 1024 → Fin 1024 → EReal) : S4x256x1024.Idx → EReal := fun i => W (col (i 0) (i 1)) (i 2)

theorem unpack (W : Fin 1024 → Fin 1024 → EReal) (h) :
    (shapeCast S1024x1024 (qrt W : FVec Ideal S4x256x1024 .bf16) h : FVec Ideal S1024x1024 .bf16) = mat W := by
  funext i
  idx_vars i
  pointwise [qrt]
  refine congrArg (W · _) (Fin.ext ?_)
  show (i0 : ℕ) / 256 * 256 + (i0 : ℕ) % 256 = i0
  omega

variable (X : Fin 1024 → Fin 1024 → EReal) (g : Fin 1024 → EReal) (K V : Fin 256 → Fin 1024 → EReal) (W : Fin 1024 → Fin 1024 → EReal)

theorem slice_mat (q : Fin 1024 → Fin 1024 → EReal) (o : ℕ) (a : Fin 4) (e : o = a * 256) (h) :
    (extractStridedSlice S1024x256 ![0, o] (mat q : FVec Ideal S1024x1024 .bf16) h : FVec Ideal S1024x256 .bf16) = mat fun p d => q p (col a d) := by
  subst e
  funext i
  idx_vars i
  pointwise []
  rfl

theorem ld_mat (o : ℕ) (a : Fin 4) (e : o = a * 256) (h) :
    (View.ld (Val := Elt Ideal) (e' := .bf16) (mat K) (Rect.unit (s := S256x1024) ![0, o] ![256, 256] h) : FVec Ideal S256x256 .bf16) = mat fun j d => K j (col a d) := by
  subst e
  funext i
  idx_vars i
  pointwise []
  rfl

theorem mat_col {n : ℕ} (f : Fin n → Fin 1024 → EReal) (a : Fin 4) {x : (⟨2, ![n, 256]⟩ : Shape).Idx} {y : (⟨2, ![n, 1024]⟩ : Shape).Idx}
    (h0 : (y 0 : ℕ) = x 0) (h1 : (y 1 : ℕ) = (a : ℕ) * 256 + x 1) : mat (fun p d => f p (col a d)) x = mat f y :=
  congr (congrArg f (Fin.ext h0.symm)) (Fin.ext h1.symm)

/-- The four strips a point stores side by side. -/
theorem strips (f : Fin 1024 → Fin 1024 → EReal) :
    View.canon (Val := Elt Ideal) (s := S1024x1024) (e := .bf16)
      [⟨Rect.unit ![0, 768] ![1024, 256] inb_S1024x1024_S1024x256_0_768, mat fun p d => f p (col 3 d)⟩,
       ⟨Rect.unit ![0, 512] ![1024, 256] inb_S1024x1024_S1024x256_0_512, mat fun p d => f p (col 2 d)⟩,
       ⟨Rect.unit ![0, 256] ![1024, 256] inb_S1024x1024_S1024x256_0_256, mat fun p d => f p (col 1 d)⟩,
       ⟨Rect.unit ![0, 0] ![1024, 256] inb_S1024x1024_S1024x256_0_0, mat fun p d => f p (col 0 d)⟩] = mat f := by
  funext y
  canon_tiles x hx
  · exact mat_col f 3 hx0 (by rw [hx1]; rfl)
  · exact mat_col f 2 hx0 (by rw [hx1]; rfl)
  · exact mat_col f 1 hx0 (by rw [hx1]; rfl)
  · exact mat_col f 0 hx0 (by rw [hx1]; simp)

theorem stage {κ : Kind} {sp : Space} (v : View sig κ sp S1024x1024 .bf16) (f : Fin 1024 → Fin 1024 → EReal) :
    v.readCov (Val := Elt Ideal)
      [⟨Rect.unit ![0, 768] ![1024, 256] inb_S1024x1024_S1024x256_0_768, mat fun p d => f p (col 3 d)⟩,
       ⟨Rect.unit ![0, 512] ![1024, 256] inb_S1024x1024_S1024x256_0_512, mat fun p d => f p (col 2 d)⟩,
       ⟨Rect.unit ![0, 256] ![1024, 256] inb_S1024x1024_S1024x256_0_256, mat fun p d => f p (col 1 d)⟩,
       ⟨Rect.unit ![0, 0] ![1024, 256] inb_S1024x1024_S1024x256_0_0, mat fun p d => f p (col 0 d)⟩]
      (Rect.unit (s := S1024x1024) ![0, 0] ![1024, 1024] inb_S1024x1024_S1024x1024_0_0).toLoadRect = mat f := by
  rw [View.readCov_eq_canon', strips]
  exact View.ld_unit_zero (Val := Elt Ideal) (e := .bf16) (S := S1024x1024) (off := ![0, 0]) (by funext a; fin_cases a <;> rfl) _ (mat f)

theorem trunc_id {s : Shape} (x : FVec Ideal s .f32) (h) : truncf (F := Ideal) .bf16 x h = x := rfl

/-- One head's strip of the keys or values. -/
abbrev St (a : Fin 4) : Fin 256 → Fin 256 → EReal := fun j d => K j (col a d)

theorem query_mat : k0_pay2 (F := Ideal) (mat X) (mat fun _ : Fin 1 => g) (qrt W) = mat fun p => proj (nrm (X p) g) W := by
  rw [k0_pay2, inv_mat, shapeCast_self, unpack, trunc_id, mul_w]
  rfl

variable (q : Fin 1024 → Fin 1024 → EReal)

theorem score_mat (a : Fin 4) : (matmul (φ₁ := .bf16) (φ₂ := .bf16) dot_S1024x256_S256x256_S1024x256_1_1_0_0_n_n none (mat fun p d => q p (col a d)) (mat (St K a))
    (constant S1024x256 .f32 0x00000000#32) : FVec Ideal S1024x256 .f32) = mat fun p j => ∑ d, q p (col a d) * K j (col a d) := mul_t _ _

theorem att_mat (a : Fin 4) : (matmul (φ₁ := .bf16) (φ₂ := .bf16) dot_S1024x256_S256x256_S1024x256_1_0_0_1_n_n none (mat fun p => prob (q p) K a) (mat (St V a))
    (constant S1024x256 .f32 0x00000000#32) : FVec Ideal S1024x256 .f32) = mat fun p d => att (q p) K V (col a d) := by
  rw [mul_n]
  congr 1
  funext p d
  rw [att, hd_col, ps_col]

theorem head0 : k0_pay4 (F := Ideal) (k0_pay3 (mat X) (mat fun _ : Fin 1 => g) (qrt W) (mat (St K 0))) (mat (St V 0))
    = mat fun p d => att (proj (nrm (X p) g) W) K V (col 0 d) := by
  rw [k0_pay4, k0_pay3, query_mat, shapeCast_self, shapeCast_self, shapeCast_self, slice_mat _ 0 0 rfl, score_mat, soft_mat, trunc_id, trunc_id]
  exact att_mat K V _ 0

theorem head1 : k0_pay5 (F := Ideal) (mat q) (mat (St K 1)) (mat (St V 1)) = mat fun p d => att (q p) K V (col 1 d) := by
  rw [k0_pay5, shapeCast_self, shapeCast_self, shapeCast_self, slice_mat _ 256 1 rfl, score_mat, soft_mat, trunc_id, trunc_id]
  exact att_mat K V _ 1

theorem head2 : k0_pay8 (F := Ideal) (k0_pay6 (mat q) (mat (St K 2))) (k0_pay7 (mat q) (mat (St K 2))) (mat (St V 2))
    = mat fun p d => att (q p) K V (col 2 d) := by
  rw [k0_pay8, k0_pay7, k0_pay6, shapeCast_self, shapeCast_self, shapeCast_self, slice_mat _ 512 2 rfl, score_mat, soft_mat, trunc_id, trunc_id]
  exact att_mat K V _ 2

theorem head3 : k0_pay9 (F := Ideal) (mat q) (mat (St K 3)) (mat (St V 3)) = mat fun p d => att (q p) K V (col 3 d) := by
  rw [k0_pay9, shapeCast_self, shapeCast_self, shapeCast_self, slice_mat _ 768 3 rfl, score_mat, soft_mat, trunc_id, trunc_id]
  exact att_mat K V _ 3

theorem out_mat (o : Fin 1024 → Fin 1024 → EReal) : k0_pay1 (F := Ideal) (mat X) (mat o) (qrt W) = mat fun p d => X p d + proj (o p) W d := by
  rw [k0_pay1, shapeCast_self, unpack, mul_w]
  rfl
end

end Cert.Fwd

end
-- ==== Proof.FwdRef.lean ====
/- The reference's lines of the attention into the memory, at every index. -/
module

public import proofs.«01_k».proof.Proof.Gen.Reference8Ideal.Read
public import proofs.«01_k».proof.Proof.FwdPay
public import proofs.«01_k».proof.Proof.Real

@[expose] public section

set_option maxRecDepth 16384

noncomputable section

namespace Cert.Fwd

open Idealize.ShloMosaic Idealize.ShloMosaic.TcCoe Idealize.SL.Sem
open Cert.Reference8Ideal.Gen Cert.Reference8Ideal Cert.Reference8Ideal.Read

/-- The entries of a vector. -/
def ent1 {a : ℕ} (x : (⟨1, ![a]⟩ : Shape).Idx → EReal) (i : Fin a) : EReal := x (ix1 i)

variable (x0 : FVec Ideal S8192x1024 .f32) (x1 : FVec Ideal S1024 .f32) (x2 x3 : FVec Ideal S256x1024 .f32) (x4 x5 : FVec Ideal S1024x1024 .f32)

/-- The queries. -/
abbrev Q (s : Fin 8192) : Fin 1024 → EReal := proj (nrm (ent x0 s) (ent1 x1)) (ent x4)

theorem v7_at (s : Fin 8192) (z : Fin 1) : val_main_v7 (F := Ideal) x0 (ix2 s z) = inv (ent x0 s) := by
  pointwise [val_main_v7, val_main_v6, val_main_v5, val_main_v4, val_main_v3, val_main_v2, val_main_v1, val_main_v0, val_main_cst,
    val_main_cst_0, val_main_cst_1, inv, ent]
  try rfl

theorem v12_at (s : Fin 8192) (d : Fin 1024) : val_main_v12 (F := Ideal) x0 x1 (ix2 s d) = nrm (ent x0 s) (ent1 x1) d := by
  pointwise [val_main_v12, val_main_v11, val_main_v10, val_main_v9, val_main_v8]
  rw [v7_at]; rfl

theorem v13_at (s : Fin 8192) (e : Fin 1024) : val_main_v13 (F := Ideal) x0 x1 x4 (ix2 s e) = Q x0 x1 x4 s e := by
  pointwise [val_main_v13]
  simp only [v12_at]; rfl

theorem v14_at (s : Fin 8192) (a : Fin 4) (d : Fin 256) : val_main_v14 (F := Ideal) x0 x1 x4 (ix3 s a d) = Q x0 x1 x4 s (col a d) := by
  pointwise [val_main_v14]
  exact v13_at x0 x1 x4 s (col a d)

theorem v15_at (j : Fin 256) (a : Fin 4) (d : Fin 256) : val_main_v15 (F := Ideal) x2 (ix3 j a d) = ent x2 j (col a d) := by
  pointwise [val_main_v15]
  rfl

theorem v16_at (j : Fin 256) (a : Fin 4) (d : Fin 256) : val_main_v16 (F := Ideal) x3 (ix3 j a d) = ent x3 j (col a d) := by
  pointwise [val_main_v16]
  rfl

theorem v18_at (i) : val_main_v18 (F := Ideal) i = Ideal.ofBits .f32 0x3D800000#32 := by
  pointwise [val_main_v18, val_main_cst_2]
  try rfl

/-- A score, scaled. -/
abbrev Z (s : Fin 8192) (a : Fin 4) (j : Fin 256) : EReal := (∑ d, Q x0 x1 x4 s (col a d) * ent x2 j (col a d)) * Ideal.ofBits .f32 0x3D800000#32

theorem v19_at (a : Fin 4) (s : Fin 8192) (j : Fin 256) : val_main_v19 (F := Ideal) x0 x1 x2 x4 (ix3 a s j) = Z x0 x1 x2 x4 s a j := by
  pointwise [val_main_v19, val_main_v17]
  rw [v18_at]
  simp only [v14_at, v15_at]

/-- A maximum along the last of three axes. -/
theorem max_at (X : FVec Ideal S4x8192x256 .f32) (b : FVec Ideal S_ .f32) (a : Fin 4) (s : Fin 8192) :
    Host.reduce FloatOps.maximumf X b reducesTo_S4x8192x256_S4x8192_d2 h_S_ (ix2 a s)
      = Finset.univ.fold max (b (Shape.Idx.first h_S_)) (fun k : Fin 256 => X (ix3 a s k)) := by
  pointwise []

theorem v22_at (a : Fin 4) (s : Fin 8192) : val_main_v22 (F := Ideal) x0 x1 x2 x4 (ix2 a s)
    = Finset.univ.fold max (Ideal.ofBits .f32 0xFF800000#32) (Z x0 x1 x2 x4 s a) := by
  rw [val_main_v22_apply, val_main_v21_apply, val_main_cst_4_apply, Ideal.ofBits_def, Cert.RealLift.ofBits_bot]
  refine (max_eq_right bot_le).trans ((max_at _ _ a s).trans ?_)
  rw [val_main_cst_3_apply, Ideal.ofBits_def, Cert.RealLift.ofBits_bot]
  simp only [v19_at]

theorem v26_at (a : Fin 4) (s : Fin 8192) (j : Fin 256) : val_main_v26 (F := Ideal) x0 x1 x2 x4 (ix3 a s j)
    = FloatOps.exp (F := Ideal) (φ := .f32) (Z x0 x1 x2 x4 s a j - Finset.univ.fold max (Ideal.ofBits .f32 0xFF800000#32) (Z x0 x1 x2 x4 s a)) := by
  pointwise [val_main_v26, val_main_v25, val_main_v24, val_main_v23]
  rw [v22_at, v19_at]

theorem v30_at (a : Fin 4) (s : Fin 8192) (j : Fin 256) : val_main_v30 (F := Ideal) x0 x1 x2 x4 (ix3 a s j) = prob (Q x0 x1 x4 s) (ent x2) a j := by
  pointwise [val_main_v30, val_main_v29, val_main_v28, val_main_v27, val_main_cst_5]
  simp only [v26_at]
  rfl

theorem v33_at (s : Fin 8192) (e : Fin 1024) : val_main_v33 (F := Ideal) x0 x1 x2 x3 x4 (ix2 s e) = att (Q x0 x1 x4 s) (ent x2) (ent x3) e := by
  pointwise [val_main_v33, val_main_v32, val_main_v31]
  simp only [v30_at, v16_at]
  exact Finset.sum_congr rfl fun j _ => mul_comm _ _

theorem v35_at (s : Fin 8192) (d : Fin 1024) : val_main_v35 (F := Ideal) x0 x1 x2 x3 x4 x5 (ix2 s d)
    = ent x0 s d + proj (att (Q x0 x1 x4 s) (ent x2) (ent x3)) (ent x5) d := by
  pointwise [val_main_v35, val_main_v34]
  simp only [v33_at]
  rfl

theorem v37_at (s : Fin 8192) (e : Fin 1024) : val_main_v37 (F := Ideal) x0 x1 x4 (ix2 s e) = Q x0 x1 x4 s e := by
  pointwise [val_main_v37, val_main_v36]
  simp only [v12_at]
  rfl

end Cert.Fwd

end
-- ==== Proof.Fwd.lean ====
/- The attention into the memory: the two arrays the call returns are the ones the reference returns, whatever the arguments hold. -/
module

public import proofs.«01_k».proof.Proof.FwdRef
public import Idealize.ShloMosaic.Lib.Claim
public import Idealize.ShloMosaic.Lib.Pipeline.ReadBack

@[expose] public section

set_option maxRecDepth 16384

noncomputable section

namespace Cert.Fwd

open Cert.Kernel8Ideal Cert.Kernel8Ideal.Gen
open Idealize.ShloMosaic Idealize.ShloMosaic.TcCoe Idealize.SL.Sem

variable (m : (ℓ : Loc nD τ sig) → Buf (Elt Ideal) ℓ) (c : Dev nD)

abbrev Y0 : FVec Ideal S8192x1024 .f32 := m ((c.tc : Thread nD τ).loc main_arg0)
abbrev Y1 : FVec Ideal S1024 .f32 := m ((c.tc : Thread nD τ).loc main_arg1)
abbrev Y2 : FVec Ideal S256x1024 .f32 := m ((c.tc : Thread nD τ).loc main_arg2)
abbrev Y3 : FVec Ideal S256x1024 .f32 := m ((c.tc : Thread nD τ).loc main_arg3)
abbrev Y4 : FVec Ideal S1024x1024 .f32 := m ((c.tc : Thread nD τ).loc main_arg4)
abbrev Y5 : FVec Ideal S1024x1024 .f32 := m ((c.tc : Thread nD τ).loc main_arg5)
abbrev Y6 : FVec Ideal S1024x1024 .f32 := m ((c.tc : Thread nD τ).loc main_arg6)
abbrev Y7 : FVec Ideal S1024x1024 .f32 := m ((c.tc : Thread nD τ).loc main_arg7)

theorem idx : ∀ t : Fin cfg0.N, win0_0.index t = ![(t : ℕ), 0] ∧ win0_1.index t = ![0, 0] ∧ win0_2.index t = ![0, 0]
    ∧ win0_3.index t = ![0, 0] ∧ win0_4.index t = ![0, 0, 0] ∧ win0_5.index t = ![0, 1, 0] ∧ win0_6.index t = ![(t : ℕ), 0] ∧ win0_7.index t = ![(t : ℕ), 0] :=
  (by decide +kernel : ∀ t : Fin grid0.N, _)

/-- Four square weights packed quarter by quarter. -/
def packed (x0 x1 x2 x3 : FVec Ideal S1024x1024 .f32) : FVec Ideal S4x1024x1024 .bf16 :=
  truncf (F := Ideal) .bf16 (concatenate S4x1024x1024 1
      [⟨S4x256x1024, shapeCast S4x256x1024 x0 shapeCasts_S1024x1024_S4x256x1024⟩,
       ⟨S4x256x1024, shapeCast S4x256x1024 x1 shapeCasts_S1024x1024_S4x256x1024⟩,
       ⟨S4x256x1024, shapeCast S4x256x1024 x2 shapeCasts_S1024x1024_S4x256x1024⟩,
       ⟨S4x256x1024, shapeCast S4x256x1024 x3 shapeCasts_S1024x1024_S4x256x1024⟩]
      concatenates_S4x256x1024_S4x256x1024_S4x256x1024_S4x256x1024_S4x1024x1024_d1) bitsLt_bf16_f32

theorem packed_at0 (x0 x1 x2 x3 : FVec Ideal S1024x1024 .f32) (a : Fin 4) (b : Fin 256) (d : Fin 1024) :
    packed x0 x1 x2 x3 (ix3 a ⟨b, by omega⟩ d) = x0 (ix2 (col a b) d) := by
  pointwise [packed]
  blk_point [col]

theorem packed_at1 (x0 x1 x2 x3 : FVec Ideal S1024x1024 .f32) (a : Fin 4) (b : Fin 256) (d : Fin 1024) :
    packed x0 x1 x2 x3 (ix3 a ⟨256 + b, by omega⟩ d) = x1 (ix2 (col a b) d) := by
  pointwise [packed]
  blk_point [col]
  all_goals (exfalso; omega)

theorem pack_eq : V m c main_v5 = packed (Y4 m c) (Y5 m c) (Y6 m c) (Y7 m c) := by
  unfold V
  after_results
  rfl

/-- The rows of one point of the grid. -/
abbrev rows (f : Fin 8192 → Fin 1024 → EReal) (t : Fin cfg0.N) : Fin 1024 → Fin 1024 → EReal :=
  fun p => f ⟨(t : ℕ) * 1024 + p, by have := t.isLt; have e : cfg0.N = 8 := N_0; omega⟩

variable (t : Fin cfg0.N)

theorem b0 : (iblk m c 0 t : FVec Ideal S1024x1024 .f32) = mat (rows (ent (Y0 m c)) t) := by
  have e : (mat (rows (ent (Y0 m c)) t) : FVec Ideal S1024x1024 .f32) = fun i => Y0 m c (ix2 ⟨(t : ℕ) * 1024 + (i 0), by have := t.isLt; have e : cfg0.N = 8 := N_0; have := (i 0).isLt; simp at this; omega⟩ (i 1)) := rfl
  rw [e]
  funext j
  blk_ext [iblk, Gen.V, idx t]

theorem b1 : (iblk m c 1 t : FVec Ideal S1x1024 .f32) = mat fun _ : Fin 1 => ent1 (Y1 m c) := by
  have e : Gen.V m c main_v6 = shapeCast S1x1024 (Y1 m c) shapeCasts_S1024_S1x1024 := by unfold Gen.V; after_results; rfl
  have e' : (mat fun _ : Fin 1 => ent1 (Y1 m c) : FVec Ideal S1x1024 .f32) = Gen.V m c main_v6 := by
    rw [e]
    funext i
    idx_vars i
    pointwise [mat, ent1]
  rw [e']
  funext j
  blk_ext [iblk, idx t]

theorem b2 : (iblk m c 2 t : FVec Ideal S256x1024 .bf16) = mat (ent (Y2 m c)) := by
  have e : Gen.V m c main_v7 = mat (ent (Y2 m c)) := by
    rw [mat_ent]; unfold Gen.V; after_results; rfl
  rw [← e]
  funext j
  blk_ext [iblk, idx t]

theorem b3 : (iblk m c 3 t : FVec Ideal S256x1024 .bf16) = mat (ent (Y3 m c)) := by
  have e : Gen.V m c main_v8 = mat (ent (Y3 m c)) := by
    rw [mat_ent]; unfold Gen.V; after_results; rfl
  rw [← e]
  funext j
  blk_ext [iblk, idx t]

theorem b4 : (iblk m c 4 t : FVec Ideal S4x256x1024 .bf16) = qrt (ent (Y4 m c)) := by
  have e : (qrt (ent (Y4 m c)) : FVec Ideal S4x256x1024 .bf16) = fun i => Gen.V m c main_v5 (ix3 (i 0) ⟨(i 1), by have := (i 1).isLt; simp at this; omega⟩ (i 2)) := by
    funext i
    rw [pack_eq]
    exact (packed_at0 _ _ _ _ (i 0) (i 1) (i 2)).symm
  rw [e]
  funext j
  blk_ext [iblk, idx t]

theorem b5 : (iblk m c 5 t : FVec Ideal S4x256x1024 .bf16) = qrt (ent (Y5 m c)) := by
  have e : (qrt (ent (Y5 m c)) : FVec Ideal S4x256x1024 .bf16) = fun i => Gen.V m c main_v5 (ix3 (i 0) ⟨256 + (i 1), by have := (i 1).isLt; simp at this; omega⟩ (i 2)) := by
    funext i
    rw [pack_eq]
    exact (packed_at1 _ _ _ _ (i 0) (i 1) (i 2)).symm
  rw [e]
  funext j
  blk_ext [iblk, idx t]

/-- What a point leaves in the two results. -/
theorem rows_at : (outsAt0 m c t).1 = mat fun p d => rows (ent (Y0 m c)) t p d
    + proj (att (rows (Q (Y0 m c) (Y1 m c) (Y4 m c)) t p) (ent (Y2 m c)) (ent (Y3 m c))) (ent (Y5 m c)) d := by
  unfold outsAt0
  frame_out
  rw [b0, b1, b2, b3, b4, b5]
  simp only [ld_mat _ 0 0 rfl, ld_mat _ 256 1 rfl, ld_mat _ 512 2 rfl, ld_mat _ 768 3 rfl, query_mat, head0, head1, head2, head3]
  rw [stage _ (fun p => att (rows (Q (Y0 m c) (Y1 m c) (Y4 m c)) t p) (ent (Y2 m c)) (ent (Y3 m c))), out_mat]

theorem query_at : (outsAt0 m c t).2 = mat (rows (Q (Y0 m c) (Y1 m c) (Y4 m c)) t) := by
  unfold outsAt0
  frame_out
  rw [b0, b1, b4, query_mat]

open Cert.Reference8Ideal.Read

theorem res_rows : (dats m 0 c).arrAt 6 cfg0.N
    = val_main_v35 (F := Ideal) (Y0 m c) (Y1 m c) (Y2 m c) (Y3 m c) (Y4 m c) (Y5 m c) := by
  refine (dats m 0 c).arrAt_eq_of_covers 6 _ (by decide +kernel) fun t hf y => ?_
  blk_simp
  rw [after0_6, rows_at m c t]
  obtain ⟨y0, y1, rfl⟩ : ∃ (a : Fin 1024) (b : Fin 1024), y = ix2 a b := ⟨y 0, y 1, (ix2_eta y).symm⟩
  have hs : (t : ℕ) * 1024 + (y0 : ℕ) < 8192 := by have := t.isLt; have e : cfg0.grid.N = 8 := N_0; omega
  refine (v35_at (Y0 m c) (Y1 m c) (Y2 m c) (Y3 m c) (Y4 m c) (Y5 m c) ⟨(t : ℕ) * 1024 + y0, hs⟩ y1).symm.trans ?_
  blk_ext [idx t]

theorem res_query : (dats m 0 c).arrAt 7 cfg0.N = val_main_v37 (F := Ideal) (Y0 m c) (Y1 m c) (Y4 m c) := by
  refine (dats m 0 c).arrAt_eq_of_covers 7 _ (by decide +kernel) fun t hf y => ?_
  blk_simp
  rw [after0_7, query_at m c t]
  obtain ⟨y0, y1, rfl⟩ : ∃ (a : Fin 1024) (b : Fin 1024), y = ix2 a b := ⟨y 0, y 1, (ix2_eta y).symm⟩
  have hs : (t : ℕ) * 1024 + (y0 : ℕ) < 8192 := by have := t.isLt; have e : cfg0.grid.N = 8 := N_0; omega
  refine (v37_at (Y0 m c) (Y1 m c) (Y4 m c) ⟨(t : ℕ) * 1024 + y0, hs⟩ y1).symm.trans ?_
  blk_ext [idx t]

end Cert.Fwd

end
-- ==== Proof.lean ====
/- Every claim of `Cert.Claim`, from the generated runs and the value modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Kv
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Pre_finite_ffn
public import proofs.«01_k».proof.Proof.Fdx
public import proofs.«01_k».proof.Proof.FdxPre
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Pre_finite_loss
public import proofs.«01_k».proof.Proof.Loss
public import proofs.«01_k».proof.Proof.LossPre
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Pre_finite_mix
public import proofs.«01_k».proof.Proof.Mix
public import proofs.«01_k».proof.Proof.MixPre
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.Gen.Pre_finite_xattn
public import proofs.«01_k».proof.Proof.Gen.On_written_qo
public import proofs.«01_k».proof.Proof.Xattn
public import proofs.«01_k».proof.Proof.XattnPre
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.Gen.Pre_finite_sgu
public import proofs.«01_k».proof.Proof.Sgu
public import proofs.«01_k».proof.Proof.SguPre
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.Fwd
public import Idealize.ShloMosaic.Lib.Claim

@[expose] public section

set_option maxRecDepth 16384
set_option maxHeartbeats 4000000

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Pre_finite_ffn.Gen.facts, Cert.Pre_finite_loss.Gen.facts, Cert.Pre_finite_mix.Gen.facts, Cert.Pre_finite_xattn.Gen.facts, Cert.Pre_finite_sgu.Gen.facts, Cert.On_written_qo.Gen.facts,
   fun m ρ _ => Cert.Kernel.Gen.frame m ρ,
   fun m ρ _ => Cert.KernelIdeal.Gen.frame m ρ,
   fun m ρ _ => (θ_run Cert.ReferenceIdeal.defs _ _).mono (fun r h => ⟨fun c => (h c).2.2, sem_eq_zero_of_no_sems (by decide) r.2⟩) (Cert.ReferenceIdeal.Value.run m ρ),
   fun m ρ _ => Cert.Kernel2.Gen.frame m ρ,
   fun m ρ _ => Cert.Kernel2Ideal.Gen.frame m ρ,
   fun m ρ _ => Cert.Kernel2Ideal.Gen.frame m ρ,
   fun m ρ _ => (θ_run Cert.Reference2Ideal.defs _ _).mono (fun r h => ⟨fun c => (h c).2.2.2.2.2.2, sem_eq_zero_of_no_sems (by decide) r.2⟩) (Cert.Reference2Ideal.Value.run m ρ),
   fun m ρ _ => (θ_run Cert.Reference2Ideal.defs _ _).mono (fun r h => ⟨fun c => (h c).2.2.2.2.2.2, sem_eq_zero_of_no_sems (by decide) r.2⟩) (Cert.Reference2Ideal.Value.run m ρ),
   fun m ρ _ => Cert.Kernel3.Gen.frame m ρ,
   fun m ρ _ => Cert.Kernel3Ideal.Gen.frame m ρ,
   fun m ρ _ => Cert.Kernel3Ideal.Gen.frame m ρ,
   fun m ρ _ => (θ_run Cert.Reference3Ideal.defs _ _).mono (fun r h => ⟨fun c => (h c).2.2.2.2.2, sem_eq_zero_of_no_sems (by decide) r.2⟩) (Cert.Reference3Ideal.Value.run m ρ),
   fun m ρ _ => (θ_run Cert.Reference3Ideal.defs _ _).mono (fun r h => ⟨fun c => (h c).2.2.2.2.2, sem_eq_zero_of_no_sems (by decide) r.2⟩) (Cert.Reference3Ideal.Value.run m ρ),
   fun m ρ _ => Cert.Kernel4.Gen.frame m ρ,
   fun m ρ _ => Cert.Kernel4Ideal.Gen.frame m ρ,
   fun m ρ _ => Cert.Kernel4Ideal.Gen.frame m ρ,
   fun m ρ _ => (θ_run Cert.Reference4Ideal.defs _ _).mono (fun r h => ⟨fun c => (h c).2.2.2.2.2.2, sem_eq_zero_of_no_sems (by decide) r.2⟩) (Cert.Reference4Ideal.Value.run m ρ),
   fun m ρ _ => (θ_run Cert.Reference4Ideal.defs _ _).mono (fun r h => ⟨fun c => (h c).2.2.2.2.2.2, sem_eq_zero_of_no_sems (by decide) r.2⟩) (Cert.Reference4Ideal.Value.run m ρ),
   fun m ρ _ => Cert.Kernel5.Gen.frame m ρ,
   fun m ρ _ => Cert.Kernel5Ideal.Gen.frame m ρ,
   fun m ρ _ => Cert.Kernel5Ideal.Gen.frame m ρ,
   fun m ρ _ => (θ_run Cert.Reference5Ideal.defs _ _).mono (fun r h => ⟨fun c => (h c).2.2.2.2.2, sem_eq_zero_of_no_sems (by decide) r.2⟩) (Cert.Reference5Ideal.Value.run m ρ),
   fun m ρ _ => (θ_run Cert.Reference5Ideal.defs _ _).mono (fun r h => ⟨fun c => (h c).2.2.2.2.2, sem_eq_zero_of_no_sems (by decide) r.2⟩) (Cert.Reference5Ideal.Value.run m ρ),
   fun m ρ _ => Cert.Kernel6.Gen.frame m ρ,
   fun m ρ _ => Cert.Kernel6Ideal.Gen.frame m ρ,
   fun m ρ _ => Cert.Kernel6Ideal.Gen.frame m ρ,
   fun m ρ _ => (θ_run Cert.Reference6Ideal.defs _ _).mono (fun r h => ⟨fun c => (h c).2.2.2.2.2.2.2.2, sem_eq_zero_of_no_sems (by decide) r.2⟩) (Cert.Reference6Ideal.Value.run m ρ),
   fun m ρ _ => (θ_run Cert.Reference6Ideal.defs _ _).mono (fun r h => ⟨fun c => (h c).2.2.2.2.2.2.2.2, sem_eq_zero_of_no_sems (by decide) r.2⟩) (Cert.Reference6Ideal.Value.run m ρ),
   fun m ρ _ => Cert.Kernel8.Gen.frame m ρ,
   fun m ρ _ => Cert.Kernel8Ideal.Gen.frame m ρ,
   fun m ρ _ => (θ_run Cert.Reference8Ideal.defs _ _).mono (fun r h => ⟨fun c => (h c).2.2, sem_eq_zero_of_no_sems (by decide) r.2⟩) (Cert.Reference8Ideal.Value.run m ρ),
   trivial,
   by
    pair_intro
    · run_from Cert.KernelIdeal.Value.run_blocks m g
    · refine (θ_run _ _ _).mono (fun r h c => ?_) (Cert.ReferenceIdeal.Value.run m' g')
      obtain ⟨a0, a1, a2, a3, a4, a5, a6, a7, a8⟩ := hagree c
      refine ⟨(h c).1.trans ((Cert.ReferenceIdeal.Read.val_main_v31_eq _ _ _ _ _).trans ?_),
        (h c).2.1.trans ((Cert.ReferenceIdeal.Read.val_main_v32_eq _ _ _ _ _).trans ?_), (h c).2.2⟩
      · rw [a0, a4, a5, a6, a7]
        exact (Cert.Kv.gain m c).symm
      · rw [a0, a1, a6, a7, a8]
        exact (Cert.Kv.shards m c).symm,
   trivial,
   by
    intro m g m' g' hpre hagree
    have hA := fun c => Cert.Fdx.args_of_finite m c (hpre c)
    choose X D G WA WB WD A using hA
    refine ⟨fun c => (Cert.Kernel2Ideal.Gen.dats m 0 c).arrAt 8 Cert.Kernel2Ideal.cfg0.N, fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, ?_, ?_⟩
    · exact (θ_run _ _ _).mono (fun r h => h) (Cert.Kernel2Ideal.Value.run_blocks m g)
    · refine (θ_run _ _ _).mono (fun r h c => ?_) (Cert.Reference2Ideal.Value.run m' g')
      obtain ⟨a0, a1, a2, a3, a4, a5⟩ := hagree c
      obtain ⟨h0, h1, h2, h3, h4, h5, h6⟩ := h c
      have e0 : m' ((c.tc : Thread Cert.Reference2Ideal.nD Cert.Reference2Ideal.τ).loc Cert.Reference2Ideal.main_arg0) = Cert.Xattn.up (X c) := a0.trans (A c).h
      have e1 : m' ((c.tc : Thread Cert.Reference2Ideal.nD Cert.Reference2Ideal.τ).loc Cert.Reference2Ideal.main_arg1) = Cert.Xattn.up1 (G c) := a1.trans (A c).g
      have e2 : m' ((c.tc : Thread Cert.Reference2Ideal.nD Cert.Reference2Ideal.τ).loc Cert.Reference2Ideal.main_arg2) = Cert.Xattn.up (WA c) := a2.trans (A c).wa
      have e3 : m' ((c.tc : Thread Cert.Reference2Ideal.nD Cert.Reference2Ideal.τ).loc Cert.Reference2Ideal.main_arg3) = Cert.Xattn.up (WB c) := a3.trans (A c).wb
      have e4 : m' ((c.tc : Thread Cert.Reference2Ideal.nD Cert.Reference2Ideal.τ).loc Cert.Reference2Ideal.main_arg4) = Cert.Xattn.up (WD c) := a4.trans (A c).wd
      have e5 : m' ((c.tc : Thread Cert.Reference2Ideal.nD Cert.Reference2Ideal.τ).loc Cert.Reference2Ideal.main_arg5) = Cert.Xattn.up (D c) := a5.trans (A c).dh
      refine ⟨?_, ?_, ?_, ?_, ?_, ?_, h6⟩
      · refine h0.trans ((Cert.Reference2Ideal.Read.val_main_v50_eq _ _).trans ?_)
        rw [e0, e1, e2, e3, e4, e5]
        exact (Cert.Fdx.res_rows (A c)).symm
      · refine h1.trans ((Cert.Reference2Ideal.Read.val_main_v73_eq _ _).trans ?_)
        rw [e0, e1, e2, e3, e4, e5]
        exact (Cert.Fdx.res_g (A c)).symm
      · refine h2.trans ((Cert.Reference2Ideal.Read.val_main_v74_eq _ _).trans ?_)
        rw [e0, e1, e2, e3, e4, e5]
        exact (Cert.Fdx.res_gate (A c)).symm
      · refine h3.trans ((Cert.Reference2Ideal.Read.val_main_v75_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))).trans ?_)
        rw [e0, e1, e2, e4, e5]
        exact (Cert.Fdx.res_gated (A c)).symm
      · refine h4.trans ((Cert.Reference2Ideal.Read.val_main_v78_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))).trans ?_)
        rw [e0, e1, e2, e3]
        exact (Cert.Fdx.res_act (A c)).symm
      · refine h5.trans ((Cert.Reference2Ideal.Read.val_main_v79_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))).trans ?_)
        rw [e0, e1]
        exact (Cert.Fdx.res_n (A c)).symm,
   trivial,
   by
    intro m g m' g' hpre hagree
    have hA := fun c => Cert.Loss.args_of_finite m c (hpre c)
    choose X T G GF WA WB WD A using hA
    refine ⟨fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, ?_, ?_⟩
    · exact (θ_run _ _ _).mono (fun r h => h) (Cert.Kernel3Ideal.Value.run_blocks m g)
    · refine (θ_run _ _ _).mono (fun r h c => ?_) (Cert.Reference3Ideal.Value.run m' g')
      obtain ⟨a0, a1, a2, a3, a4, a5, a6⟩ := hagree c
      obtain ⟨h0, h1, h2, h3, h4, h5⟩ := h c
      have e0 : m' ((c.tc : Thread Cert.Reference3Ideal.nD Cert.Reference3Ideal.τ).loc Cert.Reference3Ideal.main_arg0) = Cert.Xattn.up (X c) := a0.trans (A c).h
      have e1 : m' ((c.tc : Thread Cert.Reference3Ideal.nD Cert.Reference3Ideal.τ).loc Cert.Reference3Ideal.main_arg1) = Cert.Xattn.up1 (G c) := a1.trans (A c).g
      have e2 : m' ((c.tc : Thread Cert.Reference3Ideal.nD Cert.Reference3Ideal.τ).loc Cert.Reference3Ideal.main_arg2) = Cert.Xattn.up (WA c) := a2.trans (A c).wa
      have e3 : m' ((c.tc : Thread Cert.Reference3Ideal.nD Cert.Reference3Ideal.τ).loc Cert.Reference3Ideal.main_arg3) = Cert.Xattn.up (WB c) := a3.trans (A c).wb
      have e4 : m' ((c.tc : Thread Cert.Reference3Ideal.nD Cert.Reference3Ideal.τ).loc Cert.Reference3Ideal.main_arg4) = Cert.Xattn.up (WD c) := a4.trans (A c).wd
      have e5 : m' ((c.tc : Thread Cert.Reference3Ideal.nD Cert.Reference3Ideal.τ).loc Cert.Reference3Ideal.main_arg5) = Cert.Xattn.up (T c) := a5.trans (A c).tg
      have e6 : m' ((c.tc : Thread Cert.Reference3Ideal.nD Cert.Reference3Ideal.τ).loc Cert.Reference3Ideal.main_arg6) = Cert.Xattn.up1 (GF c) := a6.trans (A c).gf
      refine ⟨?_, ?_, ?_, ?_, ?_, h5⟩
      · refine h0.trans ((Cert.Reference3Ideal.Read.val_main_v69_eq _ _).trans ?_)
        rw [e0, e1, e2, e3, e4, e5, e6]
        exact (Cert.Loss.res_rows (A c)).symm
      · refine h1.trans ((Cert.Reference3Ideal.Read.val_main_v70_eq _ _).trans ?_)
        rw [e0, e1, e2, e3, e4, e5, e6]
        exact (Cert.Loss.res_loss (A c)).symm
      · refine h2.trans ((Cert.Reference3Ideal.Read.val_main_v71_eq _ _).trans ?_)
        rw [e0, e1, e2, e3, e4, e5, e6]
        exact (Cert.Loss.res_g (A c)).symm
      · refine h3.trans ((Cert.Reference3Ideal.Read.val_main_v73_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_)
        rw [e0, e1, e2]
        exact (Cert.Loss.res_gate (A c)).symm
      · refine h4.trans ((Cert.Reference3Ideal.Read.val_main_v75_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3))).trans ?_)
        rw [e0, e1, e3]
        exact (Cert.Loss.res_gated (A c)).symm,
   trivial,
   by
    intro m g m' g' hpre hagree
    have hA := fun c => Cert.Mix.args_of_finite m c (hpre c)
    choose X D G W WA BA LG LB WB BB WO A using hA
    refine ⟨fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, ?_, ?_⟩
    · exact (θ_run _ _ _).mono (fun r h => h) (Cert.Kernel4Ideal.Value.run_blocks m g)
    · refine (θ_run _ _ _).mono (fun r h c => ?_) (Cert.Reference4Ideal.Value.run m' g')
      obtain ⟨a0, a1, a2, a3, a4, a5, a6, a7, a8, a9, a10⟩ := hagree c
      obtain ⟨h0, h1, h2, h3, h4, h5, h6⟩ := h c
      have e0 : StableHlo.launchContents m' c (Proc.devRef .tc Cert.Reference4Ideal.main_arg0) = Cert.Xattn.up (X c) := a0.trans (A c).h
      have e1 : StableHlo.launchContents m' c (Proc.devRef .tc Cert.Reference4Ideal.main_arg1) = Cert.Xattn.up1 (G c) := a1.trans (A c).g
      have e2 : StableHlo.launchContents m' c (Proc.devRef .tc Cert.Reference4Ideal.main_arg2) = Cert.Xattn.up (W c) := a2.trans (A c).w
      have e3 : StableHlo.launchContents m' c (Proc.devRef .tc Cert.Reference4Ideal.main_arg3) = Cert.Xattn.up (WA c) := a3.trans (A c).wa
      have e4 : StableHlo.launchContents m' c (Proc.devRef .tc Cert.Reference4Ideal.main_arg4) = Cert.Xattn.up1 (BA c) := a4.trans (A c).ba
      have e5 : StableHlo.launchContents m' c (Proc.devRef .tc Cert.Reference4Ideal.main_arg5) = Cert.Xattn.up1 (LG c) := a5.trans (A c).lg
      have e6 : StableHlo.launchContents m' c (Proc.devRef .tc Cert.Reference4Ideal.main_arg6) = Cert.Xattn.up1 (LB c) := a6.trans (A c).lb
      have e7 : StableHlo.launchContents m' c (Proc.devRef .tc Cert.Reference4Ideal.main_arg7) = Cert.Xattn.up (WB c) := a7.trans (A c).wb
      have e8 : StableHlo.launchContents m' c (Proc.devRef .tc Cert.Reference4Ideal.main_arg8) = Cert.Xattn.up1 (BB c) := a8.trans (A c).bb
      have e9 : StableHlo.launchContents m' c (Proc.devRef .tc Cert.Reference4Ideal.main_arg9) = Cert.Xattn.up (WO c) := a9.trans (A c).wo
      have e10 : StableHlo.launchContents m' c (Proc.devRef .tc Cert.Reference4Ideal.main_arg10) = Cert.Xattn.up (D c) := a10.trans (A c).dh
      refine ⟨?_, ?_, ?_, ?_, ?_, ?_, h6⟩
      · refine h0.trans ((Cert.Reference4Ideal.Read.val_main_v147_eq _).trans ?_)
        rw [e0, e1, e2, e3, e4, e5, e6, e9, e10]
        exact (Cert.Mix.res_a (A c)).symm
      · refine h1.trans ((Cert.Reference4Ideal.Read.val_main_v148_eq _).trans ?_)
        rw [e0, e1, e2, e9, e10]
        exact (Cert.Mix.res_c (A c)).symm
      · refine h2.trans ((Cert.Reference4Ideal.Read.val_main_v149_eq _).trans ?_)
        rw [e0, e1, e2, e7, e8, e9, e10]
        exact (Cert.Mix.res_gate (A c)).symm
      · refine h3.trans ((Cert.Reference4Ideal.Read.val_main_v150_eq _).trans ?_)
        rw [e0, e1, e2, e3, e4, e5, e6, e9, e10]
        exact (Cert.Mix.res_lg (A c)).symm
      · refine h4.trans ((Cert.Reference4Ideal.Read.val_main_v151_eq _).trans ?_)
        rw [e0, e1, e2, e3, e4, e5, e6, e9, e10]
        exact (Cert.Mix.res_lb (A c)).symm
      · refine h5.trans ((Cert.Reference4Ideal.Read.val_main_v153_eq _).trans ?_)
        rw [e0, e1, e2, e3, e4, e5, e6, e7, e8, e10]
        exact (Cert.Mix.res_wo (A c)).symm,
   trivial,
   by
    intro m g m' g' hpre hagree
    have hA := fun c => Cert.Xattn.args_of_finite m c (hpre c)
    choose H DH G K V WQ WO A using hA
    refine ⟨fun c => (Cert.Kernel5Ideal.Gen.dats m 0 c).arrAt 8 Cert.Kernel5Ideal.cfg0.N, fun c => (Cert.Kernel5Ideal.Gen.dats m 0 c).arrAt 9 Cert.Kernel5Ideal.cfg0.N,
      fun c => (Cert.Kernel5Ideal.Gen.dats m 0 c).arrAt 10 Cert.Kernel5Ideal.cfg0.N, fun c => (Cert.Kernel5Ideal.Gen.dats m 0 c).arrAt 11 Cert.Kernel5Ideal.cfg0.N,
      fun c => (Cert.Kernel5Ideal.Gen.dats m 0 c).arrAt 12 Cert.Kernel5Ideal.cfg0.N, ?_, ?_⟩
    · refine (θ_run _ _ _).mono (fun r h c => ?_) (Cert.Kernel5Ideal.Value.run_blocks m g)
      obtain ⟨h0, h1, h2, h3, h4, h5⟩ := h c
      exact ⟨fun i _ => congrFun h0 i, fun i _ => congrFun h1 i, fun i _ => congrFun h2 i, fun i _ => congrFun h3 i, fun i _ => congrFun h4 i, h5⟩
    · refine (θ_run _ _ _).mono (fun r h c => ?_) (Cert.Reference5Ideal.Value.run m' g')
      obtain ⟨a0, a1, a2, a3, a4, a5, a6, a7, a8⟩ := hagree c
      obtain ⟨h0, h1, h2, h3, h4, h5⟩ := h c
      have e0 := a0.trans (A c).h
      have e1 := a1.trans (A c).g
      have e2 := a2.trans (A c).k
      have e3 := a3.trans (A c).v
      have e4 := a4.trans (A c).wq
      have e5 := a5.trans (A c).wo
      have e8 := a8.trans (A c).dh
      refine ⟨fun i _ => ?_, fun i _ => ?_, fun i _ => ?_, fun i _ => ?_, fun i hi => ?_, h5⟩
      · rw [h0, Cert.Reference5Ideal.Read.val_main_v109_eq, e0, e1, e2, e3, e4, e5, e8]
        exact (congrFun (Cert.Xattn.res_rows (A c)) i).symm
      · rw [h1, Cert.Reference5Ideal.Read.val_main_v84_eq, e0, e1, e2, e3, e4, e5, e8]
        exact (congrFun (Cert.Xattn.res_k (A c)) i).symm
      · rw [h2, Cert.Reference5Ideal.Read.val_main_v83_eq, e0, e1, e2, e4, e5, e8]
        exact (congrFun (Cert.Xattn.res_v (A c)) i).symm
      · rw [h3, Cert.Reference5Ideal.Read.val_main_v113_eq, e0, e1, e2, e3, e4, e5, e8]
        exact (congrFun (Cert.Xattn.res_g (A c)) i).symm
      · rw [h4, Cert.Reference5Ideal.Read.val_main_v115_eq, e0, e1, e2, e3, e4, e5, e8]
        exact (Cert.Xattn.res_shards (A c) i (Cert.Xattn.row_of_mask _ _ _ _ _ _ _ _ _ i hi)).symm,
   ⟨IdealRules.named_const.statement _ "gelu_a" .f32 _ _ rfl, IdealRules.named_const.statement _ "gelu_a3" .f32 _ _ rfl⟩,
   by
    intro m g m' g' hpre hagree
    have hA := fun c => Cert.Sgu.args_of_finite m c (hpre c)
    choose X D G WI LG LB WS BS WO A using hA
    refine ⟨fun c => (Cert.Kernel6Ideal.Gen.dats m 0 c).arrAt 11 Cert.Kernel6Ideal.cfg0.N, fun c => (Cert.Kernel6Ideal.Gen.dats m 0 c).arrAt 12 Cert.Kernel6Ideal.cfg0.N, fun c => (Cert.Kernel6Ideal.Gen.dats m 0 c).arrAt 13 Cert.Kernel6Ideal.cfg0.N, fun c => (Cert.Kernel6Ideal.Gen.dats m 0 c).arrAt 14 Cert.Kernel6Ideal.cfg0.N, fun c => (Cert.Kernel6Ideal.Gen.dats m 0 c).arrAt 15 Cert.Kernel6Ideal.cfg0.N, fun c => (Cert.Kernel6Ideal.Gen.dats m 0 c).arrAt 16 Cert.Kernel6Ideal.cfg0.N, fun c => (Cert.Kernel6Ideal.Gen.dats m 0 c).arrAt 17 Cert.Kernel6Ideal.cfg0.N, fun c => (Cert.Kernel6Ideal.Gen.dats m 0 c).arrAt 18 Cert.Kernel6Ideal.cfg0.N, ?_, ?_⟩
    · exact (θ_run _ _ _).mono (fun r h => h) (Cert.Kernel6Ideal.Value.run_blocks m g)
    · refine (θ_run _ _ _).mono (fun r h c => ?_) (Cert.Reference6Ideal.Value.run m' g')
      obtain ⟨a0, a1, a2, a3, a4, a5, a6, a7, a8⟩ := hagree c
      obtain ⟨h0, h1, h2, h3, h4, h5, h6, h7, h8⟩ := h c
      have e0 : StableHlo.launchContents m' c (Proc.devRef .tc Cert.Reference6Ideal.main_arg0) = Cert.Xattn.up (X c) := a0.trans (A c).h
      have e1 : StableHlo.launchContents m' c (Proc.devRef .tc Cert.Reference6Ideal.main_arg1) = Cert.Xattn.up1 (G c) := a1.trans (A c).g
      have e2 : StableHlo.launchContents m' c (Proc.devRef .tc Cert.Reference6Ideal.main_arg2) = Cert.Xattn.up (WI c) := a2.trans (A c).wi
      have e3 : StableHlo.launchContents m' c (Proc.devRef .tc Cert.Reference6Ideal.main_arg3) = Cert.Xattn.up1 (LG c) := a3.trans (A c).lg
      have e4 : StableHlo.launchContents m' c (Proc.devRef .tc Cert.Reference6Ideal.main_arg4) = Cert.Xattn.up1 (LB c) := a4.trans (A c).lb
      have e5 : StableHlo.launchContents m' c (Proc.devRef .tc Cert.Reference6Ideal.main_arg5) = Cert.Sgu.up3 (WS c) := a5.trans (A c).ws
      have e6 : StableHlo.launchContents m' c (Proc.devRef .tc Cert.Reference6Ideal.main_arg6) = Cert.Xattn.up (BS c) := a6.trans (A c).bs
      have e7 : StableHlo.launchContents m' c (Proc.devRef .tc Cert.Reference6Ideal.main_arg7) = Cert.Xattn.up (WO c) := a7.trans (A c).wo
      have e8 : StableHlo.launchContents m' c (Proc.devRef .tc Cert.Reference6Ideal.main_arg8) = Cert.Xattn.up (D c) := a8.trans (A c).dh
      refine ⟨?_, ?_, ?_, ?_, ?_, ?_, ?_, ?_, h8⟩
      · refine h0.trans ((Cert.Reference6Ideal.Read.val_main_v172_eq _).trans ?_)
        rw [e0, e1, e2, e3, e4, e5, e6, e7, e8]
        exact (Cert.Sgu.res_rows (A c)).symm
      · refine h1.trans ((Cert.Reference6Ideal.Read.val_main_v97_eq _).trans ?_)
        rw [e0, e1, e2, e3, e4, e7, e8]
        exact (Cert.Sgu.res_ws (A c)).symm
      · refine h2.trans ((Cert.Reference6Ideal.Read.val_main_v95_eq _).trans ?_)
        rw [e0, e1, e2, e7, e8]
        exact (Cert.Sgu.res_bs (A c)).symm
      · refine h3.trans ((Cert.Reference6Ideal.Read.val_main_v173_eq _).trans ?_)
        rw [e0, e1, e2, e5, e7, e8]
        exact (Cert.Sgu.res_lg (A c)).symm
      · refine h4.trans ((Cert.Reference6Ideal.Read.val_main_v174_eq _).trans ?_)
        rw [e0, e1, e2, e5, e7, e8]
        exact (Cert.Sgu.res_lb (A c)).symm
      · refine h5.trans ((Cert.Reference6Ideal.Read.val_main_v175_eq _).trans ?_)
        rw [e0, e1, e2, e3, e4, e5, e6, e7, e8]
        exact (Cert.Sgu.res_g (A c)).symm
      · refine h6.trans ((Cert.Reference6Ideal.Read.val_main_v178_eq _).trans ?_)
        rw [e0, e1, e2, e3, e4, e5, e6, e7, e8]
        exact (Cert.Sgu.res_wi (A c)).symm
      · refine h7.trans ((Cert.Reference6Ideal.Read.val_main_v180_eq _).trans ?_)
        rw [e0, e1, e2, e3, e4, e5, e6, e8]
        exact (Cert.Sgu.res_wo (A c)).symm,
   trivial,
   by
    pair_intro
    · run_from Cert.Kernel8Ideal.Value.run_blocks m g
    · refine (θ_run _ _ _).mono (fun r h c => ?_) (Cert.Reference8Ideal.Value.run m' g')
      obtain ⟨a0, a1, a2, a3, a4, a5, a6, a7⟩ := hagree c
      refine ⟨(h c).1.trans ((Cert.Reference8Ideal.Read.val_main_v35_eq _ _).trans ?_),
        (h c).2.1.trans ((Cert.Reference8Ideal.Read.val_main_v37_eq _ _ _).trans ?_), (h c).2.2⟩
      · rw [a0, a1, a2, a3, a4, a5]
        exact (Cert.Fwd.res_rows m c).symm
      · rw [a0, a1, a4]
        exact (Cert.Fwd.res_query m c).symm⟩

end Cert.Proof

end
